-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_v24) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10)) (v1 : (c : Dev Cert.Kernel2Ideal.nD) → Buf (Elt Ideal) ((c.tc : Thread Cert.Kernel2Ideal.nD Cert.Kernel2Ideal.τ).loc Cert.Kernel2Ideal.main_v17_0)) (v2 : (c : Dev Cert.Kernel2Ideal.nD) → Buf (Elt Ideal) ((c.tc : Thread Cert.Kernel2Ideal.nD Cert.Kernel2Ideal.τ).loc Cert.Kernel2Ideal.main_v17_2)) (v3 : (c : Dev Cert.Kernel2Ideal.nD) → Buf (Elt Ideal) ((c.tc : Thread Cert.Kernel2Ideal.nD Cert.Kernel2Ideal.τ).loc Cert.Kernel2Ideal.main_v14)) (v4 : (c : Dev Cert.Kernel2Ideal.nD) → Buf (Elt Ideal) ((c.tc : Thread Cert.Kernel2Ideal.nD Cert.Kernel2Ideal.τ).loc Cert.Kernel2Ideal.main_v15)) (v5 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_v17_0) = v1 c
          ∧ r.2.mem ((c.tc : Thread Cert.Kernel2Ideal.nD Cert.Kernel2Ideal.τ).loc Cert.Kernel2Ideal.main_v17_2) = v2 c
          ∧ r.2.mem ((c.tc : Thread Cert.Kernel2Ideal.nD Cert.Kernel2Ideal.τ).loc Cert.Kernel2Ideal.main_v14) = v3 c
          ∧ r.2.mem ((c.tc : Thread Cert.Kernel2Ideal.nD Cert.Kernel2Ideal.τ).loc Cert.Kernel2Ideal.main_v15) = v4 c
          ∧ r.2.mem ((c.tc : Thread Cert.Kernel2Ideal.nD Cert.Kernel2Ideal.τ).loc Cert.Kernel2Ideal.main_v13) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v58) = v1 c
          ∧ r.2.mem ((c.tc : Thread Cert.Reference2Ideal.nD Cert.Reference2Ideal.τ).loc Cert.Reference2Ideal.main_v41) = v2 c
          ∧ r.2.mem ((c.tc : Thread Cert.Reference2Ideal.nD Cert.Reference2Ideal.τ).loc Cert.Reference2Ideal.main_v61) = v3 c
          ∧ r.2.mem ((c.tc : Thread Cert.Reference2Ideal.nD Cert.Reference2Ideal.τ).loc Cert.Reference2Ideal.main_v64) = v4 c
          ∧ r.2.mem ((c.tc : Thread Cert.Reference2Ideal.nD Cert.Reference2Ideal.τ).loc Cert.Reference2Ideal.main_v66) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)) (v4 : (c : Dev Cert.Kernel3Ideal.nD) → Buf (Elt Ideal) ((c.tc : Thread Cert.Kernel3Ideal.nD Cert.Kernel3Ideal.τ).loc Cert.Kernel3Ideal.main_v2_0)) (v5 : (c : Dev Cert.Kernel3Ideal.nD) → Buf (Elt Ideal) ((c.tc : Thread Cert.Kernel3Ideal.nD Cert.Kernel3Ideal.τ).loc Cert.Kernel3Ideal.main_v2_1)) (v6 : (c : Dev Cert.Kernel3Ideal.nD) → Buf (Elt Ideal) ((c.tc : Thread Cert.Kernel3Ideal.nD Cert.Kernel3Ideal.τ).loc Cert.Kernel3Ideal.main_v2_2)) (v7 : (c : Dev Cert.Kernel3Ideal.nD) → Buf (Elt Ideal) ((c.tc : Thread Cert.Kernel3Ideal.nD Cert.Kernel3Ideal.τ).loc Cert.Kernel3Ideal.main_v2_3)) (v8 : (c : Dev Cert.Kernel3Ideal.nD) → Buf (Elt Ideal) ((c.tc : Thread Cert.Kernel3Ideal.nD Cert.Kernel3Ideal.τ).loc Cert.Kernel3Ideal.main_v3_0)) (v9 : (c : Dev Cert.Kernel3Ideal.nD) → Buf (Elt Ideal) ((c.tc : Thread Cert.Kernel3Ideal.nD Cert.Kernel3Ideal.τ).loc Cert.Kernel3Ideal.main_v3_1)) (v10 : (c : Dev Cert.Kernel3Ideal.nD) → Buf (Elt Ideal) ((c.tc : Thread Cert.Kernel3Ideal.nD Cert.Kernel3Ideal.τ).loc Cert.Kernel3Ideal.main_v3_2)) (v11 : (c : Dev Cert.Kernel3Ideal.nD) → Buf (Elt Ideal) ((c.tc : Thread Cert.Kernel3Ideal.nD Cert.Kernel3Ideal.τ).loc Cert.Kernel3Ideal.main_v3_3)) (v12 : (c : Dev Cert.Kernel3Ideal.nD) → Buf (Elt Ideal) ((c.tc : Thread Cert.Kernel3Ideal.nD Cert.Kernel3Ideal.τ).loc Cert.Kernel3Ideal.main_v4_0)) (v13 : (c : Dev Cert.Kernel3Ideal.nD) → Buf (Elt Ideal) ((c.tc : Thread Cert.Kernel3Ideal.nD Cert.Kernel3Ideal.τ).loc Cert.Kernel3Ideal.main_v4_1)) (v14 : (c : Dev Cert.Kernel3Ideal.nD) → Buf (Elt Ideal) ((c.tc : Thread Cert.Kernel3Ideal.nD Cert.Kernel3Ideal.τ).loc Cert.Kernel3Ideal.main_v4_2)) (v15 : (c : Dev Cert.Kernel3Ideal.nD) → Buf (Elt Ideal) ((c.tc : Thread Cert.Kernel3Ideal.nD Cert.Kernel3Ideal.τ).loc Cert.Kernel3Ideal.main_v4_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_v2_0) = v4 c
          ∧ r.2.mem ((c.tc : Thread Cert.Kernel3Ideal.nD Cert.Kernel3Ideal.τ).loc Cert.Kernel3Ideal.main_v2_1) = v5 c
          ∧ r.2.mem ((c.tc : Thread Cert.Kernel3Ideal.nD Cert.Kernel3Ideal.τ).loc Cert.Kernel3Ideal.main_v2_2) = v6 c
          ∧ r.2.mem ((c.tc : Thread Cert.Kernel3Ideal.nD Cert.Kernel3Ideal.τ).loc Cert.Kernel3Ideal.main_v2_3) = v7 c
          ∧ r.2.mem ((c.tc : Thread Cert.Kernel3Ideal.nD Cert.Kernel3Ideal.τ).loc Cert.Kernel3Ideal.main_v3_0) = v8 c
          ∧ r.2.mem ((c.tc : Thread Cert.Kernel3Ideal.nD Cert.Kernel3Ideal.τ).loc Cert.Kernel3Ideal.main_v3_1) = v9 c
          ∧ r.2.mem ((c.tc : Thread Cert.Kernel3Ideal.nD Cert.Kernel3Ideal.τ).loc Cert.Kernel3Ideal.main_v3_2) = v10 c
          ∧ r.2.mem ((c.tc : Thread Cert.Kernel3Ideal.nD Cert.Kernel3Ideal.τ).loc Cert.Kernel3Ideal.main_v3_3) = v11 c
          ∧ r.2.mem ((c.tc : Thread Cert.Kernel3Ideal.nD Cert.Kernel3Ideal.τ).loc Cert.Kernel3Ideal.main_v4_0) = v12 c
          ∧ r.2.mem ((c.tc : Thread Cert.Kernel3Ideal.nD Cert.Kernel3Ideal.τ).loc Cert.Kernel3Ideal.main_v4_1) = v13 c
          ∧ r.2.mem ((c.tc : Thread Cert.Kernel3Ideal.nD Cert.Kernel3Ideal.τ).loc Cert.Kernel3Ideal.main_v4_2) = v14 c
          ∧ r.2.mem ((c.tc : Thread Cert.Kernel3Ideal.nD Cert.Kernel3Ideal.τ).loc Cert.Kernel3Ideal.main_v4_3) = v15 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_v16) = v2 c
          ∧ r.2.mem ((c.tc : Thread Cert.Reference3Ideal.nD Cert.Reference3Ideal.τ).loc Cert.Reference3Ideal.main_v22) = v3 c
          ∧ r.2.mem ((c.tc : Thread Cert.Reference3Ideal.nD Cert.Reference3Ideal.τ).loc Cert.Reference3Ideal.main_v8) = v4 c
          ∧ r.2.mem ((c.tc : Thread Cert.Reference3Ideal.nD Cert.Reference3Ideal.τ).loc Cert.Reference3Ideal.main_v59) = v5 c
          ∧ r.2.mem ((c.tc : Thread Cert.Reference3Ideal.nD Cert.Reference3Ideal.τ).loc Cert.Reference3Ideal.main_v40) = v6 c
          ∧ r.2.mem ((c.tc : Thread Cert.Reference3Ideal.nD Cert.Reference3Ideal.τ).loc Cert.Reference3Ideal.main_v46) = v7 c
          ∧ r.2.mem ((c.tc : Thread Cert.Reference3Ideal.nD Cert.Reference3Ideal.τ).loc Cert.Reference3Ideal.main_v10) = v8 c
          ∧ r.2.mem ((c.tc : Thread Cert.Reference3Ideal.nD Cert.Reference3Ideal.τ).loc Cert.Reference3Ideal.main_v83) = v9 c
          ∧ r.2.mem ((c.tc : Thread Cert.Reference3Ideal.nD Cert.Reference3Ideal.τ).loc Cert.Reference3Ideal.main_v64) = v10 c
          ∧ r.2.mem ((c.tc : Thread Cert.Reference3Ideal.nD Cert.Reference3Ideal.τ).loc Cert.Reference3Ideal.main_v70) = v11 c
          ∧ r.2.mem ((c.tc : Thread Cert.Reference3Ideal.nD Cert.Reference3Ideal.τ).loc Cert.Reference3Ideal.main_v11) = v12 c
          ∧ r.2.mem ((c.tc : Thread Cert.Reference3Ideal.nD Cert.Reference3Ideal.τ).loc Cert.Reference3Ideal.main_v107) = v13 c
          ∧ r.2.mem ((c.tc : Thread Cert.Reference3Ideal.nD Cert.Reference3Ideal.τ).loc Cert.Reference3Ideal.main_v88) = v14 c
          ∧ r.2.mem ((c.tc : Thread Cert.Reference3Ideal.nD Cert.Reference3Ideal.τ).loc Cert.Reference3Ideal.main_v94) = v15 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)) (v1 : (c : Dev Cert.Kernel4Ideal.nD) → Buf (Elt Ideal) ((c.tc : Thread Cert.Kernel4Ideal.nD Cert.Kernel4Ideal.τ).loc Cert.Kernel4Ideal.main_v0_0)) (v2 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_v0_0) = v1 c
          ∧ r.2.mem ((c.tc : Thread Cert.Kernel4Ideal.nD Cert.Kernel4Ideal.τ).loc Cert.Kernel4Ideal.main_v0_1) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_v15) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v7)) (v1 : (c : Dev Cert.Kernel5Ideal.nD) → Buf (Elt Ideal) ((c.tc : Thread Cert.Kernel5Ideal.nD Cert.Kernel5Ideal.τ).loc Cert.Kernel5Ideal.main_v8)) (v2 : (c : Dev Cert.Kernel5Ideal.nD) → Buf (Elt Ideal) ((c.tc : Thread Cert.Kernel5Ideal.nD Cert.Kernel5Ideal.τ).loc Cert.Kernel5Ideal.main_v14_0)) (v3 : (c : Dev Cert.Kernel5Ideal.nD) → Buf (Elt Ideal) ((c.tc : Thread Cert.Kernel5Ideal.nD Cert.Kernel5Ideal.τ).loc Cert.Kernel5Ideal.main_v14_2)) (v4 : (c : Dev Cert.Kernel5Ideal.nD) → Buf (Elt Ideal) ((c.tc : Thread Cert.Kernel5Ideal.nD Cert.Kernel5Ideal.τ).loc Cert.Kernel5Ideal.main_v12)) (v5 : (c : Dev Cert.Kernel5Ideal.nD) → Buf (Elt Ideal) ((c.tc : Thread Cert.Kernel5Ideal.nD Cert.Kernel5Ideal.τ).loc Cert.Kernel5Ideal.main_v11)) (v6 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_v8) = v1 c
          ∧ r.2.mem ((c.tc : Thread Cert.Kernel5Ideal.nD Cert.Kernel5Ideal.τ).loc Cert.Kernel5Ideal.main_v14_0) = v2 c
          ∧ r.2.mem ((c.tc : Thread Cert.Kernel5Ideal.nD Cert.Kernel5Ideal.τ).loc Cert.Kernel5Ideal.main_v14_2) = v3 c
          ∧ r.2.mem ((c.tc : Thread Cert.Kernel5Ideal.nD Cert.Kernel5Ideal.τ).loc Cert.Kernel5Ideal.main_v12) = v4 c
          ∧ r.2.mem ((c.tc : Thread Cert.Kernel5Ideal.nD Cert.Kernel5Ideal.τ).loc Cert.Kernel5Ideal.main_v11) = v5 c
          ∧ r.2.mem ((c.tc : Thread Cert.Kernel5Ideal.nD Cert.Kernel5Ideal.τ).loc Cert.Kernel5Ideal.main_v9) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v49) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_v47) = v2 c
          ∧ r.2.mem ((c.tc : Thread Cert.Reference5Ideal.nD Cert.Reference5Ideal.τ).loc Cert.Reference5Ideal.main_v30) = v3 c
          ∧ r.2.mem ((c.tc : Thread Cert.Reference5Ideal.nD Cert.Reference5Ideal.τ).loc Cert.Reference5Ideal.main_v52) = v4 c
          ∧ r.2.mem ((c.tc : Thread Cert.Reference5Ideal.nD Cert.Reference5Ideal.τ).loc Cert.Reference5Ideal.main_v54) = v5 c
          ∧ r.2.mem ((c.tc : Thread Cert.Reference5Ideal.nD Cert.Reference5Ideal.τ).loc Cert.Reference5Ideal.main_v24) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S1x8192 : Shape := ⟨2, ![1, 8192]⟩
abbrev S512x8x8192 : Shape := ⟨3, ![512, 8, 8192]⟩
abbrev S_ : Shape := ⟨0, ![]⟩

class Facts : Prop where
  bcast_S_S1x8192 : S_.BroadcastsInDim S1x8192 (![] : Fin 0 → Fin S1x8192.rank)
  bcast_S_S512x8x8192 : S_.BroadcastsInDim S512x8x8192 (![] : Fin 0 → Fin S512x8x8192.rank)

variable [Facts]

def fn {F : FTy → Type} [FloatOps F] (main_arg0 : FVec F S1x8192 .f32) (main_arg1 : FVec F S1x8192 .f32) (main_arg2 : FVec F S512x8x8192 .f32) (main_arg3 : FVec F S512x8x8192 .f32) (main_arg4 : FVec F S512x8x8192 .f32) (main_arg5 : FVec F S512x8x8192 .f32) : IVec S1x8192 1 × IVec S1x8192 1 × IVec S512x8x8192 1 × IVec S512x8x8192 1 × IVec S512x8x8192 1 × IVec S512x8x8192 1 :=
  let main_v0 : FVec F S1x8192 .f32 := Host.absf main_arg0
  let main_cst : FVec F S_ .f32 := constant S_ .f32 0x7F800000#32
  let main_v1 : FVec F S1x8192 .f32 := broadcastInDim S1x8192 ![] bcast_S_S1x8192 main_cst
  let main_v2 : IVec S1x8192 1 := cmpf .olt main_v0 main_v1
  let main_v3 : FVec F S1x8192 .f32 := Host.absf main_arg1
  let main_cst_0 : FVec F S_ .f32 := constant S_ .f32 0x7F800000#32
  let main_v4 : FVec F S1x8192 .f32 := broadcastInDim S1x8192 ![] bcast_S_S1x8192 main_cst_0
  let main_v5 : IVec S1x8192 1 := cmpf .olt main_v3 main_v4
  let main_v6 : FVec F S512x8x8192 .f32 := Host.absf main_arg2
  let main_cst_1 : FVec F S_ .f32 := constant S_ .f32 0x7F800000#32
  let main_v7 : FVec F S512x8x8192 .f32 := broadcastInDim S512x8x8192 ![] bcast_S_S512x8x8192 main_cst_1
  let main_v8 : IVec S512x8x8192 1 := cmpf .olt main_v6 main_v7
  let main_v9 : FVec F S512x8x8192 .f32 := Host.absf main_arg3
  let main_cst_2 : FVec F S_ .f32 := constant S_ .f32 0x7F800000#32
  let main_v10 : FVec F S512x8x8192 .f32 := broadcastInDim S512x8x8192 ![] bcast_S_S512x8x8192 main_cst_2
  let main_v11 : IVec S512x8x8192 1 := cmpf .olt main_v9 main_v10
  let main_v12 : FVec F S512x8x8192 .f32 := Host.absf main_arg4
  let main_cst_3 : FVec F S_ .f32 := constant S_ .f32 0x7F800000#32
  let main_v13 : FVec F S512x8x8192 .f32 := broadcastInDim S512x8x8192 ![] bcast_S_S512x8x8192 main_cst_3
  let main_v14 : IVec S512x8x8192 1 := cmpf .olt main_v12 main_v13
  let main_v15 : FVec F S512x8x8192 .f32 := Host.absf main_arg5
  let main_cst_4 : FVec F S_ .f32 := constant S_ .f32 0x7F800000#32
  let main_v16 : FVec F S512x8x8192 .f32 := broadcastInDim S512x8x8192 ![] bcast_S_S512x8x8192 main_cst_4
  let main_v17 : IVec S512x8x8192 1 := cmpf .olt main_v15 main_v16
  (main_v2, main_v5, main_v8, main_v11, main_v14, main_v17)
-- ==== Pre_finite2.lean ====
abbrev S4096x2048 : Shape := ⟨2, ![4096, 2048]⟩
abbrev S1x2048 : Shape := ⟨2, ![1, 2048]⟩
abbrev S2048x5632 : Shape := ⟨2, ![2048, 5632]⟩
abbrev S5632x2048 : Shape := ⟨2, ![5632, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)
  bcast_S_S2048x5632 : S_.BroadcastsInDim S2048x5632 (![] : Fin 0 → Fin S2048x5632.rank)
  bcast_S_S5632x2048 : S_.BroadcastsInDim S5632x2048 (![] : Fin 0 → Fin S5632x2048.rank)

variable [Facts]

def fn {F : FTy → Type} [FloatOps F] (main_arg0 : FVec F S4096x2048 .f32) (main_arg1 : FVec F S1x2048 .f32) (main_arg2 : FVec F S2048x5632 .f32) (main_arg3 : FVec F S2048x5632 .f32) (main_arg4 : FVec F S5632x2048 .f32) (main_arg5 : FVec F S4096x2048 .f32) : IVec S4096x2048 1 × IVec S1x2048 1 × IVec S2048x5632 1 × IVec S2048x5632 1 × IVec S5632x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S2048x5632 .f32 := Host.absf main_arg2
  let main_cst_1 : FVec F S_ .f32 := constant S_ .f32 0x7F800000#32
  let main_v7 : FVec F S2048x5632 .f32 := broadcastInDim S2048x5632 ![] bcast_S_S2048x5632 main_cst_1
  let main_v8 : IVec S2048x5632 1 := cmpf .olt main_v6 main_v7
  let main_v9 : FVec F S2048x5632 .f32 := Host.absf main_arg3
  let main_cst_2 : FVec F S_ .f32 := constant S_ .f32 0x7F800000#32
  let main_v10 : FVec F S2048x5632 .f32 := broadcastInDim S2048x5632 ![] bcast_S_S2048x5632 main_cst_2
  let main_v11 : IVec S2048x5632 1 := cmpf .olt main_v9 main_v10
  let main_v12 : FVec F S5632x2048 .f32 := Host.absf main_arg4
  let main_cst_3 : FVec F S_ .f32 := constant S_ .f32 0x7F800000#32
  let main_v13 : FVec F S5632x2048 .f32 := broadcastInDim S5632x2048 ![] bcast_S_S5632x2048 main_cst_3
  let main_v14 : IVec S5632x2048 1 := cmpf .olt main_v12 main_v13
  let main_v15 : FVec F S4096x2048 .f32 := Host.absf main_arg5
  let main_cst_4 : FVec F S_ .f32 := constant S_ .f32 0x7F800000#32
  let main_v16 : FVec F S4096x2048 .f32 := broadcastInDim S4096x2048 ![] bcast_S_S4096x2048 main_cst_4
  let main_v17 : IVec S4096x2048 1 := cmpf .olt main_v15 main_v16
  (main_v2, main_v5, main_v8, main_v11, main_v14, main_v17)
-- ==== Kernel.lean ====
abbrev S1x8192 : Shape := ⟨2, ![1, 8192]⟩
abbrev S512x8x8192 : Shape := ⟨3, ![512, 8, 8192]⟩
abbrev S8x8x8192 : Shape := ⟨3, ![8, 8, 8192]⟩
abbrev S8x8192 : Shape := ⟨2, ![8, 8192]⟩
abbrev S1x8x8192 : Shape := ⟨3, ![1, 8, 8192]⟩
abbrev S64x8x1024 : Shape := ⟨3, ![64, 8, 1024]⟩
abbrev S8x8x1024 : Shape := ⟨3, ![8, 8, 1024]⟩
abbrev S2x8x1024 : Shape := ⟨3, ![2, 8, 1024]⟩
abbrev S1x8x1024 : Shape := ⟨3, ![1, 8, 1024]⟩
abbrev S8x1024 : Shape := ⟨2, ![8, 1024]⟩
abbrev S1x1024 : Shape := ⟨2, ![1, 1024]⟩
abbrev S1024 : Shape := ⟨1, ![1024]⟩

abbrev nBuf : Space → Nat
  | .hbm => 14
  | .vmem => 34
  | .smem => 0
  | _ => 0

abbrev bufTy : (tb : Table) → Fin (tcTables nBuf tb) → BufTy
  | .hbm, ⟨0, _⟩ => ⟨S1x8192, .f32⟩
  | .hbm, ⟨1, _⟩ => ⟨S1x8192, .f32⟩
  | .hbm, ⟨2, _⟩ => ⟨S512x8x8192, .f32⟩
  | .hbm, ⟨3, _⟩ => ⟨S512x8x8192, .f32⟩
  | .hbm, ⟨4, _⟩ => ⟨S512x8x8192, .f32⟩
  | .hbm, ⟨5, _⟩ => ⟨S512x8x8192, .f32⟩
  | .hbm, ⟨6, _⟩ => ⟨S8x8x8192, .f32⟩
  | .hbm, ⟨7, _⟩ => ⟨S8x8x8192, .f32⟩
  | .hbm, ⟨8, _⟩ => ⟨S512x8x8192, .f32⟩
  | .hbm, ⟨9, _⟩ => ⟨S512x8x8192, .f32⟩
  | .hbm, ⟨10, _⟩ => ⟨S512x8x8192, .f32⟩
  | .hbm, ⟨11, _⟩ => ⟨S512x8x8192, .f32⟩
  | .hbm, ⟨12, _⟩ => ⟨S8x8192, .f32⟩
  | .hbm, ⟨13, _⟩ => ⟨S8x8192, .f32⟩
  | .local _ .vmem, ⟨0, _⟩ => ⟨S1x8192, .f32⟩
  | .local _ .vmem, ⟨1, _⟩ => ⟨S1x8192, .f32⟩
  | .local _ .vmem, ⟨2, _⟩ => ⟨S8x8x8192, .f32⟩
  | .local _ .vmem, ⟨3, _⟩ => ⟨S8x8x8192, .f32⟩
  | .local _ .vmem, ⟨4, _⟩ => ⟨S64x8x1024, .f32⟩
  | .local _ .vmem, ⟨5, _⟩ => ⟨S64x8x1024, .f32⟩
  | .local _ .vmem, ⟨6, _⟩ => ⟨S64x8x1024, .f32⟩
  | .local _ .vmem, ⟨7, _⟩ => ⟨S64x8x1024, .f32⟩
  | .local _ .vmem, ⟨8, _⟩ => ⟨S8x8x1024, .f32⟩
  | .local _ .vmem, ⟨9, _⟩ => ⟨S8x8x1024, .f32⟩
  | .local _ .vmem, ⟨10, _⟩ => ⟨S64x8x1024, .f32⟩
  | .local _ .vmem, ⟨11, _⟩ => ⟨S64x8x1024, .f32⟩
  | .local _ .vmem, ⟨12, _⟩ => ⟨S64x8x1024, .f32⟩
  | .local _ .vmem, ⟨13, _⟩ => ⟨S64x8x1024, .f32⟩
  | .local _ .vmem, ⟨14, _⟩ => ⟨S2x8x1024, .f32⟩
  | .local _ .vmem, ⟨15, _⟩ => ⟨S64x8x1024, .f32⟩
  | .local _ .vmem, ⟨16, _⟩ => ⟨S64x8x1024, .f32⟩
  | .local _ .vmem, ⟨17, _⟩ => ⟨S64x8x1024, .f32⟩
  | .local _ .vmem, ⟨18, _⟩ => ⟨S64x8x1024, .f32⟩
  | .local _ .vmem, ⟨19, _⟩ => ⟨S64x8x1024, .f32⟩
  | .local _ .vmem, ⟨20, _⟩ => ⟨S64x8x1024, .f32⟩
  | .local _ .vmem, ⟨21, _⟩ => ⟨S64x8x1024, .f32⟩
  | .local _ .vmem, ⟨22, _⟩ => ⟨S64x8x1024, .f32⟩
  | .local _ .vmem, ⟨23, _⟩ => ⟨S8x8x1024, .f32⟩
  | .local _ .vmem, ⟨24, _⟩ => ⟨S8x8x1024, .f32⟩
  | .local _ .vmem, ⟨25, _⟩ => ⟨S64x8x1024, .f32⟩
  | .local _ .vmem, ⟨26, _⟩ => ⟨S64x8x1024, .f32⟩
  | .local _ .vmem, ⟨27, _⟩ => ⟨S64x8x1024, .f32⟩
  | .local _ .vmem, ⟨28, _⟩ => ⟨S64x8x1024, .f32⟩
  | .local _ .vmem, ⟨29, _⟩ => ⟨S8x1024, .f32⟩
  | .local _ .vmem, ⟨30, _⟩ => ⟨S8x1024, .f32⟩
  | .local _ .vmem, ⟨31, _⟩ => ⟨S8x1024, .f32⟩
  | .local _ .vmem, ⟨32, _⟩ => ⟨S8x1024, .f32⟩
  | .local _ .vmem, ⟨33, _⟩ => ⟨S2x8x1024, .f32⟩
  | _, _ => ⟨S1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1_0 : Ref sig .tc := ⟨.hbm, 8, rfl⟩
abbrev main_v1_1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg6_1 : Ref sig .tc := ⟨.vmem, 28, rfl⟩
abbrev cc2_stg7_0 : Ref sig .tc := ⟨.vmem, 29, rfl⟩
abbrev cc2_stg7_1 : Ref sig .tc := ⟨.vmem, 30, rfl⟩
abbrev cc2_stg8_0 : Ref sig .tc := ⟨.vmem, 31, rfl⟩
abbrev cc2_stg8_1 : Ref sig .tc := ⟨.vmem, 32, rfl⟩
abbrev cc2_scratch0 : Ref sig .tc := ⟨.vmem, 33, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem5_1 : DmaSem sig := 25
abbrev cc2_sem6_0 : DmaSem sig := 26
abbrev cc2_sem6_1 : DmaSem sig := 27
abbrev cc2_sem7_0 : DmaSem sig := 28
abbrev cc2_sem7_1 : DmaSem sig := 29
abbrev cc2_sem8_0 : DmaSem sig := 30
abbrev cc2_sem8_1 : DmaSem sig := 31

abbrev nD : Nat := 1
abbrev τ : Topo := Topo.v7x

variable {F : FTy → Type} [FloatOps F]

abbrev grid0 : Pipeline.Grid := .none

abbrev stage0_0 : Fin 1 → Memref sig .tc .vmem S1x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![8, 8], ![false, false]⟩

@[reducible] def k1_t1_loop : Scf.Loop 32 :=
  let c0_i32_5 : BitVec 32 := 0#32
  let c64_i32 : BitVec 32 := 64#32
  let v7 : BitVec 32 := Scalar.addi c0_i32_5 c64_i32
  let c1_i32 : BitVec 32 := 1#32
  ⟨c0_i32_5, v7, c1_i32⟩
def k1_off1 (k1_t1 : Fin k1_t1_loop.trips) : Fin 3 → Nat :=
  let c0_i32_5 : BitVec 32 := 0#32
  let c1_i32 : BitVec 32 := 1#32
  let arg8 : BitVec 32 := Scf.iv c0_i32_5 c1_i32 k1_t1
  let v31 : Index := Scalar.indexCast arg8
  let c0_31 : Index := 0#32
  let c0_32 : Index := 0#32
  ![v31.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage1_0 : Fin 2 → Memref sig .tc .vmem S64x8x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x8x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S64x8x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S64x8x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![8, 8], ![false, false]⟩

@[reducible] def k2_t1_loop : Scf.Loop 32 :=
  let c0_i32_9 : BitVec 32 := 0#32
  let c64_i32 : BitVec 32 := 64#32
  let v14 : BitVec 32 := Scalar.addi c0_i32_9 c64_i32
  let c1_i32 : BitVec 32 := 1#32
  ⟨c0_i32_9, v14, c1_i32⟩
def k2_off1 (k2_t1 : Fin k2_t1_loop.trips) : Fin 3 → Nat :=
  let c63_i32 : BitVec 32 := 63#32
  let c0_i32_9 : BitVec 32 := 0#32
  let c1_i32 : BitVec 32 := 1#32
  let arg12 : BitVec 32 := Scf.iv c0_i32_9 c1_i32 k2_t1
  let v27 : BitVec 32 := Scalar.subi c63_i32 arg12
  let v44 : Index := Scalar.indexCast v27
  let c0_41 : Index := 0#32
  let c0_42 : Index := 0#32
  ![v44.toNat, 0, 0]
def cc2_transform_0 (i : grid2.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat, arg0.toNat]

def cc2_transform_1 (i : grid2.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat, arg0.toNat]

def cc2_transform_2 (i : grid2.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat, arg0.toNat]

def cc2_transform_3 (i : grid2.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat, arg0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc2_transform_5 (i : grid2.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat, arg0.toNat]

def cc2_transform_6 (i : grid2.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat, arg0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S64x8x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S64x8x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S64x8x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S64x8x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S8x8x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S64x8x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S64x8x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S8x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S8x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]
-- ==== ReferenceIdeal.lean ====
abbrev S1x8192 : Shape := ⟨2, ![1, 8192]⟩
abbrev S512x8x8192 : Shape := ⟨3, ![512, 8, 8192]⟩
abbrev S8192 : Shape := ⟨1, ![8192]⟩
abbrev S4096x8192 : Shape := ⟨2, ![4096, 8192]⟩
abbrev S_ : Shape := ⟨0, ![]⟩
abbrev S8x8192 : Shape := ⟨2, ![8, 8192]⟩

abbrev nBuf : Space → Nat
  | .hbm => 141
  | .vmem => 0
  | .smem => 0
  | _ => 0

abbrev hbmTy0_0 (i : Nat) : BufTy := match i % 128 with
  | 0 => ⟨S1x8192, .f32⟩
  | 1 => ⟨S1x8192, .f32⟩
  | 2 => ⟨S512x8x8192, .f32⟩
  | 3 => ⟨S512x8x8192, .f32⟩
  | 4 => ⟨S512x8x8192, .f32⟩
  | 5 => ⟨S512x8x8192, .f32⟩
  | 6 => ⟨S8192, .f32⟩
  | 7 => ⟨S8192, .f32⟩
  | 8 => ⟨S4096x8192, .f32⟩
  | 9 => ⟨S4096x8192, .f32⟩
  | 10 => ⟨S_, .f32⟩
  | 11 => ⟨S8192, .f32⟩
  | 12 => ⟨S_, .f32⟩
  | 13 => ⟨S4096x8192, .f32⟩
  | 14 => ⟨S_, .f32⟩
  | 15 => ⟨S4096x8192, .f32⟩
  | 16 => ⟨S_, .f32⟩
  | 17 => ⟨S4096x8192, .f32⟩
  | 18 => ⟨S_, .f32⟩
  | 19 => ⟨S4096x8192, .f32⟩
  | 20 => ⟨S_, .i32⟩
  | 21 => ⟨S4096x8192, .f32⟩
  | 22 => ⟨S4096x8192, .f32⟩
  | 23 => ⟨S8192, .f32⟩
  | 24 => ⟨S8192, .f32⟩
  | 25 => ⟨S_, .i32⟩
  | 26 => ⟨S8192, .f32⟩
  | 27 => ⟨S8192, .f32⟩
  | 28 => ⟨S4096x8192, .f32⟩
  | 29 => ⟨S4096x8192, .f32⟩
  | 30 => ⟨S4096x8192, .f32⟩
  | 31 => ⟨S4096x8192, .f32⟩
  | 32 => ⟨S_, .i32⟩
  | 33 => ⟨S_, .i1⟩
  | 34 => ⟨S_, .i32⟩
  | 35 => ⟨S1x8192, .f32⟩
  | 36 => ⟨S8192, .f32⟩
  | 37 => ⟨S_, .i32⟩
  | 38 => ⟨S1x8192, .f32⟩
  | 39 => ⟨S8192, .f32⟩
  | 40 => ⟨S8192, .f32⟩
  | 41 => ⟨S8192, .f32⟩
  | 42 => ⟨S8192, .f32⟩
  | 43 => ⟨S8192, .f32⟩
  | 44 => ⟨S8192, .f32⟩
  | 45 => ⟨S8192, .f32⟩
  | 46 => ⟨S8192, .f32⟩
  | 47 => ⟨S8192, .f32⟩
  | 48 => ⟨S1x8192, .f32⟩
  | 49 => ⟨S_, .i32⟩
  | 50 => ⟨S4096x8192, .f32⟩
  | 51 => ⟨S1x8192, .f32⟩
  | 52 => ⟨S_, .i32⟩
  | 53 => ⟨S4096x8192, .f32⟩
  | 54 => ⟨S1x8192, .f32⟩
  | 55 => ⟨S_, .i32⟩
  | 56 => ⟨S4096x8192, .f32⟩
  | 57 => ⟨S1x8192, .f32⟩
  | 58 => ⟨S_, .i32⟩
  | 59 => ⟨S4096x8192, .f32⟩
  | 60 => ⟨S_, .i32⟩
  | 61 => ⟨S_, .i32⟩
  | 62 => ⟨S4096x8192, .f32⟩
  | 63 => ⟨S4096x8192, .f32⟩
  | 64 => ⟨S_, .f32⟩
  | 65 => ⟨S8192, .f32⟩
  | 66 => ⟨S_, .f32⟩
  | 67 => ⟨S8192, .f32⟩
  | 68 => ⟨S_, .f32⟩
  | 69 => ⟨S8192, .f32⟩
  | 70 => ⟨S_, .f32⟩
  | 71 => ⟨S8192, .f32⟩
  | 72 => ⟨S_, .f32⟩
  | 73 => ⟨S8192, .f32⟩
  | 74 => ⟨S_, .f32⟩
  | 75 => ⟨S8192, .f32⟩
  | 76 => ⟨S_, .f32⟩
  | 77 => ⟨S4096x8192, .f32⟩
  | 78 => ⟨S_, .f32⟩
  | 79 => ⟨S4096x8192, .f32⟩
  | 80 => ⟨S_, .i32⟩
  | 81 => ⟨S4096x8192, .f32⟩
  | 82 => ⟨S4096x8192, .f32⟩
  | 83 => ⟨S4096x8192, .f32⟩
  | 84 => ⟨S4096x8192, .f32⟩
  | 85 => ⟨S8192, .f32⟩
  | 86 => ⟨S8192, .f32⟩
  | 87 => ⟨S_, .i32⟩
  | 88 => ⟨S8192, .f32⟩
  | 89 => ⟨S8192, .f32⟩
  | 90 => ⟨S8192, .f32⟩
  | 91 => ⟨S8192, .f32⟩
  | 92 => ⟨S4096x8192, .f32⟩
  | 93 => ⟨S4096x8192, .f32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S1x8192, .f32⟩
  | 102 => ⟨S8192, .f32⟩
  | 103 => ⟨S_, .i32⟩
  | 104 => ⟨S1x8192, .f32⟩
  | 105 => ⟨S8192, .f32⟩
  | 106 => ⟨S_, .i32⟩
  | 107 => ⟨S1x8192, .f32⟩
  | 108 => ⟨S8192, .f32⟩
  | 109 => ⟨S_, .i32⟩
  | 110 => ⟨S1x8192, .f32⟩
  | 111 => ⟨S8192, .f32⟩
  | 112 => ⟨S8192, .f32⟩
  | 113 => ⟨S8192, .f32⟩
  | 114 => ⟨S8192, .f32⟩
  | 115 => ⟨S8192, .f32⟩
  | 116 => ⟨S8192, .f32⟩
  | 117 => ⟨S8192, .f32⟩
  | 118 => ⟨S8192, .f32⟩
  | 119 => ⟨S8192, .f32⟩
  | 120 => ⟨S8192, .f32⟩
  | 121 => ⟨S8192, .f32⟩
  | 122 => ⟨S8192, .f32⟩
  | 123 => ⟨S8192, .f32⟩
  | 124 => ⟨S8192, .f32⟩
  | 125 => ⟨S8192, .f32⟩
  | 126 => ⟨S8192, .f32⟩
  | 127 => ⟨S8192, .f32⟩
  | _ => ⟨S1x8192, .f32⟩

abbrev hbmTy0_1 (i : Nat) : BufTy := match i % 128 with
  | 0 => ⟨S8192, .f32⟩
  | 1 => ⟨S1x8192, .f32⟩
  | 2 => ⟨S_, .i32⟩
  | 3 => ⟨S4096x8192, .f32⟩
  | 4 => ⟨S1x8192, .f32⟩
  | 5 => ⟨S_, .i32⟩
  | 6 => ⟨S4096x8192, .f32⟩
  | 7 => ⟨S_, .i32⟩
  | 8 => ⟨S_, .i32⟩
  | 9 => ⟨S512x8x8192, .f32⟩
  | 10 => ⟨S512x8x8192, .f32⟩
  | 11 => ⟨S8x8192, .f32⟩
  | 12 => ⟨S8x8192, .f32⟩
  | _ => ⟨S1x8192, .f32⟩

abbrev hbmTy (i : Nat) : BufTy := match i / 128 with
  | 0 => hbmTy0_0 i
  | 1 => hbmTy0_1 i
  | _ => ⟨S1x8192, .f32⟩

abbrev bufTy : (tb : Table) → Fin (tcTables nBuf tb) → BufTy
  | .hbm, ⟨i, _⟩ => hbmTy i
  | _, _ => ⟨S1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_c : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v9_4 : Ref sig .tc := ⟨.hbm, 25, rfl⟩
abbrev main_v9_5 : Ref sig .tc := ⟨.hbm, 26, rfl⟩
abbrev main_v9_6 : Ref sig .tc := ⟨.hbm, 27, rfl⟩
abbrev main_v9_7 : Ref sig .tc := ⟨.hbm, 28, rfl⟩
abbrev main_v9_8 : Ref sig .tc := ⟨.hbm, 29, rfl⟩
abbrev main_v9_9 : Ref sig .tc := ⟨.hbm, 30, rfl⟩
abbrev main_v9_10 : Ref sig .tc := ⟨.hbm, 31, rfl⟩
abbrev main_while0c_c_23 : Ref sig .tc := ⟨.hbm, 32, rfl⟩
abbrev main_while0c_v25 : Ref sig .tc := ⟨.hbm, 33, rfl⟩
abbrev main_while0b_call0_c : Ref sig .tc := ⟨.hbm, 34, rfl⟩
abbrev main_while0b_call0_v0 : Ref sig .tc := ⟨.hbm, 35, rfl⟩
abbrev main_while0b_v25 : Ref sig .tc := ⟨.hbm, 36, rfl⟩
abbrev main_while0b_call1_c : Ref sig .tc := ⟨.hbm, 37, rfl⟩
abbrev main_while0b_call1_v0 : Ref sig .tc := ⟨.hbm, 38, rfl⟩
abbrev main_while0b_v26 : Ref sig .tc := ⟨.hbm, 39, rfl⟩
abbrev main_while0b_v27 : Ref sig .tc := ⟨.hbm, 40, rfl⟩
abbrev main_while0b_v28 : Ref sig .tc := ⟨.hbm, 41, rfl⟩
abbrev main_while0b_v29 : Ref sig .tc := ⟨.hbm, 42, rfl⟩
abbrev main_while0b_v30 : Ref sig .tc := ⟨.hbm, 43, rfl⟩
abbrev main_while0b_v31 : Ref sig .tc := ⟨.hbm, 44, rfl⟩
abbrev main_while0b_v32 : Ref sig .tc := ⟨.hbm, 45, rfl⟩
abbrev main_while0b_v33 : Ref sig .tc := ⟨.hbm, 46, rfl⟩
abbrev main_while0b_v34 : Ref sig .tc := ⟨.hbm, 47, rfl⟩
abbrev main_while0b_call2_v0 : Ref sig .tc := ⟨.hbm, 48, rfl⟩
abbrev main_while0b_call2_c : Ref sig .tc := ⟨.hbm, 49, rfl⟩
abbrev main_while0b_v35 : Ref sig .tc := ⟨.hbm, 50, rfl⟩
abbrev main_while0b_call3_v0 : Ref sig .tc := ⟨.hbm, 51, rfl⟩
abbrev main_while0b_call3_c : Ref sig .tc := ⟨.hbm, 52, rfl⟩
abbrev main_while0b_v36 : Ref sig .tc := ⟨.hbm, 53, rfl⟩
abbrev main_while0b_call4_v0 : Ref sig .tc := ⟨.hbm, 54, rfl⟩
abbrev main_while0b_call4_c : Ref sig .tc := ⟨.hbm, 55, rfl⟩
abbrev main_while0b_v37 : Ref sig .tc := ⟨.hbm, 56, rfl⟩
abbrev main_while0b_call5_v0 : Ref sig .tc := ⟨.hbm, 57, rfl⟩
abbrev main_while0b_call5_c : Ref sig .tc := ⟨.hbm, 58, rfl⟩
abbrev main_while0b_v38 : Ref sig .tc := ⟨.hbm, 59, rfl⟩
abbrev main_while0b_c_23 : Ref sig .tc := ⟨.hbm, 60, rfl⟩
abbrev main_while0b_v39 : Ref sig .tc := ⟨.hbm, 61, rfl⟩
abbrev main_v10 : Ref sig .tc := ⟨.hbm, 62, rfl⟩
abbrev main_v11 : Ref sig .tc := ⟨.hbm, 63, rfl⟩
abbrev main_cst_4 : Ref sig .tc := ⟨.hbm, 64, rfl⟩
abbrev main_v12 : Ref sig .tc := ⟨.hbm, 65, rfl⟩
abbrev main_cst_5 : Ref sig .tc := ⟨.hbm, 66, rfl⟩
abbrev main_v13 : Ref sig .tc := ⟨.hbm, 67, rfl⟩
abbrev main_cst_6 : Ref sig .tc := ⟨.hbm, 68, rfl⟩
abbrev main_v14 : Ref sig .tc := ⟨.hbm, 69, rfl⟩
abbrev main_cst_7 : Ref sig .tc := ⟨.hbm, 70, rfl⟩
abbrev main_v15 : Ref sig .tc := ⟨.hbm, 71, rfl⟩
abbrev main_cst_8 : Ref sig .tc := ⟨.hbm, 72, rfl⟩
abbrev main_v16 : Ref sig .tc := ⟨.hbm, 73, rfl⟩
abbrev main_cst_9 : Ref sig .tc := ⟨.hbm, 74, rfl⟩
abbrev main_v17 : Ref sig .tc := ⟨.hbm, 75, rfl⟩
abbrev main_cst_10 : Ref sig .tc := ⟨.hbm, 76, rfl⟩
abbrev main_v18 : Ref sig .tc := ⟨.hbm, 77, rfl⟩
abbrev main_cst_11 : Ref sig .tc := ⟨.hbm, 78, rfl⟩
abbrev main_v19 : Ref sig .tc := ⟨.hbm, 79, rfl⟩
abbrev main_c_12 : Ref sig .tc := ⟨.hbm, 80, rfl⟩
abbrev main_v20_0 : Ref sig .tc := ⟨.hbm, 81, rfl⟩
abbrev main_v20_1 : Ref sig .tc := ⟨.hbm, 82, rfl⟩
abbrev main_v20_2 : Ref sig .tc := ⟨.hbm, 83, rfl⟩
abbrev main_v20_3 : Ref sig .tc := ⟨.hbm, 84, rfl⟩
abbrev main_v20_4 : Ref sig .tc := ⟨.hbm, 85, rfl⟩
abbrev main_v20_5 : Ref sig .tc := ⟨.hbm, 86, rfl⟩
abbrev main_v20_6 : Ref sig .tc := ⟨.hbm, 87, rfl⟩
abbrev main_v20_7 : Ref sig .tc := ⟨.hbm, 88, rfl⟩
abbrev main_v20_8 : Ref sig .tc := ⟨.hbm, 89, rfl⟩
abbrev main_v20_9 : Ref sig .tc := ⟨.hbm, 90, rfl⟩
abbrev main_v20_10 : Ref sig .tc := ⟨.hbm, 91, rfl⟩
abbrev main_v20_11 : Ref sig .tc := ⟨.hbm, 92, rfl⟩
abbrev main_v20_12 : Ref sig .tc := ⟨.hbm, 93, rfl⟩
abbrev main_while1c_c_25 : Ref sig .tc := ⟨.hbm, 94, rfl⟩
abbrev main_while1c_v25 : Ref sig .tc := ⟨.hbm, 95, rfl⟩
abbrev main_while1b_c_25 : Ref sig .tc := ⟨.hbm, 96, rfl⟩
abbrev main_while1b_v25 : Ref sig .tc := ⟨.hbm, 97, rfl⟩
abbrev main_while1b_c_26 : Ref sig .tc := ⟨.hbm, 98, rfl⟩
abbrev main_while1b_v26 : Ref sig .tc := ⟨.hbm, 99, rfl⟩
abbrev main_while1b_call6_c : Ref sig .tc := ⟨.hbm, 100, rfl⟩
abbrev main_while1b_call6_v0 : Ref sig .tc := ⟨.hbm, 101, rfl⟩
abbrev main_while1b_v27 : Ref sig .tc := ⟨.hbm, 102, rfl⟩
abbrev main_while1b_call7_c : Ref sig .tc := ⟨.hbm, 103, rfl⟩
abbrev main_while1b_call7_v0 : Ref sig .tc := ⟨.hbm, 104, rfl⟩
abbrev main_while1b_v28 : Ref sig .tc := ⟨.hbm, 105, rfl⟩
abbrev main_while1b_call8_c : Ref sig .tc := ⟨.hbm, 106, rfl⟩
abbrev main_while1b_call8_v0 : Ref sig .tc := ⟨.hbm, 107, rfl⟩
abbrev main_while1b_v29 : Ref sig .tc := ⟨.hbm, 108, rfl⟩
abbrev main_while1b_call9_c : Ref sig .tc := ⟨.hbm, 109, rfl⟩
abbrev main_while1b_call9_v0 : Ref sig .tc := ⟨.hbm, 110, rfl⟩
abbrev main_while1b_v30 : Ref sig .tc := ⟨.hbm, 111, rfl⟩
abbrev main_while1b_v31 : Ref sig .tc := ⟨.hbm, 112, rfl⟩
abbrev main_while1b_v32 : Ref sig .tc := ⟨.hbm, 113, rfl⟩
abbrev main_while1b_v33 : Ref sig .tc := ⟨.hbm, 114, rfl⟩
abbrev main_while1b_v34 : Ref sig .tc := ⟨.hbm, 115, rfl⟩
abbrev main_while1b_v35 : Ref sig .tc := ⟨.hbm, 116, rfl⟩
abbrev main_while1b_v36 : Ref sig .tc := ⟨.hbm, 117, rfl⟩
abbrev main_while1b_v37 : Ref sig .tc := ⟨.hbm, 118, rfl⟩
abbrev main_while1b_v38 : Ref sig .tc := ⟨.hbm, 119, rfl⟩
abbrev main_while1b_v39 : Ref sig .tc := ⟨.hbm, 120, rfl⟩
abbrev main_while1b_v40 : Ref sig .tc := ⟨.hbm, 121, rfl⟩
abbrev main_while1b_v41 : Ref sig .tc := ⟨.hbm, 122, rfl⟩
abbrev main_while1b_v42 : Ref sig .tc := ⟨.hbm, 123, rfl⟩
abbrev main_while1b_v43 : Ref sig .tc := ⟨.hbm, 124, rfl⟩
abbrev main_while1b_v44 : Ref sig .tc := ⟨.hbm, 125, rfl⟩
abbrev main_while1b_v45 : Ref sig .tc := ⟨.hbm, 126, rfl⟩
abbrev main_while1b_v46 : Ref sig .tc := ⟨.hbm, 127, rfl⟩
abbrev main_while1b_v47 : Ref sig .tc := ⟨.hbm, 128, rfl⟩
abbrev main_while1b_call10_v0 : Ref sig .tc := ⟨.hbm, 129, rfl⟩
abbrev main_while1b_call10_c : Ref sig .tc := ⟨.hbm, 130, rfl⟩
abbrev main_while1b_v48 : Ref sig .tc := ⟨.hbm, 131, rfl⟩
abbrev main_while1b_call11_v0 : Ref sig .tc := ⟨.hbm, 132, rfl⟩
abbrev main_while1b_call11_c : Ref sig .tc := ⟨.hbm, 133, rfl⟩
abbrev main_while1b_v49 : Ref sig .tc := ⟨.hbm, 134, rfl⟩
abbrev main_while1b_c_27 : Ref sig .tc := ⟨.hbm, 135, rfl⟩
abbrev main_while1b_v50 : Ref sig .tc := ⟨.hbm, 136, rfl⟩
abbrev main_v21 : Ref sig .tc := ⟨.hbm, 137, rfl⟩
abbrev main_v22 : Ref sig .tc := ⟨.hbm, 138, rfl⟩
abbrev main_v23 : Ref sig .tc := ⟨.hbm, 139, rfl⟩
abbrev main_v24 : Ref sig .tc := ⟨.hbm, 140, rfl⟩

abbrev nD : Nat := 1
abbrev τ : Topo := Topo.v7x

variable {F : FTy → Type} [FloatOps F]

abbrev main_while0_count : Scf.Loop 32 := ⟨0#32, 4096#32, 1#32⟩

abbrev main_while1_count : Scf.Loop 32 := ⟨0#32, 4096#32, 1#32⟩
-- ==== Kernel2.lean ====
abbrev S4096x2048 : Shape := ⟨2, ![4096, 2048]⟩
abbrev S1x2048 : Shape := ⟨2, ![1, 2048]⟩
abbrev S2048x5632 : Shape := ⟨2, ![2048, 5632]⟩
abbrev S5632x2048 : Shape := ⟨2, ![5632, 2048]⟩
abbrev S8x704x2048 : Shape := ⟨3, ![8, 704, 2048]⟩
abbrev S256x2048 : Shape := ⟨2, ![256, 2048]⟩
abbrev S256 : Shape := ⟨1, ![256]⟩
abbrev S256x1 : Shape := ⟨2, ![256, 1]⟩
abbrev S8x4096x704 : Shape := ⟨3, ![8, 4096, 704]⟩
abbrev S1024x2048 : Shape := ⟨2, ![1024, 2048]⟩
abbrev S1x704x2048 : Shape := ⟨3, ![1, 704, 2048]⟩
abbrev S1x1024x704 : Shape := ⟨3, ![1, 1024, 704]⟩
abbrev S704x2048 : Shape := ⟨2, ![704, 2048]⟩
abbrev S1024x704 : Shape := ⟨2, ![1024, 704]⟩
abbrev S8x512x704 : Shape := ⟨3, ![8, 512, 704]⟩
abbrev S8x704x512 : Shape := ⟨3, ![8, 704, 512]⟩
abbrev S512x512 : Shape := ⟨2, ![512, 512]⟩
abbrev S1x512x704 : Shape := ⟨3, ![1, 512, 704]⟩
abbrev S512x704 : Shape := ⟨2, ![512, 704]⟩
abbrev S1x704x512 : Shape := ⟨3, ![1, 704, 512]⟩
abbrev S704x512 : Shape := ⟨2, ![704, 512]⟩
abbrev S1x4096x704 : Shape := ⟨3, ![1, 4096, 704]⟩
abbrev S4096x1024 : Shape := ⟨2, ![4096, 1024]⟩
abbrev S1x704x1024 : Shape := ⟨3, ![1, 704, 1024]⟩
abbrev S4096x704 : Shape := ⟨2, ![4096, 704]⟩
abbrev S704x1024 : Shape := ⟨2, ![704, 1024]⟩
abbrev S8x704x256 : Shape := ⟨3, ![8, 704, 256]⟩
abbrev S512x256 : Shape := ⟨2, ![512, 256]⟩
abbrev S1x704x256 : Shape := ⟨3, ![1, 704, 256]⟩
abbrev S704x256 : Shape := ⟨2, ![704, 256]⟩
abbrev S2048 : Shape := ⟨1, ![2048]⟩

abbrev nBuf : Space → Nat
  | .hbm => 29
  | .vmem => 77
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S4096x2048, .f32⟩
  | .hbm, ⟨6, _⟩ => ⟨S5632x2048, .f32⟩
  | .hbm, ⟨7, _⟩ => ⟨S5632x2048, .bf16⟩
  | .hbm, ⟨8, _⟩ => ⟨S8x704x2048, .bf16⟩
  | .hbm, ⟨9, _⟩ => ⟨S5632x2048, .f32⟩
  | .hbm, ⟨10, _⟩ => ⟨S5632x2048, .bf16⟩
  | .hbm, ⟨11, _⟩ => ⟨S8x704x2048, .bf16⟩
  | .hbm, ⟨12, _⟩ => ⟨S5632x2048, .bf16⟩
  | .hbm, ⟨13, _⟩ => ⟨S8x704x2048, .bf16⟩
  | .hbm, ⟨14, _⟩ => ⟨S4096x2048, .bf16⟩
  | .hbm, ⟨15, _⟩ => ⟨S8x4096x704, .bf16⟩
  | .hbm, ⟨16, _⟩ => ⟨S8x4096x704, .bf16⟩
  | .hbm, ⟨17, _⟩ => ⟨S8x4096x704, .bf16⟩
  | .hbm, ⟨18, _⟩ => ⟨S4096x2048, .f32⟩
  | .hbm, ⟨19, _⟩ => ⟨S4096x2048, .bf16⟩
  | .hbm, ⟨20, _⟩ => ⟨S8x4096x704, .bf16⟩
  | .hbm, ⟨21, _⟩ => ⟨S8x4096x704, .bf16⟩
  | .hbm, ⟨22, _⟩ => ⟨S8x704x2048, .bf16⟩
  | .hbm, ⟨23, _⟩ => ⟨S8x704x2048, .bf16⟩
  | .hbm, ⟨24, _⟩ => ⟨S8x704x2048, .bf16⟩
  | .hbm, ⟨25, _⟩ => ⟨S4096x2048, .f32⟩
  | .hbm, ⟨26, _⟩ => ⟨S4096x2048, .f32⟩
  | .hbm, ⟨27, _⟩ => ⟨S4096x2048, .bf16⟩
  | .hbm, ⟨28, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1x704x2048, .bf16⟩
  | .local _ .vmem, ⟨8, _⟩ => ⟨S1x704x2048, .bf16⟩
  | .local _ .vmem, ⟨9, _⟩ => ⟨S1x704x2048, .bf16⟩
  | .local _ .vmem, ⟨10, _⟩ => ⟨S1x704x2048, .bf16⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S8x512x704, .bf16⟩
  | .local _ .vmem, ⟨18, _⟩ => ⟨S8x512x704, .bf16⟩
  | .local _ .vmem, ⟨19, _⟩ => ⟨S8x704x512, .bf16⟩
  | .local _ .vmem, ⟨20, _⟩ => ⟨S8x704x512, .bf16⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S1024x2048, .bf16⟩
  | .local _ .vmem, ⟨26, _⟩ => ⟨S1024x2048, .bf16⟩
  | .local _ .vmem, ⟨27, _⟩ => ⟨S1x704x2048, .bf16⟩
  | .local _ .vmem, ⟨28, _⟩ => ⟨S1x704x2048, .bf16⟩
  | .local _ .vmem, ⟨29, _⟩ => ⟨S1x1024x704, .bf16⟩
  | .local _ .vmem, ⟨30, _⟩ => ⟨S1x1024x704, .bf16⟩
  | .local _ .vmem, ⟨31, _⟩ => ⟨S1x1024x704, .bf16⟩
  | .local _ .vmem, ⟨32, _⟩ => ⟨S1x1024x704, .bf16⟩
  | .local _ .vmem, ⟨33, _⟩ => ⟨S1x1024x704, .bf16⟩
  | .local _ .vmem, ⟨34, _⟩ => ⟨S1x1024x704, .bf16⟩
  | .local _ .vmem, ⟨35, _⟩ => ⟨S1x1024x704, .bf16⟩
  | .local _ .vmem, ⟨36, _⟩ => ⟨S1x1024x704, .bf16⟩
  | .local _ .vmem, ⟨37, _⟩ => ⟨S1x4096x704, .bf16⟩
  | .local _ .vmem, ⟨38, _⟩ => ⟨S1x4096x704, .bf16⟩
  | .local _ .vmem, ⟨39, _⟩ => ⟨S4096x1024, .bf16⟩
  | .local _ .vmem, ⟨40, _⟩ => ⟨S4096x1024, .bf16⟩
  | .local _ .vmem, ⟨41, _⟩ => ⟨S1x704x1024, .bf16⟩
  | .local _ .vmem, ⟨42, _⟩ => ⟨S1x704x1024, .bf16⟩
  | .local _ .vmem, ⟨43, _⟩ => ⟨S1x4096x704, .bf16⟩
  | .local _ .vmem, ⟨44, _⟩ => ⟨S1x4096x704, .bf16⟩
  | .local _ .vmem, ⟨45, _⟩ => ⟨S4096x1024, .bf16⟩
  | .local _ .vmem, ⟨46, _⟩ => ⟨S4096x1024, .bf16⟩
  | .local _ .vmem, ⟨47, _⟩ => ⟨S1x704x1024, .bf16⟩
  | .local _ .vmem, ⟨48, _⟩ => ⟨S1x704x1024, .bf16⟩
  | .local _ .vmem, ⟨49, _⟩ => ⟨S1x4096x704, .bf16⟩
  | .local _ .vmem, ⟨50, _⟩ => ⟨S1x4096x704, .bf16⟩
  | .local _ .vmem, ⟨51, _⟩ => ⟨S4096x1024, .bf16⟩
  | .local _ .vmem, ⟨52, _⟩ => ⟨S4096x1024, .bf16⟩
  | .local _ .vmem, ⟨53, _⟩ => ⟨S1x704x1024, .bf16⟩
  | .local _ .vmem, ⟨54, _⟩ => ⟨S1x704x1024, .bf16⟩
  | .local _ .vmem, ⟨55, _⟩ => ⟨S8x512x704, .bf16⟩
  | .local _ .vmem, ⟨56, _⟩ => ⟨S8x512x704, .bf16⟩
  | .local _ .vmem, ⟨57, _⟩ => ⟨S8x512x704, .bf16⟩
  | .local _ .vmem, ⟨58, _⟩ => ⟨S8x512x704, .bf16⟩
  | .local _ .vmem, ⟨59, _⟩ => ⟨S8x704x256, .bf16⟩
  | .local _ .vmem, ⟨60, _⟩ => ⟨S8x704x256, .bf16⟩
  | .local _ .vmem, ⟨61, _⟩ => ⟨S8x704x256, .bf16⟩
  | .local _ .vmem, ⟨62, _⟩ => ⟨S8x704x256, .bf16⟩
  | .local _ .vmem, ⟨63, _⟩ => ⟨S512x256, .f32⟩
  | .local _ .vmem, ⟨64, _⟩ => ⟨S512x256, .f32⟩
  | .local _ .vmem, ⟨65, _⟩ => ⟨S256x2048, .f32⟩
  | .local _ .vmem, ⟨66, _⟩ => ⟨S256x2048, .f32⟩
  | .local _ .vmem, ⟨67, _⟩ => ⟨S256x2048, .f32⟩
  | .local _ .vmem, ⟨68, _⟩ => ⟨S256x2048, .f32⟩
  | .local _ .vmem, ⟨69, _⟩ => ⟨S256x2048, .f32⟩
  | .local _ .vmem, ⟨70, _⟩ => ⟨S256x2048, .f32⟩
  | .local _ .vmem, ⟨71, _⟩ => ⟨S1x2048, .f32⟩
  | .local _ .vmem, ⟨72, _⟩ => ⟨S256x2048, .f32⟩
  | .local _ .vmem, ⟨73, _⟩ => ⟨S256x2048, .f32⟩
  | .local _ .vmem, ⟨74, _⟩ => ⟨S256x2048, .bf16⟩
  | .local _ .vmem, ⟨75, _⟩ => ⟨S256x2048, .bf16⟩
  | .local _ .vmem, ⟨76, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc3_stg4_0 : Ref sig .tc := ⟨.vmem, 33, rfl⟩
abbrev cc3_stg4_1 : Ref sig .tc := ⟨.vmem, 34, rfl⟩
abbrev cc3_stg5_0 : Ref sig .tc := ⟨.vmem, 35, rfl⟩
abbrev cc3_stg5_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg2_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg2_1 : Ref sig .tc := ⟨.vmem, 48, rfl⟩
abbrev cc6_stg0_0 : Ref sig .tc := ⟨.vmem, 49, rfl⟩
abbrev cc6_stg0_1 : Ref sig .tc := ⟨.vmem, 50, rfl⟩
abbrev cc6_stg1_0 : Ref sig .tc := ⟨.vmem, 51, rfl⟩
abbrev cc6_stg1_1 : Ref sig .tc := ⟨.vmem, 52, rfl⟩
abbrev cc6_stg2_0 : Ref sig .tc := ⟨.vmem, 53, rfl⟩
abbrev cc6_stg2_1 : Ref sig .tc := ⟨.vmem, 54, rfl⟩
abbrev cc7_stg0_0 : Ref sig .tc := ⟨.vmem, 55, rfl⟩
abbrev cc7_stg0_1 : Ref sig .tc := ⟨.vmem, 56, rfl⟩
abbrev cc7_stg1_0 : Ref sig .tc := ⟨.vmem, 57, rfl⟩
abbrev cc7_stg1_1 : Ref sig .tc := ⟨.vmem, 58, rfl⟩
abbrev cc7_stg2_0 : Ref sig .tc := ⟨.vmem, 59, rfl⟩
abbrev cc7_stg2_1 : Ref sig .tc := ⟨.vmem, 60, rfl⟩
abbrev cc7_stg3_0 : Ref sig .tc := ⟨.vmem, 61, rfl⟩
abbrev cc7_stg3_1 : Ref sig .tc := ⟨.vmem, 62, rfl⟩
abbrev cc7_stg4_0 : Ref sig .tc := ⟨.vmem, 63, rfl⟩
abbrev cc7_stg4_1 : Ref sig .tc := ⟨.vmem, 64, rfl⟩
abbrev cc8_stg0_0 : Ref sig .tc := ⟨.vmem, 65, rfl⟩
abbrev cc8_stg0_1 : Ref sig .tc := ⟨.vmem, 66, rfl⟩
abbrev cc8_stg1_0 : Ref sig .tc := ⟨.vmem, 67, rfl⟩
abbrev cc8_stg1_1 : Ref sig .tc := ⟨.vmem, 68, rfl⟩
abbrev cc8_stg2_0 : Ref sig .tc := ⟨.vmem, 69, rfl⟩
abbrev cc8_stg2_1 : Ref sig .tc := ⟨.vmem, 70, rfl⟩
abbrev cc8_stg3_0 : Ref sig .tc := ⟨.vmem, 71, rfl⟩
abbrev cc8_stg4_0 : Ref sig .tc := ⟨.vmem, 72, rfl⟩
abbrev cc8_stg4_1 : Ref sig .tc := ⟨.vmem, 73, rfl⟩
abbrev cc8_stg5_0 : Ref sig .tc := ⟨.vmem, 74, rfl⟩
abbrev cc8_stg5_1 : Ref sig .tc := ⟨.vmem, 75, rfl⟩
abbrev cc8_stg6_0 : Ref sig .tc := ⟨.vmem, 76, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem3_1 : DmaSem sig := 32
abbrev cc3_sem4_0 : DmaSem sig := 33
abbrev cc3_sem4_1 : DmaSem sig := 34
abbrev cc3_sem5_0 : DmaSem sig := 35
abbrev cc3_sem5_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem2_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem2_1 : DmaSem sig := 48
abbrev cc6_sem0_0 : DmaSem sig := 49
abbrev cc6_sem0_1 : DmaSem sig := 50
abbrev cc6_sem1_0 : DmaSem sig := 51
abbrev cc6_sem1_1 : DmaSem sig := 52
abbrev cc6_sem2_0 : DmaSem sig := 53
abbrev cc6_sem2_1 : DmaSem sig := 54
abbrev cc7_sem0_0 : DmaSem sig := 55
abbrev cc7_sem0_1 : DmaSem sig := 56
abbrev cc7_sem1_0 : DmaSem sig := 57
abbrev cc7_sem1_1 : DmaSem sig := 58
abbrev cc7_sem2_0 : DmaSem sig := 59
abbrev cc7_sem2_1 : DmaSem sig := 60
abbrev cc7_sem3_0 : DmaSem sig := 61
abbrev cc7_sem3_1 : DmaSem sig := 62
abbrev cc7_sem4_0 : DmaSem sig := 63
abbrev cc7_sem4_1 : DmaSem sig := 64
abbrev cc8_sem0_0 : DmaSem sig := 65
abbrev cc8_sem0_1 : DmaSem sig := 66
abbrev cc8_sem1_0 : DmaSem sig := 67
abbrev cc8_sem1_1 : DmaSem sig := 68
abbrev cc8_sem2_0 : DmaSem sig := 69
abbrev cc8_sem2_1 : DmaSem sig := 70
abbrev cc8_sem3_0 : DmaSem sig := 71
abbrev cc8_sem4_0 : DmaSem sig := 72
abbrev cc8_sem4_1 : DmaSem sig := 73
abbrev cc8_sem5_0 : DmaSem sig := 74
abbrev cc8_sem5_1 : DmaSem sig := 75
abbrev cc8_sem6_0 : DmaSem sig := 76

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x704x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x704x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![8, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S8x512x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S8x704x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![8, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1x704x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1024x704 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x1024x704 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x1024x704 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x1024x704 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨2, ![8, 2], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage4_0 : Fin 2 → Memref sig .tc .vmem S1x4096x704 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x704x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 2], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage5_0 : Fin 2 → Memref sig .tc .vmem S1x4096x704 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1x704x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![8, 2], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage6_0 : Fin 2 → Memref sig .tc .vmem S1x4096x704 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S4096x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1x704x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![8, 8], ![false, false]⟩

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc7_transform_3 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S8x512x704 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S8x512x704 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S8x704x256 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S8x704x256 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![false, true]

abbrev stage7_4 : Fin 2 → Memref sig .tc .vmem S512x256 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev grid8 : Pipeline.Grid := ⟨1, ![16], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S256x2048 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S256x2048 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S256x2048 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x2048 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S256x2048 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S256x2048 .bf16 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 1 → Memref sig .tc .vmem S1x2048 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]
-- ==== Reference2Ideal.lean ====
abbrev S4096x2048 : Shape := ⟨2, ![4096, 2048]⟩
abbrev S1x2048 : Shape := ⟨2, ![1, 2048]⟩
abbrev S2048x5632 : Shape := ⟨2, ![2048, 5632]⟩
abbrev S5632x2048 : Shape := ⟨2, ![5632, 2048]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S2048 : Shape := ⟨1, ![2048]⟩
abbrev S8x704x2048 : Shape := ⟨3, ![8, 704, 2048]⟩

abbrev nBuf : Space → Nat
  | .hbm => 98
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S_, .f32⟩
  | .hbm, ⟨29, _⟩ => ⟨S4096x5632, .f32⟩
  | .hbm, ⟨30, _⟩ => ⟨S4096x5632, .f32⟩
  | .hbm, ⟨31, _⟩ => ⟨S_, .f32⟩
  | .hbm, ⟨32, _⟩ => ⟨S4096x5632, .f32⟩
  | .hbm, ⟨33, _⟩ => ⟨S4096x5632, .f32⟩
  | .hbm, ⟨34, _⟩ => ⟨S_, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S4096x5632, .f32⟩
  | .hbm, ⟨39, _⟩ => ⟨S4096x5632, .f32⟩
  | .hbm, ⟨40, _⟩ => ⟨S4096x5632, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S2048x5632, .f32⟩
  | .hbm, ⟨51, _⟩ => ⟨S5632x2048, .f32⟩
  | .hbm, ⟨52, _⟩ => ⟨S4096x5632, .f32⟩
  | .hbm, ⟨53, _⟩ => ⟨S4096x5632, .f32⟩
  | .hbm, ⟨54, _⟩ => ⟨S4096x5632, .f32⟩
  | .hbm, ⟨55, _⟩ => ⟨S5632x2048, .f32⟩
  | .hbm, ⟨56, _⟩ => ⟨S2048x5632, .f32⟩
  | .hbm, ⟨57, _⟩ => ⟨S4096x2048, .f32⟩
  | .hbm, ⟨58, _⟩ => ⟨S4096x5632, .f32⟩
  | .hbm, ⟨59, _⟩ => ⟨S4096x5632, .f32⟩
  | .hbm, ⟨60, _⟩ => ⟨S4096x5632, .f32⟩
  | .hbm, ⟨61, _⟩ => ⟨S4096x5632, .f32⟩
  | .hbm, ⟨62, _⟩ => ⟨S5632x2048, .f32⟩
  | .hbm, ⟨63, _⟩ => ⟨S2048x5632, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S_, .f32⟩
  | .hbm, ⟨68, _⟩ => ⟨S2048, .f32⟩
  | .hbm, ⟨69, _⟩ => ⟨S1x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S4096, .f32⟩
  | .hbm, ⟨85, _⟩ => ⟨S4096x2048, .f32⟩
  | .hbm, ⟨86, _⟩ => ⟨S4096x2048, .f32⟩
  | .hbm, ⟨87, _⟩ => ⟨S4096x2048, .f32⟩
  | .hbm, ⟨88, _⟩ => ⟨S4096x2048, .f32⟩
  | .hbm, ⟨89, _⟩ => ⟨S4096x2048, .f32⟩
  | .hbm, ⟨90, _⟩ => ⟨S5632x2048, .f32⟩
  | .hbm, ⟨91, _⟩ => ⟨S8x704x2048, .f32⟩
  | .hbm, ⟨92, _⟩ => ⟨S8x704x2048, .bf16⟩
  | .hbm, ⟨93, _⟩ => ⟨S5632x2048, .f32⟩
  | .hbm, ⟨94, _⟩ => ⟨S8x704x2048, .f32⟩
  | .hbm, ⟨95, _⟩ => ⟨S8x704x2048, .bf16⟩
  | .hbm, ⟨96, _⟩ => ⟨S8x704x2048, .f32⟩
  | .hbm, ⟨97, _⟩ => ⟨S8x704x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v16_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v16_1 : Ref sig .tc := ⟨.hbm, 37, rfl⟩
abbrev main_v16_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩

abbrev nD : Nat := 1
abbrev τ : Topo := Topo.v7x

variable {F : FTy → Type} [FloatOps F]
-- ==== Kernel3.lean ====
abbrev S2x704x2048 : Shape := ⟨3, ![2, 704, 2048]⟩
abbrev S8x704x2048 : Shape := ⟨3, ![8, 704, 2048]⟩
abbrev S256x2048 : Shape := ⟨2, ![256, 2048]⟩
abbrev S8x256x2048 : Shape := ⟨3, ![8, 256, 2048]⟩
abbrev S2048x768 : Shape := ⟨2, ![2048, 768]⟩
abbrev S8x2048x768 : Shape := ⟨3, ![8, 2048, 768]⟩
abbrev S4416x128 : Shape := ⟨2, ![4416, 128]⟩
abbrev S8x4416x128 : Shape := ⟨3, ![8, 4416, 128]⟩
abbrev S1x176x2048 : Shape := ⟨3, ![1, 176, 2048]⟩
abbrev S8x176x2048 : Shape := ⟨3, ![8, 176, 2048]⟩
abbrev S176x2048 : Shape := ⟨2, ![176, 2048]⟩
abbrev S128x2048 : Shape := ⟨2, ![128, 2048]⟩
abbrev S8x128x2048 : Shape := ⟨3, ![8, 128, 2048]⟩
abbrev S1x128x2048 : Shape := ⟨3, ![1, 128, 2048]⟩
abbrev S512x768 : Shape := ⟨2, ![512, 768]⟩
abbrev S8x512x768 : Shape := ⟨3, ![8, 512, 768]⟩
abbrev S1x512x768 : Shape := ⟨3, ![1, 512, 768]⟩
abbrev S2208x128 : Shape := ⟨2, ![2208, 128]⟩
abbrev S8x2208x128 : Shape := ⟨3, ![8, 2208, 128]⟩
abbrev S1x2208x128 : Shape := ⟨3, ![1, 2208, 128]⟩

abbrev nBuf : Space → Nat
  | .hbm => 37
  | .vmem => 80
  | .smem => 0
  | _ => 0

abbrev bufTy : (tb : Table) → Fin (tcTables nBuf tb) → BufTy
  | .hbm, ⟨0, _⟩ => ⟨S2x704x2048, .f32⟩
  | .hbm, ⟨1, _⟩ => ⟨S2x704x2048, .f32⟩
  | .hbm, ⟨2, _⟩ => ⟨S2x704x2048, .f32⟩
  | .hbm, ⟨3, _⟩ => ⟨S8x704x2048, .bf16⟩
  | .hbm, ⟨4, _⟩ => ⟨S8x704x2048, .bf16⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S8x256x2048, .bf16⟩
  | .hbm, ⟨9, _⟩ => ⟨S2048x768, .f32⟩
  | .hbm, ⟨10, _⟩ => ⟨S2048x768, .f32⟩
  | .hbm, ⟨11, _⟩ => ⟨S2048x768, .f32⟩
  | .hbm, ⟨12, _⟩ => ⟨S8x2048x768, .bf16⟩
  | .hbm, ⟨13, _⟩ => ⟨S4416x128, .f32⟩
  | .hbm, ⟨14, _⟩ => ⟨S4416x128, .f32⟩
  | .hbm, ⟨15, _⟩ => ⟨S4416x128, .f32⟩
  | .hbm, ⟨16, _⟩ => ⟨S8x4416x128, .f32⟩
  | .hbm, ⟨17, _⟩ => ⟨S2x704x2048, .f32⟩
  | .hbm, ⟨18, _⟩ => ⟨S2x704x2048, .f32⟩
  | .hbm, ⟨19, _⟩ => ⟨S2x704x2048, .f32⟩
  | .hbm, ⟨20, _⟩ => ⟨S2x704x2048, .f32⟩
  | .hbm, ⟨21, _⟩ => ⟨S2x704x2048, .f32⟩
  | .hbm, ⟨22, _⟩ => ⟨S2x704x2048, .f32⟩
  | .hbm, ⟨23, _⟩ => ⟨S2x704x2048, .f32⟩
  | .hbm, ⟨24, _⟩ => ⟨S2x704x2048, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S2048x768, .f32⟩
  | .hbm, ⟨30, _⟩ => ⟨S2048x768, .f32⟩
  | .hbm, ⟨31, _⟩ => ⟨S2048x768, .f32⟩
  | .hbm, ⟨32, _⟩ => ⟨S2048x768, .f32⟩
  | .hbm, ⟨33, _⟩ => ⟨S4416x128, .f32⟩
  | .hbm, ⟨34, _⟩ => ⟨S4416x128, .f32⟩
  | .hbm, ⟨35, _⟩ => ⟨S4416x128, .f32⟩
  | .hbm, ⟨36, _⟩ => ⟨S4416x128, .f32⟩
  | .local _ .vmem, ⟨0, _⟩ => ⟨S1x176x2048, .f32⟩
  | .local _ .vmem, ⟨1, _⟩ => ⟨S1x176x2048, .f32⟩
  | .local _ .vmem, ⟨2, _⟩ => ⟨S1x176x2048, .f32⟩
  | .local _ .vmem, ⟨3, _⟩ => ⟨S1x176x2048, .f32⟩
  | .local _ .vmem, ⟨4, _⟩ => ⟨S1x176x2048, .f32⟩
  | .local _ .vmem, ⟨5, _⟩ => ⟨S1x176x2048, .f32⟩
  | .local _ .vmem, ⟨6, _⟩ => ⟨S8x176x2048, .bf16⟩
  | .local _ .vmem, ⟨7, _⟩ => ⟨S8x176x2048, .bf16⟩
  | .local _ .vmem, ⟨8, _⟩ => ⟨S1x176x2048, .f32⟩
  | .local _ .vmem, ⟨9, _⟩ => ⟨S1x176x2048, .f32⟩
  | .local _ .vmem, ⟨10, _⟩ => ⟨S1x176x2048, .f32⟩
  | .local _ .vmem, ⟨11, _⟩ => ⟨S1x176x2048, .f32⟩
  | .local _ .vmem, ⟨12, _⟩ => ⟨S1x176x2048, .f32⟩
  | .local _ .vmem, ⟨13, _⟩ => ⟨S1x176x2048, .f32⟩
  | .local _ .vmem, ⟨14, _⟩ => ⟨S1x176x2048, .f32⟩
  | .local _ .vmem, ⟨15, _⟩ => ⟨S1x176x2048, .f32⟩
  | .local _ .vmem, ⟨16, _⟩ => ⟨S1x176x2048, .f32⟩
  | .local _ .vmem, ⟨17, _⟩ => ⟨S1x176x2048, .f32⟩
  | .local _ .vmem, ⟨18, _⟩ => ⟨S1x176x2048, .f32⟩
  | .local _ .vmem, ⟨19, _⟩ => ⟨S1x176x2048, .f32⟩
  | .local _ .vmem, ⟨20, _⟩ => ⟨S1x176x2048, .f32⟩
  | .local _ .vmem, ⟨21, _⟩ => ⟨S1x176x2048, .f32⟩
  | .local _ .vmem, ⟨22, _⟩ => ⟨S8x176x2048, .bf16⟩
  | .local _ .vmem, ⟨23, _⟩ => ⟨S8x176x2048, .bf16⟩
  | .local _ .vmem, ⟨24, _⟩ => ⟨S1x176x2048, .f32⟩
  | .local _ .vmem, ⟨25, _⟩ => ⟨S1x176x2048, .f32⟩
  | .local _ .vmem, ⟨26, _⟩ => ⟨S1x176x2048, .f32⟩
  | .local _ .vmem, ⟨27, _⟩ => ⟨S1x176x2048, .f32⟩
  | .local _ .vmem, ⟨28, _⟩ => ⟨S1x176x2048, .f32⟩
  | .local _ .vmem, ⟨29, _⟩ => ⟨S1x176x2048, .f32⟩
  | .local _ .vmem, ⟨30, _⟩ => ⟨S1x176x2048, .f32⟩
  | .local _ .vmem, ⟨31, _⟩ => ⟨S1x176x2048, .f32⟩
  | .local _ .vmem, ⟨32, _⟩ => ⟨S128x2048, .f32⟩
  | .local _ .vmem, ⟨33, _⟩ => ⟨S128x2048, .f32⟩
  | .local _ .vmem, ⟨34, _⟩ => ⟨S128x2048, .f32⟩
  | .local _ .vmem, ⟨35, _⟩ => ⟨S128x2048, .f32⟩
  | .local _ .vmem, ⟨36, _⟩ => ⟨S128x2048, .f32⟩
  | .local _ .vmem, ⟨37, _⟩ => ⟨S128x2048, .f32⟩
  | .local _ .vmem, ⟨38, _⟩ => ⟨S8x128x2048, .bf16⟩
  | .local _ .vmem, ⟨39, _⟩ => ⟨S8x128x2048, .bf16⟩
  | .local _ .vmem, ⟨40, _⟩ => ⟨S128x2048, .f32⟩
  | .local _ .vmem, ⟨41, _⟩ => ⟨S128x2048, .f32⟩
  | .local _ .vmem, ⟨42, _⟩ => ⟨S128x2048, .f32⟩
  | .local _ .vmem, ⟨43, _⟩ => ⟨S128x2048, .f32⟩
  | .local _ .vmem, ⟨44, _⟩ => ⟨S128x2048, .f32⟩
  | .local _ .vmem, ⟨45, _⟩ => ⟨S128x2048, .f32⟩
  | .local _ .vmem, ⟨46, _⟩ => ⟨S128x2048, .f32⟩
  | .local _ .vmem, ⟨47, _⟩ => ⟨S128x2048, .f32⟩
  | .local _ .vmem, ⟨48, _⟩ => ⟨S512x768, .f32⟩
  | .local _ .vmem, ⟨49, _⟩ => ⟨S512x768, .f32⟩
  | .local _ .vmem, ⟨50, _⟩ => ⟨S512x768, .f32⟩
  | .local _ .vmem, ⟨51, _⟩ => ⟨S512x768, .f32⟩
  | .local _ .vmem, ⟨52, _⟩ => ⟨S512x768, .f32⟩
  | .local _ .vmem, ⟨53, _⟩ => ⟨S512x768, .f32⟩
  | .local _ .vmem, ⟨54, _⟩ => ⟨S8x512x768, .bf16⟩
  | .local _ .vmem, ⟨55, _⟩ => ⟨S8x512x768, .bf16⟩
  | .local _ .vmem, ⟨56, _⟩ => ⟨S512x768, .f32⟩
  | .local _ .vmem, ⟨57, _⟩ => ⟨S512x768, .f32⟩
  | .local _ .vmem, ⟨58, _⟩ => ⟨S512x768, .f32⟩
  | .local _ .vmem, ⟨59, _⟩ => ⟨S512x768, .f32⟩
  | .local _ .vmem, ⟨60, _⟩ => ⟨S512x768, .f32⟩
  | .local _ .vmem, ⟨61, _⟩ => ⟨S512x768, .f32⟩
  | .local _ .vmem, ⟨62, _⟩ => ⟨S512x768, .f32⟩
  | .local _ .vmem, ⟨63, _⟩ => ⟨S512x768, .f32⟩
  | .local _ .vmem, ⟨64, _⟩ => ⟨S2208x128, .f32⟩
  | .local _ .vmem, ⟨65, _⟩ => ⟨S2208x128, .f32⟩
  | .local _ .vmem, ⟨66, _⟩ => ⟨S2208x128, .f32⟩
  | .local _ .vmem, ⟨67, _⟩ => ⟨S2208x128, .f32⟩
  | .local _ .vmem, ⟨68, _⟩ => ⟨S2208x128, .f32⟩
  | .local _ .vmem, ⟨69, _⟩ => ⟨S2208x128, .f32⟩
  | .local _ .vmem, ⟨70, _⟩ => ⟨S8x2208x128, .f32⟩
  | .local _ .vmem, ⟨71, _⟩ => ⟨S8x2208x128, .f32⟩
  | .local _ .vmem, ⟨72, _⟩ => ⟨S2208x128, .f32⟩
  | .local _ .vmem, ⟨73, _⟩ => ⟨S2208x128, .f32⟩
  | .local _ .vmem, ⟨74, _⟩ => ⟨S2208x128, .f32⟩
  | .local _ .vmem, ⟨75, _⟩ => ⟨S2208x128, .f32⟩
  | .local _ .vmem, ⟨76, _⟩ => ⟨S2208x128, .f32⟩
  | .local _ .vmem, ⟨77, _⟩ => ⟨S2208x128, .f32⟩
  | .local _ .vmem, ⟨78, _⟩ => ⟨S2208x128, .f32⟩
  | .local _ .vmem, ⟨79, _⟩ => ⟨S2208x128, .f32⟩
  | _, _ => ⟨S2x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v0_2 : Ref sig .tc := ⟨.hbm, 19, rfl⟩
abbrev main_v0_3 : Ref sig .tc := ⟨.hbm, 20, rfl⟩
abbrev main_v1_0 : Ref sig .tc := ⟨.hbm, 21, rfl⟩
abbrev main_v1_1 : Ref sig .tc := ⟨.hbm, 22, rfl⟩
abbrev main_v1_2 : Ref sig .tc := ⟨.hbm, 23, rfl⟩
abbrev main_v1_3 : Ref sig .tc := ⟨.hbm, 24, rfl⟩
abbrev main_v2_0 : Ref sig .tc := ⟨.hbm, 25, rfl⟩
abbrev main_v2_1 : Ref sig .tc := ⟨.hbm, 26, rfl⟩
abbrev main_v2_2 : Ref sig .tc := ⟨.hbm, 27, rfl⟩
abbrev main_v2_3 : Ref sig .tc := ⟨.hbm, 28, rfl⟩
abbrev main_v3_0 : Ref sig .tc := ⟨.hbm, 29, rfl⟩
abbrev main_v3_1 : Ref sig .tc := ⟨.hbm, 30, rfl⟩
abbrev main_v3_2 : Ref sig .tc := ⟨.hbm, 31, rfl⟩
abbrev main_v3_3 : Ref sig .tc := ⟨.hbm, 32, rfl⟩
abbrev main_v4_0 : Ref sig .tc := ⟨.hbm, 33, rfl⟩
abbrev main_v4_1 : Ref sig .tc := ⟨.hbm, 34, rfl⟩
abbrev main_v4_2 : Ref sig .tc := ⟨.hbm, 35, rfl⟩
abbrev main_v4_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc4_stg0_0 : Ref sig .tc := ⟨.vmem, 64, rfl⟩
abbrev cc4_stg0_1 : Ref sig .tc := ⟨.vmem, 65, rfl⟩
abbrev cc4_stg1_0 : Ref sig .tc := ⟨.vmem, 66, rfl⟩
abbrev cc4_stg1_1 : Ref sig .tc := ⟨.vmem, 67, rfl⟩
abbrev cc4_stg2_0 : Ref sig .tc := ⟨.vmem, 68, rfl⟩
abbrev cc4_stg2_1 : Ref sig .tc := ⟨.vmem, 69, rfl⟩
abbrev cc4_stg3_0 : Ref sig .tc := ⟨.vmem, 70, rfl⟩
abbrev cc4_stg3_1 : Ref sig .tc := ⟨.vmem, 71, rfl⟩
abbrev cc4_stg4_0 : Ref sig .tc := ⟨.vmem, 72, rfl⟩
abbrev cc4_stg4_1 : Ref sig .tc := ⟨.vmem, 73, rfl⟩
abbrev cc4_stg5_0 : Ref sig .tc := ⟨.vmem, 74, rfl⟩
abbrev cc4_stg5_1 : Ref sig .tc := ⟨.vmem, 75, rfl⟩
abbrev cc4_stg6_0 : Ref sig .tc := ⟨.vmem, 76, rfl⟩
abbrev cc4_stg6_1 : Ref sig .tc := ⟨.vmem, 77, rfl⟩
abbrev cc4_stg7_0 : Ref sig .tc := ⟨.vmem, 78, rfl⟩
abbrev cc4_stg7_1 : Ref sig .tc := ⟨.vmem, 79, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63
abbrev cc4_sem0_0 : DmaSem sig := 64
abbrev cc4_sem0_1 : DmaSem sig := 65
abbrev cc4_sem1_0 : DmaSem sig := 66
abbrev cc4_sem1_1 : DmaSem sig := 67
abbrev cc4_sem2_0 : DmaSem sig := 68
abbrev cc4_sem2_1 : DmaSem sig := 69
abbrev cc4_sem3_0 : DmaSem sig := 70
abbrev cc4_sem3_1 : DmaSem sig := 71
abbrev cc4_sem4_0 : DmaSem sig := 72
abbrev cc4_sem4_1 : DmaSem sig := 73
abbrev cc4_sem5_0 : DmaSem sig := 74
abbrev cc4_sem5_1 : DmaSem sig := 75
abbrev cc4_sem6_0 : DmaSem sig := 76
abbrev cc4_sem6_1 : DmaSem sig := 77
abbrev cc4_sem7_0 : DmaSem sig := 78
abbrev cc4_sem7_1 : DmaSem sig := 79

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x176x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x176x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x176x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x176x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x176x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x176x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x176x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x176x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8x128x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S128x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S128x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S128x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S128x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x768 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x768 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S8x512x768 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x768 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S512x768 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S512x768 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S512x768 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![2], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2208x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2208x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2208x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S8x2208x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2208x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2208x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2208x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S2208x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]
-- ==== Reference3Ideal.lean ====
abbrev S2x704x2048 : Shape := ⟨3, ![2, 704, 2048]⟩
abbrev S8x704x2048 : Shape := ⟨3, ![8, 704, 2048]⟩
abbrev S256x2048 : Shape := ⟨2, ![256, 2048]⟩
abbrev S8x256x2048 : Shape := ⟨3, ![8, 256, 2048]⟩
abbrev S2048x768 : Shape := ⟨2, ![2048, 768]⟩
abbrev S8x2048x768 : Shape := ⟨3, ![8, 2048, 768]⟩
abbrev S4416x128 : Shape := ⟨2, ![4416, 128]⟩
abbrev S8x4416x128 : Shape := ⟨3, ![8, 4416, 128]⟩
abbrev S_ : Shape := ⟨0, ![]⟩
abbrev S704x2048 : Shape := ⟨2, ![704, 2048]⟩
abbrev S1x704x2048 : Shape := ⟨3, ![1, 704, 2048]⟩

abbrev nBuf : Space → Nat
  | .hbm => 166
  | .vmem => 0
  | .smem => 0
  | _ => 0

abbrev hbmTy0_0 (i : Nat) : BufTy := match i % 128 with
  | 0 => ⟨S2x704x2048, .f32⟩
  | 1 => ⟨S2x704x2048, .f32⟩
  | 2 => ⟨S2x704x2048, .f32⟩
  | 3 => ⟨S8x704x2048, .bf16⟩
  | 4 => ⟨S8x704x2048, .bf16⟩
  | 5 => ⟨S256x2048, .f32⟩
  | 6 => ⟨S256x2048, .f32⟩
  | 7 => ⟨S256x2048, .f32⟩
  | 8 => ⟨S8x256x2048, .bf16⟩
  | 9 => ⟨S2048x768, .f32⟩
  | 10 => ⟨S2048x768, .f32⟩
  | 11 => ⟨S2048x768, .f32⟩
  | 12 => ⟨S8x2048x768, .bf16⟩
  | 13 => ⟨S4416x128, .f32⟩
  | 14 => ⟨S4416x128, .f32⟩
  | 15 => ⟨S4416x128, .f32⟩
  | 16 => ⟨S8x4416x128, .f32⟩
  | 17 => ⟨S8x704x2048, .f32⟩
  | 18 => ⟨S_, .f32⟩
  | 19 => ⟨S704x2048, .f32⟩
  | 20 => ⟨S8x704x2048, .f32⟩
  | 21 => ⟨S_, .f32⟩
  | 22 => ⟨S704x2048, .f32⟩
  | 23 => ⟨S1x704x2048, .f32⟩
  | 24 => ⟨S1x704x2048, .f32⟩
  | 25 => ⟨S2x704x2048, .f32⟩
  | 26 => ⟨S8x256x2048, .f32⟩
  | 27 => ⟨S_, .f32⟩
  | 28 => ⟨S256x2048, .f32⟩
  | 29 => ⟨S8x2048x768, .f32⟩
  | 30 => ⟨S_, .f32⟩
  | 31 => ⟨S2048x768, .f32⟩
  | 32 => ⟨S_, .f32⟩
  | 33 => ⟨S4416x128, .f32⟩
  | 34 => ⟨S_, .f32⟩
  | 35 => ⟨S2x704x2048, .f32⟩
  | 36 => ⟨S2x704x2048, .f32⟩
  | 37 => ⟨S_, .f32⟩
  | 38 => ⟨S2x704x2048, .f32⟩
  | 39 => ⟨S2x704x2048, .f32⟩
  | 40 => ⟨S2x704x2048, .f32⟩
  | 41 => ⟨S_, .f32⟩
  | 42 => ⟨S2x704x2048, .f32⟩
  | 43 => ⟨S2x704x2048, .f32⟩
  | 44 => ⟨S2x704x2048, .f32⟩
  | 45 => ⟨S_, .f32⟩
  | 46 => ⟨S2x704x2048, .f32⟩
  | 47 => ⟨S2x704x2048, .f32⟩
  | 48 => ⟨S2x704x2048, .f32⟩
  | 49 => ⟨S_, .f32⟩
  | 50 => ⟨S2x704x2048, .f32⟩
  | 51 => ⟨S2x704x2048, .f32⟩
  | 52 => ⟨S_, .f32⟩
  | 53 => ⟨S2x704x2048, .f32⟩
  | 54 => ⟨S2x704x2048, .f32⟩
  | 55 => ⟨S2x704x2048, .f32⟩
  | 56 => ⟨S_, .f32⟩
  | 57 => ⟨S2x704x2048, .f32⟩
  | 58 => ⟨S2x704x2048, .f32⟩
  | 59 => ⟨S2x704x2048, .f32⟩
  | 60 => ⟨S_, .f32⟩
  | 61 => ⟨S2x704x2048, .f32⟩
  | 62 => ⟨S2x704x2048, .f32⟩
  | 63 => ⟨S2x704x2048, .f32⟩
  | 64 => ⟨S_, .f32⟩
  | 65 => ⟨S2x704x2048, .f32⟩
  | 66 => ⟨S2x704x2048, .f32⟩
  | 67 => ⟨S_, .f32⟩
  | 68 => ⟨S256x2048, .f32⟩
  | 69 => ⟨S256x2048, .f32⟩
  | 70 => ⟨S_, .f32⟩
  | 71 => ⟨S256x2048, .f32⟩
  | 72 => ⟨S256x2048, .f32⟩
  | 73 => ⟨S256x2048, .f32⟩
  | 74 => ⟨S_, .f32⟩
  | 75 => ⟨S256x2048, .f32⟩
  | 76 => ⟨S256x2048, .f32⟩
  | 77 => ⟨S256x2048, .f32⟩
  | 78 => ⟨S_, .f32⟩
  | 79 => ⟨S256x2048, .f32⟩
  | 80 => ⟨S256x2048, .f32⟩
  | 81 => ⟨S256x2048, .f32⟩
  | 82 => ⟨S_, .f32⟩
  | 83 => ⟨S256x2048, .f32⟩
  | 84 => ⟨S256x2048, .f32⟩
  | 85 => ⟨S_, .f32⟩
  | 86 => ⟨S256x2048, .f32⟩
  | 87 => ⟨S256x2048, .f32⟩
  | 88 => ⟨S256x2048, .f32⟩
  | 89 => ⟨S_, .f32⟩
  | 90 => ⟨S256x2048, .f32⟩
  | 91 => ⟨S256x2048, .f32⟩
  | 92 => ⟨S256x2048, .f32⟩
  | 93 => ⟨S_, .f32⟩
  | 94 => ⟨S256x2048, .f32⟩
  | 95 => ⟨S256x2048, .f32⟩
  | 96 => ⟨S256x2048, .f32⟩
  | 97 => ⟨S_, .f32⟩
  | 98 => ⟨S256x2048, .f32⟩
  | 99 => ⟨S256x2048, .f32⟩
  | 100 => ⟨S_, .f32⟩
  | 101 => ⟨S2048x768, .f32⟩
  | 102 => ⟨S2048x768, .f32⟩
  | 103 => ⟨S_, .f32⟩
  | 104 => ⟨S2048x768, .f32⟩
  | 105 => ⟨S2048x768, .f32⟩
  | 106 => ⟨S2048x768, .f32⟩
  | 107 => ⟨S_, .f32⟩
  | 108 => ⟨S2048x768, .f32⟩
  | 109 => ⟨S2048x768, .f32⟩
  | 110 => ⟨S2048x768, .f32⟩
  | 111 => ⟨S_, .f32⟩
  | 112 => ⟨S2048x768, .f32⟩
  | 113 => ⟨S2048x768, .f32⟩
  | 114 => ⟨S2048x768, .f32⟩
  | 115 => ⟨S_, .f32⟩
  | 116 => ⟨S2048x768, .f32⟩
  | 117 => ⟨S2048x768, .f32⟩
  | 118 => ⟨S_, .f32⟩
  | 119 => ⟨S2048x768, .f32⟩
  | 120 => ⟨S2048x768, .f32⟩
  | 121 => ⟨S2048x768, .f32⟩
  | 122 => ⟨S_, .f32⟩
  | 123 => ⟨S2048x768, .f32⟩
  | 124 => ⟨S2048x768, .f32⟩
  | 125 => ⟨S2048x768, .f32⟩
  | 126 => ⟨S_, .f32⟩
  | 127 => ⟨S2048x768, .f32⟩
  | _ => ⟨S2x704x2048, .f32⟩

abbrev hbmTy0_1 (i : Nat) : BufTy := match i % 128 with
  | 0 => ⟨S2048x768, .f32⟩
  | 1 => ⟨S2048x768, .f32⟩
  | 2 => ⟨S_, .f32⟩
  | 3 => ⟨S2048x768, .f32⟩
  | 4 => ⟨S2048x768, .f32⟩
  | 5 => ⟨S_, .f32⟩
  | 6 => ⟨S4416x128, .f32⟩
  | 7 => ⟨S4416x128, .f32⟩
  | 8 => ⟨S_, .f32⟩
  | 9 => ⟨S4416x128, .f32⟩
  | 10 => ⟨S4416x128, .f32⟩
  | 11 => ⟨S4416x128, .f32⟩
  | 12 => ⟨S_, .f32⟩
  | 13 => ⟨S4416x128, .f32⟩
  | 14 => ⟨S4416x128, .f32⟩
  | 15 => ⟨S4416x128, .f32⟩
  | 16 => ⟨S_, .f32⟩
  | 17 => ⟨S4416x128, .f32⟩
  | 18 => ⟨S4416x128, .f32⟩
  | 19 => ⟨S4416x128, .f32⟩
  | 20 => ⟨S_, .f32⟩
  | 21 => ⟨S4416x128, .f32⟩
  | 22 => ⟨S4416x128, .f32⟩
  | 23 => ⟨S_, .f32⟩
  | 24 => ⟨S4416x128, .f32⟩
  | 25 => ⟨S4416x128, .f32⟩
  | 26 => ⟨S4416x128, .f32⟩
  | 27 => ⟨S_, .f32⟩
  | 28 => ⟨S4416x128, .f32⟩
  | 29 => ⟨S4416x128, .f32⟩
  | 30 => ⟨S4416x128, .f32⟩
  | 31 => ⟨S_, .f32⟩
  | 32 => ⟨S4416x128, .f32⟩
  | 33 => ⟨S4416x128, .f32⟩
  | 34 => ⟨S4416x128, .f32⟩
  | 35 => ⟨S_, .f32⟩
  | 36 => ⟨S4416x128, .f32⟩
  | 37 => ⟨S4416x128, .f32⟩
  | _ => ⟨S2x704x2048, .f32⟩

abbrev hbmTy (i : Nat) : BufTy := match i / 128 with
  | 0 => hbmTy0_0 i
  | 1 => hbmTy0_1 i
  | _ => ⟨S2x704x2048, .f32⟩

abbrev bufTy : (tb : Table) → Fin (tcTables nBuf tb) → BufTy
  | .hbm, ⟨i, _⟩ => hbmTy i
  | _, _ => ⟨S2x704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_cst_3 : Ref sig .tc := ⟨.hbm, 32, rfl⟩
abbrev main_v11 : Ref sig .tc := ⟨.hbm, 33, rfl⟩
abbrev main_cst_4 : Ref sig .tc := ⟨.hbm, 34, rfl⟩
abbrev main_v12 : Ref sig .tc := ⟨.hbm, 35, rfl⟩
abbrev main_v13 : Ref sig .tc := ⟨.hbm, 36, rfl⟩
abbrev main_cst_5 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_6 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_7 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_8 : Ref sig .tc := ⟨.hbm, 49, rfl⟩
abbrev main_v23 : Ref sig .tc := ⟨.hbm, 50, rfl⟩
abbrev main_v24 : Ref sig .tc := ⟨.hbm, 51, rfl⟩
abbrev main_cst_9 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_10 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_11 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_12 : Ref sig .tc := ⟨.hbm, 64, rfl⟩
abbrev main_v34 : Ref sig .tc := ⟨.hbm, 65, rfl⟩
abbrev main_v35 : Ref sig .tc := ⟨.hbm, 66, rfl⟩
abbrev main_cst_13 : Ref sig .tc := ⟨.hbm, 67, rfl⟩
abbrev main_v36 : Ref sig .tc := ⟨.hbm, 68, rfl⟩
abbrev main_v37 : Ref sig .tc := ⟨.hbm, 69, rfl⟩
abbrev main_cst_14 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_15 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_16 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_17 : Ref sig .tc := ⟨.hbm, 82, rfl⟩
abbrev main_v47 : Ref sig .tc := ⟨.hbm, 83, rfl⟩
abbrev main_v48 : Ref sig .tc := ⟨.hbm, 84, rfl⟩
abbrev main_cst_18 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_19 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_20 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_21 : Ref sig .tc := ⟨.hbm, 97, rfl⟩
abbrev main_v58 : Ref sig .tc := ⟨.hbm, 98, rfl⟩
abbrev main_v59 : Ref sig .tc := ⟨.hbm, 99, rfl⟩
abbrev main_cst_22 : Ref sig .tc := ⟨.hbm, 100, rfl⟩
abbrev main_v60 : Ref sig .tc := ⟨.hbm, 101, rfl⟩
abbrev main_v61 : Ref sig .tc := ⟨.hbm, 102, rfl⟩
abbrev main_cst_23 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_24 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_25 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_26 : Ref sig .tc := ⟨.hbm, 115, rfl⟩
abbrev main_v71 : Ref sig .tc := ⟨.hbm, 116, rfl⟩
abbrev main_v72 : Ref sig .tc := ⟨.hbm, 117, rfl⟩
abbrev main_cst_27 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_cst_28 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_cst_29 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_cst_30 : Ref sig .tc := ⟨.hbm, 130, rfl⟩
abbrev main_v82 : Ref sig .tc := ⟨.hbm, 131, rfl⟩
abbrev main_v83 : Ref sig .tc := ⟨.hbm, 132, rfl⟩
abbrev main_cst_31 : Ref sig .tc := ⟨.hbm, 133, rfl⟩
abbrev main_v84 : Ref sig .tc := ⟨.hbm, 134, rfl⟩
abbrev main_v85 : Ref sig .tc := ⟨.hbm, 135, rfl⟩
abbrev main_cst_32 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_cst_33 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_cst_34 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_cst_35 : Ref sig .tc := ⟨.hbm, 148, rfl⟩
abbrev main_v95 : Ref sig .tc := ⟨.hbm, 149, rfl⟩
abbrev main_v96 : Ref sig .tc := ⟨.hbm, 150, rfl⟩
abbrev main_cst_36 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_cst_37 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_cst_38 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_cst_39 : Ref sig .tc := ⟨.hbm, 163, rfl⟩
abbrev main_v106 : Ref sig .tc := ⟨.hbm, 164, rfl⟩
abbrev main_v107 : Ref sig .tc := ⟨.hbm, 165, rfl⟩

abbrev nD : Nat := 1
abbrev τ : Topo := Topo.v7x

variable {F : FTy → Type} [FloatOps F]
-- ==== Kernel4.lean ====
abbrev S4096x2048 : Shape := ⟨2, ![4096, 2048]⟩
abbrev S1x2048 : Shape := ⟨2, ![1, 2048]⟩
abbrev S256x2048 : Shape := ⟨2, ![256, 2048]⟩
abbrev S2048 : Shape := ⟨1, ![2048]⟩
abbrev S_ : Shape := ⟨0, ![]⟩

abbrev nBuf : Space → Nat
  | .hbm => 11
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S1x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference4Ideal.lean ====
abbrev S4096x2048 : Shape := ⟨2, ![4096, 2048]⟩
abbrev S_ : Shape := ⟨0, ![]⟩
abbrev S4096 : Shape := ⟨1, ![4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel5.lean ====
abbrev S4096x2048 : Shape := ⟨2, ![4096, 2048]⟩
abbrev S1x2048 : Shape := ⟨2, ![1, 2048]⟩
abbrev S2048x6144 : Shape := ⟨2, ![2048, 6144]⟩
abbrev S2048x2048 : Shape := ⟨2, ![2048, 2048]⟩
abbrev S8x4096x768 : Shape := ⟨3, ![8, 4096, 768]⟩
abbrev S2048x8x768 : Shape := ⟨3, ![2048, 8, 768]⟩
abbrev S8x2048x768 : Shape := ⟨3, ![8, 2048, 768]⟩
abbrev S8x256x2048 : Shape := ⟨3, ![8, 256, 2048]⟩
abbrev S256x2048 : Shape := ⟨2, ![256, 2048]⟩
abbrev S256 : Shape := ⟨1, ![256]⟩
abbrev S256x1 : Shape := ⟨2, ![256, 1]⟩
abbrev S1024x2048 : Shape := ⟨2, ![1024, 2048]⟩
abbrev S1x2048x768 : Shape := ⟨3, ![1, 2048, 768]⟩
abbrev S1x1024x768 : Shape := ⟨3, ![1, 1024, 768]⟩
abbrev S2048x768 : Shape := ⟨2, ![2048, 768]⟩
abbrev S1024x768 : Shape := ⟨2, ![1024, 768]⟩
abbrev S512x2048 : Shape := ⟨2, ![512, 2048]⟩
abbrev S8x256x1024 : Shape := ⟨3, ![8, 256, 1024]⟩
abbrev S512x1024 : Shape := ⟨2, ![512, 1024]⟩
abbrev S2048x1024 : Shape := ⟨2, ![2048, 1024]⟩
abbrev S4096x512 : Shape := ⟨2, ![4096, 512]⟩
abbrev S512x512 : Shape := ⟨2, ![512, 512]⟩
abbrev S1x4096x768 : Shape := ⟨3, ![1, 4096, 768]⟩
abbrev S1x512x768 : Shape := ⟨3, ![1, 512, 768]⟩
abbrev S4096x768 : Shape := ⟨2, ![4096, 768]⟩
abbrev S512x768 : Shape := ⟨2, ![512, 768]⟩
abbrev S8x512x768 : Shape := ⟨3, ![8, 512, 768]⟩
abbrev S8x256x768 : Shape := ⟨3, ![8, 256, 768]⟩
abbrev S512x256 : Shape := ⟨2, ![512, 256]⟩
abbrev S1x256x768 : Shape := ⟨3, ![1, 256, 768]⟩
abbrev S256x768 : Shape := ⟨2, ![256, 768]⟩
abbrev S2048 : Shape := ⟨1, ![2048]⟩

abbrev nBuf : Space → Nat
  | .hbm => 24
  | .vmem => 54
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x6144, .f32⟩
  | .hbm, ⟨3, _⟩ => ⟨S2048x2048, .f32⟩
  | .hbm, ⟨4, _⟩ => ⟨S4096x2048, .f32⟩
  | .hbm, ⟨5, _⟩ => ⟨S8x4096x768, .bf16⟩
  | .hbm, ⟨6, _⟩ => ⟨S4096x2048, .f32⟩
  | .hbm, ⟨7, _⟩ => ⟨S2048x8x768, .f32⟩
  | .hbm, ⟨8, _⟩ => ⟨S8x2048x768, .f32⟩
  | .hbm, ⟨9, _⟩ => ⟨S8x2048x768, .bf16⟩
  | .hbm, ⟨10, _⟩ => ⟨S2048x2048, .bf16⟩
  | .hbm, ⟨11, _⟩ => ⟨S8x256x2048, .bf16⟩
  | .hbm, ⟨12, _⟩ => ⟨S4096x2048, .bf16⟩
  | .hbm, ⟨13, _⟩ => ⟨S4096x2048, .bf16⟩
  | .hbm, ⟨14, _⟩ => ⟨S8x4096x768, .f32⟩
  | .hbm, ⟨15, _⟩ => ⟨S4096x2048, .f32⟩
  | .hbm, ⟨16, _⟩ => ⟨S4096x2048, .f32⟩
  | .hbm, ⟨17, _⟩ => ⟨S2048x2048, .bf16⟩
  | .hbm, ⟨18, _⟩ => ⟨S8x256x2048, .bf16⟩
  | .hbm, ⟨19, _⟩ => ⟨S8x2048x768, .bf16⟩
  | .hbm, ⟨20, _⟩ => ⟨S4096x2048, .f32⟩
  | .hbm, ⟨21, _⟩ => ⟨S4096x2048, .f32⟩
  | .hbm, ⟨22, _⟩ => ⟨S4096x2048, .bf16⟩
  | .hbm, ⟨23, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1x2048x768, .bf16⟩
  | .local _ .vmem, ⟨8, _⟩ => ⟨S1x2048x768, .bf16⟩
  | .local _ .vmem, ⟨9, _⟩ => ⟨S1x1024x768, .f32⟩
  | .local _ .vmem, ⟨10, _⟩ => ⟨S1x1024x768, .f32⟩
  | .local _ .vmem, ⟨11, _⟩ => ⟨S512x2048, .f32⟩
  | .local _ .vmem, ⟨12, _⟩ => ⟨S512x2048, .f32⟩
  | .local _ .vmem, ⟨13, _⟩ => ⟨S8x256x1024, .bf16⟩
  | .local _ .vmem, ⟨14, _⟩ => ⟨S8x256x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S256x2048, .bf16⟩
  | .local _ .vmem, ⟨20, _⟩ => ⟨S256x2048, .bf16⟩
  | .local _ .vmem, ⟨21, _⟩ => ⟨S8x256x2048, .bf16⟩
  | .local _ .vmem, ⟨22, _⟩ => ⟨S256x2048, .f32⟩
  | .local _ .vmem, ⟨23, _⟩ => ⟨S256x2048, .f32⟩
  | .local _ .vmem, ⟨24, _⟩ => ⟨S4096x512, .f32⟩
  | .local _ .vmem, ⟨25, _⟩ => ⟨S4096x512, .f32⟩
  | .local _ .vmem, ⟨26, _⟩ => ⟨S4096x512, .bf16⟩
  | .local _ .vmem, ⟨27, _⟩ => ⟨S4096x512, .bf16⟩
  | .local _ .vmem, ⟨28, _⟩ => ⟨S512x512, .bf16⟩
  | .local _ .vmem, ⟨29, _⟩ => ⟨S512x512, .bf16⟩
  | .local _ .vmem, ⟨30, _⟩ => ⟨S4096x512, .bf16⟩
  | .local _ .vmem, ⟨31, _⟩ => ⟨S4096x512, .bf16⟩
  | .local _ .vmem, ⟨32, _⟩ => ⟨S1x4096x768, .bf16⟩
  | .local _ .vmem, ⟨33, _⟩ => ⟨S1x4096x768, .bf16⟩
  | .local _ .vmem, ⟨34, _⟩ => ⟨S1x512x768, .bf16⟩
  | .local _ .vmem, ⟨35, _⟩ => ⟨S1x512x768, .bf16⟩
  | .local _ .vmem, ⟨36, _⟩ => ⟨S8x512x768, .bf16⟩
  | .local _ .vmem, ⟨37, _⟩ => ⟨S8x512x768, .bf16⟩
  | .local _ .vmem, ⟨38, _⟩ => ⟨S8x256x768, .bf16⟩
  | .local _ .vmem, ⟨39, _⟩ => ⟨S8x256x768, .bf16⟩
  | .local _ .vmem, ⟨40, _⟩ => ⟨S512x256, .f32⟩
  | .local _ .vmem, ⟨41, _⟩ => ⟨S512x256, .f32⟩
  | .local _ .vmem, ⟨42, _⟩ => ⟨S256x2048, .f32⟩
  | .local _ .vmem, ⟨43, _⟩ => ⟨S256x2048, .f32⟩
  | .local _ .vmem, ⟨44, _⟩ => ⟨S256x2048, .f32⟩
  | .local _ .vmem, ⟨45, _⟩ => ⟨S256x2048, .f32⟩
  | .local _ .vmem, ⟨46, _⟩ => ⟨S256x2048, .f32⟩
  | .local _ .vmem, ⟨47, _⟩ => ⟨S256x2048, .f32⟩
  | .local _ .vmem, ⟨48, _⟩ => ⟨S1x2048, .f32⟩
  | .local _ .vmem, ⟨49, _⟩ => ⟨S256x2048, .f32⟩
  | .local _ .vmem, ⟨50, _⟩ => ⟨S256x2048, .f32⟩
  | .local _ .vmem, ⟨51, _⟩ => ⟨S256x2048, .bf16⟩
  | .local _ .vmem, ⟨52, _⟩ => ⟨S256x2048, .bf16⟩
  | .local _ .vmem, ⟨53, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc7_stg3_0 : Ref sig .tc := ⟨.vmem, 48, rfl⟩
abbrev cc7_stg4_0 : Ref sig .tc := ⟨.vmem, 49, rfl⟩
abbrev cc7_stg4_1 : Ref sig .tc := ⟨.vmem, 50, rfl⟩
abbrev cc7_stg5_0 : Ref sig .tc := ⟨.vmem, 51, rfl⟩
abbrev cc7_stg5_1 : Ref sig .tc := ⟨.vmem, 52, rfl⟩
abbrev cc7_stg6_0 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc7_sem3_0 : DmaSem sig := 48
abbrev cc7_sem4_0 : DmaSem sig := 49
abbrev cc7_sem4_1 : DmaSem sig := 50
abbrev cc7_sem5_0 : DmaSem sig := 51
abbrev cc7_sem5_1 : DmaSem sig := 52
abbrev cc7_sem6_0 : DmaSem sig := 53

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x2048x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S8x256x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8x256x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![4, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S4096x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S4096x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S1x4096x768 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1x512x768 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![8, 8], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S8x512x768 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S8x256x768 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S512x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨1, ![16], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S256x2048 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S256x2048 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S256x2048 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x2048 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S256x2048 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S256x2048 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 1 → Memref sig .tc .vmem S1x2048 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]
-- ==== Reference5Ideal.lean ====
abbrev S4096x2048 : Shape := ⟨2, ![4096, 2048]⟩
abbrev S1x2048 : Shape := ⟨2, ![1, 2048]⟩
abbrev S2048x6144 : Shape := ⟨2, ![2048, 6144]⟩
abbrev S2048x2048 : Shape := ⟨2, ![2048, 2048]⟩
abbrev S8x4096x768 : Shape := ⟨3, ![8, 4096, 768]⟩
abbrev S_ : Shape := ⟨0, ![]⟩
abbrev S4096 : Shape := ⟨1, ![4096]⟩
abbrev S4096x1 : Shape := ⟨2, ![4096, 1]⟩
abbrev S4096x6144 : Shape := ⟨2, ![4096, 6144]⟩
abbrev S4096x8x768 : Shape := ⟨3, ![4096, 8, 768]⟩
abbrev S6144x2048 : Shape := ⟨2, ![6144, 2048]⟩
abbrev S2048 : Shape := ⟨1, ![2048]⟩
abbrev S2048x8x768 : Shape := ⟨3, ![2048, 8, 768]⟩
abbrev S8x2048x768 : Shape := ⟨3, ![8, 2048, 768]⟩
abbrev S8x256x2048 : Shape := ⟨3, ![8, 256, 2048]⟩

abbrev nBuf : Space → Nat
  | .hbm => 70
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x6144, .f32⟩
  | .hbm, ⟨3, _⟩ => ⟨S2048x2048, .f32⟩
  | .hbm, ⟨4, _⟩ => ⟨S4096x2048, .f32⟩
  | .hbm, ⟨5, _⟩ => ⟨S8x4096x768, .bf16⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x6144, .f32⟩
  | .hbm, ⟨27, _⟩ => ⟨S4096x2048, .f32⟩
  | .hbm, ⟨28, _⟩ => ⟨S4096x2048, .f32⟩
  | .hbm, ⟨29, _⟩ => ⟨S8x4096x768, .f32⟩
  | .hbm, ⟨30, _⟩ => ⟨S4096x8x768, .f32⟩
  | .hbm, ⟨31, _⟩ => ⟨S4096x6144, .f32⟩
  | .hbm, ⟨32, _⟩ => ⟨S4096x2048, .f32⟩
  | .hbm, ⟨33, _⟩ => ⟨S2048x2048, .f32⟩
  | .hbm, ⟨34, _⟩ => ⟨S2048x2048, .f32⟩
  | .hbm, ⟨35, _⟩ => ⟨S4096x2048, .f32⟩
  | .hbm, ⟨36, _⟩ => ⟨S6144x2048, .f32⟩
  | .hbm, ⟨37, _⟩ => ⟨S2048x6144, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x8x768, .f32⟩
  | .hbm, ⟨64, _⟩ => ⟨S8x4096x768, .f32⟩
  | .hbm, ⟨65, _⟩ => ⟨S2048x8x768, .f32⟩
  | .hbm, ⟨66, _⟩ => ⟨S8x2048x768, .f32⟩
  | .hbm, ⟨67, _⟩ => ⟨S8x2048x768, .bf16⟩
  | .hbm, ⟨68, _⟩ => ⟨S8x256x2048, .f32⟩
  | .hbm, ⟨69, _⟩ => ⟨S8x256x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== Proof.FfnSpec.lean ====
/-
  The arrays that the feed-forward block's nine calls leave, as functions of the arrays that they read.
  A weight is held in eight slabs of 704 of its inner rows; a product over the inner axis is a sum over the slabs.
-/
module

public import proofs.«01_k».proof.Proof.Gen.Kernel2Ideal.Frame
public import Idealize.ShloMosaic.Lib.Pipeline.ValueKit
public import Idealize.ShloMosaic.Lib.Pointwise

@[expose] public section

set_option maxRecDepth 16384

noncomputable section

namespace Cert.Proof.Ffn

open Cert.Kernel2Ideal
open Idealize.ShloMosaic

/-- A half. -/
abbrev half : EReal := Ideal.ofBits FTy.f32 0x3F000000#32
/-- The rows' length, 2048. -/
abbrev len : EReal := Ideal.ofBits FTy.f32 0x45000000#32
/-- What is added to a mean square. -/
abbrev tiny : EReal := Ideal.ofBits FTy.f32 0x358637BD#32

/-- The reciprocal root mean square of row `r` of `x`. -/
def rms (x : S4096x2048.Idx → EReal) (r : Fin 4096) : EReal :=
  Ideal.rsqrt (Ideal.div (∑ k : Fin 2048, x (ix2 r k) * x (ix2 r k)) len + tiny)

/-- The rows of `x`, each divided by its root mean square and scaled by `g`. -/
def norm (x : S4096x2048.Idx → EReal) (g : S1x2048.Idx → EReal) : S4096x2048.Idx → EReal :=
  fun j => x j * rms x (j 0) * g (ix2 0 (j 1))

/-- The rows of `h` against the slabs of a weight: slab, row, inner position. -/
def into (h : S4096x2048.Idx → EReal) (w : S8x704x2048.Idx → EReal) : S8x4096x704.Idx → EReal :=
  fun j => ∑ k : Fin 2048, h (ix2 (j 1) k) * w (ix3 (j 0) (j 2) k)

/-- The gate: `a` times its logistic, times `b`. -/
def gate (a b : S8x4096x704.Idx → EReal) : S8x4096x704.Idx → EReal :=
  fun j => a j * Ideal.logistic (a j) * b j

/-- Row `r` of the slabs of `p` against column `c` of the slabs of a weight. -/
def back (p : S8x4096x704.Idx → EReal) (w : S8x704x2048.Idx → EReal) (r : Fin 4096) (c : Fin 2048) : EReal :=
  ∑ s : Fin 8, ∑ k : Fin 704, p (ix3 s r k) * w (ix3 s k c)

/-- The block's result: its argument plus half of the product. -/
def down (p : S8x4096x704.Idx → EReal) (w : S8x704x2048.Idx → EReal) (x : S4096x2048.Idx → EReal) :
    S4096x2048.Idx → EReal :=
  fun j => x j + half * back p w (j 0) (j 1)

/-- The gradient of the gate's first operand, from the half of the gradient of the gate. -/
def gradA (d : S4096x2048.Idx → EReal) (w : S8x704x2048.Idx → EReal) (a b : S8x4096x704.Idx → EReal) :
    S8x4096x704.Idx → EReal :=
  fun j => half * into d w j * b j
    * (Ideal.logistic (a j) * (1 + a j * (1 - Ideal.logistic (a j))))

/-- The gradient of the gate's second operand. -/
def gradB (d : S4096x2048.Idx → EReal) (w : S8x704x2048.Idx → EReal) (a : S8x4096x704.Idx → EReal) :
    S8x4096x704.Idx → EReal :=
  fun j => half * into d w j * (a j * Ideal.logistic (a j))

/-- The gradient of a weight in its slabs: the columns of `p` against the columns of `h`. -/
def outer (p : S8x4096x704.Idx → EReal) (h : S4096x2048.Idx → EReal) : S8x704x2048.Idx → EReal :=
  fun j => ∑ k : Fin 4096, p (ix3 (j 0) k (j 1)) * h (ix2 k (j 2))

/-- The gradient of the normalised rows. -/
def gradH (da db : S8x4096x704.Idx → EReal) (wg wu : S8x704x2048.Idx → EReal) : S4096x2048.Idx → EReal :=
  fun j => back da wg (j 0) (j 1) + back db wu (j 0) (j 1)

/-- The gradient of the block's argument, through the norm and past it. -/
def gradX (x dh dxo : S4096x2048.Idx → EReal) (g : S1x2048.Idx → EReal) : S4096x2048.Idx → EReal :=
  fun j => dxo j + rms x (j 0) * (dh j * g (ix2 0 (j 1)) - x j * rms x (j 0)
    * Ideal.div (∑ k : Fin 2048, dh (ix2 (j 0) k) * g (ix2 0 k) * (x (ix2 (j 0) k) * rms x (j 0))) len)

/-- The gradient of the norm's scale. -/
def gradG (x dh : S4096x2048.Idx → EReal) : S1x2048.Idx → EReal :=
  fun j => ∑ s : Fin 16, ∑ k : Fin 256, dh (ix2 ⟨256 * s.val + k.val, by omega⟩ (j 1))
    * (x (ix2 ⟨256 * s.val + k.val, by omega⟩ (j 1)) * rms x ⟨256 * s.val + k.val, by omega⟩)

end Cert.Proof.Ffn
-- ==== Proof.FfnRun.lean ====
/-
  A run of the feed-forward block's nine calls leaves every buffer at the last boundary's contents, and the
  weights' slabs are the weights re-laid.
-/
module

public import proofs.«01_k».proof.Proof.FfnSpec
public import Idealize.ShloMosaic.Lib.Claim
public import Idealize.ShloMosaic.Lib.StableHlo.RunRead
public import Idealize.ShloMosaic.Lib.Tactic.CleanTypes

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair run ends, with every unscoped buffer at the last boundary's contents and every counter zero. -/
theorem run : θ_run defs (onTc (τ := τ) (main (F := Ideal))) ⟨m, fun _ => 0, ρ⟩ (fun r =>
      (∀ c : Dev nD, ∀ b ∈ Pipeline.ucRefs τ sig, r.2.mem (((c : Thread nD τ)).1, b) = W11 m ρ c b)
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => ⟨h, funext fun g => hz g (.inr (no_unscoped g.2))⟩)

/-! ## The weights' slabs -/

/-- The inner position of slab `s`'s row `k`. -/
def inner (s : Fin 8) (k : Fin 704) : Fin 5632 := ⟨s.val * 704 + k.val, by omega⟩

/-- A weight of the first product in slabs of its columns: slab, column within it, row. -/
def slabT (w : S2048x5632.Idx → EReal) : S8x704x2048.Idx → EReal :=
  fun j => w (ix2 (j 2) (inner (j 0) (j 1)))

/-- A weight of the second product in slabs of its rows: slab, row within it, column. -/
def slab (w : S5632x2048.Idx → EReal) : S8x704x2048.Idx → EReal :=
  fun j => w (ix2 (inner (j 0) (j 1)) (j 2))

theorem v2 (c : Dev nD) : V1 m ρ c main_v2 = slabT (m (c.tc.loc main_arg2)) := by
  funext j
  show (StableHlo.after hostOps0 (W0 m ρ c)) (Proc.devRef .tc main_v2) j = _
  after_results_simp
  clean_types
  pointwise [slabT, inner]

theorem v5 (c : Dev nD) : V1 m ρ c main_v5 = slabT (m (c.tc.loc main_arg3)) := by
  funext j
  show (StableHlo.after hostOps0 (W0 m ρ c)) (Proc.devRef .tc main_v5) j = _
  after_results_simp
  clean_types
  pointwise [slabT, inner]

theorem v7 (c : Dev nD) : V1 m ρ c main_v7 = slab (m (c.tc.loc main_arg4)) := by
  funext j
  show (StableHlo.after hostOps0 (W0 m ρ c)) (Proc.devRef .tc main_v7) j = _
  after_results_simp
  clean_types
  pointwise [slab, inner]

theorem v11 (c : Dev nD) : V5 m ρ c main_v11 = W4 m ρ c (Proc.devRef .tc main_arg5) := by
  funext j
  show (StableHlo.after hostOps3 (W4 m ρ c)) (Proc.devRef .tc main_v11) j = _
  after_results_simp
  clean_types
  rfl

end Cert.Proof.Ffn
-- ==== Proof.FfnArr0.lean ====
/-
  What the feed-forward block's first two calls leave: the normalised rows, and their products with the first two
  weights and the gate of these.
-/
module

public import proofs.«01_k».proof.Proof.FfnSpec

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b))

/-- The blocks of the first call: rows `256 t, …` of the block's argument and all of the scale. -/
theorem idx0 : ∀ t, win0_0.index t = ![(grid0.coords t 0).val, 0] ∧ win0_1.index t = ![0, 0]
    ∧ win0_2.index t = ![(grid0.coords t 0).val, 0] := by decide +kernel

/-- After the first call its result holds the normalised rows. -/
theorem arr0 (c : Dev nD) : (dat0 V c).arrAt 2 cfg0.N = norm (V c main_arg0) (V c main_arg1) := by
  refine (dat0 V c).arrAt_eq_of_covers 2 _ (by decide +kernel) fun t hf y => ?_
  blk_simp
  rw [after0_2]
  frame_out
  pointwise [k0_pay1, norm, rms]
  blk_point [iblk0, idx0 t]

/-- The blocks of the second call: at point `(s, i)` rows `1024 i, …` and slab `s`. -/
theorem idx1 : ∀ t, win1_0.index t = ![(grid1.coords t 1).val, 0] ∧ win1_1.index t = ![(grid1.coords t 0).val, 0, 0]
    ∧ win1_2.index t = ![(grid1.coords t 0).val, 0, 0]
    ∧ win1_3.index t = ![(grid1.coords t 0).val, (grid1.coords t 1).val, 0]
    ∧ win1_4.index t = ![(grid1.coords t 0).val, (grid1.coords t 1).val, 0]
    ∧ win1_5.index t = ![(grid1.coords t 0).val, (grid1.coords t 1).val, 0] := by decide +kernel

/-- After the second call its first result holds the product with the first weight. -/
theorem arr1a (c : Dev nD) : (dat1 V c).arrAt 3 cfg1.N = into (V c main_v8) (V c main_v2) := by
  refine (dat1 V c).arrAt_eq_of_covers 3 _ (by decide +kernel) fun t hf y => ?_
  blk_simp
  rw [after1_3]
  frame_out
  pointwise [k1_pay3, k1_pay1, into]
  blk_point [iblk1, idx1 t]

/-- After the second call its second result holds the product with the second weight. -/
theorem arr1b (c : Dev nD) : (dat1 V c).arrAt 4 cfg1.N = into (V c main_v8) (V c main_v5) := by
  refine (dat1 V c).arrAt_eq_of_covers 4 _ (by decide +kernel) fun t hf y => ?_
  blk_simp
  rw [after1_4]
  frame_out
  pointwise [k1_pay4, k1_pay2, into]
  blk_point [iblk1, idx1 t]

/-- After the second call its third result holds the gate of the two products. -/
theorem arr1p (c : Dev nD) : (dat1 V c).arrAt 5 cfg1.N
    = gate (into (V c main_v8) (V c main_v2)) (into (V c main_v8) (V c main_v5)) := by
  refine (dat1 V c).arrAt_eq_of_covers 5 _ (by decide +kernel) fun t hf y => ?_
  blk_simp
  rw [after1_5]
  frame_out
  pointwise [k1_pay5, k1_pay1, k1_pay2, gate, into]
  blk_point [iblk1, idx1 t]

end Cert.Proof.Ffn
-- ==== Proof.FfnArr2.lean ====
/-
  What the third call of the feed-forward block leaves, which sums over all eight slabs of a weight: the block's result.
-/
module

public import proofs.«01_k».proof.Proof.FfnSpec

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b))

/-- The blocks of the third call: at point `(i, j)` rows `512 i, …` of all slabs, columns `512 j, …` of the weight. -/
theorem idx2 : ∀ t, win2_0.index t = ![0, (grid2.coords t 0).val, 0] ∧ win2_1.index t = ![0, 0, (grid2.coords t 1).val]
    ∧ win2_2.index t = ![(grid2.coords t 0).val, (grid2.coords t 1).val]
    ∧ win2_3.index t = ![(grid2.coords t 0).val, (grid2.coords t 1).val] := by decide +kernel

/-- After the third call its result holds the block's argument plus half of the product. -/
theorem arr2 (c : Dev nD) : (dat2 V c).arrAt 3 cfg2.N = down (V c main_v9_2) (V c main_v7) (V c main_arg0) := by
  refine (dat2 V c).arrAt_eq_of_covers 3 _ (by decide +kernel) fun t hf y => ?_
  blk_simp
  rw [after2_3]
  frame_out
  pointwise [k2_pay1, k2_pay2, k2_pay3, k2_pay4, k2_pay5, k2_pay6, k2_pay7, down, back]
  simp only [Fin.sum_univ_eight]
  blk_point [iblk2, idx2 t]

end Cert.Proof.Ffn
-- ==== Proof.FfnArr3.lean ====
/-
  What the backward calls of the feed-forward block leave that keep the slabs apart: the gradients of the gate's
  operands and of the three weights.
-/
module

public import proofs.«01_k».proof.Proof.FfnSpec

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b))

/-- The blocks of the fourth call: at point `(s, i)` rows `1024 i, …` and slab `s`. -/
theorem idx3 : ∀ t, win3_0.index t = ![(grid3.coords t 1).val, 0] ∧ win3_1.index t = ![(grid3.coords t 0).val, 0, 0]
    ∧ win3_2.index t = ![(grid3.coords t 0).val, (grid3.coords t 1).val, 0]
    ∧ win3_3.index t = ![(grid3.coords t 0).val, (grid3.coords t 1).val, 0]
    ∧ win3_4.index t = ![(grid3.coords t 0).val, (grid3.coords t 1).val, 0]
    ∧ win3_5.index t = ![(grid3.coords t 0).val, (grid3.coords t 1).val, 0] := by decide +kernel

/-- After the fourth call its first result holds the gradient of the gate's first operand. -/
theorem arr3a (c : Dev nD) : (dat3 V c).arrAt 4 cfg3.N
    = gradA (V c main_v11) (V c main_v7) (V c main_v9_0) (V c main_v9_1) := by
  refine (dat3 V c).arrAt_eq_of_covers 4 _ (by decide +kernel) fun t hf y => ?_
  blk_simp
  rw [after3_4]
  frame_out
  pointwise [k3_pay4, k3_pay1, k3_pay2, k3_pay3, gradA, into]
  blk_point [iblk3, idx3 t]

/-- After the fourth call its second result holds the gradient of the gate's second operand. -/
theorem arr3b (c : Dev nD) : (dat3 V c).arrAt 5 cfg3.N = gradB (V c main_v11) (V c main_v7) (V c main_v9_0) := by
  refine (dat3 V c).arrAt_eq_of_covers 5 _ (by decide +kernel) fun t hf y => ?_
  blk_simp
  rw [after3_5]
  frame_out
  pointwise [k3_pay5, k3_pay1, k3_pay2, k3_pay3, gradB, into]
  blk_point [iblk3, idx3 t]

/-- The blocks of the fifth call: at point `(s, j)` slab `s` and columns `1024 j, …`. -/
theorem idx4 : ∀ t, win4_0.index t = ![(grid4.coords t 0).val, 0, 0] ∧ win4_1.index t = ![0, (grid4.coords t 1).val]
    ∧ win4_2.index t = ![(grid4.coords t 0).val, 0, (grid4.coords t 1).val] := by decide +kernel
/-- The blocks of the sixth call, the same. -/
theorem idx5 : ∀ t, win5_0.index t = ![(grid5.coords t 0).val, 0, 0] ∧ win5_1.index t = ![0, (grid5.coords t 1).val]
    ∧ win5_2.index t = ![(grid5.coords t 0).val, 0, (grid5.coords t 1).val] := by decide +kernel
/-- The blocks of the seventh call, the same. -/
theorem idx6 : ∀ t, win6_0.index t = ![(grid6.coords t 0).val, 0, 0] ∧ win6_1.index t = ![0, (grid6.coords t 1).val]
    ∧ win6_2.index t = ![(grid6.coords t 0).val, 0, (grid6.coords t 1).val] := by decide +kernel

/-- After the fifth call its result holds the gradient of the third weight. -/
theorem arr4 (c : Dev nD) : (dat4 V c).arrAt 2 cfg4.N = fun j => outer (V c main_v9_2) (V c main_v11) j * half := by
  refine (dat4 V c).arrAt_eq_of_covers 2 _ (by decide +kernel) fun t hf y => ?_
  blk_simp
  rw [after4_2]
  frame_out
  pointwise [k4_pay1, outer]
  blk_point [iblk4, idx4 t]

/-- After the sixth call its result holds the gradient of the first weight. -/
theorem arr5 (c : Dev nD) : (dat5 V c).arrAt 2 cfg5.N = outer (V c main_v12_0) (V c main_v8) := by
  refine (dat5 V c).arrAt_eq_of_covers 2 _ (by decide +kernel) fun t hf y => ?_
  blk_simp
  rw [after5_2]
  frame_out
  pointwise [k5_pay1, outer]
  blk_point [iblk5, idx5 t]

/-- After the seventh call its result holds the gradient of the second weight. -/
theorem arr6 (c : Dev nD) : (dat6 V c).arrAt 2 cfg6.N = outer (V c main_v12_1) (V c main_v8) := by
  refine (dat6 V c).arrAt_eq_of_covers 2 _ (by decide +kernel) fun t hf y => ?_
  blk_simp
  rw [after6_2]
  frame_out
  pointwise [k6_pay1, outer]
  blk_point [iblk6, idx6 t]

end Cert.Proof.Ffn
-- ==== Proof.FfnArr7.lean ====
/-
  What the eighth call of the feed-forward block leaves: the gradient of the normalised rows, a sum over all eight
  slabs of two weights.
-/
module

public import proofs.«01_k».proof.Proof.FfnSpec

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b))

/-- The blocks of the eighth call: at point `(i, j)` rows `512 i, …` of all slabs, columns `256 j, …` of the weights. -/
theorem idx7 : ∀ t, win7_0.index t = ![0, (grid7.coords t 0).val, 0] ∧ win7_1.index t = ![0, (grid7.coords t 0).val, 0]
    ∧ win7_2.index t = ![0, 0, (grid7.coords t 1).val] ∧ win7_3.index t = ![0, 0, (grid7.coords t 1).val]
    ∧ win7_4.index t = ![(grid7.coords t 0).val, (grid7.coords t 1).val] := by decide +kernel

/-- After the eighth call its result holds the gradient of the normalised rows. -/
theorem arr7 (c : Dev nD) : (dat7 V c).arrAt 4 cfg7.N
    = gradH (V c main_v12_0) (V c main_v12_1) (V c main_v2) (V c main_v5) := by
  refine (dat7 V c).arrAt_eq_of_covers 4 _ (by decide +kernel) fun t hf y => ?_
  blk_simp
  rw [after7_4]
  frame_out
  pointwise [k7_pay1, k7_pay2, k7_pay3, k7_pay4, k7_pay5, k7_pay6, k7_pay7, k7_pay8, k7_pay9, k7_pay10, k7_pay11,
    k7_pay12, k7_pay13, k7_pay14, k7_pay15, k7_pay16, k7_pay17, k7_pay18, k7_pay19, k7_pay20, k7_pay21, k7_pay22,
    gradH, back]
  simp only [Fin.sum_univ_eight, ← add_assoc]
  blk_point [iblk7, idx7 t]

end Cert.Proof.Ffn
-- ==== Proof.FfnArr8.lean ====
/-
  What the last call of the feed-forward block leaves: the gradients of the block's argument and of the norm's scale.
-/
module

public import proofs.«01_k».proof.Proof.FfnSpec

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b))

/-- The blocks of the last call: rows `256 t, …`, all of the scale and all of the scale's gradient. -/
theorem idx8 : ∀ t, win8_0.index t = ![(grid8.coords t 0).val, 0] ∧ win8_1.index t = ![(grid8.coords t 0).val, 0]
    ∧ win8_2.index t = ![(grid8.coords t 0).val, 0] ∧ win8_3.index t = ![0, 0]
    ∧ win8_4.index t = ![(grid8.coords t 0).val, 0] ∧ win8_6.index t = ![0, 0] ∧ (grid8.coords t 0).val = t.val := by
  decide +kernel

/-- After the last call its first result holds the gradient of the block's argument. -/
theorem arr8x (c : Dev nD) : (dat8 V c).arrAt 4 cfg8.N
    = gradX (V c main_arg0) (V c main_v16) (V c main_arg5) (V c main_arg1) := by
  refine (dat8 V c).arrAt_eq_of_covers 4 _ (by decide +kernel) fun t hf y => ?_
  blk_simp
  rw [after8_4]
  by_cases h0 : t.val % 16 = 0
  · rw [outsAt8_A V c t h0]
    frame_out
    pointwise [k8_pay6, k8_pay5, k8_pay4, k8_pay3, gradX, rms]
    blk_point [iblk8, idx8 t]
  · rw [outsAt8_B V c t h0]
    frame_out
    pointwise [k8_pay6, k8_pay5, k8_pay4, k8_pay3, gradX, rms]
    blk_point [iblk8, idx8 t]

/-- The rows of one point, in the gradient of the norm's scale. -/
def term8 (x dh : S4096x2048.Idx → EReal) (s : Fin 16) (j : S1x2048.Idx) : EReal :=
  ∑ k : Fin 256, dh (ix2 ⟨256 * s.val + k.val, by omega⟩ (j 1))
    * (x (ix2 ⟨256 * s.val + k.val, by omega⟩ (j 1)) * rms x ⟨256 * s.val + k.val, by omega⟩)

/-- What a point adds to the gradient of the norm's scale. -/
theorem pay8 (c : Dev nD) (t : Fin cfg8.N) (j : S1x2048.Idx) :
    k8_pay7 (iblk8 V c 0 t) (iblk8 V c 1 t) j = term8 (V c main_arg0) (V c main_v16) (t.cast N_8) j := by
  pointwise [k8_pay7, k8_pay5, k8_pay4, k8_pay3, term8, rms]
  blk_point [iblk8, idx8 t]

/-- After the last point the third result's buffer holds the sum of what the points add. -/
theorem acc8 (c : Dev nD) (j : S1x2048.Idx) :
    (outsAt8 V c t8_15.val t8_15.isLt).2.2 j = gradG (V c main_arg0) (V c main_v16) j := by
  refine (Pipeline.eq_sum_fin_of_reset_step_apply_last (fun n h => (outsAt8 V c n h).2.2) 16 (fun _ => (0 : EReal))
    (fun t j => term8 (V c main_arg0) (V c main_v16) (t.cast N_8) j)
    (fun t h i => by
      rw [outsAt8_A V c t h]
      frame_out
      pointwise [k8_pay2, k8_pay1]
      exact pay8 V c t i)
    (fun t h i => by
      rw [outsAt8_B V c t h]
      frame_out
      pointwise [k8_pay2]
      exact congrArg _ (pay8 V c t i)) (le_of_eq N_8) t8_15 rfl j).trans ?_
  rw [zero_add]
  exact Fintype.sum_equiv (finCongr N_8) _ _ fun _ => rfl

/-- After the last call its third result holds the gradient of the norm's scale. -/
theorem arr8g (c : Dev nD) : (dat8 V c).arrAt 6 cfg8.N = gradG (V c main_arg0) (V c main_v16) := by
  refine (dat8 V c).arrAt_eq_of_after_last 6 t8_15 (by decide +kernel) _ fun j => ?_
  blk_simp
  rw [after8_6]
  exact acc8 V c j

end Cert.Proof.Ffn
-- ==== Proof.FfnHold.lean ====
/-
  What the feed-forward block's result buffers hold after its nine calls, as functions of its arguments.
-/
module

public import proofs.«01_k».proof.Proof.FfnRun
public import proofs.«01_k».proof.Proof.FfnArr0
public import proofs.«01_k».proof.Proof.FfnArr2
public import proofs.«01_k».proof.Proof.FfnArr3
public import proofs.«01_k».proof.Proof.FfnArr7
public import proofs.«01_k».proof.Proof.FfnArr8

@[expose] public section

set_option maxRecDepth 16384

noncomputable section

namespace Cert.Proof.Ffn

open Cert.Kernel2Ideal Cert.Kernel2Ideal.Gen
open Idealize.ShloMosaic Idealize.ShloMosaic.TcCoe

variable (m : (ℓ : Loc nD τ sig) → Buf (Elt Ideal) ℓ) (ρ : Dev nD → PrngReg) (c : Dev nD)

/-! ## The arrays between the calls -/

/-- The argument's rows. -/
abbrev xK : S4096x2048.Idx → EReal := m (c.tc.loc main_arg0)
/-- The norm's scale. -/
abbrev gK : S1x2048.Idx → EReal := m (c.tc.loc main_arg1)
/-- The first weight's slabs. -/
abbrev wgK : S8x704x2048.Idx → EReal := slabT (m (c.tc.loc main_arg2))
/-- The second weight's slabs. -/
abbrev wuK : S8x704x2048.Idx → EReal := slabT (m (c.tc.loc main_arg3))
/-- The third weight's slabs. -/
abbrev wdK : S8x704x2048.Idx → EReal := slab (m (c.tc.loc main_arg4))
/-- The result's gradient. -/
abbrev dK : S4096x2048.Idx → EReal := m (c.tc.loc main_arg5)
/-- The normalised rows. -/
def hK := norm (xK m c) (gK m c)
/-- The gate's first operand. -/
def aK := into (hK m c) (wgK m c)
/-- The gate's second operand. -/
def bK := into (hK m c) (wuK m c)
/-- The gate. -/
def pK := gate (aK m c) (bK m c)
/-- The gradient of the gate's first operand. -/
def daK := gradA (dK m c) (wdK m c) (aK m c) (bK m c)
/-- The gradient of the gate's second operand. -/
def dbK := gradB (dK m c) (wdK m c) (aK m c)
/-- The gradient of the normalised rows. -/
def dhK := gradH (daK m c) (dbK m c) (wgK m c) (wuK m c)

/-! ## Each array at the boundary at which it is read -/

theorem h2 : V2 m ρ c main_v8 = hK m c := by
  refine (W2_arr m ρ c 2).trans ((arr0 (V1 m ρ) c).trans ?_)
  rw [show V1 m ρ c main_arg0 = _ from W1_args m ρ c main_arg0 (by simp),
    show V1 m ρ c main_arg1 = _ from W1_args m ρ c main_arg1 (by simp)]
  rfl

theorem wg2 : V2 m ρ c main_v2 = wgK m c := (W2_of m ρ c main_v2 (by decide)).trans (v2 m ρ c)
theorem wu2 : V2 m ρ c main_v5 = wuK m c := (W2_of m ρ c main_v5 (by decide)).trans (v5 m ρ c)

theorem a3 : V3 m ρ c main_v9_0 = aK m c := by
  refine (W3_arr m ρ c 3).trans ((arr1a (V2 m ρ) c).trans ?_)
  rw [h2, wg2]
  rfl

theorem b3 : V3 m ρ c main_v9_1 = bK m c := by
  refine (W3_arr m ρ c 4).trans ((arr1b (V2 m ρ) c).trans ?_)
  rw [h2, wu2]
  rfl

theorem p3 : V3 m ρ c main_v9_2 = pK m c := by
  refine (W3_arr m ρ c 5).trans ((arr1p (V2 m ρ) c).trans ?_)
  rw [h2, wg2, wu2]
  rfl

theorem wd3 : V3 m ρ c main_v7 = wdK m c :=
  (W3_of m ρ c main_v7 (by decide)).trans ((W2_of m ρ c main_v7 (by decide)).trans (v7 m ρ c))

theorem xo4 : W4 m ρ c (Proc.devRef .tc main_v10) = down (pK m c) (wdK m c) (xK m c) := by
  refine (W4_arr m ρ c 3).trans ((arr2 (V3 m ρ) c).trans ?_)
  rw [p3, wd3, show V3 m ρ c main_arg0 = _ from W3_args m ρ c main_arg0 (by simp)]

/-- What the calls up to the third hold, the fourth finds. -/
theorem to5 (r : Ref sig .tc) (h5 : r ∉ hostOps3_W) (h4 : ∀ w : Fin cfg2.W, Pipeline.arrRef spec2 w = r → (cfg2.win w).isOut = false) :
    V5 m ρ c r = V3 m ρ c r := (W5_of m ρ c r h5).trans (W4_of m ρ c r h4)

theorem d5 : V5 m ρ c main_v11 = dK m c := (v11 m ρ c).trans (W4_args m ρ c main_arg5 (by simp))
theorem wd5 : V5 m ρ c main_v7 = wdK m c := (to5 m ρ c main_v7 (by decide) (by decide)).trans (wd3 m ρ c)
theorem a5 : V5 m ρ c main_v9_0 = aK m c := (to5 m ρ c main_v9_0 (by decide) (by decide)).trans (a3 m ρ c)
theorem b5 : V5 m ρ c main_v9_1 = bK m c := (to5 m ρ c main_v9_1 (by decide) (by decide)).trans (b3 m ρ c)

theorem da6 : V6 m ρ c main_v12_0 = daK m c := by
  refine (W6_arr m ρ c 4).trans ((arr3a (V5 m ρ) c).trans ?_)
  rw [d5, wd5, a5, b5]
  rfl

theorem db6 : V6 m ρ c main_v12_1 = dbK m c := by
  refine (W6_arr m ρ c 5).trans ((arr3b (V5 m ρ) c).trans ?_)
  rw [d5, wd5, a5]
  rfl

theorem p6 : V6 m ρ c main_v9_2 = pK m c :=
  (W6_of m ρ c main_v9_2 (by decide)).trans ((to5 m ρ c main_v9_2 (by decide) (by decide)).trans (p3 m ρ c))
theorem d6 : V6 m ρ c main_v11 = dK m c := (W6_of m ρ c main_v11 (by decide)).trans (d5 m ρ c)

theorem gwd7 : V7 m ρ c main_v13 = fun j => outer (pK m c) (dK m c) j * half := by
  refine (W7_arr m ρ c 2).trans ((arr4 (V6 m ρ) c).trans ?_)
  rw [p6, d6]

theorem da7 : V7 m ρ c main_v12_0 = daK m c := (W7_of m ρ c main_v12_0 (by decide)).trans (da6 m ρ c)
theorem h7 : V7 m ρ c main_v8 = hK m c :=
  (W7_of m ρ c main_v8 (by decide)).trans ((W6_of m ρ c main_v8 (by decide)).trans
    ((to5 m ρ c main_v8 (by decide) (by decide)).trans ((W3_of m ρ c main_v8 (by decide)).trans (h2 m ρ c))))

theorem gwg8 : V8 m ρ c main_v14 = outer (daK m c) (hK m c) := by
  refine (W8_arr m ρ c 2).trans ((arr5 (V7 m ρ) c).trans ?_)
  rw [da7, h7]

theorem db8 : V8 m ρ c main_v12_1 = dbK m c :=
  (W8_of m ρ c main_v12_1 (by decide)).trans ((W7_of m ρ c main_v12_1 (by decide)).trans (db6 m ρ c))
theorem h8 : V8 m ρ c main_v8 = hK m c := (W8_of m ρ c main_v8 (by decide)).trans (h7 m ρ c)

theorem gwu9 : V9 m ρ c main_v15 = outer (dbK m c) (hK m c) := by
  refine (W9_arr m ρ c 2).trans ((arr6 (V8 m ρ) c).trans ?_)
  rw [db8, h8]

theorem da9 : V9 m ρ c main_v12_0 = daK m c :=
  (W9_of m ρ c main_v12_0 (by decide)).trans ((W8_of m ρ c main_v12_0 (by decide)).trans (da7 m ρ c))
theorem db9 : V9 m ρ c main_v12_1 = dbK m c := (W9_of m ρ c main_v12_1 (by decide)).trans (db8 m ρ c)

/-- What the second call finds and no later one up to the seventh writes, the eighth finds. -/
theorem to9 (r : Ref sig .tc) (h9 : ∀ w : Fin cfg6.W, Pipeline.arrRef spec6 w = r → (cfg6.win w).isOut = false)
    (h8 : ∀ w : Fin cfg5.W, Pipeline.arrRef spec5 w = r → (cfg5.win w).isOut = false)
    (h7 : ∀ w : Fin cfg4.W, Pipeline.arrRef spec4 w = r → (cfg4.win w).isOut = false)
    (h6 : ∀ w : Fin cfg3.W, Pipeline.arrRef spec3 w = r → (cfg3.win w).isOut = false)
    (h5 : r ∉ hostOps3_W) (h4 : ∀ w : Fin cfg2.W, Pipeline.arrRef spec2 w = r → (cfg2.win w).isOut = false)
    (h3 : ∀ w : Fin cfg1.W, Pipeline.arrRef spec1 w = r → (cfg1.win w).isOut = false) : V9 m ρ c r = V2 m ρ c r :=
  (W9_of m ρ c r h9).trans ((W8_of m ρ c r h8).trans ((W7_of m ρ c r h7).trans ((W6_of m ρ c r h6).trans
    ((to5 m ρ c r h5 h4).trans (W3_of m ρ c r h3)))))

theorem wg9 : V9 m ρ c main_v2 = wgK m c :=
  (to9 m ρ c main_v2 (by decide) (by decide) (by decide) (by decide) (by decide) (by decide) (by decide)).trans (wg2 m ρ c)
theorem wu9 : V9 m ρ c main_v5 = wuK m c :=
  (to9 m ρ c main_v5 (by decide) (by decide) (by decide) (by decide) (by decide) (by decide) (by decide)).trans (wu2 m ρ c)

theorem dh10 : V10 m ρ c main_v16 = dhK m c := by
  refine (W10_arr m ρ c 4).trans ((arr7 (V9 m ρ) c).trans ?_)
  rw [da9, db9, wg9, wu9]
  rfl

theorem dx11 : W11 m ρ c (Proc.devRef .tc main_v17_0) = gradX (xK m c) (dhK m c) (dK m c) (gK m c) := by
  refine (W11_arr m ρ c 4).trans ((arr8x (V10 m ρ) c).trans ?_)
  rw [dh10, show V10 m ρ c main_arg0 = _ from W10_args m ρ c main_arg0 (by simp),
    show V10 m ρ c main_arg5 = _ from W10_args m ρ c main_arg5 (by simp),
    show V10 m ρ c main_arg1 = _ from W10_args m ρ c main_arg1 (by simp)]

theorem dg11 : W11 m ρ c (Proc.devRef .tc main_v17_2) = gradG (xK m c) (dhK m c) := by
  refine (W11_arr m ρ c 6).trans ((arr8g (V10 m ρ) c).trans ?_)
  rw [dh10, show V10 m ρ c main_arg0 = _ from W10_args m ρ c main_arg0 (by simp)]

theorem xo11 : W11 m ρ c (Proc.devRef .tc main_v10) = down (pK m c) (wdK m c) (xK m c) :=
  (W11_of m ρ c main_v10 (by decide)).trans ((W10_of m ρ c main_v10 (by decide)).trans ((W9_of m ρ c main_v10 (by decide)).trans
    ((W8_of m ρ c main_v10 (by decide)).trans ((W7_of m ρ c main_v10 (by decide)).trans ((W6_of m ρ c main_v10 (by decide)).trans
      ((W5_of m ρ c main_v10 (by decide)).trans (xo4 m ρ c)))))))

theorem gwd11 : W11 m ρ c (Proc.devRef .tc main_v13) = fun j => outer (pK m c) (dK m c) j * half :=
  (W11_of m ρ c main_v13 (by decide)).trans ((W10_of m ρ c main_v13 (by decide)).trans ((W9_of m ρ c main_v13 (by decide)).trans
    ((W8_of m ρ c main_v13 (by decide)).trans (gwd7 m ρ c))))

theorem gwg11 : W11 m ρ c (Proc.devRef .tc main_v14) = outer (daK m c) (hK m c) :=
  (W11_of m ρ c main_v14 (by decide)).trans ((W10_of m ρ c main_v14 (by decide)).trans ((W9_of m ρ c main_v14 (by decide)).trans
    (gwg8 m ρ c)))

theorem gwu11 : W11 m ρ c (Proc.devRef .tc main_v15) = outer (dbK m c) (hK m c) :=
  (W11_of m ρ c main_v15 (by decide)).trans ((W10_of m ρ c main_v15 (by decide)).trans (gwu9 m ρ c))

end Cert.Proof.Ffn
-- ==== Proof.FfnRef.lean ====
/-
  What the reference's run of the feed-forward block leaves, as plain functions of its arguments: the reference's
  composed terms named operation by operation, and each read at an index.
-/
module

public import proofs.«01_k».proof.Proof.Gen.Reference2Ideal.Run
public import Idealize.ShloMosaic.Lib.Pointwise
public import Idealize.ShloMosaic.Lib.Tactic.CleanTypes

@[expose] public section

set_option maxRecDepth 16384

noncomputable section

namespace Cert.Proof.FfnRef

open Cert.Reference2Ideal Cert.Reference2Ideal.Gen Cert.Reference2Ideal.Value Idealize.SL.Sem
open Idealize.ShloMosaic Idealize.ShloMosaic.TcCoe Idealize.ShloMosaic.Tactic

/-- Rows by model dimension. -/
abbrev Rows := FVec Ideal S4096x2048 .f32
/-- Rows by inner dimension. -/
abbrev Inner := FVec Ideal S4096x5632 .f32

/-! ## The reference's terms -/

/-- The rows' mean squares, shifted. -/
def msT (x : Rows) : FVec Ideal S4096x1 .f32 :=
  addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))
/-- The rows divided by their root mean squares. -/
def unitT (x : Rows) : Rows := mulf x (broadcastInDim S4096x2048 ![0, 1] bcast_S4096x1_S4096x2048_0_1 (Host.rsqrt (msT x)))
/-- The normalised rows. -/
def normT (x : Rows) (g : FVec Ideal S1x2048 .f32) : Rows := mulf (unitT x) (broadcastInDim S4096x2048 ![0, 1] bcast_S1x2048_S4096x2048_0_1 g)
/-- A product with one of the first two weights. -/
def upT (h : Rows) (w : FVec Ideal S2048x5632 .f32) : Inner := Host.dotGeneral dot_S4096x2048_S2048x5632_S4096x5632_1_0_0_1_n_n none h w
/-- The logistic function. -/
def sigT (a : Inner) : Inner := Host.divf (broadcastInDim S4096x5632 ![] bcast_S_S4096x5632 (constant S_ .f32 0x3F800000#32)) (addf (broadcastInDim S4096x5632 ![] bcast_S_S4096x5632 (constant S_ .f32 0x3F800000#32)) (Host.exp (Host.negf a)))
/-- The gate. -/
def gateT (a b : Inner) : Inner := mulf (mulf a (sigT a)) b
/-- The block's result. -/
def outT (x : Rows) (p : Inner) (w : FVec Ideal S5632x2048 .f32) : Rows :=
  addf x (mulf (broadcastInDim S4096x2048 ![] bcast_S_S4096x2048 (constant S_ .f32 0x3F000000#32)) (Host.dotGeneral dot_S4096x5632_S5632x2048_S4096x2048_1_0_0_1_n_n none p w))
/-- Half of the result's gradient. -/
def halfT (d : Rows) : Rows := mulf (broadcastInDim S4096x2048 ![] bcast_S_S4096x2048 (constant S_ .f32 0x3F000000#32)) (shapeCast S4096x2048 d shapeCasts_S4096x2048_S4096x2048)
/-- The gate's gradient. -/
def dpT (d : Rows) (w : FVec Ideal S5632x2048 .f32) : Inner := Host.dotGeneral dot_S4096x2048_S5632x2048_S4096x5632_1_1_0_0_n_n none (halfT d) w
/-- The gradient of the gate's second operand. -/
def dbT (a dp : Inner) : Inner := mulf (mulf a (sigT a)) dp
/-- The gradient of the gate's first operand. -/
def daT (a b dp : Inner) : Inner := addf (mulf (mulf dp b) (sigT a)) (mulf (mulf a (mulf dp b)) (mulf (sigT a) (subf (broadcastInDim S4096x5632 ![] bcast_S_S4096x5632 (constant S_ .f32 0x3F800000#32)) (sigT a))))
/-- The gradient of the normalised rows. -/
def dhT (da db : Inner) (wg wu : FVec Ideal S2048x5632 .f32) : Rows :=
  addf (Host.dotGeneral dot_S4096x5632_S2048x5632_S4096x2048_1_1_0_0_n_n none db wu) (Host.dotGeneral dot_S4096x5632_S2048x5632_S4096x2048_1_1_0_0_n_n none da wg)
/-- The gradient of one of the first two weights, in slabs. -/
def gwT (da : Inner) (h : Rows) : FVec Ideal S8x704x2048 .bf16 :=
  truncf .bf16 (shapeCast S8x704x2048 (transpose S5632x2048 [1, 0] (transpose S2048x5632 [1, 0] (Host.dotGeneral dot_S4096x5632_S4096x2048_S5632x2048_0_0_1_1_n_n none da h) transposes_S5632x2048_S2048x5632_1_0) transposes_S2048x5632_S5632x2048_1_0) shapeCasts_S5632x2048_S8x704x2048) bitsLt_bf16_f32
/-- The gradient of the third weight, in slabs. -/
def gwdT (d : Rows) (p : Inner) : FVec Ideal S8x704x2048 .bf16 :=
  truncf .bf16 (shapeCast S8x704x2048 (transpose S5632x2048 [1, 0] (Host.dotGeneral dot_S4096x2048_S4096x5632_S2048x5632_0_0_1_1_n_n none (halfT d) p) transposes_S2048x5632_S5632x2048_1_0) shapeCasts_S5632x2048_S8x704x2048) bitsLt_bf16_f32
/-- The gradient of the norm's scale. -/
def dgT (x dh : Rows) : FVec Ideal S1x2048 .f32 :=
  shapeCast S1x2048 (Host.reduceAdd (mulf (unitT x) dh) (constant S_ .f32 0x00000000#32) reducesTo_S4096x2048_S2048_d0 h_S_) shapeCasts_S2048_S1x2048
/-- What the norm's own dependence on the row adds, per unit of the row and half of it. -/
def tailT (x u : Rows) : FVec Ideal S4096 .f32 :=
  Host.reduceAdd (Host.divf (mulf (shapeCast S4096x1 (Host.reduceAdd (mulf x u) (constant S_ .f32 0x00000000#32) reducesTo_S4096x2048_S4096_d1 h_S_) shapeCasts_S4096_S4096x1)
      (mulf (broadcastInDim S4096x1 ![] bcast_S_S4096x1 (constant S_ .f32 0xBF000000#32)) (Host.divf (Host.rsqrt (msT x)) (msT x))))
    (broadcastInDim S4096x1 ![] bcast_S_S4096x1 (constant S_ .f32 0x45000000#32))) (constant S_ .f32 0x00000000#32) reducesTo_S4096x1_S4096_d1 h_S_
/-- The gradient of the block's argument. -/
def dxT (x d dh : Rows) (g : FVec Ideal S1x2048 .f32) : Rows :=
  addf (addf (addf d (mulf (mulf dh (broadcastInDim S4096x2048 ![0, 1] bcast_S1x2048_S4096x2048_0_1 g)) (broadcastInDim S4096x2048 ![0, 1] bcast_S4096x1_S4096x2048_0_1 (Host.rsqrt (msT x)))))
      (mulf x (broadcastInDim S4096x2048 ![0] bcast_S4096_S4096x2048_0 (tailT x (mulf dh (broadcastInDim S4096x2048 ![0, 1] bcast_S1x2048_S4096x2048_0_1 g))))))
    (mulf (broadcastInDim S4096x2048 ![0] bcast_S4096_S4096x2048_0 (tailT x (mulf dh (broadcastInDim S4096x2048 ![0, 1] bcast_S1x2048_S4096x2048_0_1 g)))) x)

variable (m : (ℓ : Loc nD τ sig) → Buf (Elt Ideal) ℓ) (c : Dev nD)

/-- The argument's rows. -/
abbrev xM : Rows := m ((c.tc : Thread nD τ).loc main_arg0)
/-- The norm's scale. -/
abbrev gM : FVec Ideal S1x2048 .f32 := m ((c.tc : Thread nD τ).loc main_arg1)
/-- The first weight. -/
abbrev wgM : FVec Ideal S2048x5632 .f32 := m ((c.tc : Thread nD τ).loc main_arg2)
/-- The second weight. -/
abbrev wuM : FVec Ideal S2048x5632 .f32 := m ((c.tc : Thread nD τ).loc main_arg3)
/-- The third weight. -/
abbrev wdM : FVec Ideal S5632x2048 .f32 := m ((c.tc : Thread nD τ).loc main_arg4)
/-- The result's gradient. -/
abbrev dM : Rows := m ((c.tc : Thread nD τ).loc main_arg5)

/-- The gate's first operand. -/
def aM : Inner := upT (normT (xM m c) (gM m c)) (wgM m c)
/-- The gate's second operand. -/
def bM : Inner := upT (normT (xM m c) (gM m c)) (wuM m c)
/-- The gate's gradient. -/
def dpM : Inner := dpT (dM m c) (wdM m c)
/-- The gradient of the gate's first operand. -/
def daM : Inner := daT (aM m c) (bM m c) (dpM m c)
/-- The gradient of the gate's second operand. -/
def dbM : Inner := dbT (aM m c) (dpM m c)
/-- The gradient of the normalised rows. -/
def dhM : Rows := dhT (daM m c) (dbM m c) (wgM m c) (wuM m c)

set_option maxRecDepth 65536 in
theorem res1 : res_main_v58 m c = dxT (xM m c) (dM m c) (dhM m c) (gM m c) := by
  unfold res_main_v58; rfl
set_option maxRecDepth 65536 in
theorem res2 : res_main_v41 m c = dgT (xM m c) (dhM m c) := by
  unfold res_main_v41; rfl
set_option maxRecDepth 65536 in
theorem res3 : res_main_v61 m c = gwT (daM m c) (normT (xM m c) (gM m c)) := by
  unfold res_main_v61; rfl

set_option maxRecDepth 65536 in
/-- The reference's run: each result buffer by its named term, the arguments unchanged. -/
theorem run (ρ : Dev nD → PrngReg) :
    θ_run defs (onTc (τ := τ) (main (F := Ideal))) ⟨m, fun _ => 0, ρ⟩ fun r => ∀ c : Dev nD,
      (r.2.mem ((c.tc : Thread nD τ).loc main_v22) = outT (xM m c) (gateT (aM m c) (bM m c)) (wdM m c)
      ∧ r.2.mem ((c.tc : Thread nD τ).loc main_v58) = dxT (xM m c) (dM m c) (dhM m c) (gM m c)
      ∧ r.2.mem ((c.tc : Thread nD τ).loc main_v41) = dgT (xM m c) (dhM m c)
      ∧ r.2.mem ((c.tc : Thread nD τ).loc main_v61) = gwT (daM m c) (normT (xM m c) (gM m c))
      ∧ r.2.mem ((c.tc : Thread nD τ).loc main_v64) = gwT (dbM m c) (normT (xM m c) (gM m c))
      ∧ r.2.mem ((c.tc : Thread nD τ).loc main_v66) = gwdT (dM m c) (gateT (aM m c) (bM m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
    obtain ⟨h0, h1, h2, h3, h4, h5, h6⟩ := h c
    exact ⟨⟨h0.trans rfl, h1.trans (res1 m c), h2.trans (res2 m c), h3.trans (res3 m c), h4.trans rfl, h5.trans rfl⟩, h6⟩)
    (Value.run m ρ)

end Cert.Proof.FfnRef
-- ==== Proof.FfnRefAt.lean ====
/-
  The reference's terms of the feed-forward block, each read at an index.
-/
module

public import proofs.«01_k».proof.Proof.FfnSpec
public import proofs.«01_k».proof.Proof.FfnRef

@[expose] public section

set_option maxRecDepth 16384

noncomputable section

namespace Cert.Proof.FfnRef

open Cert.Reference2Ideal
open Idealize.ShloMosaic Idealize.ShloMosaic.Tactic
open Cert.Proof.Ffn (rms half len tiny)

theorem ms_at (x : Rows) (r : Fin 4096) :
    msT x (ix2 r 0) = Ideal.div (∑ k : Fin 2048, x (ix2 r k) * x (ix2 r k)) len + tiny := by
  pointwise [msT]

theorem unit_at (x : Rows) (r : Fin 4096) (k : Fin 2048) : unitT x (ix2 r k) = x (ix2 r k) * rms x r := by
  pointwise [unitT, ms_at, rms]

theorem norm_at (x : Rows) (g : FVec Ideal S1x2048 .f32) (r : Fin 4096) (k : Fin 2048) :
    normT x g (ix2 r k) = x (ix2 r k) * rms x r * g (ix2 0 k) := by
  pointwise [normT, unit_at]

theorem up_at (h : Rows) (w : FVec Ideal S2048x5632 .f32) (r : Fin 4096) (k : Fin 5632) :
    upT h w (ix2 r k) = ∑ l : Fin 2048, h (ix2 r l) * w (ix2 l k) := by
  pointwise [upT]

theorem sig_at (a : Inner) (j : S4096x5632.Idx) : sigT a j = Ideal.logistic (a j) := by
  pointwise [sigT]
  rfl

theorem gate_at (a b : Inner) (j : S4096x5632.Idx) : gateT a b j = a j * Ideal.logistic (a j) * b j := by
  pointwise [gateT, sig_at]

theorem out_at (x : Rows) (p : Inner) (w : FVec Ideal S5632x2048 .f32) (r : Fin 4096) (k : Fin 2048) :
    outT x p w (ix2 r k) = x (ix2 r k) + half * ∑ l : Fin 5632, p (ix2 r l) * w (ix2 l k) := by
  pointwise [outT]

theorem half_at (d : Rows) (r : Fin 4096) (k : Fin 2048) : halfT d (ix2 r k) = half * d (ix2 r k) := by
  pointwise [halfT]

theorem dp_at (d : Rows) (w : FVec Ideal S5632x2048 .f32) (r : Fin 4096) (k : Fin 5632) :
    dpT d w (ix2 r k) = ∑ l : Fin 2048, half * d (ix2 r l) * w (ix2 k l) := by
  pointwise [dpT, half_at]

theorem db_at (a dp : Inner) (j : S4096x5632.Idx) : dbT a dp j = a j * Ideal.logistic (a j) * dp j := by
  pointwise [dbT, sig_at]

theorem da_at (a b dp : Inner) (j : S4096x5632.Idx) : daT a b dp j
    = dp j * b j * Ideal.logistic (a j)
      + a j * (dp j * b j) * (Ideal.logistic (a j) * (1 - Ideal.logistic (a j))) := by
  pointwise [daT, sig_at]

theorem dh_at (da db : Inner) (wg wu : FVec Ideal S2048x5632 .f32) (r : Fin 4096) (k : Fin 2048) :
    dhT da db wg wu (ix2 r k) = ∑ l : Fin 5632, db (ix2 r l) * wu (ix2 k l) + ∑ l : Fin 5632, da (ix2 r l) * wg (ix2 k l) := by
  pointwise [dhT]

theorem gw_at (da : Inner) (h : Rows) (s : Fin 8) (k : Fin 704) (l : Fin 2048) :
    gwT da h (ix3 s k l) = ∑ r : Fin 4096, da (ix2 r ⟨s.val * 704 + k.val, by omega⟩) * h (ix2 r l) := by
  pointwise [gwT]

theorem gwd_at (d : Rows) (p : Inner) (s : Fin 8) (k : Fin 704) (l : Fin 2048) :
    gwdT d p (ix3 s k l) = ∑ r : Fin 4096, half * d (ix2 r l) * p (ix2 r ⟨s.val * 704 + k.val, by omega⟩) := by
  pointwise [gwdT, half_at]

theorem dg_at (x dh : Rows) (k : Fin 2048) :
    dgT x dh (ix2 0 k) = ∑ r : Fin 4096, x (ix2 r k) * rms x r * dh (ix2 r k) := by
  pointwise [dgT, unit_at]

theorem tail_at (x u : Rows) (r : Fin 4096) :
    tailT x u (ix1 r) = Ideal.div ((∑ k : Fin 2048, x (ix2 r k) * u (ix2 r k))
      * (Ideal.ofBits FTy.f32 0xBF000000#32 * Ideal.div (rms x r) (msT x (ix2 r 0)))) len := by
  pointwise [tailT, rms, ms_at]
  rw [Fin.sum_univ_one, ms_at]

theorem dx_at (x d dh : Rows) (g : FVec Ideal S1x2048 .f32) (r : Fin 4096) (k : Fin 2048) :
    dxT x d dh g (ix2 r k) = d (ix2 r k) + dh (ix2 r k) * g (ix2 0 k) * rms x r
      + x (ix2 r k) * Ideal.div ((∑ k : Fin 2048, x (ix2 r k) * (dh (ix2 r k) * g (ix2 0 k)))
          * (Ideal.ofBits FTy.f32 0xBF000000#32 * Ideal.div (rms x r) (msT x (ix2 r 0)))) len
      + Ideal.div ((∑ k : Fin 2048, x (ix2 r k) * (dh (ix2 r k) * g (ix2 0 k)))
          * (Ideal.ofBits FTy.f32 0xBF000000#32 * Ideal.div (rms x r) (msT x (ix2 r 0)))) len * x (ix2 r k) := by
  pointwise [dxT, tail_at, rms, ms_at]

end Cert.Proof.FfnRef
-- ==== Proof.FfnEq.lean ====
/-
  The feed-forward block's arrays, as its nine calls compute them, are the reference's.  The products agree as sums
  over the whole inner axis, whatever their terms; the gate's gradient and the norm's need their terms finite.
-/
module

public import proofs.«01_k».proof.Proof.FfnHold
public import proofs.«01_k».proof.Proof.FfnRefAt

@[expose] public section

set_option maxRecDepth 16384

noncomputable section

namespace Cert.Proof.FfnEq

open Cert.Kernel2Ideal
open Idealize.ShloMosaic
open Cert.Proof.Ffn Cert.Proof.FfnRef

/-! ## Indices and sums -/

theorem exists2 {A B : ℕ} (j : (⟨2, ![A, B]⟩ : Shape).Idx) : ∃ (r : Fin A) (k : Fin B), j = ix2 r k := ⟨_, _, eq_ix2 j⟩

theorem exists3 {A B C : ℕ} (j : (⟨3, ![A, B, C]⟩ : Shape).Idx) : ∃ (s : Fin A) (k : Fin B) (l : Fin C), j = ix3 s k l :=
  ⟨_, _, _, eq_ix3 j⟩

theorem half_eq : half = ((1 / 2 : ℝ) : EReal) := by
  simp [half, Ideal.ofBits, Ideal.ieee, -EReal.coe_mul]; norm_num

theorem len_eq : len = ((2048 : ℝ) : EReal) := by
  simp [len, Ideal.ofBits, Ideal.ieee, -EReal.coe_mul]; norm_num

theorem minus_half_eq : Ideal.ofBits FTy.f32 0xBF000000#32 = ((-(1 / 2) : ℝ) : EReal) := by
  simp [Ideal.ofBits, Ideal.ieee, -EReal.coe_mul]; norm_num

/-- What is added to a mean square is a positive real. -/
theorem tiny_pos : ∃ t : ℝ, 0 < t ∧ tiny = (t : EReal) := by
  refine ⟨_, ?_, by simp [tiny, Ideal.ofBits, Ideal.ieee, -EReal.coe_mul]; rfl⟩
  norm_num

/-- A half goes into a sum, whatever its terms. -/
theorem half_sum {ι : Type} (s : Finset ι) (f : ι → EReal) : half * ∑ i ∈ s, f i = ∑ i ∈ s, half * f i := by
  classical
  induction s using Finset.induction_on with
  | empty => simp
  | insert a s ha ih =>
    rw [Finset.sum_insert ha, Finset.sum_insert ha, ← ih, half_eq]
    exact EReal.left_distrib_of_nonneg_of_ne_top (by exact_mod_cast (by norm_num : (0 : ℝ) ≤ 1 / 2)) (EReal.coe_ne_top _) _ _

/-- A sum over the slabs is a sum over the inner axis. -/
theorem sum_slabs (f : Fin 5632 → EReal) : ∑ s : Fin 8, ∑ k : Fin 704, f (inner s k) = ∑ l, f l :=
  Fin.sum_mul_add_congr fun _ _ _ => rfl

/-- A sum over the blocks of 256 rows is a sum over the rows. -/
theorem sum_rows (f : Fin 4096 → EReal) :
    ∑ s : Fin 16, ∑ k : Fin 256, f ⟨256 * s.val + k.val, by omega⟩ = ∑ l, f l :=
  Fin.sum_mul_add_congr fun s k _ => congrArg f (Fin.ext (by show 256 * s.val + k.val = s.val * 256 + k.val; omega))

/-! ## The forward arrays -/

/-- An array of slabs holds the array over the inner axis `q`. -/
def Slabs (p : S8x4096x704.Idx → EReal) (q : Cert.Reference2Ideal.S4096x5632.Idx → EReal) : Prop :=
  ∀ s r k, p (ix3 s r k) = q (ix2 r (inner s k))

theorem norm_same (x : Rows) (g : S1x2048.Idx → EReal) : norm x g = normT x g := by
  funext j
  obtain ⟨r, k, rfl⟩ := exists2 j
  rw [norm_at]
  rfl

theorem into_up (h : Rows) (w : S2048x5632.Idx → EReal) : Slabs (into h (slabT w)) (upT h w) := by
  intro s r k
  rw [up_at]
  rfl

theorem gate_same {a b : S8x4096x704.Idx → EReal} {aR bR : Inner} (ha : Slabs a aR) (hb : Slabs b bR) :
    Slabs (gate a b) (gateT aR bR) := by
  intro s r k
  rw [gate_at, ← ha, ← hb]
  rfl

theorem back_same {p : S8x4096x704.Idx → EReal} {q : Inner} (hp : Slabs p q) (w : S8x704x2048.Idx → EReal)
    (v : Fin 5632 → Fin 2048 → EReal) (hw : ∀ s k c, w (ix3 s k c) = v (inner s k) c) (r : Fin 4096) (c : Fin 2048) :
    back p w r c = ∑ l, q (ix2 r l) * v l c := by
  rw [← sum_slabs fun l => q (ix2 r l) * v l c]
  unfold back
  simp only [hp _ _ _, hw]

theorem down_same {p : S8x4096x704.Idx → EReal} {q : Inner} (hp : Slabs p q) (w : S5632x2048.Idx → EReal) (x : Rows) :
    down p (slab w) x = outT x q w := by
  funext j
  obtain ⟨r, k, rfl⟩ := exists2 j
  rw [out_at]
  show x _ + half * back p (slab w) r k = _
  rw [back_same hp (slab w) (fun l c => w (ix2 l c)) fun _ _ _ => rfl]

/-! ## The backward products -/

theorem dp_same (d : Rows) (w : S5632x2048.Idx → EReal) (s : Fin 8) (r : Fin 4096) (k : Fin 704) :
    half * into d (slab w) (ix3 s r k) = dpT d w (ix2 r (inner s k)) := by
  rw [dp_at]
  show half * ∑ l : Fin 2048, d (ix2 r l) * w (ix2 (inner s k) l) = _
  rw [half_sum]
  exact Finset.sum_congr rfl fun _ _ => (mul_assoc _ _ _).symm

theorem db_same (d : Rows) (w : S5632x2048.Idx → EReal) {a : S8x4096x704.Idx → EReal} {aR : Inner} (ha : Slabs a aR) :
    Slabs (gradB d (slab w) a) (dbT aR (dpT d w)) := by
  intro s r k
  rw [db_at, ← dp_same, ← ha, mul_comm]
  rfl

theorem gw_same {da : S8x4096x704.Idx → EReal} {daR : Inner} (ha : Slabs da daR) (h : Rows) : outer da h = gwT daR h := by
  funext j
  obtain ⟨s, k, l, rfl⟩ := exists3 j
  rw [gw_at]
  show ∑ r : Fin 4096, da (ix3 s r k) * h (ix2 r l) = _
  exact Finset.sum_congr rfl fun r _ => congrArg (· * h (ix2 r l)) (ha _ _ _)

theorem gwd_same {p : S8x4096x704.Idx → EReal} {q : Inner} (hp : Slabs p q) (d : Rows) :
    (fun j => outer p d j * half) = gwdT d q := by
  funext j
  obtain ⟨s, k, l, rfl⟩ := exists3 j
  rw [gwd_at, mul_comm]
  show half * ∑ r : Fin 4096, p (ix3 s r k) * d (ix2 r l) = _
  rw [half_sum]
  refine Finset.sum_congr rfl fun r _ => ?_
  rw [hp s r k, mul_comm (q _), ← mul_assoc]
  rfl

theorem dh_same {da db : S8x4096x704.Idx → EReal} {daR dbR : Inner} (ha : Slabs da daR) (hb : Slabs db dbR)
    (wg wu : S2048x5632.Idx → EReal) : gradH da db (slabT wg) (slabT wu) = dhT daR dbR wg wu := by
  funext j
  obtain ⟨r, k, rfl⟩ := exists2 j
  rw [dh_at, add_comm]
  exact congrArg₂ (· + ·) (back_same ha (slabT wg) (fun l c => wg (ix2 c l)) (fun _ _ _ => rfl) _ _)
    (back_same hb (slabT wu) (fun l c => wu (ix2 c l)) (fun _ _ _ => rfl) _ _)

theorem dg_same (x dh : Rows) : gradG x dh = dgT x dh := by
  funext j
  obtain ⟨z, k, rfl⟩ := exists2 j
  rw [Subsingleton.elim z 0, dg_at, ← sum_rows fun r => x (ix2 r k) * rms x r * dh (ix2 r k)]
  exact Finset.sum_congr rfl fun s _ => Finset.sum_congr rfl fun k _ => mul_comm _ _

/-! ## Finite values -/

/-- An extended real that is a real. -/
def Real' (e : EReal) : Prop := ∃ r : ℝ, e = (r : EReal)

theorem Real'.add {a b : EReal} : Real' a → Real' b → Real' (a + b) := by
  rintro ⟨x, rfl⟩ ⟨y, rfl⟩; exact ⟨x + y, by push_cast; rfl⟩

theorem Real'.mul {a b : EReal} : Real' a → Real' b → Real' (a * b) := by
  rintro ⟨x, rfl⟩ ⟨y, rfl⟩; exact ⟨x * y, by push_cast; rfl⟩

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem Real'.sum {ι : Type} (s : Finset ι) {f : ι → EReal} (h : ∀ i, Real' (f i)) : Real' (∑ i ∈ s, f i) := by
  choose g hg using h
  exact ⟨∑ i ∈ s, g i, by rw [coe_sum]; exact Finset.sum_congr rfl fun i _ => hg i⟩

theorem Real'.logistic {a : EReal} : Real' a → Real' (Ideal.logistic a) := by
  rintro ⟨x, rfl⟩; exact ⟨_, Ideal.logistic_coe x⟩

theorem real_half : Real' half := ⟨_, half_eq⟩

/-- A finite row's shifted mean square is a positive real, and the row's reciprocal root mean square its reciprocal root. -/
theorem ms_real {x : Rows} (hx : ∀ j, Real' (x j)) (r : Fin 4096) :
    ∃ v : ℝ, 0 < v ∧ msT x (ix2 r 0) = (v : EReal) ∧ rms x r = (((Real.sqrt v)⁻¹ : ℝ) : EReal) := by
  choose y hy using hx
  obtain ⟨t, ht, et⟩ := tiny_pos
  have e : Ideal.div (∑ k : Fin 2048, x (ix2 r k) * x (ix2 r k)) len + tiny
      = (((∑ k : Fin 2048, y (ix2 r k) * y (ix2 r k)) * (1 / 2048) + t : ℝ) : EReal) := by
    rw [len_eq, Ideal.div_coe (by norm_num), et]
    simp only [hy, ← EReal.coe_mul, ← coe_sum, ← EReal.coe_add]
  have h0 : 0 ≤ ∑ k : Fin 2048, y (ix2 r k) * y (ix2 r k) := Finset.sum_nonneg fun k _ => mul_self_nonneg _
  have hv : 0 < (∑ k : Fin 2048, y (ix2 r k) * y (ix2 r k)) * (1 / 2048) + t := by positivity
  refine ⟨_, hv, (ms_at x r).trans e, ?_⟩
  unfold rms
  rw [e, Ideal.rsqrt_coe, if_neg (not_lt.mpr hv.le), if_neg hv.ne']

theorem norm_real {x : Rows} {g : S1x2048.Idx → EReal} (hx : ∀ j, Real' (x j)) (hg : ∀ j, Real' (g j)) (j : S4096x2048.Idx) :
    Real' (normT x g j) := by
  obtain ⟨r, k, rfl⟩ := exists2 j
  rw [norm_at]
  obtain ⟨v, -, -, e⟩ := ms_real hx r
  exact ((hx _).mul ⟨_, e⟩).mul (hg _)

theorem up_real {h : Rows} {w : S2048x5632.Idx → EReal} (hh : ∀ j, Real' (h j)) (hw : ∀ j, Real' (w j)) (j : Cert.Reference2Ideal.S4096x5632.Idx) :
    Real' (upT h w j) := by
  obtain ⟨r, k, rfl⟩ := exists2 j
  rw [up_at]
  exact Real'.sum _ fun k => (hh _).mul (hw _)

theorem dp_real {d : Rows} {w : S5632x2048.Idx → EReal} (hd : ∀ j, Real' (d j)) (hw : ∀ j, Real' (w j)) (j : Cert.Reference2Ideal.S4096x5632.Idx) :
    Real' (dpT d w j) := by
  obtain ⟨r, k, rfl⟩ := exists2 j
  rw [dp_at]
  exact Real'.sum _ fun k => (real_half.mul (hd _)).mul (hw _)

/-- The gradient of the gate's first operand, at a finite point. -/
theorem da_point {a b p : EReal} (ha : Real' a) (hb : Real' b) (hp : Real' p) :
    p * b * (Ideal.logistic a * (1 + a * (1 - Ideal.logistic a)))
      = p * b * Ideal.logistic a + a * (p * b) * (Ideal.logistic a * (1 - Ideal.logistic a)) := by
  obtain ⟨s, hs⟩ := ha.logistic
  obtain ⟨a, rfl⟩ := ha; obtain ⟨b, rfl⟩ := hb; obtain ⟨p, rfl⟩ := hp
  rw [hs]
  norm_cast
  ring

theorem da_same {d : Rows} {w : S5632x2048.Idx → EReal} {a b : S8x4096x704.Idx → EReal} {aR bR : Inner}
    (ha : Slabs a aR) (hb : Slabs b bR) (fa : ∀ j, Real' (aR j)) (fb : ∀ j, Real' (bR j)) (fd : ∀ j, Real' (d j))
    (fw : ∀ j, Real' (w j)) : Slabs (gradA d (slab w) a b) (daT aR bR (dpT d w)) := by
  intro s r k
  rw [da_at, ← da_point (fa _) (fb _) (dp_real fd fw _), ← dp_same, ← ha, ← hb]
  rfl

theorem da_real {a b dp : Inner} (fa : ∀ j, Real' (a j)) (fb : ∀ j, Real' (b j)) (fp : ∀ j, Real' (dp j)) (j : Cert.Reference2Ideal.S4096x5632.Idx) :
    Real' (daT a b dp j) := by
  rw [da_at, ← da_point (fa _) (fb _) (fp _)]
  obtain ⟨s, hs⟩ := (fa j).logistic
  have : Real' (1 + a j * (1 - Ideal.logistic (a j))) := by
    obtain ⟨x, hx⟩ := fa j
    exact ⟨1 + x * (1 - s), by rw [hs, hx]; norm_cast⟩
  exact ((fp _).mul (fb _)).mul (Real'.mul ⟨s, hs⟩ this)

theorem db_real {a dp : Inner} (fa : ∀ j, Real' (a j)) (fp : ∀ j, Real' (dp j)) (j : Cert.Reference2Ideal.S4096x5632.Idx) : Real' (dbT a dp j) := by
  rw [db_at]
  exact ((fa _).mul (fa _).logistic).mul (fp _)

theorem dh_real {da db : Inner} {wg wu : S2048x5632.Idx → EReal} (fa : ∀ j, Real' (da j)) (fb : ∀ j, Real' (db j))
    (fg : ∀ j, Real' (wg j)) (fu : ∀ j, Real' (wu j)) (j : S4096x2048.Idx) : Real' (dhT da db wg wu j) := by
  obtain ⟨r, k, rfl⟩ := exists2 j
  rw [dh_at]
  exact (Real'.sum _ fun _ => (fb _).mul (fu _)).add (Real'.sum _ fun _ => (fa _).mul (fg _))

/-! ## The gradient through the norm -/

theorem dx_same {x dh d : Rows} {g : S1x2048.Idx → EReal} (fx : ∀ j, Real' (x j)) (fh : ∀ j, Real' (dh j))
    (fd : ∀ j, Real' (d j)) (fg : ∀ j, Real' (g j)) : gradX x dh d g = dxT x d dh g := by
  funext j
  obtain ⟨r, k, rfl⟩ := exists2 j
  rw [dx_at]
  show d (ix2 r k) + rms x r * (dh (ix2 r k) * g (ix2 0 k) - x (ix2 r k) * rms x r
    * Ideal.div (∑ k : Fin 2048, dh (ix2 r k) * g (ix2 0 k) * (x (ix2 r k) * rms x r)) len) = _
  obtain ⟨v, hv, em, er⟩ := ms_real fx r
  choose X hX using fx; choose H hH using fh; choose D hD using fd; choose G hG using fg
  rw [em, er, len_eq, minus_half_eq, Ideal.div_coe (by norm_num : (2048 : ℝ) ≠ 0), Ideal.div_coe (by norm_num : (2048 : ℝ) ≠ 0),
    Ideal.div_coe hv.ne']
  simp only [hX, hH, hD, hG, ← EReal.coe_mul, ← coe_sum, ← EReal.coe_add, ← EReal.coe_sub]
  congr 1
  set q := (Real.sqrt v)⁻¹ with hq
  have hqq : q * (1 / v) = q * q * q := by
    have : q * q = 1 / v := by rw [hq, ← mul_inv, Real.mul_self_sqrt hv.le, one_div]
    rw [← this]; ring
  rw [hqq, show (∑ k : Fin 2048, H (ix2 r k) * G (ix2 0 k) * (X (ix2 r k) * q))
    = q * ∑ k : Fin 2048, X (ix2 r k) * (H (ix2 r k) * G (ix2 0 k)) from by
      rw [Finset.mul_sum]; exact Finset.sum_congr rfl fun _ _ => by ring]
  ring

end Cert.Proof.FfnEq
-- ==== Proof.FfnFinite.lean ====
/-
  The feed-forward claim's precondition: every entry of every argument is a real.
-/
module

public import proofs.«01_k».proof.Defs
public import proofs.«01_k».proof.Proof.FfnEq

@[expose] public section

set_option maxRecDepth 16384

noncomputable section

namespace Cert.Proof.FfnEq

open Idealize.ShloMosaic Idealize.ShloMosaic.Tactic

/-- The precondition's shape relations. -/
theorem preFacts : Cert.Pre_finite2.Facts where
  bcast_S_S4096x2048 := by decide
  bcast_S_S1x2048 := by decide
  bcast_S_S2048x5632 := by decide
  bcast_S_S5632x2048 := by decide

/-- An extended real whose magnitude is below infinity is a real. -/
theorem real_of_abs_lt {e : EReal} (h : max e (-e) < ⊤) : Real' e := by
  induction e with
  | bot => simp at h
  | top => simp at h
  | coe x => exact ⟨x, rfl⟩

/-- The comparison that the precondition makes, read at an entry. -/
theorem real_of_finite {s : Shape} (x : FVec Ideal s .f32) (hs : (⟨0, ![]⟩ : Shape).BroadcastsInDim s ![])
    (h : (cmpf .olt (Host.absf x) (broadcastInDim s ![] hs (constant ⟨0, ![]⟩ .f32 0x7F800000#32)) : IVec s 1) = fun _ => 1#1)
    (j : s.Idx) : Real' (x j) := by
  have h := congrFun h j
  pointwise at h
  have ht : Ideal.ofBits FTy.f32 0x7F800000#32 = ⊤ := by simp [Ideal.ofBits, Ideal.ieee]
  rw [ht] at h
  refine real_of_abs_lt ?_
  by_contra hn
  rw [decide_eq_false (show ¬ FloatOps.absf (x j) < (⊤ : EReal) from hn)] at h
  exact absurd h (by decide)

open Cert.Kernel2Ideal in
/-- Under the precondition every argument is finite at every index. -/
theorem finite_args [Cert.Pre_finite2.Facts] {m : (ℓ : Loc nD τ sig) → Buf (Elt Ideal) ℓ} (h : Cert.Pre_Kernel2Ideal_finite2 m)
    (c : Dev nD) :
    (∀ j : S4096x2048.Idx, Real' ((m (c.tc.loc main_arg0) : FVec Ideal S4096x2048 .f32) j))
    ∧ (∀ j : S1x2048.Idx, Real' ((m (c.tc.loc main_arg1) : FVec Ideal S1x2048 .f32) j))
    ∧ (∀ j : S2048x5632.Idx, Real' ((m (c.tc.loc main_arg2) : FVec Ideal S2048x5632 .f32) j))
    ∧ (∀ j : S2048x5632.Idx, Real' ((m (c.tc.loc main_arg3) : FVec Ideal S2048x5632 .f32) j))
    ∧ (∀ j : S5632x2048.Idx, Real' ((m (c.tc.loc main_arg4) : FVec Ideal S5632x2048 .f32) j))
    ∧ (∀ j : S4096x2048.Idx, Real' ((m (c.tc.loc main_arg5) : FVec Ideal S4096x2048 .f32) j)) := by
  obtain ⟨h0, h1, h2, h3, h4, h5⟩ := h c
  exact ⟨real_of_finite _ _ h0, real_of_finite _ _ h1, real_of_finite _ _ h2, real_of_finite _ _ h3,
    real_of_finite _ _ h4, real_of_finite _ _ h5⟩

end Cert.Proof.FfnEq
-- ==== Proof.FfnClaim.lean ====
/-
  The feed-forward block's algebraic claim: from finite arguments, the nine calls and the reference leave the same
  six results.
-/
module

public import proofs.«01_k».proof.Proof.FfnFinite

@[expose] public section

set_option maxRecDepth 16384

noncomputable section

namespace Cert.Proof.FfnEq

open Idealize.ShloMosaic Idealize.ShloMosaic.TcCoe Idealize.SL.Sem
open Cert.Proof.Ffn Cert.Proof.FfnRef

/-- The memory of the nine calls. -/
abbrev MemK := (ℓ : Loc Cert.Kernel2Ideal.nD Cert.Kernel2Ideal.τ Cert.Kernel2Ideal.sig) → Buf (Elt Ideal) ℓ
/-- The reference's memory. -/
abbrev MemR := (ℓ : Loc Cert.Reference2Ideal.nD Cert.Reference2Ideal.τ Cert.Reference2Ideal.sig) → Buf (Elt Ideal) ℓ

/-- The two memories hold the same arguments. -/
def Same (m : MemK) (m' : MemR) (c : Dev Cert.Kernel2Ideal.nD) : Prop :=
  xM m' c = m (c.tc.loc Cert.Kernel2Ideal.main_arg0) ∧ gM m' c = m (c.tc.loc Cert.Kernel2Ideal.main_arg1)
  ∧ wgM m' c = m (c.tc.loc Cert.Kernel2Ideal.main_arg2) ∧ wuM m' c = m (c.tc.loc Cert.Kernel2Ideal.main_arg3)
  ∧ wdM m' c = m (c.tc.loc Cert.Kernel2Ideal.main_arg4) ∧ dM m' c = m (c.tc.loc Cert.Kernel2Ideal.main_arg5)

/-- Every argument is finite. -/
def Finite (m' : MemR) (c : Dev Cert.Kernel2Ideal.nD) : Prop :=
  (∀ j, Real' (xM m' c j)) ∧ (∀ j, Real' (gM m' c j)) ∧ (∀ j, Real' (wgM m' c j)) ∧ (∀ j, Real' (wuM m' c j))
  ∧ (∀ j, Real' (wdM m' c j)) ∧ (∀ j, Real' (dM m' c j))

variable {m : MemK} {m' : MemR} {c : Dev Cert.Kernel2Ideal.nD}

theorem h_eq (h : Same m m' c) : hK m c = normT (xM m' c) (gM m' c) := by
  obtain ⟨hx, hg, -⟩ := h
  rw [hx, hg]
  exact norm_same _ _

theorem a_eq (h : Same m m' c) : Slabs (aK m c) (aM m' c) := by
  unfold aK aM
  rw [h_eq h, h.2.2.1]
  exact into_up _ _

theorem b_eq (h : Same m m' c) : Slabs (bK m c) (bM m' c) := by
  unfold bK bM
  rw [h_eq h, h.2.2.2.1]
  exact into_up _ _

theorem p_eq (h : Same m m' c) : Slabs (pK m c) (gateT (aM m' c) (bM m' c)) := gate_same (a_eq h) (b_eq h)

theorem a_fin (f : Finite m' c) (j) : Real' (aM m' c j) := up_real (norm_real f.1 f.2.1) f.2.2.1 j
theorem b_fin (f : Finite m' c) (j) : Real' (bM m' c j) := up_real (norm_real f.1 f.2.1) f.2.2.2.1 j
theorem dp_fin (f : Finite m' c) (j) : Real' (dpM m' c j) := dp_real f.2.2.2.2.2 f.2.2.2.2.1 j
theorem dh_fin (f : Finite m' c) (j) : Real' (dhM m' c j) :=
  dh_real (da_real (a_fin f) (b_fin f) (dp_fin f)) (db_real (a_fin f) (dp_fin f)) f.2.2.1 f.2.2.2.1 j

theorem da_eq (h : Same m m' c) (f : Finite m' c) : Slabs (daK m c) (daM m' c) := by
  unfold daK daM dpM
  have fd := f.2.2.2.2.2
  have fw := f.2.2.2.2.1
  rw [h.2.2.2.2.2] at fd
  rw [h.2.2.2.2.1] at fw
  rw [h.2.2.2.2.1, h.2.2.2.2.2]
  exact da_same (a_eq h) (b_eq h) (a_fin f) (b_fin f) fd fw

theorem db_eq (h : Same m m' c) : Slabs (dbK m c) (dbM m' c) := by
  unfold dbK dbM dpM
  rw [h.2.2.2.2.1, h.2.2.2.2.2]
  exact db_same _ _ (a_eq h)

theorem dh_eq (h : Same m m' c) (f : Finite m' c) : dhK m c = dhM m' c := by
  unfold dhK dhM
  rw [h.2.2.1, h.2.2.2.1]
  exact dh_same (da_eq h f) (db_eq h) _ _

/-! ## The six results -/

theorem xo_eq (h : Same m m' c) : down (pK m c) (wdK m c) (xK m c) = outT (xM m' c) (gateT (aM m' c) (bM m' c)) (wdM m' c) := by
  rw [h.2.2.2.2.1, h.1]
  exact down_same (p_eq h) _ _

theorem dx_eq (h : Same m m' c) (f : Finite m' c) :
    gradX (xK m c) (dhK m c) (dK m c) (gK m c) = dxT (xM m' c) (dM m' c) (dhM m' c) (gM m' c) := by
  rw [dh_eq h f, ← dx_same f.1 (dh_fin f) f.2.2.2.2.2 f.2.1, h.1, h.2.1, h.2.2.2.2.2]

theorem dg_eq (h : Same m m' c) (f : Finite m' c) : gradG (xK m c) (dhK m c) = dgT (xM m' c) (dhM m' c) := by
  rw [dh_eq h f, h.1]
  exact dg_same _ _

theorem gwg_eq (h : Same m m' c) (f : Finite m' c) :
    outer (daK m c) (hK m c) = gwT (daM m' c) (normT (xM m' c) (gM m' c)) := by
  rw [h_eq h]
  exact gw_same (da_eq h f) _

theorem gwu_eq (h : Same m m' c) : outer (dbK m c) (hK m c) = gwT (dbM m' c) (normT (xM m' c) (gM m' c)) := by
  rw [h_eq h]
  exact gw_same (db_eq h) _

theorem gwd_eq (h : Same m m' c) :
    (fun j => outer (pK m c) (dK m c) j * half) = gwdT (dM m' c) (gateT (aM m' c) (bM m' c)) := by
  rw [h.2.2.2.2.2]
  exact gwd_same (p_eq h) _

/-! ## The claim -/

attribute [local instance] Cert.Kernel2Ideal.Gen.facts Cert.Reference2Ideal.Gen.facts preFacts

open Cert.Kernel2Ideal Cert.Kernel2Ideal.Gen in
theorem algebraic : Cert.algebraic_Kernel2Ideal_Reference2Ideal_pre_finite2 := by
  intro m g m' g' hpre hargs
  have hs : ∀ c, Same m m' c := hargs
  have hf : ∀ c, Finite m' c := fun c => by
    obtain ⟨h0, h1, h2, h3, h4, h5⟩ := hs c
    obtain ⟨f0, f1, f2, f3, f4, f5⟩ := finite_args hpre c
    exact ⟨h0 ▸ f0, h1 ▸ f1, h2 ▸ f2, h3 ▸ f3, h4 ▸ f4, h5 ▸ f5⟩
  refine ⟨fun c => down (pK m c) (wdK m c) (xK m c), fun c => gradX (xK m c) (dhK m c) (dK m c) (gK m c),
    fun c => gradG (xK m c) (dhK m c), fun c => outer (daK m c) (hK m c), fun c => outer (dbK m c) (hK m c),
    fun c j => outer (pK m c) (dK m c) j * half,
    (θ_run _ _ _).mono (fun r h c => ?_) (Ffn.run m g), (θ_run _ _ _).mono (fun r h c => ?_) (FfnRef.run m' g')⟩
  · have hb := h.1 c
    exact ⟨(hb _ (mem_uc main_v10 (by decide))).trans (xo11 m g c), (hb _ (mem_uc main_v17_0 (by decide))).trans (dx11 m g c),
      (hb _ (mem_uc main_v17_2 (by decide))).trans (dg11 m g c), (hb _ (mem_uc main_v14 (by decide))).trans (gwg11 m g c),
      (hb _ (mem_uc main_v15 (by decide))).trans (gwu11 m g c), (hb _ (mem_uc main_v13 (by decide))).trans (gwd11 m g c),
      (hb _ (mem_uc main_arg0 (by decide))).trans (W11_main_arg0 m g c), (hb _ (mem_uc main_arg1 (by decide))).trans (W11_main_arg1 m g c),
      (hb _ (mem_uc main_arg2 (by decide))).trans (W11_main_arg2 m g c), (hb _ (mem_uc main_arg3 (by decide))).trans (W11_main_arg3 m g c),
      (hb _ (mem_uc main_arg4 (by decide))).trans (W11_main_arg4 m g c), (hb _ (mem_uc main_arg5 (by decide))).trans (W11_main_arg5 m g c)⟩
  · obtain ⟨⟨h0, h1, h2, h3, h4, h5⟩, ha⟩ := h c
    exact ⟨h0.trans (xo_eq (hs c)).symm, h1.trans (dx_eq (hs c) (hf c)).symm, h2.trans (dg_eq (hs c) (hf c)).symm,
      h3.trans (gwg_eq (hs c) (hf c)).symm, h4.trans (gwu_eq (hs c)).symm, h5.trans (gwd_eq (hs c)).symm, ha⟩

end Cert.Proof.FfnEq
-- ==== Proof.AdamSpec.lean ====
/-
  The optimiser's step at one weight: the devices' gradients added, the two moments, and the change of the weight.
-/
module

public import proofs.«01_k».proof.Proof.Gen.Kernel3Ideal.Frame
public import Idealize.ShloMosaic.Lib.Pipeline.ValueKit
public import Idealize.ShloMosaic.Lib.Pointwise

@[expose] public section

set_option maxRecDepth 16384

noncomputable section

namespace Cert.Proof.Adam

open Cert.Kernel3Ideal
open Idealize.ShloMosaic

/-- The decay of the first moment, 0.9. -/
abbrev b1 : EReal := Ideal.ofBits FTy.f32 0x3F666666#32
/-- What the first moment takes of the gradient, 1 − 0.9. -/
abbrev c1 : EReal := Ideal.ofBits FTy.f32 0x3DCCCCCD#32
/-- The decay of the second moment, 0.999. -/
abbrev b2 : EReal := Ideal.ofBits FTy.f32 0x3F7FBE77#32
/-- What the second moment takes of the gradient's square, 1 − 0.999. -/
abbrev c2 : EReal := Ideal.ofBits FTy.f32 0x3A83126F#32
/-- The first moment's bias after ten steps, 1 − 0.9¹⁰. -/
abbrev d1 : EReal := Ideal.ofBits FTy.f32 0x3F26BD02#32
/-- The second moment's bias after ten steps, 1 − 0.999¹⁰. -/
abbrev d2 : EReal := Ideal.ofBits FTy.f32 0x3C231ACC#32
/-- What is added to the root. -/
abbrev eps : EReal := Ideal.ofBits FTy.f32 0x322BCC77#32
/-- The weights' decay. -/
abbrev wd : EReal := Ideal.ofBits FTy.f32 0x3C23D70A#32
/-- The rate of learning, negated. -/
abbrev nlr : EReal := Ideal.ofBits FTy.f32 0xBA83126F#32

/-- The eight devices' gradients, added. -/
def tot (r : Fin 8 → EReal) : EReal := ∑ d, r d
/-- The first moment. -/
def mom (m g : EReal) : EReal := b1 * m + c1 * g
/-- The second moment. -/
def var (v g : EReal) : EReal := b2 * v + c2 * (g * g)
/-- The change of the weight `w`, from the two moments. -/
def move (w m v : EReal) : EReal :=
  nlr * (Ideal.div (Ideal.div m d1) (Ideal.sqrt (Ideal.div v d2) + eps) + wd * w)

/-- The devices' gradients of the entry `j` of a matrix, from the matrices that the devices sent. -/
def parts {a b : ℕ} (r : (⟨3, ![8, a, b]⟩ : Shape).Idx → EReal) (j : (⟨2, ![a, b]⟩ : Shape).Idx) : Fin 8 → EReal :=
  fun d => r (ix3 d (j 0) (j 1))

/-- The devices' gradients of the entry `j` of a pair of matrices, from what the devices sent for one of the two. -/
def layer (r : S8x704x2048.Idx → EReal) (j : S2x704x2048.Idx) : Fin 8 → EReal := fun d => r (ix3 d (j 1) (j 2))

/-- The gradient, entry by entry, from each entry's eight. -/
def grads {ι : Type} (r : ι → Fin 8 → EReal) : ι → EReal := fun j => tot (r j)
/-- The first moments. -/
def moms {ι : Type} (m : ι → EReal) (r : ι → Fin 8 → EReal) : ι → EReal := fun j => mom (m j) (tot (r j))
/-- The second moments. -/
def vars {ι : Type} (v : ι → EReal) (r : ι → Fin 8 → EReal) : ι → EReal := fun j => var (v j) (tot (r j))
/-- The changes of the weights. -/
def steps {ι : Type} (w m v : ι → EReal) (r : ι → Fin 8 → EReal) : ι → EReal := fun j =>
  move (w j) (mom (m j) (tot (r j))) (var (v j) (tot (r j)))

end Cert.Proof.Adam
-- ==== Proof.AdamSquare.lean ====
/-
  What the optimiser's call on one of the square matrices leaves.
-/
module

public import proofs.«01_k».proof.Proof.AdamSpec

@[expose] public section

set_option maxRecDepth 16384

noncomputable section

namespace Cert.Proof.Adam

open Cert.Kernel3Ideal Cert.Kernel3Ideal.Gen
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b))

/-- The call's sum over the devices, at an entry. -/
theorem k2g (x3 : S8x128x2048.Idx → EReal) (y : S128x2048.Idx) : k2_pay2 (F := Ideal) x3 y = tot fun d => x3 (ix3 d (y 0) (y 1)) := by
  pointwise [k2_pay2, tot]
  rw [Fin.sum_univ_eight]

/-- The call's change of the weight, at an entry. -/
theorem k2d (x0 a b : S128x2048.Idx → EReal) (y : S128x2048.Idx) :
    k2_pay1 (F := Ideal) x0 a b y = move (x0 y) (a y) (b y) := by
  pointwise [k2_pay1, move]

/-- The blocks of the square matrices' call: rows `128 t, …`. -/
theorem idx2 : ∀ t, win2_0.index t = ![(grid2.coords t 0).val, 0] ∧ win2_1.index t = ![(grid2.coords t 0).val, 0]
    ∧ win2_2.index t = ![(grid2.coords t 0).val, 0] ∧ win2_3.index t = ![0, (grid2.coords t 0).val, 0]
    ∧ win2_4.index t = ![(grid2.coords t 0).val, 0] ∧ win2_5.index t = ![(grid2.coords t 0).val, 0]
    ∧ win2_6.index t = ![(grid2.coords t 0).val, 0] ∧ win2_7.index t = ![(grid2.coords t 0).val, 0] := by decide +kernel

theorem arr2g (c : Dev nD) : (dat2 V c).arrAt 4 cfg2.N = grads (parts (V c main_arg8)) := by
  refine (dat2 V c).arrAt_eq_of_covers 4 _ (by decide +kernel) fun t hf y => ?_
  blk_simp
  rw [after2_4]
  frame_out
  pointwise [k2g, grads, parts, tot]
  blk_point [iblk2, idx2 t]

theorem arr2d (c : Dev nD) : (dat2 V c).arrAt 5 cfg2.N
    = steps (V c main_arg5) (V c main_arg6) (V c main_arg7) (parts (V c main_arg8)) := by
  refine (dat2 V c).arrAt_eq_of_covers 5 _ (by decide +kernel) fun t hf y => ?_
  blk_simp
  rw [after2_5]
  frame_out
  pointwise [k2_pay5, k2_pay6, k2_pay3, k2_pay4, k2d, k2g, steps, parts, move, mom, var, tot]
  blk_point [iblk2, idx2 t]

theorem arr2m (c : Dev nD) : (dat2 V c).arrAt 6 cfg2.N = moms (V c main_arg6) (parts (V c main_arg8)) := by
  refine (dat2 V c).arrAt_eq_of_covers 6 _ (by decide +kernel) fun t hf y => ?_
  blk_simp
  rw [after2_6]
  frame_out
  pointwise [k2_pay5, k2_pay3, k2g, moms, parts, mom, tot]
  blk_point [iblk2, idx2 t]

theorem arr2v (c : Dev nD) : (dat2 V c).arrAt 7 cfg2.N = vars (V c main_arg7) (parts (V c main_arg8)) := by
  refine (dat2 V c).arrAt_eq_of_covers 7 _ (by decide +kernel) fun t hf y => ?_
  blk_simp
  rw [after2_7]
  frame_out
  pointwise [k2_pay6, k2_pay4, k2g, vars, parts, var, tot]
  blk_point [iblk2, idx2 t]

end Cert.Proof.Adam
-- ==== Proof.AdamProj.lean ====
/-
  What the optimiser's call on the attention's projection leaves.
-/
module

public import proofs.«01_k».proof.Proof.AdamSpec

@[expose] public section

set_option maxRecDepth 16384

noncomputable section

namespace Cert.Proof.Adam

open Cert.Kernel3Ideal Cert.Kernel3Ideal.Gen
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b))

/-- The call's sum over the devices, at an entry. -/
theorem k3g (x3 : S8x512x768.Idx → EReal) (y : S512x768.Idx) : k3_pay2 (F := Ideal) x3 y = tot fun d => x3 (ix3 d (y 0) (y 1)) := by
  pointwise [k3_pay2, tot]
  rw [Fin.sum_univ_eight]

/-- The call's change of the weight, at an entry. -/
theorem k3d (x0 a b : S512x768.Idx → EReal) (y : S512x768.Idx) :
    k3_pay1 (F := Ideal) x0 a b y = move (x0 y) (a y) (b y) := by
  pointwise [k3_pay1, move]

/-- The blocks of the projection's call: rows `512 t, …`. -/
theorem idx3 : ∀ t, win3_0.index t = ![(grid3.coords t 0).val, 0] ∧ win3_1.index t = ![(grid3.coords t 0).val, 0]
    ∧ win3_2.index t = ![(grid3.coords t 0).val, 0] ∧ win3_3.index t = ![0, (grid3.coords t 0).val, 0]
    ∧ win3_4.index t = ![(grid3.coords t 0).val, 0] ∧ win3_5.index t = ![(grid3.coords t 0).val, 0]
    ∧ win3_6.index t = ![(grid3.coords t 0).val, 0] ∧ win3_7.index t = ![(grid3.coords t 0).val, 0] := by decide +kernel

theorem arr3g (c : Dev nD) : (dat3 V c).arrAt 4 cfg3.N = grads (parts (V c main_arg12)) := by
  refine (dat3 V c).arrAt_eq_of_covers 4 _ (by decide +kernel) fun t hf y => ?_
  blk_simp
  rw [after3_4]
  frame_out
  pointwise [k3g, grads, parts, tot]
  blk_point [iblk3, idx3 t]

theorem arr3d (c : Dev nD) : (dat3 V c).arrAt 5 cfg3.N
    = steps (V c main_arg9) (V c main_arg10) (V c main_arg11) (parts (V c main_arg12)) := by
  refine (dat3 V c).arrAt_eq_of_covers 5 _ (by decide +kernel) fun t hf y => ?_
  blk_simp
  rw [after3_5]
  frame_out
  pointwise [k3_pay5, k3_pay6, k3_pay3, k3_pay4, k3d, k3g, steps, parts, move, mom, var, tot]
  blk_point [iblk3, idx3 t]

theorem arr3m (c : Dev nD) : (dat3 V c).arrAt 6 cfg3.N = moms (V c main_arg10) (parts (V c main_arg12)) := by
  refine (dat3 V c).arrAt_eq_of_covers 6 _ (by decide +kernel) fun t hf y => ?_
  blk_simp
  rw [after3_6]
  frame_out
  pointwise [k3_pay5, k3_pay3, k3g, moms, parts, mom, tot]
  blk_point [iblk3, idx3 t]

theorem arr3v (c : Dev nD) : (dat3 V c).arrAt 7 cfg3.N = vars (V c main_arg11) (parts (V c main_arg12)) := by
  refine (dat3 V c).arrAt_eq_of_covers 7 _ (by decide +kernel) fun t hf y => ?_
  blk_simp
  rw [after3_7]
  frame_out
  pointwise [k3_pay6, k3_pay4, k3g, vars, parts, var, tot]
  blk_point [iblk3, idx3 t]

end Cert.Proof.Adam
-- ==== Proof.AdamSmall.lean ====
/-
  What the optimiser's call on the packed small parameters leaves.
-/
module

public import proofs.«01_k».proof.Proof.AdamSpec

@[expose] public section

set_option maxRecDepth 16384

noncomputable section

namespace Cert.Proof.Adam

open Cert.Kernel3Ideal Cert.Kernel3Ideal.Gen
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b))

/-- The call's sum over the devices, at an entry. -/
theorem k4g (x3 : S8x2208x128.Idx → EReal) (y : S2208x128.Idx) : k4_pay2 (F := Ideal) x3 y = tot fun d => x3 (ix3 d (y 0) (y 1)) := by
  pointwise [k4_pay2, tot]
  rw [Fin.sum_univ_eight]

/-- The blocks of the packed parameters' call: rows `2208 t, …`. -/
theorem idx4 : ∀ t, win4_0.index t = ![(grid4.coords t 0).val, 0] ∧ win4_1.index t = ![(grid4.coords t 0).val, 0]
    ∧ win4_2.index t = ![(grid4.coords t 0).val, 0] ∧ win4_3.index t = ![0, (grid4.coords t 0).val, 0]
    ∧ win4_4.index t = ![(grid4.coords t 0).val, 0] ∧ win4_5.index t = ![(grid4.coords t 0).val, 0]
    ∧ win4_6.index t = ![(grid4.coords t 0).val, 0] ∧ win4_7.index t = ![(grid4.coords t 0).val, 0] := by decide +kernel

theorem arr4g (c : Dev nD) : (dat4 V c).arrAt 4 cfg4.N = grads (parts (V c main_arg16)) := by
  refine (dat4 V c).arrAt_eq_of_covers 4 _ (by decide +kernel) fun t hf y => ?_
  blk_simp
  rw [after4_4]
  frame_out
  pointwise [k4g, grads, parts, tot]
  blk_point [iblk4, idx4 t]

theorem arr4d (c : Dev nD) : (dat4 V c).arrAt 5 cfg4.N
    = steps (V c main_arg13) (V c main_arg14) (V c main_arg15) (parts (V c main_arg16)) := by
  refine (dat4 V c).arrAt_eq_of_covers 5 _ (by decide +kernel) fun t hf y => ?_
  blk_simp
  rw [after4_5]
  frame_out
  pointwise [k4_pay1, k4_pay5, k4_pay6, k4_pay3, k4_pay4, k4g, steps, parts, move, mom, var, tot]
  blk_point [iblk4, idx4 t]

theorem arr4m (c : Dev nD) : (dat4 V c).arrAt 6 cfg4.N = moms (V c main_arg14) (parts (V c main_arg16)) := by
  refine (dat4 V c).arrAt_eq_of_covers 6 _ (by decide +kernel) fun t hf y => ?_
  blk_simp
  rw [after4_6]
  frame_out
  pointwise [k4_pay3, k4g, moms, parts, mom, tot]
  blk_point [iblk4, idx4 t]

theorem arr4v (c : Dev nD) : (dat4 V c).arrAt 7 cfg4.N = vars (V c main_arg15) (parts (V c main_arg16)) := by
  refine (dat4 V c).arrAt_eq_of_covers 7 _ (by decide +kernel) fun t hf y => ?_
  blk_simp
  rw [after4_7]
  frame_out
  pointwise [k4_pay4, k4g, vars, parts, var, tot]
  blk_point [iblk4, idx4 t]

end Cert.Proof.Adam
-- ==== Proof.AdamLayer0.lean ====
/-
  What the optimiser's call on the first layer of a feed-forward weight leaves in that layer.
-/
module

public import proofs.«01_k».proof.Proof.AdamSpec

@[expose] public section

set_option maxRecDepth 16384

noncomputable section

namespace Cert.Proof.Adam

open Cert.Kernel3Ideal Cert.Kernel3Ideal.Gen
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b))

/-- The call's sum over the devices, at an entry. -/
theorem k1g (x3 : S8x176x2048.Idx → EReal) (y : S176x2048.Idx) : k1_pay8 (F := Ideal) x3 y = tot fun d => x3 (ix3 d (y 0) (y 1)) := by
  pointwise [k1_pay8, tot]
  rw [Fin.sum_univ_eight]

/-- The blocks of the call: of the first layer, rows `176 t, …`. -/
theorem idx1 : ∀ t, win1_0.index t = ![0, (grid1.coords t 0).val, 0] ∧ win1_1.index t = ![0, (grid1.coords t 0).val, 0]
    ∧ win1_2.index t = ![0, (grid1.coords t 0).val, 0] ∧ win1_3.index t = ![0, (grid1.coords t 0).val, 0]
    ∧ win1_4.index t = ![0, (grid1.coords t 0).val, 0] ∧ win1_5.index t = ![0, (grid1.coords t 0).val, 0]
    ∧ win1_6.index t = ![0, (grid1.coords t 0).val, 0] ∧ win1_7.index t = ![0, (grid1.coords t 0).val, 0] := by decide +kernel

theorem arr1g (c : Dev nD) : (dat1 V c).arrAt 4 cfg1.N
    = fun i => if (i 0 : ℕ) / 1 = 0 then grads (layer (V c main_arg3)) i else V c main_v1_0 i := by
  refine (dat1 V c).arrAt_eq_of_coversWhere 4 _ (fun β => β (0 : Fin _) = 0) (by decide +kernel) (fun t hf y => ?_) (fun j => Iff.rfl)
  blk_simp
  rw [after1_4]
  unfold outsAt1
  frame_out
  pointwise [k1_pay2, k1g, grads, layer, tot]
  blk_point [iblk1, idx1 t]

theorem arr1d (c : Dev nD) : (dat1 V c).arrAt 5 cfg1.N
    = fun i => if (i 0 : ℕ) / 1 = 0 then steps (V c main_arg0) (V c main_arg1) (V c main_arg2) (layer (V c main_arg3)) i else V c main_v1_1 i := by
  refine (dat1 V c).arrAt_eq_of_coversWhere 5 _ (fun β => β (0 : Fin _) = 0) (by decide +kernel) (fun t hf y => ?_) (fun j => Iff.rfl)
  blk_simp
  rw [after1_5]
  unfold outsAt1
  frame_out
  pointwise [k1_pay1, k1_pay3, k1_pay6, k1_pay7, k1_pay9, k1_pay10, k1g, steps, layer, move, mom, var, tot]
  blk_point [iblk1, idx1 t]

theorem arr1m (c : Dev nD) : (dat1 V c).arrAt 6 cfg1.N
    = fun i => if (i 0 : ℕ) / 1 = 0 then moms (V c main_arg1) (layer (V c main_arg3)) i else V c main_v1_2 i := by
  refine (dat1 V c).arrAt_eq_of_coversWhere 6 _ (fun β => β (0 : Fin _) = 0) (by decide +kernel) (fun t hf y => ?_) (fun j => Iff.rfl)
  blk_simp
  rw [after1_6]
  unfold outsAt1
  frame_out
  pointwise [k1_pay4, k1_pay9, k1g, moms, layer, mom, tot]
  blk_point [iblk1, idx1 t]

theorem arr1v (c : Dev nD) : (dat1 V c).arrAt 7 cfg1.N
    = fun i => if (i 0 : ℕ) / 1 = 0 then vars (V c main_arg2) (layer (V c main_arg3)) i else V c main_v1_3 i := by
  refine (dat1 V c).arrAt_eq_of_coversWhere 7 _ (fun β => β (0 : Fin _) = 0) (by decide +kernel) (fun t hf y => ?_) (fun j => Iff.rfl)
  blk_simp
  rw [after1_7]
  unfold outsAt1
  frame_out
  pointwise [k1_pay1, k1_pay5, k1_pay7, k1_pay10, k1g, vars, layer, var, tot]
  blk_point [iblk1, idx1 t]

end Cert.Proof.Adam
-- ==== Proof.AdamLayer1.lean ====
/-
  What the optimiser's call on the second layer of a feed-forward weight leaves in that layer.
-/
module

public import proofs.«01_k».proof.Proof.AdamSpec

@[expose] public section

set_option maxRecDepth 16384

noncomputable section

namespace Cert.Proof.Adam

open Cert.Kernel3Ideal Cert.Kernel3Ideal.Gen
open Idealize.ShloMosaic Idealize.ShloMosaic.TcCoe Idealize.ShloMosaic.Tactic
open Idealize.ShloMosaic.Pipeline (Dat Cfg Window)

variable (V : (c : Dev nD) → (b : Ref sig .tc) → Buf (Elt Ideal) ((c : Thread nD τ).loc b))

/-- The call's sum over the devices, at an entry. -/
theorem k0g (x3 : S8x176x2048.Idx → EReal) (y : S176x2048.Idx) : k0_pay8 (F := Ideal) x3 y = tot fun d => x3 (ix3 d (y 0) (y 1)) := by
  pointwise [k0_pay8, tot]
  rw [Fin.sum_univ_eight]

/-- The blocks of the call: of the second layer, rows `176 t, …`. -/
theorem idx0 : ∀ t, win0_0.index t = ![1, (grid0.coords t 0).val, 0] ∧ win0_1.index t = ![1, (grid0.coords t 0).val, 0]
    ∧ win0_2.index t = ![1, (grid0.coords t 0).val, 0] ∧ win0_3.index t = ![0, (grid0.coords t 0).val, 0]
    ∧ win0_4.index t = ![1, (grid0.coords t 0).val, 0] ∧ win0_5.index t = ![1, (grid0.coords t 0).val, 0]
    ∧ win0_6.index t = ![1, (grid0.coords t 0).val, 0] ∧ win0_7.index t = ![1, (grid0.coords t 0).val, 0] := by decide +kernel

theorem arr0g (c : Dev nD) : (dat0 V c).arrAt 4 cfg0.N
    = fun i => if (i 0 : ℕ) / 1 = 1 then grads (layer (V c main_arg4)) i else V c main_v0_0 i := by
  refine (dat0 V c).arrAt_eq_of_coversWhere 4 _ (fun β => β (0 : Fin _) = 1) (by decide +kernel) (fun t hf y => ?_) (fun j => Iff.rfl)
  blk_simp
  rw [after0_4]
  frame_out
  pointwise [k0_pay2, k0_pay12, k0g, grads, layer, tot]
  blk_point [iblk0, idx0 t]

theorem arr0d (c : Dev nD) : (dat0 V c).arrAt 5 cfg0.N
    = fun i => if (i 0 : ℕ) / 1 = 1 then steps (V c main_arg0) (V c main_arg1) (V c main_arg2) (layer (V c main_arg4)) i else V c main_v0_1 i := by
  refine (dat0 V c).arrAt_eq_of_coversWhere 5 _ (fun β => β (0 : Fin _) = 1) (by decide +kernel) (fun t hf y => ?_) (fun j => Iff.rfl)
  blk_simp
  rw [after0_5]
  frame_out
  pointwise [k0_pay1, k0_pay3, k0_pay6, k0_pay7, k0_pay9, k0_pay10, k0_pay11, k0_pay12, k0_pay13, k0_pay14, k0g, steps, layer, move, mom, var, tot]
  blk_point [iblk0, idx0 t]

theorem arr0m (c : Dev nD) : (dat0 V c).arrAt 6 cfg0.N
    = fun i => if (i 0 : ℕ) / 1 = 1 then moms (V c main_arg1) (layer (V c main_arg4)) i else V c main_v0_2 i := by
  refine (dat0 V c).arrAt_eq_of_coversWhere 6 _ (fun β => β (0 : Fin _) = 1) (by decide +kernel) (fun t hf y => ?_) (fun j => Iff.rfl)
  blk_simp
  rw [after0_6]
  frame_out
  pointwise [k0_pay4, k0_pay9, k0_pay13, k0g, moms, layer, mom, tot]
  blk_point [iblk0, idx0 t]

theorem arr0v (c : Dev nD) : (dat0 V c).arrAt 7 cfg0.N
    = fun i => if (i 0 : ℕ) / 1 = 1 then vars (V c main_arg2) (layer (V c main_arg4)) i else V c main_v0_3 i := by
  refine (dat0 V c).arrAt_eq_of_coversWhere 7 _ (fun β => β (0 : Fin _) = 1) (by decide +kernel) (fun t hf y => ?_) (fun j => Iff.rfl)
  blk_simp
  rw [after0_7]
  frame_out
  pointwise [k0_pay1, k0_pay5, k0_pay7, k0_pay10, k0_pay11, k0_pay12, k0_pay14, k0g, vars, layer, var, tot]
  blk_point [iblk0, idx0 t]

end Cert.Proof.Adam
-- ==== Proof.AdamRun.lean ====
/-
  A run of the optimiser's five calls leaves every buffer at the last boundary's contents, and what its sixteen results
  hold there.
-/
module

public import proofs.«01_k».proof.Proof.AdamSquare
public import proofs.«01_k».proof.Proof.AdamProj
public import proofs.«01_k».proof.Proof.AdamSmall
public import proofs.«01_k».proof.Proof.AdamLayer0
public import proofs.«01_k».proof.Proof.AdamLayer1
public import Idealize.ShloMosaic.Lib.Claim
public import Idealize.ShloMosaic.Lib.StableHlo.RunRead
public import Idealize.ShloMosaic.Lib.Tactic.CleanTypes

@[expose] public section

set_option maxRecDepth 16384

noncomputable section

namespace Cert.Proof.Adam

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair run ends, with every unscoped buffer at the last boundary's contents and every counter zero. -/
theorem run : θ_run defs (onTc (τ := τ) (main (F := Ideal))) ⟨m, fun _ => 0, ρ⟩ (fun r =>
      (∀ c : Dev nD, ∀ b ∈ Pipeline.ucRefs τ sig, r.2.mem (((c : Thread nD τ)).1, b) = W6 m ρ c b)
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-! ## The results -/

variable (c : Dev nD)

/-- The devices' gradients of a feed-forward weight's entry: of the first layer from `r0`, of the second from `r1`. -/
def both (r0 r1 : S8x704x2048.Idx → EReal) (j : S2x704x2048.Idx) : Fin 8 → EReal :=
  fun d => if (j 0).val = 0 then r0 (ix3 d (j 1) (j 2)) else r1 (ix3 d (j 1) (j 2))

/-- The feed-forward weights' gradients, as the devices sent them. -/
abbrev rL : S2x704x2048.Idx → Fin 8 → EReal := both (m (c.tc.loc main_arg3)) (m (c.tc.loc main_arg4))

/-- An array written in its second layer and then in its first holds both. -/
theorem glue (f : (S2x704x2048.Idx → Fin 8 → EReal) → S2x704x2048.Idx → EReal)
    (hf : ∀ r r' i, r i = r' i → f r i = f r' i) (r0 r1 : S8x704x2048.Idx → EReal) (z : S2x704x2048.Idx → EReal) :
    (fun i => if (i 0 : ℕ) / 1 = 0 then f (layer r0) i else if (i 0 : ℕ) / 1 = 1 then f (layer r1) i else z i)
      = f (both r0 r1) := by
  funext i
  have hi : (i 0 : ℕ) < 2 := (i 0).isLt
  by_cases h : (i 0 : ℕ) = 0
  · rw [if_pos (by omega)]
    refine hf _ _ _ (funext fun d => ?_)
    simp only [layer, both, if_pos h]
  · rw [if_neg (by omega), if_pos (by omega)]
    refine hf _ _ _ (funext fun d => ?_)
    simp only [layer, both, if_neg h]

theorem copy0 : V2 m ρ c main_v1_0 = V1 m ρ c main_v0_0 := by
  funext j
  show (StableHlo.after hostOps1 (W1 m ρ c)) (Proc.devRef .tc main_v1_0) j = _
  after_results_simp
  rfl

theorem copy1 : V2 m ρ c main_v1_1 = V1 m ρ c main_v0_1 := by
  funext j
  show (StableHlo.after hostOps1 (W1 m ρ c)) (Proc.devRef .tc main_v1_1) j = _
  after_results_simp
  rfl

theorem copy2 : V2 m ρ c main_v1_2 = V1 m ρ c main_v0_2 := by
  funext j
  show (StableHlo.after hostOps1 (W1 m ρ c)) (Proc.devRef .tc main_v1_2) j = _
  after_results_simp
  rfl

theorem copy3 : V2 m ρ c main_v1_3 = V1 m ρ c main_v0_3 := by
  funext j
  show (StableHlo.after hostOps1 (W1 m ρ c)) (Proc.devRef .tc main_v1_3) j = _
  after_results_simp
  rfl

/-- The first layer's call finds the arguments as launched. -/
theorem in2 (a : Ref sig .tc) (h : a ∈ argRefs) : V2 m ρ c a = m (c.tc.loc a) := W2_args m ρ c a h

theorem g3 : W3 m ρ c (Proc.devRef .tc main_v1_0) = grads (rL m c) := by
  refine (W3_arr m ρ c 4).trans ((arr1g (V2 m ρ) c).trans ?_)
  rw [copy0, show V1 m ρ c main_v0_0 = _ from (W1_arr m ρ c 4).trans (arr0g (V0 m ρ) c), in2 m ρ c main_arg3 (by simp)]
  exact glue grads (fun _ _ _ h => by simp only [grads, h]) _ _ _

theorem d3 : W3 m ρ c (Proc.devRef .tc main_v1_1)
    = steps (m (c.tc.loc main_arg0)) (m (c.tc.loc main_arg1)) (m (c.tc.loc main_arg2)) (rL m c) := by
  refine (W3_arr m ρ c 5).trans ((arr1d (V2 m ρ) c).trans ?_)
  rw [copy1, show V1 m ρ c main_v0_1 = _ from (W1_arr m ρ c 5).trans (arr0d (V0 m ρ) c), in2 m ρ c main_arg3 (by simp),
    in2 m ρ c main_arg0 (by simp), in2 m ρ c main_arg1 (by simp), in2 m ρ c main_arg2 (by simp)]
  exact glue (steps _ _ _) (fun _ _ _ h => by simp only [steps, h]) _ _ _

theorem m3 : W3 m ρ c (Proc.devRef .tc main_v1_2) = moms (m (c.tc.loc main_arg1)) (rL m c) := by
  refine (W3_arr m ρ c 6).trans ((arr1m (V2 m ρ) c).trans ?_)
  rw [copy2, show V1 m ρ c main_v0_2 = _ from (W1_arr m ρ c 6).trans (arr0m (V0 m ρ) c), in2 m ρ c main_arg3 (by simp),
    in2 m ρ c main_arg1 (by simp)]
  exact glue (moms _) (fun _ _ _ h => by simp only [moms, h]) _ _ _

theorem v3 : W3 m ρ c (Proc.devRef .tc main_v1_3) = vars (m (c.tc.loc main_arg2)) (rL m c) := by
  refine (W3_arr m ρ c 7).trans ((arr1v (V2 m ρ) c).trans ?_)
  rw [copy3, show V1 m ρ c main_v0_3 = _ from (W1_arr m ρ c 7).trans (arr0v (V0 m ρ) c), in2 m ρ c main_arg3 (by simp),
    in2 m ρ c main_arg2 (by simp)]
  exact glue (vars _) (fun _ _ _ h => by simp only [vars, h]) _ _ _

/-- What the feed-forward weights' calls leave, the later ones keep. -/
theorem from3 (r : Ref sig .tc) (h6 : ∀ w : Fin cfg4.W, Pipeline.arrRef spec4 w = r → (cfg4.win w).isOut = false)
    (h5 : ∀ w : Fin cfg3.W, Pipeline.arrRef spec3 w = r → (cfg3.win w).isOut = false)
    (h4 : ∀ w : Fin cfg2.W, Pipeline.arrRef spec2 w = r → (cfg2.win w).isOut = false) :
    W6 m ρ c (Proc.devRef .tc r) = W3 m ρ c (Proc.devRef .tc r) :=
  (W6_of m ρ c r h6).trans ((W5_of m ρ c r h5).trans (W4_of m ρ c r h4))

/-- What the square matrices' call leaves, the later ones keep. -/
theorem from4 (r : Ref sig .tc) (h6 : ∀ w : Fin cfg4.W, Pipeline.arrRef spec4 w = r → (cfg4.win w).isOut = false)
    (h5 : ∀ w : Fin cfg3.W, Pipeline.arrRef spec3 w = r → (cfg3.win w).isOut = false) :
    W6 m ρ c (Proc.devRef .tc r) = W4 m ρ c (Proc.devRef .tc r) :=
  (W6_of m ρ c r h6).trans (W5_of m ρ c r h5)

theorem in3 (a : Ref sig .tc) (h : a ∈ argRefs) : V3 m ρ c a = m (c.tc.loc a) := W3_args m ρ c a h
theorem in4 (a : Ref sig .tc) (h : a ∈ argRefs) : V4 m ρ c a = m (c.tc.loc a) := W4_args m ρ c a h
theorem in5 (a : Ref sig .tc) (h : a ∈ argRefs) : V5 m ρ c a = m (c.tc.loc a) := W5_args m ρ c a h

theorem g4 : W4 m ρ c (Proc.devRef .tc main_v2_0) = grads (parts (m (c.tc.loc main_arg8))) := by
  refine (W4_arr m ρ c 4).trans ((arr2g (V3 m ρ) c).trans ?_)
  rw [in3 m ρ c main_arg8 (by simp)]

theorem d4 : W4 m ρ c (Proc.devRef .tc main_v2_1) = steps (m (c.tc.loc main_arg5)) (m (c.tc.loc main_arg6))
    (m (c.tc.loc main_arg7)) (parts (m (c.tc.loc main_arg8))) := by
  refine (W4_arr m ρ c 5).trans ((arr2d (V3 m ρ) c).trans ?_)
  rw [in3 m ρ c main_arg5 (by simp), in3 m ρ c main_arg6 (by simp), in3 m ρ c main_arg7 (by simp), in3 m ρ c main_arg8 (by simp)]

theorem m4 : W4 m ρ c (Proc.devRef .tc main_v2_2) = moms (m (c.tc.loc main_arg6)) (parts (m (c.tc.loc main_arg8))) := by
  refine (W4_arr m ρ c 6).trans ((arr2m (V3 m ρ) c).trans ?_)
  rw [in3 m ρ c main_arg6 (by simp), in3 m ρ c main_arg8 (by simp)]

theorem v4 : W4 m ρ c (Proc.devRef .tc main_v2_3) = vars (m (c.tc.loc main_arg7)) (parts (m (c.tc.loc main_arg8))) := by
  refine (W4_arr m ρ c 7).trans ((arr2v (V3 m ρ) c).trans ?_)
  rw [in3 m ρ c main_arg7 (by simp), in3 m ρ c main_arg8 (by simp)]

theorem g5 : W5 m ρ c (Proc.devRef .tc main_v3_0) = grads (parts (m (c.tc.loc main_arg12))) := by
  refine (W5_arr m ρ c 4).trans ((arr3g (V4 m ρ) c).trans ?_)
  rw [in4 m ρ c main_arg12 (by simp)]

theorem d5 : W5 m ρ c (Proc.devRef .tc main_v3_1) = steps (m (c.tc.loc main_arg9)) (m (c.tc.loc main_arg10))
    (m (c.tc.loc main_arg11)) (parts (m (c.tc.loc main_arg12))) := by
  refine (W5_arr m ρ c 5).trans ((arr3d (V4 m ρ) c).trans ?_)
  rw [in4 m ρ c main_arg9 (by simp), in4 m ρ c main_arg10 (by simp), in4 m ρ c main_arg11 (by simp), in4 m ρ c main_arg12 (by simp)]

theorem m5 : W5 m ρ c (Proc.devRef .tc main_v3_2) = moms (m (c.tc.loc main_arg10)) (parts (m (c.tc.loc main_arg12))) := by
  refine (W5_arr m ρ c 6).trans ((arr3m (V4 m ρ) c).trans ?_)
  rw [in4 m ρ c main_arg10 (by simp), in4 m ρ c main_arg12 (by simp)]

theorem v5 : W5 m ρ c (Proc.devRef .tc main_v3_3) = vars (m (c.tc.loc main_arg11)) (parts (m (c.tc.loc main_arg12))) := by
  refine (W5_arr m ρ c 7).trans ((arr3v (V4 m ρ) c).trans ?_)
  rw [in4 m ρ c main_arg11 (by simp), in4 m ρ c main_arg12 (by simp)]

theorem g6 : W6 m ρ c (Proc.devRef .tc main_v4_0) = grads (parts (m (c.tc.loc main_arg16))) := by
  refine (W6_arr m ρ c 4).trans ((arr4g (V5 m ρ) c).trans ?_)
  rw [in5 m ρ c main_arg16 (by simp)]

theorem d6 : W6 m ρ c (Proc.devRef .tc main_v4_1) = steps (m (c.tc.loc main_arg13)) (m (c.tc.loc main_arg14))
    (m (c.tc.loc main_arg15)) (parts (m (c.tc.loc main_arg16))) := by
  refine (W6_arr m ρ c 5).trans ((arr4d (V5 m ρ) c).trans ?_)
  rw [in5 m ρ c main_arg13 (by simp), in5 m ρ c main_arg14 (by simp), in5 m ρ c main_arg15 (by simp), in5 m ρ c main_arg16 (by simp)]

theorem m6 : W6 m ρ c (Proc.devRef .tc main_v4_2) = moms (m (c.tc.loc main_arg14)) (parts (m (c.tc.loc main_arg16))) := by
  refine (W6_arr m ρ c 6).trans ((arr4m (V5 m ρ) c).trans ?_)
  rw [in5 m ρ c main_arg14 (by simp), in5 m ρ c main_arg16 (by simp)]

theorem v6 : W6 m ρ c (Proc.devRef .tc main_v4_3) = vars (m (c.tc.loc main_arg15)) (parts (m (c.tc.loc main_arg16))) := by
  refine (W6_arr m ρ c 7).trans ((arr4v (V5 m ρ) c).trans ?_)
  rw [in5 m ρ c main_arg15 (by simp), in5 m ρ c main_arg16 (by simp)]

end Cert.Proof.Adam
-- ==== Proof.AdamRef.lean ====
/-
  The optimiser's reference, read entry by entry: its terms for the gradients, the moments and the changes of the
  weights are the same functions of the entries as the calls'.
-/
module

public import proofs.«01_k».proof.Proof.AdamRun
public import proofs.«01_k».proof.Proof.FfnEq
public import proofs.«01_k».proof.Proof.Gen.Reference3Ideal.Run
public import Idealize.ShloMosaic.Lib.Tactic.CleanTypes

@[expose] public section

set_option maxRecDepth 16384

noncomputable section

namespace Cert.Proof.AdamRef

open Cert.Reference3Ideal Cert.Reference3Ideal.Gen Cert.Reference3Ideal.Value Idealize.SL.Sem
open Idealize.ShloMosaic Idealize.ShloMosaic.TcCoe Idealize.ShloMosaic.Tactic
open Cert.Proof.Adam

/-! ## The reference's terms, of any shape -/

section
variable {s : Shape} (h : S_.BroadcastsInDim s (![] : Fin 0 → Fin s.rank))

/-- The first moments. -/
def momT (m g : FVec Ideal s .f32) : FVec Ideal s .f32 :=
  addf (mulf (broadcastInDim s ![] h (constant S_ .f32 0x3F666666#32)) m) (mulf (broadcastInDim s ![] h (constant S_ .f32 0x3DCCCCCD#32)) g)
/-- The second moments. -/
def varT (v g : FVec Ideal s .f32) : FVec Ideal s .f32 :=
  addf (mulf (broadcastInDim s ![] h (constant S_ .f32 0x3F7FBE77#32)) v)
    (mulf (broadcastInDim s ![] h (constant S_ .f32 0x3A83126F#32)) (mulf g g))
/-- The changes of the weights. -/
def stepT (w m v : FVec Ideal s .f32) : FVec Ideal s .f32 :=
  mulf (broadcastInDim s ![] h (constant S_ .f32 0xBA83126F#32))
    (addf (Host.divf (Host.divf m (broadcastInDim s ![] h (constant S_ .f32 0x3F26BD02#32)))
        (addf (Host.sqrt (Host.divf v (broadcastInDim s ![] h (constant S_ .f32 0x3C231ACC#32))))
          (broadcastInDim s ![] h (constant S_ .f32 0x322BCC77#32))))
      (mulf (broadcastInDim s ![] h (constant S_ .f32 0x3C23D70A#32)) w))

variable {w w' m m' v v' g : FVec Ideal s .f32} {r : s.Idx → Fin 8 → EReal}

theorem mom_to (hm : m' = m) (hg : g = grads r) : momT h m' g = moms m r := by
  subst hm hg
  rfl

theorem var_to (hv : v' = v) (hg : g = grads r) : varT h v' g = vars v r := by
  subst hv hg
  rfl

theorem step_to (hw : w' = w) (hm : m' = m) (hv : v' = v) (hg : g = grads r) :
    stepT h w' (momT h m' g) (varT h v' g) = steps w m v r := by
  subst hw hm hv hg
  rfl
end

/-! ## The gradients -/

/-- The devices' gradients of a feed-forward weight's layer, added. -/
def layerT (r : FVec Ideal S8x704x2048 .bf16) : FVec Ideal S704x2048 .f32 :=
  Host.reduceAdd (extf .f32 r bitsLt_bf16_f32) (constant S_ .f32 0x00000000#32) reducesTo_S8x704x2048_S704x2048_d0 h_S_
/-- The two layers' gradients. -/
def pairT (r0 r1 : FVec Ideal S8x704x2048 .bf16) : FVec Ideal S2x704x2048 .f32 :=
  concatenate S2x704x2048 0 [⟨S1x704x2048, (broadcastInDim S1x704x2048 ![1, 2] bcast_S704x2048_S1x704x2048_1_2 (layerT r0))⟩,
    ⟨S1x704x2048, (broadcastInDim S1x704x2048 ![1, 2] bcast_S704x2048_S1x704x2048_1_2 (layerT r1))⟩]
    concatenates_S1x704x2048_S1x704x2048_S2x704x2048_d0
/-- A square matrix' gradients, added. -/
def squareT (r : FVec Ideal S8x256x2048 .bf16) : FVec Ideal S256x2048 .f32 :=
  Host.reduceAdd (extf .f32 r bitsLt_bf16_f32) (constant S_ .f32 0x00000000#32) reducesTo_S8x256x2048_S256x2048_d0 h_S_
/-- A projection's gradients, added. -/
def projT (r : FVec Ideal S8x2048x768 .bf16) : FVec Ideal S2048x768 .f32 :=
  Host.reduceAdd (extf .f32 r bitsLt_bf16_f32) (constant S_ .f32 0x00000000#32) reducesTo_S8x2048x768_S2048x768_d0 h_S_
/-- The small parameters' gradients, added. -/
def smallT (r : FVec Ideal S8x4416x128 .f32) : FVec Ideal S4416x128 .f32 :=
  Host.reduceAdd r (constant S_ .f32 0x00000000#32) reducesTo_S8x4416x128_S4416x128_d0 h_S_

theorem layer_at (r : FVec Ideal S8x704x2048 .bf16) (a : Fin 704) (b : Fin 2048) :
    layerT r (ix2 a b) = ∑ d : Fin 8, r (ix3 d a b) := by
  pointwise [layerT]

theorem pair_at0 (r0 r1 : FVec Ideal S8x704x2048 .bf16) (a : Fin 704) (b : Fin 2048) :
    pairT r0 r1 (ix3 0 a b) = ∑ d : Fin 8, r0 (ix3 d a b) := by
  pointwise [pairT, layer_at]

theorem pair_at1 (r0 r1 : FVec Ideal S8x704x2048 .bf16) (a : Fin 704) (b : Fin 2048) :
    pairT r0 r1 (ix3 1 a b) = ∑ d : Fin 8, r1 (ix3 d a b) := by
  pointwise [pairT, layer_at]

theorem square_at (r : FVec Ideal S8x256x2048 .bf16) (a : Fin 256) (b : Fin 2048) :
    squareT r (ix2 a b) = ∑ d : Fin 8, r (ix3 d a b) := by
  pointwise [squareT]

theorem proj_at (r : FVec Ideal S8x2048x768 .bf16) (a : Fin 2048) (b : Fin 768) :
    projT r (ix2 a b) = ∑ d : Fin 8, r (ix3 d a b) := by
  pointwise [projT]

theorem small_at (r : FVec Ideal S8x4416x128 .f32) (a : Fin 4416) (b : Fin 128) :
    smallT r (ix2 a b) = ∑ d : Fin 8, r (ix3 d a b) := by
  pointwise [smallT]

theorem pair_eq (r0 r1 : FVec Ideal S8x704x2048 .bf16) : pairT r0 r1 = grads (both r0 r1) := by
  funext j
  obtain ⟨l, a, b, rfl⟩ := FfnEq.exists3 j
  fin_cases l
  · exact pair_at0 r0 r1 a b
  · exact pair_at1 r0 r1 a b

theorem square_eq (r : FVec Ideal S8x256x2048 .bf16) : squareT r = grads (parts r) := by
  funext j
  obtain ⟨a, b, rfl⟩ := FfnEq.exists2 j
  exact square_at r a b

theorem proj_eq (r : FVec Ideal S8x2048x768 .bf16) : projT r = grads (parts r) := by
  funext j
  obtain ⟨a, b, rfl⟩ := FfnEq.exists2 j
  exact proj_at r a b

theorem small_eq (r : FVec Ideal S8x4416x128 .f32) : smallT r = grads (parts r) := by
  funext j
  obtain ⟨a, b, rfl⟩ := FfnEq.exists2 j
  exact small_at r a b

theorem pair_to {r0 r0' r1 r1' : FVec Ideal S8x704x2048 .bf16} (h0 : r0' = r0) (h1 : r1' = r1) :
    pairT r0' r1' = grads (both r0 r1) := by
  subst h0 h1
  exact pair_eq _ _

theorem square_to {r r' : FVec Ideal S8x256x2048 .bf16} (h : r' = r) : squareT r' = grads (parts r) := by
  subst h
  exact square_eq _

theorem proj_to {r r' : FVec Ideal S8x2048x768 .bf16} (h : r' = r) : projT r' = grads (parts r) := by
  subst h
  exact proj_eq _

theorem small_to {r r' : FVec Ideal S8x4416x128 .f32} (h : r' = r) : smallT r' = grads (parts r) := by
  subst h
  exact small_eq _

end Cert.Proof.AdamRef
-- ==== Proof.AdamClaim.lean ====
/-
  The optimiser's algebraic claim: the five calls and the reference leave the same sixteen results.
-/
module

public import proofs.«01_k».proof.Proof.AdamRef
public import proofs.«01_k».proof.Defs

@[expose] public section

set_option maxRecDepth 16384
set_option maxHeartbeats 4000000

noncomputable section

namespace Cert.Proof.AdamClaim

open Idealize.ShloMosaic Idealize.ShloMosaic.TcCoe Idealize.SL.Sem
open Cert.Proof.Adam Cert.Proof.AdamRef

/-- The memory of the five calls. -/
abbrev MemK := (ℓ : Loc Cert.Kernel3Ideal.nD Cert.Kernel3Ideal.τ Cert.Kernel3Ideal.sig) → Buf (Elt Ideal) ℓ
/-- The reference's memory. -/
abbrev MemR := (ℓ : Loc Cert.Reference3Ideal.nD Cert.Reference3Ideal.τ Cert.Reference3Ideal.sig) → Buf (Elt Ideal) ℓ

attribute [local instance] Cert.Kernel3Ideal.Gen.facts Cert.Reference3Ideal.Gen.facts

open Cert.Kernel3Ideal Cert.Kernel3Ideal.Gen in
theorem algebraic : Cert.algebraic_Kernel3Ideal_Reference3Ideal := by
  intro m g m' g' _ hargs
  refine ⟨fun c => grads (rL m c),
    fun c => steps (m (c.tc.loc main_arg0)) (m (c.tc.loc main_arg1)) (m (c.tc.loc main_arg2)) (rL m c),
    fun c => moms (m (c.tc.loc main_arg1)) (rL m c),
    fun c => vars (m (c.tc.loc main_arg2)) (rL m c),
    fun c => grads (parts (m (c.tc.loc main_arg8))),
    fun c => steps (m (c.tc.loc main_arg5)) (m (c.tc.loc main_arg6)) (m (c.tc.loc main_arg7)) (parts (m (c.tc.loc main_arg8))),
    fun c => moms (m (c.tc.loc main_arg6)) (parts (m (c.tc.loc main_arg8))),
    fun c => vars (m (c.tc.loc main_arg7)) (parts (m (c.tc.loc main_arg8))),
    fun c => grads (parts (m (c.tc.loc main_arg12))),
    fun c => steps (m (c.tc.loc main_arg9)) (m (c.tc.loc main_arg10)) (m (c.tc.loc main_arg11)) (parts (m (c.tc.loc main_arg12))),
    fun c => moms (m (c.tc.loc main_arg10)) (parts (m (c.tc.loc main_arg12))),
    fun c => vars (m (c.tc.loc main_arg11)) (parts (m (c.tc.loc main_arg12))),
    fun c => grads (parts (m (c.tc.loc main_arg16))),
    fun c => steps (m (c.tc.loc main_arg13)) (m (c.tc.loc main_arg14)) (m (c.tc.loc main_arg15)) (parts (m (c.tc.loc main_arg16))),
    fun c => moms (m (c.tc.loc main_arg14)) (parts (m (c.tc.loc main_arg16))),
    fun c => vars (m (c.tc.loc main_arg15)) (parts (m (c.tc.loc main_arg16))),
    (θ_run _ _ _).mono (fun r h c => ?_) (Adam.run m g),
    (θ_run _ _ _).mono (fun r h c => ?_) (Cert.Reference3Ideal.Value.run (F := Ideal) m' g')⟩
  · have hb := h.1 c
    exact ⟨(hb _ (mem_uc main_v1_0 (by decide))).trans ((from3 m g c main_v1_0 (by decide) (by decide) (by decide)).trans (g3 m g c)),
      (hb _ (mem_uc main_v1_1 (by decide))).trans ((from3 m g c main_v1_1 (by decide) (by decide) (by decide)).trans (d3 m g c)),
      (hb _ (mem_uc main_v1_2 (by decide))).trans ((from3 m g c main_v1_2 (by decide) (by decide) (by decide)).trans (m3 m g c)),
      (hb _ (mem_uc main_v1_3 (by decide))).trans ((from3 m g c main_v1_3 (by decide) (by decide) (by decide)).trans (v3 m g c)),
      (hb _ (mem_uc main_v2_0 (by decide))).trans ((from4 m g c main_v2_0 (by decide) (by decide)).trans (g4 m g c)),
      (hb _ (mem_uc main_v2_1 (by decide))).trans ((from4 m g c main_v2_1 (by decide) (by decide)).trans (d4 m g c)),
      (hb _ (mem_uc main_v2_2 (by decide))).trans ((from4 m g c main_v2_2 (by decide) (by decide)).trans (m4 m g c)),
      (hb _ (mem_uc main_v2_3 (by decide))).trans ((from4 m g c main_v2_3 (by decide) (by decide)).trans (v4 m g c)),
      (hb _ (mem_uc main_v3_0 (by decide))).trans ((W6_of m g c main_v3_0 (by decide)).trans (g5 m g c)),
      (hb _ (mem_uc main_v3_1 (by decide))).trans ((W6_of m g c main_v3_1 (by decide)).trans (d5 m g c)),
      (hb _ (mem_uc main_v3_2 (by decide))).trans ((W6_of m g c main_v3_2 (by decide)).trans (m5 m g c)),
      (hb _ (mem_uc main_v3_3 (by decide))).trans ((W6_of m g c main_v3_3 (by decide)).trans (v5 m g c)),
      (hb _ (mem_uc main_v4_0 (by decide))).trans ((g6 m g c)),
      (hb _ (mem_uc main_v4_1 (by decide))).trans ((d6 m g c)),
      (hb _ (mem_uc main_v4_2 (by decide))).trans ((m6 m g c)),
      (hb _ (mem_uc main_v4_3 (by decide))).trans ((v6 m g c)),
      (hb _ (mem_uc main_arg0 (by decide))).trans (W6_main_arg0 m g c),
      (hb _ (mem_uc main_arg1 (by decide))).trans (W6_main_arg1 m g c),
      (hb _ (mem_uc main_arg2 (by decide))).trans (W6_main_arg2 m g c),
      (hb _ (mem_uc main_arg3 (by decide))).trans (W6_main_arg3 m g c),
      (hb _ (mem_uc main_arg4 (by decide))).trans (W6_main_arg4 m g c),
      (hb _ (mem_uc main_arg5 (by decide))).trans (W6_main_arg5 m g c),
      (hb _ (mem_uc main_arg6 (by decide))).trans (W6_main_arg6 m g c),
      (hb _ (mem_uc main_arg7 (by decide))).trans (W6_main_arg7 m g c),
      (hb _ (mem_uc main_arg8 (by decide))).trans (W6_main_arg8 m g c),
      (hb _ (mem_uc main_arg9 (by decide))).trans (W6_main_arg9 m g c),
      (hb _ (mem_uc main_arg10 (by decide))).trans (W6_main_arg10 m g c),
      (hb _ (mem_uc main_arg11 (by decide))).trans (W6_main_arg11 m g c),
      (hb _ (mem_uc main_arg12 (by decide))).trans (W6_main_arg12 m g c),
      (hb _ (mem_uc main_arg13 (by decide))).trans (W6_main_arg13 m g c),
      (hb _ (mem_uc main_arg14 (by decide))).trans (W6_main_arg14 m g c),
      (hb _ (mem_uc main_arg15 (by decide))).trans (W6_main_arg15 m g c),
      (hb _ (mem_uc main_arg16 (by decide))).trans (W6_main_arg16 m g c)⟩
  · obtain ⟨a0, a1, a2, a3, a4, a5, a6, a7, a8, a9, a10, a11, a12, a13, a14, a15, a16⟩ := hargs c
    exact ⟨(h c).1.trans (pair_to a3 a4),
      (h c).2.1.trans (step_to _ a0 a1 a2 (pair_to a3 a4)),
      (h c).2.2.1.trans (mom_to _ a1 (pair_to a3 a4)),
      (h c).2.2.2.1.trans (var_to _ a2 (pair_to a3 a4)),
      (h c).2.2.2.2.1.trans (square_to a8),
      (h c).2.2.2.2.2.1.trans (step_to _ a5 a6 a7 (square_to a8)),
      (h c).2.2.2.2.2.2.1.trans (mom_to _ a6 (square_to a8)),
      (h c).2.2.2.2.2.2.2.1.trans (var_to _ a7 (square_to a8)),
      (h c).2.2.2.2.2.2.2.2.1.trans (proj_to a12),
      (h c).2.2.2.2.2.2.2.2.2.1.trans (step_to _ a9 a10 a11 (proj_to a12)),
      (h c).2.2.2.2.2.2.2.2.2.2.1.trans (mom_to _ a10 (proj_to a12)),
      (h c).2.2.2.2.2.2.2.2.2.2.2.1.trans (var_to _ a11 (proj_to a12)),
      (h c).2.2.2.2.2.2.2.2.2.2.2.2.1.trans (small_to a16),
      (h c).2.2.2.2.2.2.2.2.2.2.2.2.2.1.trans (step_to _ a13 a14 a15 (small_to a16)),
      (h c).2.2.2.2.2.2.2.2.2.2.2.2.2.2.1.trans (mom_to _ a14 (small_to a16)),
      (h c).2.2.2.2.2.2.2.2.2.2.2.2.2.2.2.1.trans (var_to _ a15 (small_to a16)),
      (h c).2.2.2.2.2.2.2.2.2.2.2.2.2.2.2.2⟩

end Cert.Proof.AdamClaim
-- ==== Proof.LossSpec.lean ====
/-
  The loss head in plain words: the loss is half the sum of the errors' squares over the width, and its gradient is
  the error over the width.
-/
module

public import proofs.«01_k».proof.Proof.Gen.Kernel4Ideal.Frame
public import Idealize.ShloMosaic.Lib.Pipeline.ValueKit
public import Idealize.ShloMosaic.Lib.Pointwise

@[expose] public section

set_option maxRecDepth 16384

noncomputable section

namespace Cert.Proof.Loss

open Cert.Kernel4Ideal Cert.Kernel4Ideal.Gen
open Idealize.ShloMosaic

/-- The width, two thousand and forty eight. -/
theorem width_eq : Ideal.ofBits .f32 0x45000000#32 = (((2048 : ℝ)) : EReal) := by
  simp [Ideal.ofBits, Ideal.ieee, -EReal.coe_mul]; norm_num

/-- A half. -/
theorem half_eq : Ideal.ofBits .f32 0x3F000000#32 = (((1 : ℝ) / 2 : ℝ) : EReal) := by
  simp [Ideal.ofBits, Ideal.ieee, -EReal.coe_mul]; norm_num

/-- Two. -/
theorem two_eq : Ideal.ofBits .f32 0x40000000#32 = (((2 : ℝ)) : EReal) := by
  simp [Ideal.ofBits, Ideal.ieee, -EReal.coe_mul]; norm_num

/-- Division by the width is multiplication by its inverse. -/
theorem div_width (x : EReal) : Ideal.div x (Ideal.ofBits .f32 0x45000000#32) = x * (((1 : ℝ) / 2048 : ℝ) : EReal) := by
  rw [width_eq, Ideal.div, if_neg (by norm_cast), ← EReal.coe_inv]
  norm_num

/-- A square is not negative, at the infinities neither. -/
theorem square_nonneg (e : EReal) : 0 ≤ e * e := by
  rcases le_total 0 e with h | h
  · exact mul_nonneg h h
  · rw [← neg_mul_neg]
    exact mul_nonneg (EReal.neg_nonneg.mpr h) (EReal.neg_nonneg.mpr h)

/-- A sum of terms that are not negative is divided by the width term by term. -/
theorem sum_mul_width {ι : Type} (s : Finset ι) (f : ι → EReal) (hf : ∀ i, 0 ≤ f i) (k : EReal) :
    (∑ i ∈ s, f i) * k = ∑ i ∈ s, f i * k := by
  classical
  induction s using Finset.induction_on with
  | empty => simp
  | insert a s ha ih =>
    rw [Finset.sum_insert ha, Finset.sum_insert ha,
      EReal.right_distrib_of_nonneg (hf a) (Finset.sum_nonneg fun i _ => hf i), ih]

/-- A sum over the blocks of 256 rows is a sum over the rows. -/
theorem sum_rows (f : Fin 4096 → EReal) :
    ∑ s : Fin 16, ∑ k : Fin 256, f ⟨256 * s.val + k.val, by omega⟩ = ∑ l, f l :=
  Fin.sum_mul_add_congr fun s k _ => congrArg f (Fin.ext (by show 256 * s.val + k.val = s.val * 256 + k.val; omega))

/-- Twice a half of the error over the width is the error over the width. -/
theorem grad_eq (e : EReal) :
    Ideal.div (Ideal.ofBits .f32 0x3F000000#32) (Ideal.ofBits .f32 0x45000000#32)
      * (Ideal.ofBits .f32 0x40000000#32 * e) = Ideal.div e (Ideal.ofBits .f32 0x45000000#32) := by
  rw [div_width, div_width, half_eq, two_eq, ← mul_assoc, ← EReal.coe_mul, ← EReal.coe_mul, mul_comm]
  norm_num

/-- The gradient of the loss: the error over the width. -/
def grad (y t : S4096x2048.Idx → EReal) : S4096x2048.Idx → EReal := fun i =>
  Ideal.div (y i - t i) (Ideal.ofBits .f32 0x45000000#32)

/-- The square of the error at row `r` and column `j`. -/
def square (y t : S4096x2048.Idx → EReal) (r : Fin 4096) (j : Fin 2048) : EReal :=
  (y (ix2 r j) - t (ix2 r j)) * (y (ix2 r j) - t (ix2 r j))

/-- The sums of the squares down the columns. -/
def columns (y t : S4096x2048.Idx → EReal) : S1x2048.Idx → EReal := fun j => ∑ r : Fin 4096, square y t r (j 1)

/-- The loss: half the sum of the rows' mean squares. -/
def loss (y t : S4096x2048.Idx → EReal) : S_.Idx → EReal := fun _ =>
  Ideal.ofBits .f32 0x3F000000#32
    * ∑ r : Fin 4096, Ideal.div (∑ j : Fin 2048, square y t r j) (Ideal.ofBits .f32 0x45000000#32)

/-- The rows' mean squares summed are the columns' sums summed over the width. -/
theorem mean_eq (y t : S4096x2048.Idx → EReal) :
    Ideal.div (∑ j : Fin 2048, ∑ r : Fin 4096, square y t r j) (Ideal.ofBits .f32 0x45000000#32)
      = ∑ r : Fin 4096, Ideal.div (∑ j : Fin 2048, square y t r j) (Ideal.ofBits .f32 0x45000000#32) := by
  simp only [div_width]
  rw [Finset.sum_comm]
  exact sum_mul_width _ (fun r => ∑ j, square y t r j) (fun r => Finset.sum_nonneg fun j _ => square_nonneg _) _

end Cert.Proof.Loss
-- ==== Proof.LossArr.lean ====
/-
  What the loss head's call leaves: the gradient twice, and the sums of the errors' squares down the columns.
-/
module

public import proofs.«01_k».proof.Proof.LossSpec

@[expose] public section

set_option maxRecDepth 16384

noncomputable section

namespace Cert.Proof.Loss

open Cert.Kernel4Ideal Cert.Kernel4Ideal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The blocks of the call: rows `256 t, …` and all of the columns' sums. -/
theorem idx0 : ∀ t, win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![0, 0] ∧ (grid0.coords t 0).val = t.val := by decide +kernel

/-- After the call its first result holds the gradient. -/
theorem arr0_2 (c : Dev nD) : (dats m 0 c).arrAt 2 cfg0.N = grad (V m c main_arg0) (V m c main_arg1) := by
  refine (dats m 0 c).arrAt_eq_of_covers 2 _ (by decide +kernel) fun t hf y => ?_
  blk_simp
  rw [after0_2]
  by_cases h0 : t.val % 16 = 0
  · rw [outsAt0_A m c t h0]
    frame_out
    pointwise [k0_pay2, k0_pay1, grad]
    blk_point [iblk, idx0 t]
  · rw [outsAt0_B m c t h0]
    frame_out
    pointwise [k0_pay2, k0_pay1, grad]
    blk_point [iblk, idx0 t]

/-- After the call its second result holds the gradient too. -/
theorem arr0_3 (c : Dev nD) : (dats m 0 c).arrAt 3 cfg0.N = grad (V m c main_arg0) (V m c main_arg1) := by
  refine (dats m 0 c).arrAt_eq_of_covers 3 _ (by decide +kernel) fun t hf y => ?_
  blk_simp
  rw [after0_3]
  by_cases h0 : t.val % 16 = 0
  · rw [outsAt0_A m c t h0]
    frame_out
    pointwise [k0_pay3, k0_pay2, k0_pay1, grad]
    blk_point [iblk, idx0 t]
  · rw [outsAt0_B m c t h0]
    frame_out
    pointwise [k0_pay3, k0_pay2, k0_pay1, grad]
    blk_point [iblk, idx0 t]

/-- The rows of one point, in the columns' sums. -/
def term0 (x y : S4096x2048.Idx → EReal) (s : Fin 16) (j : S1x2048.Idx) : EReal :=
  ∑ k : Fin 256, square x y ⟨256 * s.val + k.val, by omega⟩ (j 1)

/-- What a point adds to the columns' sums. -/
theorem pay0 (c : Dev nD) (t : Fin cfg0.N) (v : S1x2048.Idx → EReal) (j : S1x2048.Idx) :
    k0_pay5 (iblk m c 0 t) (iblk m c 1 t) v j
      = v j + term0 (V m c main_arg0) (V m c main_arg1) (t.cast N_0) j := by
  pointwise [k0_pay5, k0_pay1, term0, square]
  blk_point [iblk, idx0 t]

/-- After the last point the third result's buffer holds the sum of what the points add. -/
theorem acc0 (c : Dev nD) (j : S1x2048.Idx) :
    (outsAt0 m c t0_15.val t0_15.isLt).2.2 j = columns (V m c main_arg0) (V m c main_arg1) j := by
  refine (Pipeline.eq_sum_fin_of_reset_step_apply_last (fun n h => (outsAt0 m c n h).2.2) 16 (fun _ => (0 : EReal))
    (fun t j => term0 (V m c main_arg0) (V m c main_arg1) (t.cast N_0) j)
    (fun t h i => by
      rw [outsAt0_A m c t h]
      frame_out
      refine (pay0 m c t _ i).trans ?_
      pointwise [k0_pay4])
    (fun t h i => by
      rw [outsAt0_B m c t h]
      frame_out
      exact pay0 m c t _ i) (le_of_eq N_0) t0_15 rfl j).trans ?_
  rw [zero_add]
  refine (Fintype.sum_equiv (finCongr N_0) _ (fun s : Fin 16 => term0 (V m c main_arg0) (V m c main_arg1) s j)
    fun _ => rfl).trans ?_
  exact sum_rows fun r => square (V m c main_arg0) (V m c main_arg1) r (j 1)

/-- After the call its third result holds the columns' sums. -/
theorem arr0_4 (c : Dev nD) : (dats m 0 c).arrAt 4 cfg0.N = columns (V m c main_arg0) (V m c main_arg1) := by
  refine (dats m 0 c).arrAt_eq_of_after_last 4 t0_15 (by decide +kernel) _ fun j => ?_
  blk_simp
  rw [after0_4]
  exact acc0 m c j

end Cert.Proof.Loss
-- ==== Proof.LossRun.lean ====
/-
  The loss head's run: the call, and the host's operations after it, which make the loss of the columns' sums.
-/
module

public import proofs.«01_k».proof.Proof.LossArr

@[expose] public section

set_option maxRecDepth 16384
set_option maxHeartbeats 2000000

noncomputable section

namespace Cert.Proof.Loss

open Idealize.ShloMosaic Idealize.ShloMosaic.TcCoe Idealize.ShloMosaic.Tactic Idealize.SL.Sem

open Cert.Kernel4Ideal Cert.Kernel4Ideal.Gen

variable (m : (ℓ : Loc nD τ sig) → Buf (Elt Ideal) ℓ)

/-- The host's operations after the call make the loss of the columns' sums. -/
theorem loss_of_columns (y t : S4096x2048.Idx → EReal) :
    mulf (F := Ideal) (constant S_ .f32 0x3F000000#32)
      (Host.divf (Host.reduceAdd (columns y t) (constant S_ .f32 0x00000000#32) reducesTo_S1x2048_S_d0_1 h_S_)
        (constant S_ .f32 0x45000000#32)) = loss y t := by
  funext i
  pointwise [loss, columns]
  exact congrArg _ ((congrArg (fun v => Ideal.div v (Ideal.ofBits .f32 0x45000000#32)) (Fin.sum_univ_one _)).trans (mean_eq y t))

/-- What the host's operations leave, of any memory at their start. -/
theorem tail_eq (W : Valuation τ sig (Elt Ideal)) :
    (StableHlo.after hostOps1 W) (Proc.devRef .tc main_v3)
      = mulf (F := Ideal) (constant S_ .f32 0x3F000000#32)
      (Host.divf (Host.reduceAdd (W (Proc.devRef .tc main_v0_2) : S1x2048.Idx → EReal) (constant S_ .f32 0x00000000#32)
        reducesTo_S1x2048_S_d0_1 h_S_) (constant S_ .f32 0x45000000#32)) := by
  after_results_simp

/-- After the host's operations the loss is there. -/
theorem loss_eq (c : Dev nD) :
    Pipeline.afterTail₀ cfgs (dats m) 0 (V0 m) [hostOps1] c main_v3 = loss (V m c main_arg0) (V m c main_arg1) := by
  refine (tail_eq _).trans (Eq.trans (congrArg (fun v : S1x2048.Idx → EReal => mulf (F := Ideal)
    (constant S_ .f32 0x3F000000#32) (Host.divf (Host.reduceAdd v (constant S_ .f32 0x00000000#32)
      reducesTo_S1x2048_S_d0_1 h_S_) (constant S_ .f32 0x45000000#32))) ?_) (loss_of_columns (V m c main_arg0) (V m c main_arg1)))
  exact (Pipeline.withArrays_arr spec0 launch0.win.arr_inj c (V0 m c) (fun w => (dats m 0 c).arrAt w cfg0.N) 4).trans (arr0_4 m c)

/-- The kernel's run: the loss, the gradient twice, and the arguments as they were. -/
theorem run (ρ : Dev nD → PrngReg) :
    θ_run (defs (F := Ideal)) (onTc (τ := τ) (main (F := Ideal))) ⟨m, fun _ => 0, ρ⟩ fun r => ∀ c : Dev nD,
      r.2.mem (c.tc.loc main_v3) = loss (m (c.tc.loc main_arg0)) (m (c.tc.loc main_arg1))
      ∧ r.2.mem (c.tc.loc main_v0_0) = grad (m (c.tc.loc main_arg0)) (m (c.tc.loc main_arg1))
      ∧ r.2.mem (c.tc.loc main_v0_1) = grad (m (c.tc.loc main_arg0)) (m (c.tc.loc main_arg1))
      ∧ r.2.mem (c.tc.loc main_arg0) = m (c.tc.loc main_arg0)
      ∧ r.2.mem (c.tc.loc main_arg1) = m (c.tc.loc main_arg1) :=
  (θ_run _ _ _).mono (fun r h c => ⟨((h.1 c).2 main_v3 (by decide)).trans (loss_eq m c),
    ((h.1 c).1 2).trans (arr0_2 m c), ((h.1 c).1 3).trans (arr0_3 m c),
    ((h.1 c).1 0).trans (((dats m 0 c).arrAt_in 0 rfl _).trans (A_eq m c 0)),
    ((h.1 c).1 1).trans (((dats m 0 c).arrAt_in 1 rfl _).trans (A_eq m c 1))⟩) (run_main_quiescent m ρ)

end Cert.Proof.Loss
-- ==== Proof.LossClaim.lean ====
/-
  The loss head's algebraic claim: the call with the host's operations after it, and the reference, leave the same
  loss and the same gradient.
-/
module

public import proofs.«01_k».proof.Proof.LossRun
public import proofs.«01_k».proof.Proof.Gen.Reference4Ideal.Run
public import proofs.«01_k».proof.Defs

@[expose] public section

set_option maxRecDepth 16384
set_option maxHeartbeats 2000000

noncomputable section

namespace Cert.Proof.Loss

open Idealize.ShloMosaic Idealize.ShloMosaic.TcCoe Idealize.ShloMosaic.Tactic Idealize.SL.Sem

section Reference

open Cert.Reference4Ideal Cert.Reference4Ideal.Gen

/-- The reference's loss. -/
theorem ref_loss (y t : S4096x2048.Idx → EReal) :
    mulf (F := Ideal) (constant S_ .f32 0x3F000000#32)
      (Host.reduceAdd (Host.divf (Host.reduceAdd (mulf (F := Ideal) (φ := .f32) (subf (F := Ideal) (φ := .f32) y t)
        (subf (F := Ideal) (φ := .f32) y t)) (constant S_ .f32 0x00000000#32) reducesTo_S4096x2048_S4096_d1 h_S_)
        (broadcastInDim S4096 ![] bcast_S_S4096 (constant S_ .f32 0x45000000#32))) (constant S_ .f32 0x00000000#32)
        reducesTo_S4096_S_d0 h_S_) = loss y t := by
  funext i
  pointwise [loss, square]

/-- The reference's gradient. -/
theorem ref_grad (y t : S4096x2048.Idx → EReal) :
    mulf (F := Ideal) (broadcastInDim S4096x2048 ![0] bcast_S4096_S4096x2048_0
      (Host.divf (broadcastInDim S4096 ![] bcast_S_S4096 (mulf (constant S_ .f32 0x3F000000#32) (constant S_ .f32 0x3F800000#32)))
        (broadcastInDim S4096 ![] bcast_S_S4096 (constant S_ .f32 0x45000000#32))))
      (mulf (broadcastInDim S4096x2048 ![] bcast_S_S4096x2048 (constant S_ .f32 0x40000000#32))
        (subf (F := Ideal) (φ := .f32) y t)) = grad y t := by
  funext i
  pointwise [grad]
  exact grad_eq _

end Reference

/-- The kernel and the reference leave the same loss and the same gradient. -/
theorem algebraic : Cert.algebraic_Kernel4Ideal_Reference4Ideal := by
  intro m g m' g' _ hargs
  refine ⟨fun c => loss (m (c.tc.loc Cert.Kernel4Ideal.main_arg0)) (m (c.tc.loc Cert.Kernel4Ideal.main_arg1)),
    fun c => grad (m (c.tc.loc Cert.Kernel4Ideal.main_arg0)) (m (c.tc.loc Cert.Kernel4Ideal.main_arg1)),
    fun c => grad (m (c.tc.loc Cert.Kernel4Ideal.main_arg0)) (m (c.tc.loc Cert.Kernel4Ideal.main_arg1)),
    (θ_run _ _ _).mono (fun r h c => ?_) (run m g),
    (θ_run _ _ _).mono (fun r h c => ?_) (Cert.Reference4Ideal.Value.run (F := Ideal) m' g')⟩
  · exact ⟨(h c).1, (h c).2.1, (h c).2.2.1, (h c).2.2.2.1, (h c).2.2.2.2⟩
  · obtain ⟨a0, a1⟩ := hargs c
    exact ⟨(h c).1.trans ((ref_loss _ _).trans (congrArg₂ loss a0 a1)),
      (h c).2.1.trans ((ref_grad _ _).trans (congrArg₂ grad a0 a1)),
      (h c).2.2.1.trans ((ref_grad _ _).trans (congrArg₂ grad a0 a1)),
      (h c).2.2.2.1, (h c).2.2.2.2⟩

end Cert.Proof.Loss
-- ==== Proof.AttSpec.lean ====
/-
  The arrays that the attention's block leaves around its heads, as functions of the arrays that its eight calls
  read.  The weight of the three projections is held in eight slabs of 768 of its columns, that of the out-projection
  in eight slabs of 256 of its rows.
-/
module

public import proofs.«01_k».proof.Proof.Gen.Kernel5Ideal.Frame
public import proofs.«01_k».proof.Proof.FfnArr8

@[expose] public section

set_option maxRecDepth 16384

noncomputable section

namespace Cert.Proof.Att

open Cert.Kernel5Ideal
open Idealize.ShloMosaic

/-- The rows of `h` against the slabs of the projections' weight: slab, row, position in the slab. -/
def cols (h : S4096x2048.Idx → EReal) (w : S8x2048x768.Idx → EReal) : S8x4096x768.Idx → EReal :=
  fun j => ∑ k : Fin 2048, h (ix2 (j 1) k) * w (ix3 (j 0) k (j 2))

/-- Row `k` of a weight held in slabs of its rows. -/
def row (w : S8x256x2048.Idx → EReal) (k c : Fin 2048) : EReal :=
  w (ix3 ⟨k.val / 256, by omega⟩ ⟨k.val % 256, by omega⟩ c)

/-- The block's result: its argument plus the out-projection of the heads' rows. -/
def out (o : S4096x2048.Idx → EReal) (w : S8x256x2048.Idx → EReal) (x : S4096x2048.Idx → EReal) :
    S4096x2048.Idx → EReal :=
  fun j => x j + ∑ k : Fin 2048, o (ix2 (j 0) k) * row w k (j 1)

/-- The gradient of the heads' rows. -/
def gradO (d : S4096x2048.Idx → EReal) (w : S8x256x2048.Idx → EReal) : S4096x2048.Idx → EReal :=
  fun j => ∑ k : Fin 2048, d (ix2 (j 0) k) * row w (j 1) k

/-- The gradient of the out-projection's weight. -/
def gradWo (o d : S4096x2048.Idx → EReal) : S2048x2048.Idx → EReal :=
  fun j => ∑ k : Fin 4096, o (ix2 k (j 0)) * d (ix2 k (j 1))

/-- The gradient of the projections' weight, in its slabs. -/
def gradW (h : S4096x2048.Idx → EReal) (q : S8x4096x768.Idx → EReal) : S8x2048x768.Idx → EReal :=
  fun j => ∑ k : Fin 4096, h (ix2 k (j 1)) * q (ix3 (j 0) k (j 2))

/-- The gradient of the normalised rows: a sum over the slabs. -/
def gradH (q : S8x4096x768.Idx → EReal) (w : S8x2048x768.Idx → EReal) : S4096x2048.Idx → EReal :=
  fun j => ∑ s : Fin 8, ∑ k : Fin 768, q (ix3 s (j 0) k) * w (ix3 s (j 1) k)

end Cert.Proof.Att
-- ==== Proof.AttRun.lean ====
/-
  A run of the attention's block around its heads leaves every buffer at the last boundary's contents, and the
  weights' slabs are the weights re-laid.
-/
module

public import proofs.«01_k».proof.Proof.AttSpec
public import Idealize.ShloMosaic.Lib.Claim
public import Idealize.ShloMosaic.Lib.StableHlo.RunRead
public import Idealize.ShloMosaic.Lib.Tactic.CleanTypes

@[expose] public section

set_option maxRecDepth 16384

noncomputable section

namespace Cert.Proof.Att

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair run ends, with every unscoped buffer at the last boundary's contents and every counter zero. -/
theorem run : θ_run defs (onTc (τ := τ) (main (F := Ideal))) ⟨m, fun _ => 0, ρ⟩ (fun r =>
      (∀ c : Dev nD, ∀ b ∈ Pipeline.ucRefs τ sig, r.2.mem (((c : Thread nD τ)).1, b) = W10 m ρ c b)
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨h, funext fun g => hz g (.inr (no_unscoped g.2))⟩)

/-! ## The weights' slabs, and the arrays that the host re-lays -/

/-- The column of slab `s`'s position `k`. -/
def inner (s : Fin 8) (k : Fin 768) : Fin 6144 := ⟨s.val * 768 + k.val, by omega⟩

/-- The projections' weight in slabs of its columns: slab, row, column within it. -/
def slabW (w : S2048x6144.Idx → EReal) : S8x2048x768.Idx → EReal :=
  fun j => w (ix2 (j 1) (inner (j 0) (j 2)))

/-- A square array in slabs of its rows: slab, row within it, column. -/
def slabO (w : S2048x2048.Idx → EReal) : S8x256x2048.Idx → EReal :=
  fun j => w (ix2 ⟨(j 0).val * 256 + (j 1).val, by have := (j 0).isLt; have := (j 1).isLt; simp at *; omega⟩ (j 2))

theorem v2 (c : Dev nD) : V1 m ρ c main_v2 = slabW (m (c.tc.loc main_arg2)) := by
  funext j
  show (StableHlo.after hostOps0 (W0 m ρ c)) (Proc.devRef .tc main_v2) j = _
  after_results_simp
  clean_types
  pointwise [slabW, inner]

theorem v4 (c : Dev nD) : V1 m ρ c main_v4 = slabO (m (c.tc.loc main_arg3)) := by
  funext j
  show (StableHlo.after hostOps0 (W0 m ρ c)) (Proc.devRef .tc main_v4) j = _
  after_results_simp
  clean_types
  pointwise [slabO]

theorem v5 (c : Dev nD) : V1 m ρ c main_v5 = m (c.tc.loc main_arg6) := by
  funext j
  show (StableHlo.after hostOps0 (W0 m ρ c)) (Proc.devRef .tc main_v5) j = _
  after_results_simp
  clean_types
  rfl

theorem v11 (c : Dev nD) : W7 m ρ c (Proc.devRef .tc main_v11) = slabO (W6 m ρ c (Proc.devRef .tc main_v10)) := by
  funext j
  show (StableHlo.after hostOps5 (W6 m ρ c)) (Proc.devRef .tc main_v11) j = _
  after_results_simp
  clean_types
  pointwise [slabO]

end Cert.Proof.Att
-- ==== Proof.AttArr.lean ====
/-
  What the first seven calls of the attention's block leave: the normalised rows, the products with the two weights,
  and the gradients of the heads' rows, of the two weights and of the normalised rows.
-/
module

public import proofs.«01_k».proof.Proof.AttSpec

@[expose] public section

set_option maxRecDepth 16384

noncomputable section

namespace Cert.Proof.Att

open Cert.Kernel5Ideal Cert.Kernel5Ideal.Gen
open Idealize.ShloMosaic Idealize.ShloMosaic.TcCoe Idealize.ShloMosaic.Tactic
open Idealize.ShloMosaic.Pipeline (Dat Cfg Window)
open Cert.Proof.Ffn (rms)

variable (V : (c : Dev nD) → (b : Ref sig .tc) → Buf (Elt Ideal) ((c : Thread nD τ).loc b))

/-- The blocks of the first call: rows `256 t, …` of the block's argument and all of the scale. -/
theorem idx0 : ∀ t, win0_0.index t = ![(grid0.coords t 0).val, 0] ∧ win0_1.index t = ![0, 0]
    ∧ win0_2.index t = ![(grid0.coords t 0).val, 0] := by decide +kernel

/-- After the first call its result holds the normalised rows. -/
theorem arr0 (c : Dev nD) : (dat0 V c).arrAt 2 cfg0.N = Ffn.norm (V c main_arg0) (V c main_arg1) := by
  refine (dat0 V c).arrAt_eq_of_covers 2 _ (by decide +kernel) fun t hf y => ?_
  blk_simp
  rw [after0_2]
  frame_out
  pointwise [k0_pay1, Ffn.norm, rms]
  blk_point [iblk0, idx0 t]

/-- The blocks of the second call: at point `(s, i)` rows `1024 i, …` and slab `s`. -/
theorem idx1 : ∀ t, win1_0.index t = ![(grid1.coords t 1).val, 0] ∧ win1_1.index t = ![(grid1.coords t 0).val, 0, 0]
    ∧ win1_2.index t = ![(grid1.coords t 0).val, (grid1.coords t 1).val, 0] := by decide +kernel

/-- After the second call its result holds the three projections. -/
theorem arr1 (c : Dev nD) : (dat1 V c).arrAt 2 cfg1.N = cols (V c main_v6) (V c main_v2) := by
  refine (dat1 V c).arrAt_eq_of_covers 2 _ (by decide +kernel) fun t hf y => ?_
  blk_simp
  rw [after1_2]
  frame_out
  pointwise [k1_pay1, cols]
  blk_point [iblk1, idx1 t]

/-- The blocks of the third call: at point `(i, j)` rows `512 i, …` and columns `1024 j, …`. -/
theorem idx2 : ∀ t, win2_0.index t = ![(grid2.coords t 0).val, 0] ∧ win2_1.index t = ![0, 0, (grid2.coords t 1).val]
    ∧ win2_2.index t = ![(grid2.coords t 0).val, (grid2.coords t 1).val]
    ∧ win2_3.index t = ![(grid2.coords t 0).val, (grid2.coords t 1).val] := by decide +kernel

/-- After the third call its result holds the block's result. -/
theorem arr2 (c : Dev nD) : (dat2 V c).arrAt 3 cfg2.N = out (V c main_arg4) (V c main_v4) (V c main_arg0) := by
  refine (dat2 V c).arrAt_eq_of_covers 3 _ (by decide +kernel) fun t hf y => ?_
  blk_simp
  rw [after2_3]
  frame_out
  pointwise [k2_pay1, out, row]
  blk_point [iblk2, idx2 t]

/-- The blocks of the fourth call: rows `256 t, …` and all of the weight. -/
theorem idx3 : ∀ t, win3_0.index t = ![(grid3.coords t 0).val, 0] ∧ win3_1.index t = ![0, 0, 0]
    ∧ win3_2.index t = ![(grid3.coords t 0).val, 0] := by decide +kernel

/-- After the fourth call its result holds the gradient of the heads' rows. -/
theorem arr3 (c : Dev nD) : (dat3 V c).arrAt 2 cfg3.N = gradO (V c main_v5) (V c main_v4) := by
  refine (dat3 V c).arrAt_eq_of_covers 2 _ (by decide +kernel) fun t hf y => ?_
  blk_simp
  rw [after3_2]
  frame_out
  pointwise [k3_pay1, gradO, row]
  blk_point [iblk3, idx3 t]

/-- The blocks of the fifth call: at point `(i, j)` columns `512 i, …` of the heads' rows, columns `512 j, …` of the
    gradient. -/
theorem idx4 : ∀ t, win4_0.index t = ![0, (grid4.coords t 0).val] ∧ win4_1.index t = ![0, (grid4.coords t 1).val]
    ∧ win4_2.index t = ![(grid4.coords t 0).val, (grid4.coords t 1).val] := by decide +kernel

/-- After the fifth call its result holds the gradient of the out-projection's weight. -/
theorem arr4 (c : Dev nD) : (dat4 V c).arrAt 2 cfg4.N = gradWo (V c main_arg4) (V c main_v5) := by
  refine (dat4 V c).arrAt_eq_of_covers 2 _ (by decide +kernel) fun t hf y => ?_
  blk_simp
  rw [after4_2]
  frame_out
  pointwise [k4_pay1, gradWo]
  blk_point [iblk4, idx4 t]

/-- The blocks of the sixth call: at point `(s, j)` slab `s` and columns `512 j, …` of the normalised rows. -/
theorem idx5 : ∀ t, win5_0.index t = ![0, (grid5.coords t 1).val] ∧ win5_1.index t = ![(grid5.coords t 0).val, 0, 0]
    ∧ win5_2.index t = ![(grid5.coords t 0).val, (grid5.coords t 1).val, 0] := by decide +kernel

/-- After the sixth call its result holds the gradient of the projections' weight. -/
theorem arr5 (c : Dev nD) : (dat5 V c).arrAt 2 cfg5.N = gradW (V c main_v6) (V c main_arg5) := by
  refine (dat5 V c).arrAt_eq_of_covers 2 _ (by decide +kernel) fun t hf y => ?_
  blk_simp
  rw [after5_2]
  frame_out
  pointwise [k5_pay1, gradW]
  blk_point [iblk5, idx5 t]

/-- The blocks of the seventh call: at point `(i, j)` rows `512 i, …` and rows `256 j, …` of the weight, all slabs. -/
theorem idx6 : ∀ t, win6_0.index t = ![0, (grid6.coords t 0).val, 0] ∧ win6_1.index t = ![0, (grid6.coords t 1).val, 0]
    ∧ win6_2.index t = ![(grid6.coords t 0).val, (grid6.coords t 1).val] := by decide +kernel

/-- After the seventh call its result holds the gradient of the normalised rows. -/
theorem arr6 (c : Dev nD) : (dat6 V c).arrAt 2 cfg6.N = gradH (V c main_arg5) (V c main_v2) := by
  refine (dat6 V c).arrAt_eq_of_covers 2 _ (by decide +kernel) fun t hf y => ?_
  blk_simp
  rw [after6_2]
  frame_out
  pointwise [k6_pay1, k6_pay2, k6_pay3, k6_pay4, k6_pay5, k6_pay6, k6_pay7, gradH]
  simp only [Fin.sum_univ_eight, ← add_assoc]
  blk_point [iblk6, idx6 t]

end Cert.Proof.Att
-- ==== Proof.AttNorm.lean ====
/-
  What the last call of the attention's block leaves: the gradients of the block's argument and of the norm's scale,
  by the same functions as the feed-forward block's.
-/
module

public import proofs.«01_k».proof.Proof.AttSpec

@[expose] public section

set_option maxRecDepth 16384

noncomputable section

namespace Cert.Proof.Att

open Cert.Kernel5Ideal Cert.Kernel5Ideal.Gen
open Idealize.ShloMosaic Idealize.ShloMosaic.TcCoe Idealize.ShloMosaic.Tactic
open Idealize.ShloMosaic.Pipeline (Dat Cfg Window)
open Cert.Proof.Ffn (rms gradX gradG term8)

variable (V : (c : Dev nD) → (b : Ref sig .tc) → Buf (Elt Ideal) ((c : Thread nD τ).loc b))

/-- The blocks of the last call: rows `256 t, …`, all of the scale and all of the scale's gradient. -/
theorem idx7 : ∀ t, win7_0.index t = ![(grid7.coords t 0).val, 0] ∧ win7_1.index t = ![(grid7.coords t 0).val, 0]
    ∧ win7_2.index t = ![(grid7.coords t 0).val, 0] ∧ win7_3.index t = ![0, 0]
    ∧ win7_4.index t = ![(grid7.coords t 0).val, 0] ∧ win7_6.index t = ![0, 0] ∧ (grid7.coords t 0).val = t.val := by
  decide +kernel

/-- After the last call its first result holds the gradient of the block's argument. -/
theorem arr7x (c : Dev nD) : (dat7 V c).arrAt 4 cfg7.N
    = gradX (V c main_arg0) (V c main_v13) (V c main_arg6) (V c main_arg1) := by
  refine (dat7 V c).arrAt_eq_of_covers 4 _ (by decide +kernel) fun t hf y => ?_
  blk_simp
  rw [after7_4]
  by_cases h0 : t.val % 16 = 0
  · rw [outsAt7_A V c t h0]
    frame_out
    pointwise [k7_pay6, k7_pay5, k7_pay4, k7_pay3, gradX, rms]
    blk_point [iblk7, idx7 t]
  · rw [outsAt7_B V c t h0]
    frame_out
    pointwise [k7_pay6, k7_pay5, k7_pay4, k7_pay3, gradX, rms]
    blk_point [iblk7, idx7 t]

/-- What a point adds to the gradient of the norm's scale. -/
theorem pay7 (c : Dev nD) (t : Fin cfg7.N) (j : S1x2048.Idx) :
    k7_pay7 (iblk7 V c 0 t) (iblk7 V c 1 t) j = term8 (V c main_arg0) (V c main_v13) (t.cast N_7) j := by
  pointwise [k7_pay7, k7_pay5, k7_pay4, k7_pay3, term8, rms]
  blk_point [iblk7, idx7 t]

/-- After the last point the third result's buffer holds the sum of what the points add. -/
theorem acc7 (c : Dev nD) (j : S1x2048.Idx) :
    (outsAt7 V c t7_15.val t7_15.isLt).2.2 j = gradG (V c main_arg0) (V c main_v13) j := by
  refine (Pipeline.eq_sum_fin_of_reset_step_apply_last (fun n h => (outsAt7 V c n h).2.2) 16 (fun _ => (0 : EReal))
    (fun t j => term8 (V c main_arg0) (V c main_v13) (t.cast N_7) j)
    (fun t h i => by
      rw [outsAt7_A V c t h]
      frame_out
      pointwise [k7_pay2, k7_pay1]
      exact pay7 V c t i)
    (fun t h i => by
      rw [outsAt7_B V c t h]
      frame_out
      pointwise [k7_pay2]
      exact congrArg _ (pay7 V c t i)) (le_of_eq N_7) t7_15 rfl j).trans ?_
  rw [zero_add]
  exact Fintype.sum_equiv (finCongr N_7) _ _ fun _ => rfl

/-- After the last call its third result holds the gradient of the norm's scale. -/
theorem arr7g (c : Dev nD) : (dat7 V c).arrAt 6 cfg7.N = gradG (V c main_arg0) (V c main_v13) := by
  refine (dat7 V c).arrAt_eq_of_after_last 6 t7_15 (by decide +kernel) _ fun j => ?_
  blk_simp
  rw [after7_6]
  exact acc7 V c j

end Cert.Proof.Att
-- ==== Proof.AttHold.lean ====
/-
  What the result buffers of the attention's block hold after its eight calls, as functions of its arguments.
-/
module

public import proofs.«01_k».proof.Proof.AttRun
public import proofs.«01_k».proof.Proof.AttArr
public import proofs.«01_k».proof.Proof.AttNorm

@[expose] public section

set_option maxRecDepth 16384

noncomputable section

namespace Cert.Proof.Att

open Cert.Kernel5Ideal Cert.Kernel5Ideal.Gen
open Idealize.ShloMosaic Idealize.ShloMosaic.TcCoe
open Cert.Proof.Ffn (norm gradX gradG)

variable (m : (ℓ : Loc nD τ sig) → Buf (Elt Ideal) ℓ) (ρ : Dev nD → PrngReg) (c : Dev nD)

/-! ## The arrays -/

/-- The argument's rows. -/
abbrev xK : S4096x2048.Idx → EReal := m (c.tc.loc main_arg0)
/-- The norm's scale. -/
abbrev gK : S1x2048.Idx → EReal := m (c.tc.loc main_arg1)
/-- The projections' weight in slabs. -/
abbrev wK : S8x2048x768.Idx → EReal := slabW (m (c.tc.loc main_arg2))
/-- The out-projection's weight in slabs. -/
abbrev woK : S8x256x2048.Idx → EReal := slabO (m (c.tc.loc main_arg3))
/-- The heads' rows. -/
abbrev oK : S4096x2048.Idx → EReal := m (c.tc.loc main_arg4)
/-- The projections' gradient. -/
abbrev qK : S8x4096x768.Idx → EReal := m (c.tc.loc main_arg5)
/-- The result's gradient. -/
abbrev dK : S4096x2048.Idx → EReal := m (c.tc.loc main_arg6)
/-- The normalised rows. -/
def hK := norm (xK m c) (gK m c)
/-- The gradient of the normalised rows. -/
def dhK := gradH (qK m c) (wK m c)

/-! ## Each array at the boundary at which it is read -/

theorem h2 : V2 m ρ c main_v6 = hK m c := by
  refine (W2_arr m ρ c 2).trans ((arr0 (V1 m ρ) c).trans ?_)
  rw [show V1 m ρ c main_arg0 = _ from W1_args m ρ c main_arg0 (by simp),
    show V1 m ρ c main_arg1 = _ from W1_args m ρ c main_arg1 (by simp)]
  rfl

theorem w2 : V2 m ρ c main_v2 = wK m c := (W2_of m ρ c main_v2 (by decide)).trans (v2 m ρ c)
theorem wo3 : V3 m ρ c main_v4 = woK m c :=
  (W3_of m ρ c main_v4 (by decide)).trans ((W2_of m ρ c main_v4 (by decide)).trans (v4 m ρ c))
theorem wo4 : V4 m ρ c main_v4 = woK m c := (W4_of m ρ c main_v4 (by decide)).trans (wo3 m ρ c)
theorem d4 : V4 m ρ c main_v5 = dK m c :=
  (W4_of m ρ c main_v5 (by decide)).trans ((W3_of m ρ c main_v5 (by decide)).trans ((W2_of m ρ c main_v5 (by decide)).trans
    (v5 m ρ c)))
theorem d5 : V5 m ρ c main_v5 = dK m c := (W5_of m ρ c main_v5 (by decide)).trans (d4 m ρ c)

theorem qkv3 : W3 m ρ c (Proc.devRef .tc main_v7) = cols (hK m c) (wK m c) := by
  refine (W3_arr m ρ c 2).trans ((arr1 (V2 m ρ) c).trans ?_)
  rw [h2, w2]

theorem xo4 : W4 m ρ c (Proc.devRef .tc main_v8) = out (oK m c) (woK m c) (xK m c) := by
  refine (W4_arr m ρ c 3).trans ((arr2 (V3 m ρ) c).trans ?_)
  rw [wo3, show V3 m ρ c main_arg0 = _ from W3_args m ρ c main_arg0 (by simp),
    show V3 m ρ c main_arg4 = _ from W3_args m ρ c main_arg4 (by simp)]

theorem do5 : W5 m ρ c (Proc.devRef .tc main_v9) = gradO (dK m c) (woK m c) := by
  refine (W5_arr m ρ c 2).trans ((arr3 (V4 m ρ) c).trans ?_)
  rw [wo4, d4]

theorem gwo6 : W6 m ρ c (Proc.devRef .tc main_v10) = gradWo (oK m c) (dK m c) := by
  refine (W6_arr m ρ c 2).trans ((arr4 (V5 m ρ) c).trans ?_)
  rw [d5, show V5 m ρ c main_arg4 = _ from W5_args m ρ c main_arg4 (by simp)]

theorem gwo7 : W7 m ρ c (Proc.devRef .tc main_v11) = slabO (gradWo (oK m c) (dK m c)) := by
  rw [v11, gwo6]

/-- What the second call finds and neither it nor a later one up to the fifth writes, the sixth finds. -/
theorem to7 (r : Ref sig .tc) (h7 : r ∉ hostOps5_W) (h6 : ∀ w : Fin cfg4.W, Pipeline.arrRef spec4 w = r → (cfg4.win w).isOut = false)
    (h5 : ∀ w : Fin cfg3.W, Pipeline.arrRef spec3 w = r → (cfg3.win w).isOut = false)
    (h4 : ∀ w : Fin cfg2.W, Pipeline.arrRef spec2 w = r → (cfg2.win w).isOut = false)
    (h3 : ∀ w : Fin cfg1.W, Pipeline.arrRef spec1 w = r → (cfg1.win w).isOut = false) : V7 m ρ c r = V2 m ρ c r :=
  (W7_of m ρ c r h7).trans ((W6_of m ρ c r h6).trans ((W5_of m ρ c r h5).trans ((W4_of m ρ c r h4).trans (W3_of m ρ c r h3))))

theorem h7 : V7 m ρ c main_v6 = hK m c :=
  (to7 m ρ c main_v6 (by decide) (by decide) (by decide) (by decide) (by decide)).trans (h2 m ρ c)

theorem gw8 : W8 m ρ c (Proc.devRef .tc main_v12) = gradW (hK m c) (qK m c) := by
  refine (W8_arr m ρ c 2).trans ((arr5 (V7 m ρ) c).trans ?_)
  rw [h7, show V7 m ρ c main_arg5 = _ from W7_args m ρ c main_arg5 (by simp)]

theorem w8 : V8 m ρ c main_v2 = wK m c :=
  (W8_of m ρ c main_v2 (by decide)).trans
    ((to7 m ρ c main_v2 (by decide) (by decide) (by decide) (by decide) (by decide)).trans (w2 m ρ c))

theorem dh9 : V9 m ρ c main_v13 = dhK m c := by
  refine (W9_arr m ρ c 2).trans ((arr6 (V8 m ρ) c).trans ?_)
  rw [w8, show V8 m ρ c main_arg5 = _ from W8_args m ρ c main_arg5 (by simp)]
  rfl

/-! ## The results at the end -/

theorem dx10 : W10 m ρ c (Proc.devRef .tc main_v14_0) = gradX (xK m c) (dhK m c) (dK m c) (gK m c) := by
  refine (W10_arr m ρ c 4).trans ((arr7x (V9 m ρ) c).trans ?_)
  rw [dh9, show V9 m ρ c main_arg0 = _ from W9_args m ρ c main_arg0 (by simp),
    show V9 m ρ c main_arg6 = _ from W9_args m ρ c main_arg6 (by simp),
    show V9 m ρ c main_arg1 = _ from W9_args m ρ c main_arg1 (by simp)]

theorem dg10 : W10 m ρ c (Proc.devRef .tc main_v14_2) = gradG (xK m c) (dhK m c) := by
  refine (W10_arr m ρ c 6).trans ((arr7g (V9 m ρ) c).trans ?_)
  rw [dh9, show V9 m ρ c main_arg0 = _ from W9_args m ρ c main_arg0 (by simp)]

/-- What the sixth call finds and neither it nor a later one writes is there at the end. -/
theorem to10 (r : Ref sig .tc) (h10 : ∀ w : Fin cfg7.W, Pipeline.arrRef spec7 w = r → (cfg7.win w).isOut = false)
    (h9 : ∀ w : Fin cfg6.W, Pipeline.arrRef spec6 w = r → (cfg6.win w).isOut = false)
    (h8 : ∀ w : Fin cfg5.W, Pipeline.arrRef spec5 w = r → (cfg5.win w).isOut = false) :
    W10 m ρ c (Proc.devRef .tc r) = W7 m ρ c (Proc.devRef .tc r) :=
  (W10_of m ρ c r h10).trans ((W9_of m ρ c r h9).trans (W8_of m ρ c r h8))

theorem qkv10 : W10 m ρ c (Proc.devRef .tc main_v7) = cols (hK m c) (wK m c) :=
  (to10 m ρ c main_v7 (by decide) (by decide) (by decide)).trans ((W7_of m ρ c main_v7 (by decide)).trans
    ((W6_of m ρ c main_v7 (by decide)).trans ((W5_of m ρ c main_v7 (by decide)).trans ((W4_of m ρ c main_v7 (by decide)).trans
      (qkv3 m ρ c)))))

theorem xo10 : W10 m ρ c (Proc.devRef .tc main_v8) = out (oK m c) (woK m c) (xK m c) :=
  (to10 m ρ c main_v8 (by decide) (by decide) (by decide)).trans ((W7_of m ρ c main_v8 (by decide)).trans
    ((W6_of m ρ c main_v8 (by decide)).trans ((W5_of m ρ c main_v8 (by decide)).trans (xo4 m ρ c))))

theorem do10 : W10 m ρ c (Proc.devRef .tc main_v9) = gradO (dK m c) (woK m c) :=
  (to10 m ρ c main_v9 (by decide) (by decide) (by decide)).trans ((W7_of m ρ c main_v9 (by decide)).trans
    ((W6_of m ρ c main_v9 (by decide)).trans (do5 m ρ c)))

theorem gwo10 : W10 m ρ c (Proc.devRef .tc main_v11) = slabO (gradWo (oK m c) (dK m c)) :=
  (to10 m ρ c main_v11 (by decide) (by decide) (by decide)).trans (gwo7 m ρ c)

theorem gw10 : W10 m ρ c (Proc.devRef .tc main_v12) = gradW (hK m c) (qK m c) :=
  (W10_of m ρ c main_v12 (by decide)).trans ((W9_of m ρ c main_v12 (by decide)).trans (gw8 m ρ c))

end Cert.Proof.Att
-- ==== Proof.AttRef.lean ====
/-
  What the reference's run of the attention's block leaves, as plain functions of its arguments: the reference's
  composed terms named operation by operation, and each read at an index.  The norm's terms are the feed-forward
  reference's.
-/
module

public import proofs.«01_k».proof.Proof.Gen.Reference5Ideal.Run
public import proofs.«01_k».proof.Proof.FfnRefAt

@[expose] public section

set_option maxRecDepth 16384

noncomputable section

namespace Cert.Proof.AttRef

open Cert.Reference5Ideal Cert.Reference5Ideal.Gen Cert.Reference5Ideal.Value Idealize.SL.Sem
open Idealize.ShloMosaic Idealize.ShloMosaic.TcCoe Idealize.ShloMosaic.Tactic
open Cert.Proof.FfnRef (Rows normT dxT dgT)

/-- The gradient of the projections, as it is passed. -/
abbrev Slabs := FVec Ideal S8x4096x768 .bf16

/-! ## The reference's terms -/

/-- The three projections, in slabs. -/
def qkvT (h : Rows) (w : FVec Ideal S2048x6144 .f32) : FVec Ideal S8x4096x768 .f32 :=
  transpose S8x4096x768 [1, 0, 2] (shapeCast S4096x8x768 (Host.dotGeneral dot_S4096x2048_S2048x6144_S4096x6144_1_0_0_1_n_n none h w) shapeCasts_S4096x6144_S4096x8x768) transposes_S4096x8x768_S8x4096x768_1_0_2
/-- The block's result. -/
def outT (x o : Rows) (w : FVec Ideal S2048x2048 .f32) : Rows :=
  addf x (Host.dotGeneral dot_S4096x2048_S2048x2048_S4096x2048_1_0_0_1_n_n none o w)
/-- The projections' gradient, the slabs side by side. -/
def flatT (q : Slabs) : FVec Ideal S4096x6144 .f32 :=
  shapeCast S4096x6144 (transpose S4096x8x768 [1, 0, 2] (extf .f32 q bitsLt_bf16_f32) transposes_S8x4096x768_S4096x8x768_1_0_2) shapeCasts_S4096x8x768_S4096x6144
/-- The gradient of the normalised rows. -/
def dhT (q : Slabs) (w : FVec Ideal S2048x6144 .f32) : Rows :=
  Host.dotGeneral dot_S4096x6144_S2048x6144_S4096x2048_1_1_0_0_n_n none (flatT q) w
/-- The gradient of the projections' weight, in slabs. -/
def gwT (q : Slabs) (h : Rows) : FVec Ideal S8x2048x768 .bf16 :=
  truncf .bf16 (transpose S8x2048x768 [1, 0, 2] (shapeCast S2048x8x768 (transpose S2048x6144 [1, 0] (Host.dotGeneral dot_S4096x6144_S4096x2048_S6144x2048_0_0_1_1_n_n none (flatT q) h) transposes_S6144x2048_S2048x6144_1_0) shapeCasts_S2048x6144_S2048x8x768) transposes_S2048x8x768_S8x2048x768_1_0_2) bitsLt_bf16_f32
/-- The gradient of the out-projection's weight, in slabs. -/
def gwoT (d o : Rows) : FVec Ideal S8x256x2048 .bf16 :=
  truncf .bf16 (shapeCast S8x256x2048 (transpose S2048x2048 [1, 0] (Host.dotGeneral dot_S4096x2048_S4096x2048_S2048x2048_0_0_1_1_n_n none (shapeCast S4096x2048 d shapeCasts_S4096x2048_S4096x2048) o) transposes_S2048x2048_S2048x2048_1_0) shapeCasts_S2048x2048_S8x256x2048) bitsLt_bf16_f32
/-- The gradient of the heads' rows. -/
def doT (d : Rows) (w : FVec Ideal S2048x2048 .f32) : Rows :=
  Host.dotGeneral dot_S4096x2048_S2048x2048_S4096x2048_1_1_0_0_n_n none (shapeCast S4096x2048 d shapeCasts_S4096x2048_S4096x2048) w

variable (m : (ℓ : Loc nD τ sig) → Buf (Elt Ideal) ℓ) (c : Dev nD)

/-- The argument's rows. -/
abbrev xM : Rows := m ((c.tc : Thread nD τ).loc main_arg0)
/-- The norm's scale. -/
abbrev gM : FVec Ideal S1x2048 .f32 := m ((c.tc : Thread nD τ).loc main_arg1)
/-- The projections' weight. -/
abbrev wM : FVec Ideal S2048x6144 .f32 := m ((c.tc : Thread nD τ).loc main_arg2)
/-- The out-projection's weight. -/
abbrev woM : FVec Ideal S2048x2048 .f32 := m ((c.tc : Thread nD τ).loc main_arg3)
/-- The heads' rows. -/
abbrev oM : Rows := m ((c.tc : Thread nD τ).loc main_arg4)
/-- The projections' gradient. -/
abbrev qM : Slabs := m ((c.tc : Thread nD τ).loc main_arg5)
/-- The result's gradient. -/
abbrev dM : Rows := m ((c.tc : Thread nD τ).loc main_arg6)

set_option maxRecDepth 65536 in
theorem res1 : res_main_v47 m c = dxT (xM m c) (dM m c) (dhT (qM m c) (wM m c)) (gM m c) := by
  unfold res_main_v47; rfl

set_option maxRecDepth 65536 in
/-- The reference's run: each result buffer by its named term, the arguments unchanged. -/
theorem run (ρ : Dev nD → PrngReg) :
    θ_run defs (onTc (τ := τ) (main (F := Ideal))) ⟨m, fun _ => 0, ρ⟩ fun r => ∀ c : Dev nD,
      (r.2.mem ((c.tc : Thread nD τ).loc main_v49) = qkvT (normT (xM m c) (gM m c)) (wM m c)
      ∧ r.2.mem ((c.tc : Thread nD τ).loc main_v17) = outT (xM m c) (oM m c) (woM m c)
      ∧ r.2.mem ((c.tc : Thread nD τ).loc main_v47) = dxT (xM m c) (dM m c) (dhT (qM m c) (wM m c)) (gM m c)
      ∧ r.2.mem ((c.tc : Thread nD τ).loc main_v30) = dgT (xM m c) (dhT (qM m c) (wM m c))
      ∧ r.2.mem ((c.tc : Thread nD τ).loc main_v52) = gwT (qM m c) (normT (xM m c) (gM m c))
      ∧ r.2.mem ((c.tc : Thread nD τ).loc main_v54) = gwoT (dM m c) (oM m c)
      ∧ r.2.mem ((c.tc : Thread nD τ).loc main_v24) = doT (dM m c) (woM m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
    obtain ⟨h0, h1, h2, h3, h4, h5, h6, h7⟩ := h c
    exact ⟨⟨h0.trans rfl, h1.trans rfl, h2.trans (res1 m c), h3.trans rfl, h4.trans rfl, h5.trans rfl, h6.trans rfl⟩, h7⟩)
    (Value.run m ρ)

/-! ## The terms at an index -/

theorem qkv_at (h : Rows) (w : FVec Ideal S2048x6144 .f32) (s : Fin 8) (r : Fin 4096) (k : Fin 768) :
    qkvT h w (ix3 s r k) = ∑ l : Fin 2048, h (ix2 r l) * w (ix2 l ⟨s.val * 768 + k.val, by omega⟩) := by
  pointwise [qkvT]

theorem out_at (x o : Rows) (w : FVec Ideal S2048x2048 .f32) (r : Fin 4096) (k : Fin 2048) :
    outT x o w (ix2 r k) = x (ix2 r k) + ∑ l : Fin 2048, o (ix2 r l) * w (ix2 l k) := by
  pointwise [outT]

theorem flat_at (q : Slabs) (r : Fin 4096) (s : Fin 8) (k : Fin 768) :
    flatT q (ix2 r ⟨s.val * 768 + k.val, by omega⟩) = q (ix3 s r k) := by
  pointwise [flatT]

theorem dh_at (q : Slabs) (w : FVec Ideal S2048x6144 .f32) (r : Fin 4096) (k : Fin 2048) :
    dhT q w (ix2 r k) = ∑ l : Fin 6144, flatT q (ix2 r l) * w (ix2 k l) := by
  pointwise [dhT]

theorem gw_at (q : Slabs) (h : Rows) (s : Fin 8) (l : Fin 2048) (k : Fin 768) :
    gwT q h (ix3 s l k) = ∑ r : Fin 4096, flatT q (ix2 r ⟨s.val * 768 + k.val, by omega⟩) * h (ix2 r l) := by
  pointwise [gwT]

theorem gwo_at (d o : Rows) (s : Fin 8) (k : Fin 256) (l : Fin 2048) :
    gwoT d o (ix3 s k l) = ∑ r : Fin 4096, d (ix2 r l) * o (ix2 r ⟨s.val * 256 + k.val, by omega⟩) := by
  pointwise [gwoT]

theorem do_at (d : Rows) (w : FVec Ideal S2048x2048 .f32) (r : Fin 4096) (k : Fin 2048) :
    doT d w (ix2 r k) = ∑ l : Fin 2048, d (ix2 r l) * w (ix2 k l) := by
  pointwise [doT]

end Cert.Proof.AttRef
-- ==== Proof.AttEq.lean ====
/-
  The arrays of the attention's block, as its eight calls compute them, are the reference's: sums of the same
  terms, whatever these are.
-/
module

public import proofs.«01_k».proof.Proof.AttHold
public import proofs.«01_k».proof.Proof.AttRef
public import proofs.«01_k».proof.Proof.FfnEq

@[expose] public section

set_option maxRecDepth 16384

noncomputable section

namespace Cert.Proof.AttEq

open Cert.Kernel5Ideal
open Idealize.ShloMosaic
open Cert.Proof.Att Cert.Proof.AttRef
open Cert.Proof.FfnRef (Rows)
open Cert.Proof.FfnEq (exists2 exists3)

theorem cols_same (h : Rows) (w : S2048x6144.Idx → EReal) : cols h (slabW w) = qkvT h w := by
  funext j
  obtain ⟨s, r, k, rfl⟩ := exists3 j
  rw [qkv_at]
  rfl

/-- Row `k` of a square array held in slabs of its rows. -/
theorem row_slab (w : S2048x2048.Idx → EReal) (k c : Fin 2048) : row (slabO w) k c = w (ix2 k c) := by
  show w (ix2 ⟨k.val / 256 * 256 + k.val % 256, _⟩ c) = _
  exact congrArg (fun i : Fin 2048 => w (ix2 i c)) (Fin.ext (Nat.div_add_mod' _ _))

theorem out_same (o x : Rows) (w : S2048x2048.Idx → EReal) : out o (slabO w) x = outT x o w := by
  funext j
  obtain ⟨r, k, rfl⟩ := exists2 j
  rw [out_at]
  exact congrArg (fun e : EReal => x (ix2 r k) + e)
    (Finset.sum_congr rfl fun l _ => congrArg (fun e : EReal => o (ix2 r l) * e) (row_slab w l k))

theorem do_same (d : Rows) (w : S2048x2048.Idx → EReal) : gradO d (slabO w) = doT d w := by
  funext j
  obtain ⟨r, k, rfl⟩ := exists2 j
  rw [do_at]
  exact Finset.sum_congr rfl fun l _ => congrArg (fun e : EReal => d (ix2 r l) * e) (row_slab w k l)

theorem gwo_same (o d : Rows) : slabO (gradWo o d) = gwoT d o := by
  funext j
  obtain ⟨s, k, l, rfl⟩ := exists3 j
  rw [gwo_at]
  show (∑ r : Fin 4096, o (ix2 r ⟨s.val * 256 + k.val, _⟩) * d (ix2 r l) : EReal) = _
  exact Finset.sum_congr rfl fun _ _ => mul_comm (G := EReal) _ _

theorem gw_same (h : Rows) (q : Slabs) : gradW h q = gwT q h := by
  funext j
  obtain ⟨s, l, k, rfl⟩ := exists3 j
  rw [gw_at]
  refine Finset.sum_congr rfl fun r _ => ?_
  rw [flat_at, mul_comm]
  rfl

/-- A sum over the slabs is a sum over the columns. -/
theorem dh_same (q : Slabs) (w : S2048x6144.Idx → EReal) : gradH q (slabW w) = dhT q w := by
  funext j
  obtain ⟨r, k, rfl⟩ := exists2 j
  rw [dh_at]
  refine Fin.sum_mul_add_congr (M := EReal) fun s l h => ?_
  exact congrArg (· * w (ix2 k (inner s l))) (flat_at q r s l).symm

end Cert.Proof.AttEq
-- ==== Proof.AttDx.lean ====
/-
  The gradient through the norm, from any arguments: a row's reciprocal root mean square is a positive real or, where
  the row's mean square is infinite, zero, and both sides of the equation then agree term by term.
-/
module

public import proofs.«01_k».proof.Proof.FfnEq

@[expose] public section

set_option maxRecDepth 16384

noncomputable section

namespace Cert.Proof.AttEq

open Cert.Kernel2Ideal
open Idealize.ShloMosaic
open Cert.Proof.Ffn Cert.Proof.FfnRef
open Cert.Proof.FfnEq (exists2 len_eq minus_half_eq tiny_pos)

/-- A real that is not negative goes into a sum, whatever its terms. -/
theorem coe_mul_sum {ι : Type} {q : ℝ} (hq : 0 ≤ q) (s : Finset ι) (f : ι → EReal) :
    (q : EReal) * ∑ i ∈ s, f i = ∑ i ∈ s, (q : EReal) * f i := by
  classical
  induction s using Finset.induction_on with
  | empty => simp
  | insert a s ha ih =>
    rw [Finset.sum_insert ha, Finset.sum_insert ha, ← ih]
    exact EReal.left_distrib_of_nonneg_of_ne_top (by exact_mod_cast hq) (EReal.coe_ne_top _) _ _

/-- A product taken away by halves is taken away. -/
theorem halves {a : ℝ} (ha : 0 < a) (y : EReal) :
    ((-a : ℝ) : EReal) * y + ((-a : ℝ) : EReal) * y = -(((2 * a : ℝ) : EReal) * y) := by
  have h2 : 0 < 2 * a := by positivity
  have hn : -a < 0 := by linarith
  induction y using EReal.rec with
  | bot => rw [EReal.coe_mul_bot_of_neg hn, EReal.coe_mul_bot_of_pos h2]; rfl
  | top => rw [EReal.coe_mul_top_of_neg hn, EReal.coe_mul_top_of_pos h2]; rfl
  | coe y => norm_cast; ring

theorem mul_self_nonneg' (e : EReal) : 0 ≤ e * e := by
  induction e using EReal.rec with
  | bot => simp
  | top => simp
  | coe x => exact_mod_cast mul_self_nonneg x

/-- A row's shifted mean square is infinite, or a positive real. -/
theorem ms_cases (x : Rows) (r : Fin 4096) : (msT x (ix2 r 0) = ⊤ ∧ rms x r = 0)
    ∨ ∃ v : ℝ, 0 < v ∧ msT x (ix2 r 0) = (v : EReal) ∧ rms x r = (((Real.sqrt v)⁻¹ : ℝ) : EReal) := by
  obtain ⟨t, ht, et⟩ := tiny_pos
  have h0 : 0 ≤ ∑ k : Fin 2048, x (ix2 r k) * x (ix2 r k) := Finset.sum_nonneg fun k _ => mul_self_nonneg' _
  have em := ms_at x r
  have er : rms x r = Ideal.rsqrt (Ideal.div (∑ k : Fin 2048, x (ix2 r k) * x (ix2 r k)) len + tiny) := rfl
  rw [len_eq, Ideal.div_coe (by norm_num : (2048 : ℝ) ≠ 0), et] at em er
  generalize (∑ k : Fin 2048, x (ix2 r k) * x (ix2 r k)) = s at h0 em er
  induction s using EReal.rec with
  | bot => simp at h0
  | top =>
    rw [EReal.top_mul_coe_of_pos (by norm_num), EReal.top_add_coe] at em er
    exact .inl ⟨em, er⟩
  | coe s =>
    rw [← EReal.coe_mul, ← EReal.coe_add] at em er
    have hs : 0 ≤ s := by exact_mod_cast h0
    have hv : 0 < s * (1 / 2048) + t := by positivity
    refine .inr ⟨_, hv, em, er.trans ?_⟩
    rw [Ideal.rsqrt_coe, if_neg (not_lt.mpr hv.le), if_neg hv.ne']

/-- The two forms of a row's gradient at a row whose mean square is real: `q` its reciprocal root, `u` and `x` the
    entry, `s` the row's product. -/
theorem point {q v : ℝ} (hq : 0 < q) (e : q * q = 1 / v) (d u x s : EReal) :
    d + (q : EReal) * (u - x * q * ((q : EReal) * s * ((1 / 2048 : ℝ) : EReal)))
      = d + u * q + x * (s * (((-(1 / 2) : ℝ) : EReal) * ((q : EReal) * ((1 / v : ℝ) : EReal))) * ((1 / 2048 : ℝ) : EReal))
        + s * (((-(1 / 2) : ℝ) : EReal) * ((q : EReal) * ((1 / v : ℝ) : EReal))) * ((1 / 2048 : ℝ) : EReal) * x := by
  have hk : s * (((-(1 / 2) : ℝ) : EReal) * ((q : EReal) * ((1 / v : ℝ) : EReal))) * ((1 / 2048 : ℝ) : EReal) * x
      = ((-(q * q * q / 4096) : ℝ) : EReal) * (x * s) := by
    rw [← e, show (-(q * q * q / 4096) : ℝ) = -(1 / 2) * (q * (q * q)) * (1 / 2048) from by ring]
    simp only [EReal.coe_mul]
    ac_rfl
  have hx : (q : EReal) * (x * q * ((q : EReal) * s * ((1 / 2048 : ℝ) : EReal)))
      = ((2 * (q * q * q / 4096) : ℝ) : EReal) * (x * s) := by
    rw [show (2 * (q * q * q / 4096) : ℝ) = q * q * q * (1 / 2048) from by ring]
    simp only [EReal.coe_mul]
    ac_rfl
  rw [sub_eq_add_neg, EReal.left_distrib_of_nonneg_of_ne_top (by exact_mod_cast hq.le) (EReal.coe_ne_top _), mul_neg, hx,
    mul_comm x (s * _ * _), hk, ← halves (by positivity), mul_comm u]
  simp only [add_assoc]

/-- The gradient of a block's argument through its norm, from any arguments. -/
theorem dx_same (x dh d : Rows) (g : S1x2048.Idx → EReal) : gradX x dh d g = dxT x d dh g := by
  funext j
  obtain ⟨r, k, rfl⟩ := exists2 j
  rw [dx_at]
  show d (ix2 r k) + rms x r * (dh (ix2 r k) * g (ix2 0 k) - x (ix2 r k) * rms x r
    * Ideal.div (∑ k : Fin 2048, dh (ix2 r k) * g (ix2 0 k) * (x (ix2 r k) * rms x r)) len) = _
  rw [len_eq, minus_half_eq, Ideal.div_coe (by norm_num : (2048 : ℝ) ≠ 0), Ideal.div_coe (by norm_num : (2048 : ℝ) ≠ 0)]
  obtain ⟨em, er⟩ | ⟨v, hv, em, er⟩ := ms_cases x r
  · rw [em, er]
    simp [Ideal.div]
  · have hq : 0 < (Real.sqrt v)⁻¹ := inv_pos.mpr (Real.sqrt_pos.mpr hv)
    rw [em, er, Ideal.div_coe hv.ne', ← point hq (by rw [← mul_inv, Real.mul_self_sqrt hv.le, one_div]), coe_mul_sum hq.le]
    have e : ∀ l : Fin 2048, dh (ix2 r l) * g (ix2 0 l) * (x (ix2 r l) * (((Real.sqrt v)⁻¹ : ℝ) : EReal))
        = (((Real.sqrt v)⁻¹ : ℝ) : EReal) * (x (ix2 r l) * (dh (ix2 r l) * g (ix2 0 l))) := fun l => by ac_rfl
    simp only [e]

end Cert.Proof.AttEq
-- ==== Proof.AttClaim.lean ====
/-
  The claim of the attention's block around its heads: from any arguments, the eight calls and the reference leave the
  same seven results.
-/
module

public import proofs.«01_k».proof.Defs
public import proofs.«01_k».proof.Proof.AttEq
public import proofs.«01_k».proof.Proof.AttDx

@[expose] public section

set_option maxRecDepth 16384

noncomputable section

namespace Cert.Proof.AttEq

open Idealize.ShloMosaic Idealize.ShloMosaic.TcCoe Idealize.SL.Sem Idealize.ShloMosaic.Tactic
open Cert.Proof.Att Cert.Proof.AttRef
open Cert.Proof.Ffn (gradX gradG norm)
open Cert.Proof.FfnRef (normT dxT dgT)

/-- The memory of the eight calls. -/
abbrev MemK := (ℓ : Loc Cert.Kernel5Ideal.nD Cert.Kernel5Ideal.τ Cert.Kernel5Ideal.sig) → Buf (Elt Ideal) ℓ
/-- The reference's memory. -/
abbrev MemR := (ℓ : Loc Cert.Reference5Ideal.nD Cert.Reference5Ideal.τ Cert.Reference5Ideal.sig) → Buf (Elt Ideal) ℓ

/-- The two memories hold the same arguments. -/
def Same (m : MemK) (m' : MemR) (c : Dev Cert.Kernel5Ideal.nD) : Prop :=
  xM m' c = m (c.tc.loc Cert.Kernel5Ideal.main_arg0) ∧ gM m' c = m (c.tc.loc Cert.Kernel5Ideal.main_arg1)
  ∧ wM m' c = m (c.tc.loc Cert.Kernel5Ideal.main_arg2) ∧ woM m' c = m (c.tc.loc Cert.Kernel5Ideal.main_arg3)
  ∧ oM m' c = m (c.tc.loc Cert.Kernel5Ideal.main_arg4) ∧ qM m' c = m (c.tc.loc Cert.Kernel5Ideal.main_arg5)
  ∧ dM m' c = m (c.tc.loc Cert.Kernel5Ideal.main_arg6)

variable {m : MemK} {m' : MemR} {c : Dev Cert.Kernel5Ideal.nD}

theorem h_eq (h : Same m m' c) : hK m c = normT (xM m' c) (gM m' c) := by
  obtain ⟨hx, hg, -⟩ := h
  rw [hx, hg]
  exact FfnEq.norm_same _ _

theorem dh_eq (h : Same m m' c) : dhK m c = dhT (qM m' c) (wM m' c) := by
  rw [h.2.2.1, h.2.2.2.2.2.1]
  exact dh_same _ _

/-! ## The seven results -/

theorem qkv_eq (h : Same m m' c) : cols (hK m c) (wK m c) = qkvT (normT (xM m' c) (gM m' c)) (wM m' c) := by
  rw [h_eq h, h.2.2.1]
  exact cols_same _ _

theorem xo_eq (h : Same m m' c) : out (oK m c) (woK m c) (xK m c) = outT (xM m' c) (oM m' c) (woM m' c) := by
  rw [h.1, h.2.2.2.1, h.2.2.2.2.1]
  exact out_same _ _ _

theorem dx_eq (h : Same m m' c) :
    gradX (xK m c) (dhK m c) (dK m c) (gK m c) = dxT (xM m' c) (dM m' c) (dhT (qM m' c) (wM m' c)) (gM m' c) := by
  rw [dh_eq h, h.1, h.2.1, h.2.2.2.2.2.2]
  exact dx_same _ _ _ _

theorem dg_eq (h : Same m m' c) : gradG (xK m c) (dhK m c) = dgT (xM m' c) (dhT (qM m' c) (wM m' c)) := by
  rw [dh_eq h, h.1]
  exact FfnEq.dg_same _ _

theorem gw_eq (h : Same m m' c) : gradW (hK m c) (qK m c) = gwT (qM m' c) (normT (xM m' c) (gM m' c)) := by
  rw [h_eq h, h.2.2.2.2.2.1]
  exact gw_same _ _

theorem gwo_eq (h : Same m m' c) : slabO (gradWo (oK m c) (dK m c)) = gwoT (dM m' c) (oM m' c) := by
  rw [h.2.2.2.2.1, h.2.2.2.2.2.2]
  exact gwo_same _ _

theorem do_eq (h : Same m m' c) : gradO (dK m c) (woK m c) = doT (dM m' c) (woM m' c) := by
  rw [h.2.2.2.1, h.2.2.2.2.2.2]
  exact do_same _ _

/-! ## The claim -/

attribute [local instance] Cert.Kernel5Ideal.Gen.facts Cert.Reference5Ideal.Gen.facts

open Cert.Kernel5Ideal Cert.Kernel5Ideal.Gen in
theorem algebraic : Cert.algebraic_Kernel5Ideal_Reference5Ideal := by
  intro m g m' g' _ hargs
  have hs : ∀ c, Same m m' c := hargs
  refine ⟨fun c => cols (hK m c) (wK m c), fun c => out (oK m c) (woK m c) (xK m c),
    fun c => gradX (xK m c) (dhK m c) (dK m c) (gK m c), fun c => gradG (xK m c) (dhK m c),
    fun c => gradW (hK m c) (qK m c), fun c => slabO (gradWo (oK m c) (dK m c)), fun c => gradO (dK m c) (woK m c),
    (θ_run _ _ _).mono (fun r h c => ?_) (Att.run m g), (θ_run _ _ _).mono (fun r h c => ?_) (AttRef.run m' g')⟩
  · have hb := h.1 c
    exact ⟨(hb _ (mem_uc main_v7 (by decide))).trans (qkv10 m g c), (hb _ (mem_uc main_v8 (by decide))).trans (xo10 m g c),
      (hb _ (mem_uc main_v14_0 (by decide))).trans (dx10 m g c), (hb _ (mem_uc main_v14_2 (by decide))).trans (dg10 m g c),
      (hb _ (mem_uc main_v12 (by decide))).trans (gw10 m g c), (hb _ (mem_uc main_v11 (by decide))).trans (gwo10 m g c),
      (hb _ (mem_uc main_v9 (by decide))).trans (do10 m g c),
      (hb _ (mem_uc main_arg0 (by decide))).trans (W10_main_arg0 m g c), (hb _ (mem_uc main_arg1 (by decide))).trans (W10_main_arg1 m g c),
      (hb _ (mem_uc main_arg2 (by decide))).trans (W10_main_arg2 m g c), (hb _ (mem_uc main_arg3 (by decide))).trans (W10_main_arg3 m g c),
      (hb _ (mem_uc main_arg4 (by decide))).trans (W10_main_arg4 m g c), (hb _ (mem_uc main_arg5 (by decide))).trans (W10_main_arg5 m g c),
      (hb _ (mem_uc main_arg6 (by decide))).trans (W10_main_arg6 m g c)⟩
  · obtain ⟨⟨h0, h1, h2, h3, h4, h5, h6⟩, ha⟩ := h c
    exact ⟨h0.trans (qkv_eq (hs c)).symm, h1.trans (xo_eq (hs c)).symm, h2.trans (dx_eq (hs c)).symm,
      h3.trans (dg_eq (hs c)).symm, h4.trans (gw_eq (hs c)).symm, h5.trans (gwo_eq (hs c)).symm, h6.trans (do_eq (hs c)).symm, ha⟩

end Cert.Proof.AttEq
-- ==== Proof.ScanRun1.lean ====
/-
  The forward sweep of the recurrence: what one run of its body does to the staging buffers and to the carried state.

  The body reads the block of inputs (real, imaginary) and the table of powers, starts from the carried state
  (zero at the first block of the sequence), and stores the block of states and the new carried state. `run_first` and
  `run_next` are the two cases; what they find are the lists of stores the body makes.
-/
module

public import proofs.«01_k».proof.Proof.Gen.KernelIdeal.Launch
public import proofs.«01_k».proof.Proof.Gen.KernelIdeal.Points
public import proofs.«01_k».proof.Proof.Gen.KernelIdeal.Loops
public import Idealize.ShloMosaic.Lib.Tactic
public import Idealize.ShloMosaic.Lib.WordCmp
public import Idealize.ShloMosaic.Lib.Ring
public import Idealize.ShloMosaic.Lib.Pipeline.FrameBody

@[expose] public section

set_option maxRecDepth 16384

noncomputable section

namespace Cert.Proof.Fwd

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body is at the first block of the sequence. -/
abbrev first (i : grid1.Coords) : Prop :=
  (Scalar.cmpi .ne (Scalar.extui (Scalar.cmpi .eq (BitVec.ofNat 32 (i 1).val) 0#32)) 0#32) = 1#1

/-- That is: the point is a multiple of eight. -/
theorem first_iff (t : Fin cfg1.N) : first (grid1.coords t) ↔ t.val % 8 = 0 := by
  have ht : t.val < 64 := Nat.lt_of_lt_of_eq t.isLt N_1
  have e1 : (grid1.coords t 1).val = t.val / 1 % 8 := Pipeline.Grid.coords_val t 1 (by decide) rfl
  simp only [first, e1]
  word_cmp

section Body

variable (c : Dev nD) (i : grid1.Coords)
  (arg2 : Memref sig .tc .vmem S64x8x1024 .f32) (harg2 : arg2.IsWhole) (arg3 : Memref sig .tc .vmem S64x8x1024 .f32) (harg3 : arg3.IsWhole)
  (arg4 : Memref sig .tc .vmem S8x8x1024 .f32) (harg4 : arg4.IsWhole)
  (arg5 : Memref sig .tc .vmem S64x8x1024 .f32) (harg5 : arg5.IsWhole) (arg6 : Memref sig .tc .vmem S64x8x1024 .f32) (harg6 : arg6.IsWhole)
  (arg7 : Memref sig .tc .vmem S2x8x1024 .f32) (harg7 : arg7.IsWhole)

/-- What the body holds at its start, the carried state apart, -/
abbrev held (x0 x1 : Vec F S64x8x1024 .f32) (x2 : Vec F S8x8x1024 .f32) : sProp 𝕄 :=
  iprop(owns (c : Thread nD τ) arg2 fullShare x0 ∗ owns (c : Thread nD τ) arg3 fullShare x1 ∗ owns (c : Thread nD τ) arg4 fullShare x2)

/-- and what a buffer holds after a list of stores. -/
abbrev stored {S : Shape} {e : EltTy} (arg : Memref sig .tc .vmem S e) (L : List (View.Piece (Elt F) S e)) : sProp 𝕄 :=
  iprop(∃ f, arg.view.loc (c : Thread nD τ) ↦[arg.view.set]{fullShare} arg.view.writes (Elt F) f L)

set_option maxHeartbeats 2000000 in
/-- The body at the first block of the sequence, the carried state at anything. -/
def run_first (hc : first i) (x0 x1 : Vec F S64x8x1024 .f32) (x2 : Vec F S8x8x1024 .f32) :
    Σ' (L5 L6 : List (View.Piece (Elt F) S64x8x1024 .f32)), { L7 : List (View.Piece (Elt F) S2x8x1024 .f32) //
      ∀ (E : Set ℕ) (K : PUnit → sProp 𝕄),
        iprop(held c arg2 arg3 arg4 x0 x1 x2 ∗ (∃ d, owns (c : Thread nD τ) arg5 fullShare d) ∗ (∃ d, owns (c : Thread nD τ) arg6 fullShare d)
            ∗ (∃ d, owns (c : Thread nD τ) arg7 fullShare d)
            ∗ (iprop(held c arg2 arg3 arg4 x0 x1 x2 ∗ stored c arg5 L5 ∗ stored c arg6 L6 ∗ stored c arg7 L7) -∗ K ⟨⟩))
          ⊢ wp frame (wpE (defs₀ (F := F)) Variants.none c none) E (cc1_s5_scan i arg2 harg2 arg3 harg3 arg4 harg4 arg5 harg5 arg6 harg6 arg7 harg7) K } := by
  refine ⟨?_, ?_, ?_, fun E K => ?run⟩
  case run =>
    simp only [cc1_s5_scan_eq_skeleton]; unfold cc1_s5_scan_skel held stored
    unfold owns
    iintro ⟨⟨⟨%f0, %hf0, H0⟩, ⟨%f1, %hf1, H1⟩, ⟨%f2, %hf2, H2⟩⟩, ⟨%d3, %f3, -, H3⟩, ⟨%d4, %f4, -, H4⟩, ⟨%d5, %f5, -, H5⟩, Hk⟩
    obtain rfl := harg2.eq_unread hf0; obtain rfl := harg3.eq_unread hf1; obtain rfl := harg4.eq_unread hf2
    sl_exec (disch := first | sl_exact hc)
    sl_step
    iapply Hk
    isplitl [H0 H1 H2]
    · isplitl [H0]
      · iexists _; isplitr; · ipureintro; exact harg2.read_unread _
        iexact H0
      isplitl [H1]
      · iexists _; isplitr; · ipureintro; exact harg3.read_unread _
        iexact H1
      iexists _; isplitr; · ipureintro; exact harg4.read_unread _
      iexact H2
    isplitl [H3]; · iexists _; iexact H3
    isplitl [H4]; · iexists _; iexact H4
    iexists _; iexact H5

set_option maxHeartbeats 2000000 in
/-- The body at a later block, the carried state at `xs`. -/
def run_next (hc : ¬ first i) (x0 x1 : Vec F S64x8x1024 .f32) (x2 : Vec F S8x8x1024 .f32) (xs : Vec F S2x8x1024 .f32) :
    Σ' (L5 L6 : List (View.Piece (Elt F) S64x8x1024 .f32)), { L7 : List (View.Piece (Elt F) S2x8x1024 .f32) //
      ∀ (E : Set ℕ) (K : PUnit → sProp 𝕄),
        iprop(held c arg2 arg3 arg4 x0 x1 x2 ∗ (∃ d, owns (c : Thread nD τ) arg5 fullShare d) ∗ (∃ d, owns (c : Thread nD τ) arg6 fullShare d)
            ∗ owns (c : Thread nD τ) arg7 fullShare xs
            ∗ (iprop(held c arg2 arg3 arg4 x0 x1 x2 ∗ stored c arg5 L5 ∗ stored c arg6 L6 ∗ stored c arg7 L7) -∗ K ⟨⟩))
          ⊢ wp frame (wpE (defs₀ (F := F)) Variants.none c none) E (cc1_s5_scan i arg2 harg2 arg3 harg3 arg4 harg4 arg5 harg5 arg6 harg6 arg7 harg7) K } := by
  refine ⟨?_, ?_, ?_, fun E K => ?run⟩
  case run =>
    simp only [cc1_s5_scan_eq_skeleton]; unfold cc1_s5_scan_skel held stored
    unfold owns
    iintro ⟨⟨⟨%f0, %hf0, H0⟩, ⟨%f1, %hf1, H1⟩, ⟨%f2, %hf2, H2⟩⟩, ⟨%d3, %f3, -, H3⟩, ⟨%d4, %f4, -, H4⟩, ⟨%f5, %hf5, H5⟩, Hk⟩
    obtain rfl := harg2.eq_unread hf0; obtain rfl := harg3.eq_unread hf1; obtain rfl := harg4.eq_unread hf2; obtain rfl := harg7.eq_unread hf5
    sl_exec (disch := first | sl_exact hc)
    sl_step
    iapply Hk
    isplitl [H0 H1 H2]
    · isplitl [H0]
      · iexists _; isplitr; · ipureintro; exact harg2.read_unread _
        iexact H0
      isplitl [H1]
      · iexists _; isplitr; · ipureintro; exact harg3.read_unread _
        iexact H1
      iexists _; isplitr; · ipureintro; exact harg4.read_unread _
      iexact H2
    isplitl [H3]; · iexists _; iexact H3
    isplitl [H4]; · iexists _; iexact H4
    iexists _; iexact H5

theorem cov5_first (hc : first i) (x0 x1 : Vec F S64x8x1024 .f32) (x2 : Vec F S8x8x1024 .f32) (y : S64x8x1024.Idx) :
    ∃ pc ∈ (run_first c i arg2 harg2 arg3 harg3 arg4 harg4 arg5 harg5 arg6 harg6 arg7 harg7 hc x0 x1 x2).1, y ∈ pc.1.set :=
  View.cover_of_tiledL (run_first c i arg2 harg2 arg3 harg3 arg4 harg4 arg5 harg5 arg6 harg6 arg7 harg7 hc x0 x1 x2).1 S1x8x1024.size (by sl_kernel_rfl) y

theorem cov6_first (hc : first i) (x0 x1 : Vec F S64x8x1024 .f32) (x2 : Vec F S8x8x1024 .f32) (y : S64x8x1024.Idx) :
    ∃ pc ∈ (run_first c i arg2 harg2 arg3 harg3 arg4 harg4 arg5 harg5 arg6 harg6 arg7 harg7 hc x0 x1 x2).2.1, y ∈ pc.1.set :=
  View.cover_of_tiledL (run_first c i arg2 harg2 arg3 harg3 arg4 harg4 arg5 harg5 arg6 harg6 arg7 harg7 hc x0 x1 x2).2.1 S1x8x1024.size (by sl_kernel_rfl) y

theorem cov7_first (hc : first i) (x0 x1 : Vec F S64x8x1024 .f32) (x2 : Vec F S8x8x1024 .f32) (y : S2x8x1024.Idx) :
    ∃ pc ∈ (run_first c i arg2 harg2 arg3 harg3 arg4 harg4 arg5 harg5 arg6 harg6 arg7 harg7 hc x0 x1 x2).2.2.1, y ∈ pc.1.set :=
  View.cover_of_tiledL (run_first c i arg2 harg2 arg3 harg3 arg4 harg4 arg5 harg5 arg6 harg6 arg7 harg7 hc x0 x1 x2).2.2.1 S1x8x1024.size (by sl_kernel_rfl) y

theorem cov5_next (hc : ¬ first i) (x0 x1 : Vec F S64x8x1024 .f32) (x2 : Vec F S8x8x1024 .f32) (xs : Vec F S2x8x1024 .f32) (y : S64x8x1024.Idx) :
    ∃ pc ∈ (run_next c i arg2 harg2 arg3 harg3 arg4 harg4 arg5 harg5 arg6 harg6 arg7 harg7 hc x0 x1 x2 xs).1, y ∈ pc.1.set :=
  View.cover_of_tiledL (run_next c i arg2 harg2 arg3 harg3 arg4 harg4 arg5 harg5 arg6 harg6 arg7 harg7 hc x0 x1 x2 xs).1 S1x8x1024.size (by sl_kernel_rfl) y

theorem cov6_next (hc : ¬ first i) (x0 x1 : Vec F S64x8x1024 .f32) (x2 : Vec F S8x8x1024 .f32) (xs : Vec F S2x8x1024 .f32) (y : S64x8x1024.Idx) :
    ∃ pc ∈ (run_next c i arg2 harg2 arg3 harg3 arg4 harg4 arg5 harg5 arg6 harg6 arg7 harg7 hc x0 x1 x2 xs).2.1, y ∈ pc.1.set :=
  View.cover_of_tiledL (run_next c i arg2 harg2 arg3 harg3 arg4 harg4 arg5 harg5 arg6 harg6 arg7 harg7 hc x0 x1 x2 xs).2.1 S1x8x1024.size (by sl_kernel_rfl) y

theorem cov7_next (hc : ¬ first i) (x0 x1 : Vec F S64x8x1024 .f32) (x2 : Vec F S8x8x1024 .f32) (xs : Vec F S2x8x1024 .f32) (y : S2x8x1024.Idx) :
    ∃ pc ∈ (run_next c i arg2 harg2 arg3 harg3 arg4 harg4 arg5 harg5 arg6 harg6 arg7 harg7 hc x0 x1 x2 xs).2.2.1, y ∈ pc.1.set :=
  View.cover_of_tiledL (run_next c i arg2 harg2 arg3 harg3 arg4 harg4 arg5 harg5 arg6 harg6 arg7 harg7 hc x0 x1 x2 xs).2.2.1 S1x8x1024.size (by sl_kernel_rfl) y

/-- What a list of stores leaves, over anything: the block it covers. -/
abbrev left64 (L : List (View.Piece (Elt F) S64x8x1024 .f32)) : Vec F S64x8x1024 .f32 :=
  ((Memref.whole cc1_stg3_0 : Memref sig .tc .vmem S64x8x1024 .f32).view).read (Elt F)
    (((Memref.whole cc1_stg3_0 : Memref sig .tc .vmem S64x8x1024 .f32).view).writes (Elt F) (View.junk _) L)
abbrev left2 (L : List (View.Piece (Elt F) S2x8x1024 .f32)) : Vec F S2x8x1024 .f32 :=
  ((Memref.whole cc1_scratch0 : Memref sig .tc .vmem S2x8x1024 .f32).view).read (Elt F)
    (((Memref.whole cc1_scratch0 : Memref sig .tc .vmem S2x8x1024 .f32).view).writes (Elt F) (View.junk _) L)

open Classical in
/-- One run of the body as a function: the two blocks of states, and the carried state after it, from the
    blocks read and the carried state before it (which the first block does not look at). -/
def step (x0 x1 : Vec F S64x8x1024 .f32) (x2 : Vec F S8x8x1024 .f32) (xs : Vec F S2x8x1024 .f32) :
    Vec F S64x8x1024 .f32 × Vec F S64x8x1024 .f32 × Vec F S2x8x1024 .f32 :=
  if hc : first i then
    let L := run_first c i arg2 harg2 arg3 harg3 arg4 harg4 arg5 harg5 arg6 harg6 arg7 harg7 hc x0 x1 x2
    (left64 L.1, left64 L.2.1, left2 L.2.2.1)
  else
    let L := run_next c i arg2 harg2 arg3 harg3 arg4 harg4 arg5 harg5 arg6 harg6 arg7 harg7 hc x0 x1 x2 xs
    (left64 L.1, left64 L.2.1, left2 L.2.2.1)

/-- A buffer with a covering list of stores in it holds what they leave. -/
theorem owns_stored {S : Shape} {e : EltTy} (arg : Memref sig .tc .vmem S e) (v' : View sig .tc .vmem S e) (L : List (View.Piece (Elt F) S e))
    (h : ∀ y, ∃ p ∈ L, y ∈ p.1.set) :
    stored c arg L ⊢ owns (c : Thread nD τ) arg fullShare (v'.read (Elt F) (v'.writes (Elt F) (View.junk _) L)) := by
  unfold stored owns
  iintro ⟨%f, H⟩
  iexists _; isplitr
  swap; · iexact H
  ipureintro; exact View.read_writes_of_cover _ _ _ _ _ h

/-- The body's triple: it leaves what `step` says, whatever the carried state was at the first block. -/
theorem step_triple (x0 x1 : Vec F S64x8x1024 .f32) (x2 : Vec F S8x8x1024 .f32) (xs : Vec F S2x8x1024 .f32) (E : Set ℕ) (K : PUnit → sProp 𝕄) :
    iprop(held c arg2 arg3 arg4 x0 x1 x2 ∗ (∃ d, owns (c : Thread nD τ) arg5 fullShare d) ∗ (∃ d, owns (c : Thread nD τ) arg6 fullShare d)
        ∗ (∃ d, ⌜¬ first i → d = xs⌝ ∗ owns (c : Thread nD τ) arg7 fullShare d)
        ∗ (iprop(held c arg2 arg3 arg4 x0 x1 x2
            ∗ owns (c : Thread nD τ) arg5 fullShare (step c i arg2 harg2 arg3 harg3 arg4 harg4 arg5 harg5 arg6 harg6 arg7 harg7 x0 x1 x2 xs).1
            ∗ owns (c : Thread nD τ) arg6 fullShare (step c i arg2 harg2 arg3 harg3 arg4 harg4 arg5 harg5 arg6 harg6 arg7 harg7 x0 x1 x2 xs).2.1
            ∗ owns (c : Thread nD τ) arg7 fullShare (step c i arg2 harg2 arg3 harg3 arg4 harg4 arg5 harg5 arg6 harg6 arg7 harg7 x0 x1 x2 xs).2.2) -∗ K ⟨⟩))
      ⊢ wp frame (wpE (defs₀ (F := F)) Variants.none c none) E (cc1_s5_scan i arg2 harg2 arg3 harg3 arg4 harg4 arg5 harg5 arg6 harg6 arg7 harg7) K := by
  by_cases hc : first i
  · rw [step, dif_pos hc]
    iintro ⟨H, H5, H6, ⟨%d, -, H7⟩, Hk⟩
    iapply ((run_first c i arg2 harg2 arg3 harg3 arg4 harg4 arg5 harg5 arg6 harg6 arg7 harg7 hc x0 x1 x2).2.2.2 E K)
    isplitl [H]; · iexact H
    isplitl [H5]; · iexact H5
    isplitl [H6]; · iexact H6
    isplitl [H7]; · iexists _; iexact H7
    iintro ⟨H, H5, H6, H7⟩
    iapply Hk
    isplitl [H]; · iexact H
    isplitl [H5]; · iapply (owns_stored c arg5 _ _ (cov5_first c i arg2 harg2 arg3 harg3 arg4 harg4 arg5 harg5 arg6 harg6 arg7 harg7 hc x0 x1 x2)); iexact H5
    isplitl [H6]; · iapply (owns_stored c arg6 _ _ (cov6_first c i arg2 harg2 arg3 harg3 arg4 harg4 arg5 harg5 arg6 harg6 arg7 harg7 hc x0 x1 x2)); iexact H6
    iapply (owns_stored c arg7 _ _ (cov7_first c i arg2 harg2 arg3 harg3 arg4 harg4 arg5 harg5 arg6 harg6 arg7 harg7 hc x0 x1 x2)); iexact H7
  · rw [step, dif_neg hc]
    iintro ⟨H, H5, H6, ⟨%d, %hd, H7⟩, Hk⟩
    obtain rfl := hd hc
    iapply ((run_next c i arg2 harg2 arg3 harg3 arg4 harg4 arg5 harg5 arg6 harg6 arg7 harg7 hc x0 x1 x2 d).2.2.2 E K)
    isplitl [H]; · iexact H
    isplitl [H5]; · iexact H5
    isplitl [H6]; · iexact H6
    isplitl [H7]; · iexact H7
    iintro ⟨H, H5, H6, H7⟩
    iapply Hk
    isplitl [H]; · iexact H
    isplitl [H5]; · iapply (owns_stored c arg5 _ _ (cov5_next c i arg2 harg2 arg3 harg3 arg4 harg4 arg5 harg5 arg6 harg6 arg7 harg7 hc x0 x1 x2 d)); iexact H5
    isplitl [H6]; · iapply (owns_stored c arg6 _ _ (cov6_next c i arg2 harg2 arg3 harg3 arg4 harg4 arg5 harg5 arg6 harg6 arg7 harg7 hc x0 x1 x2 d)); iexact H6
    iapply (owns_stored c arg7 _ _ (cov7_next c i arg2 harg2 arg3 harg3 arg4 harg4 arg5 harg5 arg6 harg6 arg7 harg7 hc x0 x1 x2 d)); iexact H7

end Body

section Data
-- what the core's buffers hold when the sweep is entered
variable (V : (c : Dev nD) → (b : Ref sig .tc) → Buf (Elt F) ((c : Thread nD τ).loc b))

/-- Window `w`'s block at point `t` as it is fetched. -/
def blkIn (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's run at point `t` from a carried state. -/
def stepAt (c : Dev nD) (t : Fin cfg1.N) (xs : Vec F S2x8x1024 .f32) : Vec F S64x8x1024 .f32 × Vec F S64x8x1024 .f32 × Vec F S2x8x1024 .f32 :=
  step c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3))
    (st1_4 t) (hstage1_4 ((cfg1.slots t 4).cast nbuf1_4)) (Memref.whole cc1_scratch0) (Memref.isWhole_whole _)
    (blkIn V c 0 t) (blkIn V c 1 t) (blkIn V c 2 t) xs

/-- The carried state before point `n`. -/
def carry (c : Dev nD) : ℕ → Vec F S2x8x1024 .f32
  | 0 => left2 []
  | n + 1 => if h : n < cfg1.N then (stepAt V c ⟨n, h⟩ (carry c n)).2.2 else carry c n

theorem carry_succ (c : Dev nD) (t : Fin cfg1.N) : carry V c (t.val + 1) = (stepAt V c t (carry V c t.val)).2.2 := by
  rw [carry, dif_pos t.isLt]

/-- The invariant before point `p`: the carried state in its buffer (at the first point, anything), every other scoped
    buffer and the generator register at something. -/
def inv (c : Dev nD) (p : ℕ) : sProp 𝕄 :=
  iprop((∃ d, ⌜p ≠ 0 → d = carry V c p⌝ ∗ owns (c : Thread nD τ) (Memref.whole cc1_scratch0) fullShare d)
    ∗ Pipeline.scopedRestBut (Ix := Unit) (Name := ℕ) (U := UR sig nD τ) (Lvl := ℕ) (Val := Elt F) spec1 c [cc1_scratch0]
    ∗ ∃ r, prngReg c r)

/-- The sweep's proof data. -/
def dat (c : Dev nD) : Dat τ (Elt F) Unit ℕ (UR sig nD τ) ℕ cfg1 c where
  A w := V c (Pipeline.arrRef spec1 w)
  after w t := match w with
    | ⟨0, _⟩ => blkIn V c 0 t
    | ⟨1, _⟩ => blkIn V c 1 t
    | ⟨2, _⟩ => blkIn V c 2 t
    | ⟨3, _⟩ => (stepAt V c t (carry V c t.val)).1
    | ⟨4, _⟩ => (stepAt V c t (carry V c t.val)).2.1
  Φ p := inv V c p.val
  q _ := fullShare
  owed _ := 0

theorem Φ_zero (c : Dev nD) : (dat V c).Φ 0 = inv V c 0 := by
  dsimp only [dat]; exact congrArg (inv V c) (Fin.val_zero _)
theorem Φ_last (c : Dev nD) : (dat V c).Φ (Fin.last cfg1.N) = inv V c cfg1.N := by
  dsimp only [dat]; exact congrArg (inv V c) (Fin.val_last _)
theorem A_eq (c : Dev nD) (w : Fin cfg1.W) : (dat V c).A w = V c (Pipeline.arrRef spec1 w) := by dsimp only [dat]

theorem before0 (c : Dev nD) (t : Fin cfg1.N) (d) : (dat V c).before 0 t d = blkIn V c 0 t :=
  ((dat V c).before_in_eq_fetched 0 rfl (fun _ => rfl) (fun _ _ _ => rfl) (fun _ => rfl) t d).trans rfl
theorem before1 (c : Dev nD) (t : Fin cfg1.N) (d) : (dat V c).before 1 t d = blkIn V c 1 t :=
  ((dat V c).before_in_eq_fetched 1 rfl (fun _ => rfl) (fun _ _ _ => rfl) (fun _ => rfl) t d).trans rfl
theorem before2 (c : Dev nD) (t : Fin cfg1.N) (d) : (dat V c).before 2 t d = blkIn V c 2 t :=
  ((dat V c).before_in_eq_fetched 2 rfl (fun _ => rfl) (fun _ _ _ => rfl) (fun _ => rfl) t d).trans rfl

/-- The body's triple at a point, as the pipeline calls it. -/
theorem sound (c : Dev nD) (t : Fin cfg1.N) :
    iprop((dat V c).Φ t.castSucc ∗ (dat V c).owesAt () t.castSucc
      ∗ (∃ d, owns (c : Thread nD τ) (st1_0 t) fullShare ((dat V c).before 0 t d))
      ∗ (∃ d, owns (c : Thread nD τ) (st1_1 t) fullShare ((dat V c).before 1 t d))
      ∗ (∃ d, owns (c : Thread nD τ) (st1_2 t) fullShare ((dat V c).before 2 t d))
      ∗ (∃ d, owns (c : Thread nD τ) (st1_3 t) fullShare ((dat V c).before 3 t d))
      ∗ (∃ d, owns (c : Thread nD τ) (st1_4 t) fullShare ((dat V c).before 4 t d)))
    ⊢ wp frame (wpE (defs₀ (F := F)) Variants.none c none) Set.univ (bodyAt1 t) (fun _ =>
      iprop((dat V c).Φ t.succ ∗ (dat V c).owesAt () t.succ
      ∗ owns (c : Thread nD τ) (st1_0 t) fullShare ((dat V c).after 0 t)
      ∗ owns (c : Thread nD τ) (st1_1 t) fullShare ((dat V c).after 1 t)
      ∗ owns (c : Thread nD τ) (st1_2 t) fullShare ((dat V c).after 2 t)
      ∗ owns (c : Thread nD τ) (st1_3 t) fullShare ((dat V c).after 3 t)
      ∗ owns (c : Thread nD τ) (st1_4 t) fullShare ((dat V c).after 4 t))) := by
  unfold bodyAt1
  simp only [before0, before1, before2]
  rw [show (dat V c).Φ t.castSucc = inv V c t.val from rfl, show (dat V c).Φ t.succ = inv V c (t.val + 1) from rfl,
    show (dat V c).owesAt () t.succ = (dat V c).owesAt () t.castSucc from rfl]
  unfold inv
  iintro ⟨⟨⟨%ds, %hs, Hs⟩, Hr⟩, Ho, ⟨%d0, H0⟩, ⟨%d1, H1⟩, ⟨%d2, H2⟩, ⟨%d3, H3⟩, ⟨%d4, H4⟩⟩
  iapply (step_triple c (grid1.coords t) _ _ _ _ _ _ _ _ _ _ _ _ (blkIn V c 0 t) (blkIn V c 1 t) (blkIn V c 2 t) (carry V c t.val) Set.univ _)
  isplitl [H0 H1 H2]
  · isplitl [H0]; · iexact H0
    isplitl [H1]; · iexact H1
    iexact H2
  isplitl [H3]; · iexists _; iexact H3
  isplitl [H4]; · iexists _; iexact H4
  isplitl [Hs]
  · iexists _; isplitr
    swap; · iexact Hs
    ipureintro
    exact fun hf => hs fun h0 => hf ((first_iff t).mpr (by rw [h0]))
  iintro ⟨⟨H0, H1, H2⟩, H3, H4, Hs⟩
  isplitl [Hs Hr]
  · isplitl [Hs]
    · iexists _; isplitr
      swap; · iexact Hs
      ipureintro
      exact fun _ => (carry_succ V c t).symm
    iexact Hr
  isplitl [Ho]; · iexact Ho
  isplitl [H0]; · iexact H0
  isplitl [H1]; · iexact H1
  isplitl [H2]; · iexact H2
  isplitl [H3]; · iexact H3
  iexact H4

theorem row (t : Fin cfg1.N) : defs₀ (F := F) .tc cfg1.body (cfg1.bodyArgs t (cfg1.slots t)) = bodyAt1 t := by
  unfold defs₀; rw [Defs.onTc_tc]

/-- The library's obligation on the body, at every point. -/
theorem obligation (c : Dev nD) : BodyObligation (dat (F := F) V c) (defs₀ (F := F)) Variants.none () Set.univ := fun t => by
  rw [bigSep_W1, bigSep_W1, row]
  exact triple_restated (sound V c t) rfl .rfl fun _ => .rfl

/-- The scoped buffers the pipeline leaves alone are the carried state's and the others. -/
theorem rest_split (c : Dev nD) :
    Pipeline.scopedRest (Ix := Unit) (Name := ℕ) (U := UR sig nD τ) (Lvl := ℕ) (Val := Elt F) spec1 c
      = iprop((∃ f, (c : Thread nD τ).loc cc1_scratch0 ↦{fullShare} f) ∗ Pipeline.scopedRestBut spec1 c [cc1_scratch0]) :=
  (Pipeline.scopedRest_split_of_list spec1 c [cc1_scratch0] (by decide) (by decide)).trans (by rw [bigSepL_singleton]; rfl)

/-- The invariant is entered from the scoped buffers and the generator register, -/
theorem inv_in (c : Dev nD) : Pipeline.ΦA (U := UR sig nD τ) (Val := Elt F) spec1 c ⊢ inv V c 0 := by
  unfold Pipeline.ΦA inv
  rw [rest_split]
  simp only [owns_whole_eq]
  iintro ⟨⟨⟨%f, Hs⟩, Hr⟩, Hp⟩
  isplitl [Hs]
  · iexists f; isplitr; · ipureintro; exact fun h => absurd rfl h
    iexists f; isplitr; · ipureintro; rfl
    iexact Hs
  isplitl [Hr] <;> iassumption

/-- and left to them. -/
theorem inv_out (c : Dev nD) (p : ℕ) : inv V c p ⊢ Pipeline.ΦA (U := UR sig nD τ) (Val := Elt F) spec1 c := by
  unfold Pipeline.ΦA inv
  rw [rest_split]
  simp only [owns_whole_eq]
  iintro ⟨⟨%d, -, %f, -, Hs⟩, Hr, Hp⟩
  isplitr [Hp]
  · isplitl [Hs]; · iexists f; iexact Hs
    iexact Hr
  iexact Hp

end Data

end Cert.Proof.Fwd

end
-- ==== Proof.ScanRun0.lean ====
/-
  The tables of powers: what the body of the first call does to the staging buffers.

  The body reads the multiplier and stores two tables of eight slabs each, one for the forward and one for the
  backward sweep. It has one case and runs once.
-/
module

public import proofs.«01_k».proof.Proof.ScanRun1
public import proofs.«01_k».proof.Proof.Gen.KernelIdeal.Launch
public import proofs.«01_k».proof.Proof.Gen.KernelIdeal.Points
public import proofs.«01_k».proof.Proof.Gen.KernelIdeal.Loops
public import Idealize.ShloMosaic.Lib.Tactic
public import Idealize.ShloMosaic.Lib.WordCmp
public import Idealize.ShloMosaic.Lib.Ring
public import Idealize.ShloMosaic.Lib.Pipeline.FrameBody

@[expose] public section

set_option maxRecDepth 16384

noncomputable section

namespace Cert.Proof.Tab

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.Fwd (stored owns_stored)

section Body

variable (c : Dev nD)
  (arg0 : Memref sig .tc .vmem S1x8192 .f32) (harg0 : arg0.IsWhole) (arg1 : Memref sig .tc .vmem S1x8192 .f32) (harg1 : arg1.IsWhole)
  (arg2 : Memref sig .tc .vmem S8x8x8192 .f32) (harg2 : arg2.IsWhole) (arg3 : Memref sig .tc .vmem S8x8x8192 .f32) (harg3 : arg3.IsWhole)

set_option maxHeartbeats 4000000 in
/-- The body, the tables' buffers at anything. -/
def run (x0 x1 : Vec F S1x8192 .f32) :
    Σ' (L2 : List (View.Piece (Elt F) S8x8x8192 .f32)), { L3 : List (View.Piece (Elt F) S8x8x8192 .f32) //
      ∀ (E : Set ℕ) (K : PUnit → sProp 𝕄),
        iprop(owns (c : Thread nD τ) arg0 fullShare x0 ∗ owns (c : Thread nD τ) arg1 fullShare x1
            ∗ (∃ d, owns (c : Thread nD τ) arg2 fullShare d) ∗ (∃ d, owns (c : Thread nD τ) arg3 fullShare d)
            ∗ (iprop(owns (c : Thread nD τ) arg0 fullShare x0 ∗ owns (c : Thread nD τ) arg1 fullShare x1 ∗ stored c arg2 L2 ∗ stored c arg3 L3) -∗ K ⟨⟩))
          ⊢ wp frame (wpE (defs₀ (F := F)) Variants.none c none) E (cc0_s5_tables arg0 harg0 arg1 harg1 arg2 harg2 arg3 harg3) K } := by
  refine ⟨?_, ?_, fun E K => ?run⟩
  case run =>
    simp only [cc0_s5_tables_eq_skeleton]; unfold cc0_s5_tables_skel stored
    unfold owns
    iintro ⟨⟨%f0, %hf0, H0⟩, ⟨%f1, %hf1, H1⟩, ⟨%d2, %f2, -, H2⟩, ⟨%d3, %f3, -, H3⟩, Hk⟩
    obtain rfl := harg0.eq_unread hf0; obtain rfl := harg1.eq_unread hf1
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]; · iexists _; iexact H2
    iexists _; iexact H3

theorem cov2 (x0 x1 : Vec F S1x8192 .f32) (y : S8x8x8192.Idx) : ∃ pc ∈ (run c arg0 harg0 arg1 harg1 arg2 harg2 arg3 harg3 x0 x1).1, y ∈ pc.1.set :=
  View.cover_of_tiledL (run c arg0 harg0 arg1 harg1 arg2 harg2 arg3 harg3 x0 x1).1 S1x8x8192.size (by sl_kernel_rfl) y
theorem cov3 (x0 x1 : Vec F S1x8192 .f32) (y : S8x8x8192.Idx) : ∃ pc ∈ (run c arg0 harg0 arg1 harg1 arg2 harg2 arg3 harg3 x0 x1).2.1, y ∈ pc.1.set :=
  View.cover_of_tiledL (run c arg0 harg0 arg1 harg1 arg2 harg2 arg3 harg3 x0 x1).2.1 S1x8x8192.size (by sl_kernel_rfl) y

/-- What a list of stores leaves in a table. -/
abbrev leftT (L : List (View.Piece (Elt F) S8x8x8192 .f32)) : Vec F S8x8x8192 .f32 :=
  ((Memref.whole cc0_stg2_0 : Memref sig .tc .vmem S8x8x8192 .f32).view).read (Elt F)
    (((Memref.whole cc0_stg2_0 : Memref sig .tc .vmem S8x8x8192 .f32).view).writes (Elt F) (View.junk _) L)

/-- The two tables the body leaves. -/
def tables (x0 x1 : Vec F S1x8192 .f32) : Vec F S8x8x8192 .f32 × Vec F S8x8x8192 .f32 :=
  (leftT (run c arg0 harg0 arg1 harg1 arg2 harg2 arg3 harg3 x0 x1).1, leftT (run c arg0 harg0 arg1 harg1 arg2 harg2 arg3 harg3 x0 x1).2.1)

theorem triple (x0 x1 : Vec F S1x8192 .f32) (E : Set ℕ) (K : PUnit → sProp 𝕄) :
    iprop(owns (c : Thread nD τ) arg0 fullShare x0 ∗ owns (c : Thread nD τ) arg1 fullShare x1
        ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1
            ∗ owns (c : Thread nD τ) arg2 fullShare (tables c arg0 harg0 arg1 harg1 arg2 harg2 arg3 harg3 x0 x1).1 ∗ owns (c : Thread nD τ) arg3 fullShare (tables c arg0 harg0 arg1 harg1 arg2 harg2 arg3 harg3 x0 x1).2) -∗ K ⟨⟩))
      ⊢ wp frame (wpE (defs₀ (F := F)) Variants.none c none) E (cc0_s5_tables arg0 harg0 arg1 harg1 arg2 harg2 arg3 harg3) K := by
  dsimp only [tables]
  iintro ⟨H0, H1, H2, H3, Hk⟩
  iapply ((run c arg0 harg0 arg1 harg1 arg2 harg2 arg3 harg3 x0 x1).2.2 E K)
  isplitl [H0]; · iexact H0
  isplitl [H1]; · iexact H1
  isplitl [H2]; · iexact H2
  isplitl [H3]; · iexact H3
  iintro ⟨H0, H1, H2, H3⟩
  iapply Hk
  isplitl [H0]; · iexact H0
  isplitl [H1]; · iexact H1
  isplitl [H2]; · iapply (owns_stored c arg2 _ _ (cov2 c arg0 harg0 arg1 harg1 arg2 harg2 arg3 harg3 x0 x1)); iexact H2
  iapply (owns_stored c arg3 _ _ (cov3 c arg0 harg0 arg1 harg1 arg2 harg2 arg3 harg3 x0 x1)); iexact H3

end Body

section Data
-- what the core's buffers hold when the call is entered
variable (V : (c : Dev nD) → (b : Ref sig .tc) → Buf (Elt F) ((c : Thread nD τ).loc b))

/-- Window `w`'s block at point `t` as it is fetched. -/
def blkIn (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tables, from the blocks read. -/
def tabAt (c : Dev nD) (t : Fin cfg0.N) : Vec F S8x8x8192 .f32 × Vec F S8x8x8192 .f32 :=
  tables c (st0_0 t) (hstage0_0 0) (st0_1 t) (hstage0_1 0) (st0_2 t) (hstage0_2 0) (st0_3 t) (hstage0_3 0) (blkIn V c 0 t) (blkIn V c 1 t)

/-- The call's proof data. -/
def dat (c : Dev nD) : Dat τ (Elt F) Unit ℕ (UR sig nD τ) ℕ cfg0 c where
  A w := V c (Pipeline.arrRef spec0 w)
  after w t := match w with
    | ⟨0, _⟩ => blkIn V c 0 t
    | ⟨1, _⟩ => blkIn V c 1 t
    | ⟨2, _⟩ => (tabAt V c t).1
    | ⟨3, _⟩ => (tabAt V c t).2
  Φ _ := Pipeline.ΦA spec0 c
  q _ := fullShare
  owed _ := 0

theorem A_eq (c : Dev nD) (w : Fin cfg0.W) : (dat V c).A w = V c (Pipeline.arrRef spec0 w) := by dsimp only [dat]

theorem after2 (c : Dev nD) (t : Fin cfg0.N) : (dat V c).after 2 t = (tabAt V c t).1 := by dsimp only [dat]
theorem after3 (c : Dev nD) (t : Fin cfg0.N) : (dat V c).after 3 t = (tabAt V c t).2 := by dsimp only [dat]
theorem before0 (c : Dev nD) (t : Fin cfg0.N) (d) : (dat V c).before 0 t d = blkIn V c 0 t :=
  ((dat V c).before_in_eq_fetched 0 rfl (fun _ => rfl) (fun _ _ _ => rfl) (fun _ => rfl) t d).trans rfl
theorem before1 (c : Dev nD) (t : Fin cfg0.N) (d) : (dat V c).before 1 t d = blkIn V c 1 t :=
  ((dat V c).before_in_eq_fetched 1 rfl (fun _ => rfl) (fun _ _ _ => rfl) (fun _ => rfl) t d).trans rfl

/-- The body's triple, as the pipeline calls it. -/
theorem sound (c : Dev nD) (t : Fin cfg0.N) :
    iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d))
      ∗ (∃ d, owns (c : Thread nD τ) (st0_3 t) fullShare ((dat V c).before 3 t d)))
    ⊢ wp frame (wpE (defs₀ (F := F)) Variants.none c none) Set.univ (bodyAt0 t) (fun _ =>
      iprop((dat V c).Φ t.succ ∗ (dat V c).owesAt () t.succ
      ∗ owns (c : Thread nD τ) (st0_0 t) fullShare ((dat V c).after 0 t)
      ∗ owns (c : Thread nD τ) (st0_1 t) fullShare ((dat V c).after 1 t)
      ∗ owns (c : Thread nD τ) (st0_2 t) fullShare ((dat V c).after 2 t)
      ∗ owns (c : Thread nD τ) (st0_3 t) fullShare ((dat V c).after 3 t))) := by
  unfold bodyAt0
  simp only [before0, before1]
  rw [after2, after3]
  unfold tabAt
  rw [show (dat V c).Φ t.succ = (dat V c).Φ t.castSucc from rfl, show (dat V c).owesAt () t.succ = (dat V c).owesAt () t.castSucc from rfl]
  iintro ⟨Hp, Ho, ⟨%d0, H0⟩, ⟨%d1, H1⟩, ⟨%d2, H2⟩, ⟨%d3, H3⟩⟩
  iapply (triple c (st0_0 t) (hstage0_0 0) (st0_1 t) (hstage0_1 0) (st0_2 t) (hstage0_2 0) (st0_3 t) (hstage0_3 0) (blkIn V c 0 t) (blkIn V c 1 t) Set.univ _)
  isplitl [H0]; · iexact H0
  isplitl [H1]; · iexact H1
  isplitl [H2]; · iexists _; iexact H2
  isplitl [H3]; · iexists _; iexact H3
  iintro ⟨H0, H1, H2, H3⟩
  isplitl [Hp]; · iexact Hp
  isplitl [Ho]; · iexact Ho
  isplitl [H0]; · iexact H0
  isplitl [H1]; · iexact H1
  isplitl [H2]; · iexact H2
  iexact H3

theorem row (t : Fin cfg0.N) : defs₀ (F := F) .tc cfg0.body (cfg0.bodyArgs t (cfg0.slots t)) = bodyAt0 t := by
  unfold defs₀; rw [Defs.onTc_tc]

/-- The library's obligation on the body. -/
theorem obligation (c : Dev nD) : BodyObligation (dat (F := F) V c) (defs₀ (F := F)) Variants.none () Set.univ := fun t => by
  rw [bigSep_W0, bigSep_W0, row]
  exact triple_restated (sound V c t) rfl .rfl fun _ => .rfl

end Data

end Cert.Proof.Tab
-- ==== Proof.ScanRun2.lean ====
/-
  The backward sweep of the recurrence: what one run of its body does to the staging buffers and to the carried state.

  The body reads the block of cotangents, the block of states and the table of powers, starts from the carried state
  and from the two sums for the gradient of the multiplier (all zero at the first block it meets), and stores the
  block of adjoints, the new sums and the new carried state. At the last block it meets it adds the rows of the sums
  up. `run_first`, `run_mid` and `run_last` are the three cases.
-/
module

public import proofs.«01_k».proof.Proof.ScanRun1
public import proofs.«01_k».proof.Proof.Gen.KernelIdeal.Launch
public import proofs.«01_k».proof.Proof.Gen.KernelIdeal.Points
public import proofs.«01_k».proof.Proof.Gen.KernelIdeal.Loops
public import Idealize.ShloMosaic.Lib.Tactic
public import Idealize.ShloMosaic.Lib.WordCmp
public import Idealize.ShloMosaic.Lib.Ring
public import Idealize.ShloMosaic.Lib.Pipeline.FrameBody

@[expose] public section

set_option maxRecDepth 16384

noncomputable section

namespace Cert.Proof.Bwd

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.Fwd (stored left64 left2 owns_stored)

/-- The body is at the first block it meets, -/
abbrev first (i : grid2.Coords) : Prop :=
  (Scalar.cmpi .ne (Scalar.extui (Scalar.cmpi .eq (BitVec.ofNat 32 (i 1).val) 0#32)) 0#32) = 1#1
/-- or at the last one. -/
abbrev last (i : grid2.Coords) : Prop :=
  (Scalar.cmpi .ne (Scalar.extui (Scalar.cmpi .eq (BitVec.ofNat 32 (i 1).val) 7#32)) 0#32) = 1#1

theorem first_iff (t : Fin cfg2.N) : first (grid2.coords t) ↔ t.val % 8 = 0 := by
  have ht : t.val < 64 := Nat.lt_of_lt_of_eq t.isLt N_2
  have e1 : (grid2.coords t 1).val = t.val / 1 % 8 := Pipeline.Grid.coords_val t 1 (by decide) rfl
  simp only [first, e1]
  word_cmp
theorem last_iff (t : Fin cfg2.N) : last (grid2.coords t) ↔ t.val % 8 = 7 := by
  have ht : t.val < 64 := Nat.lt_of_lt_of_eq t.isLt N_2
  have e1 : (grid2.coords t 1).val = t.val / 1 % 8 := Pipeline.Grid.coords_val t 1 (by decide) rfl
  simp only [last, e1]
  word_cmp

section Body

variable (c : Dev nD) (i : grid2.Coords)
  (arg2 : Memref sig .tc .vmem S64x8x1024 .f32) (harg2 : arg2.IsWhole)
  (arg3 : Memref sig .tc .vmem S64x8x1024 .f32) (harg3 : arg3.IsWhole)
  (arg4 : Memref sig .tc .vmem S64x8x1024 .f32) (harg4 : arg4.IsWhole)
  (arg5 : Memref sig .tc .vmem S64x8x1024 .f32) (harg5 : arg5.IsWhole)
  (arg6 : Memref sig .tc .vmem S8x8x1024 .f32) (harg6 : arg6.IsWhole)
  (arg7 : Memref sig .tc .vmem S64x8x1024 .f32) (harg7 : arg7.IsWhole)
  (arg8 : Memref sig .tc .vmem S64x8x1024 .f32) (harg8 : arg8.IsWhole)
  (arg9 : Memref sig .tc .vmem S8x1024 .f32) (harg9 : arg9.IsWhole)
  (arg10 : Memref sig .tc .vmem S8x1024 .f32) (harg10 : arg10.IsWhole)
  (arg11 : Memref sig .tc .vmem S2x8x1024 .f32) (harg11 : arg11.IsWhole)

/-- What the body reads and does not write. -/
abbrev held (x0 x1 x2 x3 : Vec F S64x8x1024 .f32) (x4 : Vec F S8x8x1024 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4)

set_option maxHeartbeats 4000000 in
/-- The body at the first block it meets, the carried state and the sums at anything. -/
def run_first (hc : first i) (hl : ¬ last i) (x0 x1 x2 x3 : Vec F S64x8x1024 .f32) (x4 : Vec F S8x8x1024 .f32) :
    Σ' (L7 L8 : List (View.Piece (Elt F) S64x8x1024 .f32)) (L9 L10 : List (View.Piece (Elt F) S8x1024 .f32)), { L11 : List (View.Piece (Elt F) S2x8x1024 .f32) //
      ∀ (E : Set ℕ) (K : PUnit → sProp 𝕄),
        iprop(held c arg2 arg3 arg4 arg5 arg6 x0 x1 x2 x3 x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(held c arg2 arg3 arg4 arg5 arg6 x0 x1 x2 x3 x4 ∗ stored c arg7 L7 ∗ stored c arg8 L8 ∗ stored c arg9 L9 ∗ stored c arg10 L10 ∗ stored c arg11 L11) -∗ K ⟨⟩))
          ⊢ wp frame (wpE (defs₀ (F := F)) Variants.none c none) E (cc2_s5_scan_bwd i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc2_s5_scan_bwd_eq_skeleton]; unfold cc2_s5_scan_bwd_skel held stored
    unfold owns
    iintro ⟨⟨⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, ⟨%d9, %f9, -, H9⟩, ⟨%d10, %f10, -, H10⟩, ⟨%d11, %f11, -, H11⟩, Hk⟩
    obtain rfl := harg2.eq_unread hf2; obtain rfl := harg3.eq_unread hf3; obtain rfl := harg4.eq_unread hf4; obtain rfl := harg5.eq_unread hf5; obtain rfl := harg6.eq_unread hf6
    sl_exec (disch := first | sl_exact hc | sl_exact hl)
    sl_step
    iapply Hk
    isplitl [H2 H3 H4 H5 H6]
    · skip
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    iexists _; iexact H11

set_option maxHeartbeats 4000000 in
/-- The body at a later block, the sums at `s7`, `s8` and the carried state at `s9`. -/
def run_mid (hc : ¬ first i) (hl : ¬ last i) (x0 x1 x2 x3 : Vec F S64x8x1024 .f32) (x4 : Vec F S8x8x1024 .f32) (s7 s8 : Vec F S8x1024 .f32) (s9 : Vec F S2x8x1024 .f32) :
    Σ' (L7 L8 : List (View.Piece (Elt F) S64x8x1024 .f32)) (L9 L10 : List (View.Piece (Elt F) S8x1024 .f32)), { L11 : List (View.Piece (Elt F) S2x8x1024 .f32) //
      ∀ (E : Set ℕ) (K : PUnit → sProp 𝕄),
        iprop(held c arg2 arg3 arg4 arg5 arg6 x0 x1 x2 x3 x4 ∗ (∃ d, owns (c : Thread nD τ) arg7 fullShare d) ∗ (∃ d, owns (c : Thread nD τ) arg8 fullShare d) ∗ owns (c : Thread nD τ) arg9 fullShare s7 ∗ owns (c : Thread nD τ) arg10 fullShare s8 ∗ owns (c : Thread nD τ) arg11 fullShare s9
            ∗ (iprop(held c arg2 arg3 arg4 arg5 arg6 x0 x1 x2 x3 x4 ∗ stored c arg7 L7 ∗ stored c arg8 L8 ∗ stored c arg9 L9 ∗ stored c arg10 L10 ∗ stored c arg11 L11) -∗ K ⟨⟩))
          ⊢ wp frame (wpE (defs₀ (F := F)) Variants.none c none) E (cc2_s5_scan_bwd i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc2_s5_scan_bwd_eq_skeleton]; unfold cc2_s5_scan_bwd_skel held stored
    unfold owns
    iintro ⟨⟨⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, ⟨%f9, %hf9, H9⟩, ⟨%f10, %hf10, H10⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg9.eq_unread hf9; obtain rfl := harg10.eq_unread hf10; obtain rfl := harg11.eq_unread hf11
    sl_exec (disch := first | sl_exact hc | sl_exact hl)
    sl_step
    iapply Hk
    isplitl [H2 H3 H4 H5 H6]
    · skip
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    iexists _; iexact H11

set_option maxHeartbeats 4000000 in
/-- The body at the last block. -/
def run_last (hc : ¬ first i) (hl : last i) (x0 x1 x2 x3 : Vec F S64x8x1024 .f32) (x4 : Vec F S8x8x1024 .f32) (s7 s8 : Vec F S8x1024 .f32) (s9 : Vec F S2x8x1024 .f32) :
    Σ' (L7 L8 : List (View.Piece (Elt F) S64x8x1024 .f32)) (L9 L10 : List (View.Piece (Elt F) S8x1024 .f32)), { L11 : List (View.Piece (Elt F) S2x8x1024 .f32) //
      ∀ (E : Set ℕ) (K : PUnit → sProp 𝕄),
        iprop(held c arg2 arg3 arg4 arg5 arg6 x0 x1 x2 x3 x4 ∗ (∃ d, owns (c : Thread nD τ) arg7 fullShare d) ∗ (∃ d, owns (c : Thread nD τ) arg8 fullShare d) ∗ owns (c : Thread nD τ) arg9 fullShare s7 ∗ owns (c : Thread nD τ) arg10 fullShare s8 ∗ owns (c : Thread nD τ) arg11 fullShare s9
            ∗ (iprop(held c arg2 arg3 arg4 arg5 arg6 x0 x1 x2 x3 x4 ∗ stored c arg7 L7 ∗ stored c arg8 L8 ∗ stored c arg9 L9 ∗ stored c arg10 L10 ∗ stored c arg11 L11) -∗ K ⟨⟩))
          ⊢ wp frame (wpE (defs₀ (F := F)) Variants.none c none) E (cc2_s5_scan_bwd i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc2_s5_scan_bwd_eq_skeleton]; unfold cc2_s5_scan_bwd_skel held stored
    unfold owns
    iintro ⟨⟨⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, ⟨%f9, %hf9, H9⟩, ⟨%f10, %hf10, H10⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg9.eq_unread hf9; obtain rfl := harg10.eq_unread hf10; obtain rfl := harg11.eq_unread hf11
    sl_exec (disch := first | sl_exact hc | sl_exact hl)
    sl_step
    iapply Hk
    isplitl [H2 H3 H4 H5 H6]
    · skip
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    iexists _; iexact H11

theorem cov7_first (hc : first i) (hl : ¬ last i) (x0 x1 x2 x3 : Vec F S64x8x1024 .f32) (x4 : Vec F S8x8x1024 .f32) (y : S64x8x1024.Idx) :
    ∃ pc ∈ (run_first c i arg2 harg2 arg3 harg3 arg4 harg4 arg5 harg5 arg6 harg6 arg7 harg7 arg8 harg8 arg9 harg9 arg10 harg10 arg11 harg11 hc hl x0 x1 x2 x3 x4).1, y ∈ pc.1.set :=
  View.cover_of_tiledL (run_first c i arg2 harg2 arg3 harg3 arg4 harg4 arg5 harg5 arg6 harg6 arg7 harg7 arg8 harg8 arg9 harg9 arg10 harg10 arg11 harg11 hc hl x0 x1 x2 x3 x4).1 S1x8x1024.size (by sl_kernel_rfl) y

theorem cov8_first (hc : first i) (hl : ¬ last i) (x0 x1 x2 x3 : Vec F S64x8x1024 .f32) (x4 : Vec F S8x8x1024 .f32) (y : S64x8x1024.Idx) :
    ∃ pc ∈ (run_first c i arg2 harg2 arg3 harg3 arg4 harg4 arg5 harg5 arg6 harg6 arg7 harg7 arg8 harg8 arg9 harg9 arg10 harg10 arg11 harg11 hc hl x0 x1 x2 x3 x4).2.1, y ∈ pc.1.set :=
  View.cover_of_tiledL (run_first c i arg2 harg2 arg3 harg3 arg4 harg4 arg5 harg5 arg6 harg6 arg7 harg7 arg8 harg8 arg9 harg9 arg10 harg10 arg11 harg11 hc hl x0 x1 x2 x3 x4).2.1 S1x8x1024.size (by sl_kernel_rfl) y

theorem cov9_first (hc : first i) (hl : ¬ last i) (x0 x1 x2 x3 : Vec F S64x8x1024 .f32) (x4 : Vec F S8x8x1024 .f32) (y : S8x1024.Idx) :
    ∃ pc ∈ (run_first c i arg2 harg2 arg3 harg3 arg4 harg4 arg5 harg5 arg6 harg6 arg7 harg7 arg8 harg8 arg9 harg9 arg10 harg10 arg11 harg11 hc hl x0 x1 x2 x3 x4).2.2.1, y ∈ pc.1.set :=
  View.cover_of_tiledL (run_first c i arg2 harg2 arg3 harg3 arg4 harg4 arg5 harg5 arg6 harg6 arg7 harg7 arg8 harg8 arg9 harg9 arg10 harg10 arg11 harg11 hc hl x0 x1 x2 x3 x4).2.2.1 S8x1024.size (by sl_kernel_rfl) y

theorem cov10_first (hc : first i) (hl : ¬ last i) (x0 x1 x2 x3 : Vec F S64x8x1024 .f32) (x4 : Vec F S8x8x1024 .f32) (y : S8x1024.Idx) :
    ∃ pc ∈ (run_first c i arg2 harg2 arg3 harg3 arg4 harg4 arg5 harg5 arg6 harg6 arg7 harg7 arg8 harg8 arg9 harg9 arg10 harg10 arg11 harg11 hc hl x0 x1 x2 x3 x4).2.2.2.1, y ∈ pc.1.set :=
  View.cover_of_tiledL (run_first c i arg2 harg2 arg3 harg3 arg4 harg4 arg5 harg5 arg6 harg6 arg7 harg7 arg8 harg8 arg9 harg9 arg10 harg10 arg11 harg11 hc hl x0 x1 x2 x3 x4).2.2.2.1 S8x1024.size (by sl_kernel_rfl) y

theorem cov11_first (hc : first i) (hl : ¬ last i) (x0 x1 x2 x3 : Vec F S64x8x1024 .f32) (x4 : Vec F S8x8x1024 .f32) (y : S2x8x1024.Idx) :
    ∃ pc ∈ (run_first c i arg2 harg2 arg3 harg3 arg4 harg4 arg5 harg5 arg6 harg6 arg7 harg7 arg8 harg8 arg9 harg9 arg10 harg10 arg11 harg11 hc hl x0 x1 x2 x3 x4).2.2.2.2.1, y ∈ pc.1.set :=
  View.cover_of_tiledL (run_first c i arg2 harg2 arg3 harg3 arg4 harg4 arg5 harg5 arg6 harg6 arg7 harg7 arg8 harg8 arg9 harg9 arg10 harg10 arg11 harg11 hc hl x0 x1 x2 x3 x4).2.2.2.2.1 S1x8x1024.size (by sl_kernel_rfl) y

theorem cov7_mid (hc : ¬ first i) (hl : ¬ last i) (x0 x1 x2 x3 : Vec F S64x8x1024 .f32) (x4 : Vec F S8x8x1024 .f32) (s7 s8 : Vec F S8x1024 .f32) (s9 : Vec F S2x8x1024 .f32) (y : S64x8x1024.Idx) :
    ∃ pc ∈ (run_mid c i arg2 harg2 arg3 harg3 arg4 harg4 arg5 harg5 arg6 harg6 arg7 harg7 arg8 harg8 arg9 harg9 arg10 harg10 arg11 harg11 hc hl x0 x1 x2 x3 x4 s7 s8 s9).1, y ∈ pc.1.set :=
  View.cover_of_tiledL (run_mid c i arg2 harg2 arg3 harg3 arg4 harg4 arg5 harg5 arg6 harg6 arg7 harg7 arg8 harg8 arg9 harg9 arg10 harg10 arg11 harg11 hc hl x0 x1 x2 x3 x4 s7 s8 s9).1 S1x8x1024.size (by sl_kernel_rfl) y

theorem cov8_mid (hc : ¬ first i) (hl : ¬ last i) (x0 x1 x2 x3 : Vec F S64x8x1024 .f32) (x4 : Vec F S8x8x1024 .f32) (s7 s8 : Vec F S8x1024 .f32) (s9 : Vec F S2x8x1024 .f32) (y : S64x8x1024.Idx) :
    ∃ pc ∈ (run_mid c i arg2 harg2 arg3 harg3 arg4 harg4 arg5 harg5 arg6 harg6 arg7 harg7 arg8 harg8 arg9 harg9 arg10 harg10 arg11 harg11 hc hl x0 x1 x2 x3 x4 s7 s8 s9).2.1, y ∈ pc.1.set :=
  View.cover_of_tiledL (run_mid c i arg2 harg2 arg3 harg3 arg4 harg4 arg5 harg5 arg6 harg6 arg7 harg7 arg8 harg8 arg9 harg9 arg10 harg10 arg11 harg11 hc hl x0 x1 x2 x3 x4 s7 s8 s9).2.1 S1x8x1024.size (by sl_kernel_rfl) y

theorem cov9_mid (hc : ¬ first i) (hl : ¬ last i) (x0 x1 x2 x3 : Vec F S64x8x1024 .f32) (x4 : Vec F S8x8x1024 .f32) (s7 s8 : Vec F S8x1024 .f32) (s9 : Vec F S2x8x1024 .f32) (y : S8x1024.Idx) :
    ∃ pc ∈ (run_mid c i arg2 harg2 arg3 harg3 arg4 harg4 arg5 harg5 arg6 harg6 arg7 harg7 arg8 harg8 arg9 harg9 arg10 harg10 arg11 harg11 hc hl x0 x1 x2 x3 x4 s7 s8 s9).2.2.1, y ∈ pc.1.set :=
  View.cover_of_tiledL (run_mid c i arg2 harg2 arg3 harg3 arg4 harg4 arg5 harg5 arg6 harg6 arg7 harg7 arg8 harg8 arg9 harg9 arg10 harg10 arg11 harg11 hc hl x0 x1 x2 x3 x4 s7 s8 s9).2.2.1 S8x1024.size (by sl_kernel_rfl) y

theorem cov10_mid (hc : ¬ first i) (hl : ¬ last i) (x0 x1 x2 x3 : Vec F S64x8x1024 .f32) (x4 : Vec F S8x8x1024 .f32) (s7 s8 : Vec F S8x1024 .f32) (s9 : Vec F S2x8x1024 .f32) (y : S8x1024.Idx) :
    ∃ pc ∈ (run_mid c i arg2 harg2 arg3 harg3 arg4 harg4 arg5 harg5 arg6 harg6 arg7 harg7 arg8 harg8 arg9 harg9 arg10 harg10 arg11 harg11 hc hl x0 x1 x2 x3 x4 s7 s8 s9).2.2.2.1, y ∈ pc.1.set :=
  View.cover_of_tiledL (run_mid c i arg2 harg2 arg3 harg3 arg4 harg4 arg5 harg5 arg6 harg6 arg7 harg7 arg8 harg8 arg9 harg9 arg10 harg10 arg11 harg11 hc hl x0 x1 x2 x3 x4 s7 s8 s9).2.2.2.1 S8x1024.size (by sl_kernel_rfl) y

theorem cov11_mid (hc : ¬ first i) (hl : ¬ last i) (x0 x1 x2 x3 : Vec F S64x8x1024 .f32) (x4 : Vec F S8x8x1024 .f32) (s7 s8 : Vec F S8x1024 .f32) (s9 : Vec F S2x8x1024 .f32) (y : S2x8x1024.Idx) :
    ∃ pc ∈ (run_mid c i arg2 harg2 arg3 harg3 arg4 harg4 arg5 harg5 arg6 harg6 arg7 harg7 arg8 harg8 arg9 harg9 arg10 harg10 arg11 harg11 hc hl x0 x1 x2 x3 x4 s7 s8 s9).2.2.2.2.1, y ∈ pc.1.set :=
  View.cover_of_tiledL (run_mid c i arg2 harg2 arg3 harg3 arg4 harg4 arg5 harg5 arg6 harg6 arg7 harg7 arg8 harg8 arg9 harg9 arg10 harg10 arg11 harg11 hc hl x0 x1 x2 x3 x4 s7 s8 s9).2.2.2.2.1 S1x8x1024.size (by sl_kernel_rfl) y

theorem cov7_last (hc : ¬ first i) (hl : last i) (x0 x1 x2 x3 : Vec F S64x8x1024 .f32) (x4 : Vec F S8x8x1024 .f32) (s7 s8 : Vec F S8x1024 .f32) (s9 : Vec F S2x8x1024 .f32) (y : S64x8x1024.Idx) :
    ∃ pc ∈ (run_last c i arg2 harg2 arg3 harg3 arg4 harg4 arg5 harg5 arg6 harg6 arg7 harg7 arg8 harg8 arg9 harg9 arg10 harg10 arg11 harg11 hc hl x0 x1 x2 x3 x4 s7 s8 s9).1, y ∈ pc.1.set :=
  View.cover_of_tiledL (run_last c i arg2 harg2 arg3 harg3 arg4 harg4 arg5 harg5 arg6 harg6 arg7 harg7 arg8 harg8 arg9 harg9 arg10 harg10 arg11 harg11 hc hl x0 x1 x2 x3 x4 s7 s8 s9).1 S1x8x1024.size (by sl_kernel_rfl) y

theorem cov8_last (hc : ¬ first i) (hl : last i) (x0 x1 x2 x3 : Vec F S64x8x1024 .f32) (x4 : Vec F S8x8x1024 .f32) (s7 s8 : Vec F S8x1024 .f32) (s9 : Vec F S2x8x1024 .f32) (y : S64x8x1024.Idx) :
    ∃ pc ∈ (run_last c i arg2 harg2 arg3 harg3 arg4 harg4 arg5 harg5 arg6 harg6 arg7 harg7 arg8 harg8 arg9 harg9 arg10 harg10 arg11 harg11 hc hl x0 x1 x2 x3 x4 s7 s8 s9).2.1, y ∈ pc.1.set :=
  View.cover_of_tiledL (run_last c i arg2 harg2 arg3 harg3 arg4 harg4 arg5 harg5 arg6 harg6 arg7 harg7 arg8 harg8 arg9 harg9 arg10 harg10 arg11 harg11 hc hl x0 x1 x2 x3 x4 s7 s8 s9).2.1 S1x8x1024.size (by sl_kernel_rfl) y

theorem cov9_last (hc : ¬ first i) (hl : last i) (x0 x1 x2 x3 : Vec F S64x8x1024 .f32) (x4 : Vec F S8x8x1024 .f32) (s7 s8 : Vec F S8x1024 .f32) (s9 : Vec F S2x8x1024 .f32) (y : S8x1024.Idx) :
    ∃ pc ∈ (run_last c i arg2 harg2 arg3 harg3 arg4 harg4 arg5 harg5 arg6 harg6 arg7 harg7 arg8 harg8 arg9 harg9 arg10 harg10 arg11 harg11 hc hl x0 x1 x2 x3 x4 s7 s8 s9).2.2.1, y ∈ pc.1.set :=
  View.cover_of_tiledL (run_last c i arg2 harg2 arg3 harg3 arg4 harg4 arg5 harg5 arg6 harg6 arg7 harg7 arg8 harg8 arg9 harg9 arg10 harg10 arg11 harg11 hc hl x0 x1 x2 x3 x4 s7 s8 s9).2.2.1 S8x1024.size (by sl_kernel_rfl) y

theorem cov10_last (hc : ¬ first i) (hl : last i) (x0 x1 x2 x3 : Vec F S64x8x1024 .f32) (x4 : Vec F S8x8x1024 .f32) (s7 s8 : Vec F S8x1024 .f32) (s9 : Vec F S2x8x1024 .f32) (y : S8x1024.Idx) :
    ∃ pc ∈ (run_last c i arg2 harg2 arg3 harg3 arg4 harg4 arg5 harg5 arg6 harg6 arg7 harg7 arg8 harg8 arg9 harg9 arg10 harg10 arg11 harg11 hc hl x0 x1 x2 x3 x4 s7 s8 s9).2.2.2.1, y ∈ pc.1.set :=
  View.cover_of_tiledL (run_last c i arg2 harg2 arg3 harg3 arg4 harg4 arg5 harg5 arg6 harg6 arg7 harg7 arg8 harg8 arg9 harg9 arg10 harg10 arg11 harg11 hc hl x0 x1 x2 x3 x4 s7 s8 s9).2.2.2.1 S8x1024.size (by sl_kernel_rfl) y

theorem cov11_last (hc : ¬ first i) (hl : last i) (x0 x1 x2 x3 : Vec F S64x8x1024 .f32) (x4 : Vec F S8x8x1024 .f32) (s7 s8 : Vec F S8x1024 .f32) (s9 : Vec F S2x8x1024 .f32) (y : S2x8x1024.Idx) :
    ∃ pc ∈ (run_last c i arg2 harg2 arg3 harg3 arg4 harg4 arg5 harg5 arg6 harg6 arg7 harg7 arg8 harg8 arg9 harg9 arg10 harg10 arg11 harg11 hc hl x0 x1 x2 x3 x4 s7 s8 s9).2.2.2.2.1, y ∈ pc.1.set :=
  View.cover_of_tiledL (run_last c i arg2 harg2 arg3 harg3 arg4 harg4 arg5 harg5 arg6 harg6 arg7 harg7 arg8 harg8 arg9 harg9 arg10 harg10 arg11 harg11 hc hl x0 x1 x2 x3 x4 s7 s8 s9).2.2.2.2.1 S1x8x1024.size (by sl_kernel_rfl) y

/-- What a list of stores leaves in a block of sums. -/
abbrev left8 (L : List (View.Piece (Elt F) S8x1024 .f32)) : Vec F S8x1024 .f32 :=
  ((Memref.whole cc2_stg7_0 : Memref sig .tc .vmem S8x1024 .f32).view).read (Elt F)
    (((Memref.whole cc2_stg7_0 : Memref sig .tc .vmem S8x1024 .f32).view).writes (Elt F) (View.junk _) L)

/-- No block is first and last. -/
theorem not_last (hc : first i) : ¬ last i := by
  have hi := (i 1).isLt
  revert hc
  simp only [first, last]
  generalize (i 1).val = n at hi
  change n < 8 at hi
  word_cmp

/-- What each of the three cases leaves: the two blocks of adjoints, the two sums and the carried state. -/
def outFirst (hc : first i) (hl : ¬ last i) (x0 x1 x2 x3 : Vec F S64x8x1024 .f32) (x4 : Vec F S8x8x1024 .f32) :
    Vec F S64x8x1024 .f32 × Vec F S64x8x1024 .f32 × Vec F S8x1024 .f32 × Vec F S8x1024 .f32 × Vec F S2x8x1024 .f32 :=
  let L := (run_first c i arg2 harg2 arg3 harg3 arg4 harg4 arg5 harg5 arg6 harg6 arg7 harg7 arg8 harg8 arg9 harg9 arg10 harg10 arg11 harg11 hc hl x0 x1 x2 x3 x4)
  (left64 L.1, left64 L.2.1, left8 L.2.2.1, left8 L.2.2.2.1, left2 L.2.2.2.2.1)
def outMid (hc : ¬ first i) (hl : ¬ last i) (x0 x1 x2 x3 : Vec F S64x8x1024 .f32) (x4 : Vec F S8x8x1024 .f32) (s7 s8 : Vec F S8x1024 .f32) (s9 : Vec F S2x8x1024 .f32) :
    Vec F S64x8x1024 .f32 × Vec F S64x8x1024 .f32 × Vec F S8x1024 .f32 × Vec F S8x1024 .f32 × Vec F S2x8x1024 .f32 :=
  let L := (run_mid c i arg2 harg2 arg3 harg3 arg4 harg4 arg5 harg5 arg6 harg6 arg7 harg7 arg8 harg8 arg9 harg9 arg10 harg10 arg11 harg11 hc hl x0 x1 x2 x3 x4 s7 s8 s9)
  (left64 L.1, left64 L.2.1, left8 L.2.2.1, left8 L.2.2.2.1, left2 L.2.2.2.2.1)
def outLast (hc : ¬ first i) (hl : last i) (x0 x1 x2 x3 : Vec F S64x8x1024 .f32) (x4 : Vec F S8x8x1024 .f32) (s7 s8 : Vec F S8x1024 .f32) (s9 : Vec F S2x8x1024 .f32) :
    Vec F S64x8x1024 .f32 × Vec F S64x8x1024 .f32 × Vec F S8x1024 .f32 × Vec F S8x1024 .f32 × Vec F S2x8x1024 .f32 :=
  let L := (run_last c i arg2 harg2 arg3 harg3 arg4 harg4 arg5 harg5 arg6 harg6 arg7 harg7 arg8 harg8 arg9 harg9 arg10 harg10 arg11 harg11 hc hl x0 x1 x2 x3 x4 s7 s8 s9)
  (left64 L.1, left64 L.2.1, left8 L.2.2.1, left8 L.2.2.2.1, left2 L.2.2.2.2.1)

open Classical in
/-- One run of the body as a function: the two blocks of adjoints, the two sums and the carried state after it. -/
def step (x0 x1 x2 x3 : Vec F S64x8x1024 .f32) (x4 : Vec F S8x8x1024 .f32) (s7 s8 : Vec F S8x1024 .f32) (s9 : Vec F S2x8x1024 .f32) :
    Vec F S64x8x1024 .f32 × Vec F S64x8x1024 .f32 × Vec F S8x1024 .f32 × Vec F S8x1024 .f32 × Vec F S2x8x1024 .f32 :=
  if hc : first i then outFirst c i arg2 harg2 arg3 harg3 arg4 harg4 arg5 harg5 arg6 harg6 arg7 harg7 arg8 harg8 arg9 harg9 arg10 harg10 arg11 harg11 hc (not_last i hc) x0 x1 x2 x3 x4
  else if hl : last i then outLast c i arg2 harg2 arg3 harg3 arg4 harg4 arg5 harg5 arg6 harg6 arg7 harg7 arg8 harg8 arg9 harg9 arg10 harg10 arg11 harg11 hc hl x0 x1 x2 x3 x4 s7 s8 s9
  else outMid c i arg2 harg2 arg3 harg3 arg4 harg4 arg5 harg5 arg6 harg6 arg7 harg7 arg8 harg8 arg9 harg9 arg10 harg10 arg11 harg11 hc hl x0 x1 x2 x3 x4 s7 s8 s9

theorem step_first (hc : first i) (x0 x1 x2 x3 : Vec F S64x8x1024 .f32) (x4 : Vec F S8x8x1024 .f32) (s7 s8 : Vec F S8x1024 .f32) (s9 : Vec F S2x8x1024 .f32) :
    step c i arg2 harg2 arg3 harg3 arg4 harg4 arg5 harg5 arg6 harg6 arg7 harg7 arg8 harg8 arg9 harg9 arg10 harg10 arg11 harg11 x0 x1 x2 x3 x4 s7 s8 s9 = outFirst c i arg2 harg2 arg3 harg3 arg4 harg4 arg5 harg5 arg6 harg6 arg7 harg7 arg8 harg8 arg9 harg9 arg10 harg10 arg11 harg11 hc (not_last i hc) x0 x1 x2 x3 x4 :=
  dif_pos hc
theorem step_last (hc : ¬ first i) (hl : last i) (x0 x1 x2 x3 : Vec F S64x8x1024 .f32) (x4 : Vec F S8x8x1024 .f32) (s7 s8 : Vec F S8x1024 .f32) (s9 : Vec F S2x8x1024 .f32) :
    step c i arg2 harg2 arg3 harg3 arg4 harg4 arg5 harg5 arg6 harg6 arg7 harg7 arg8 harg8 arg9 harg9 arg10 harg10 arg11 harg11 x0 x1 x2 x3 x4 s7 s8 s9 = outLast c i arg2 harg2 arg3 harg3 arg4 harg4 arg5 harg5 arg6 harg6 arg7 harg7 arg8 harg8 arg9 harg9 arg10 harg10 arg11 harg11 hc hl x0 x1 x2 x3 x4 s7 s8 s9 :=
  (dif_neg hc).trans (dif_pos hl)
theorem step_mid (hc : ¬ first i) (hl : ¬ last i) (x0 x1 x2 x3 : Vec F S64x8x1024 .f32) (x4 : Vec F S8x8x1024 .f32) (s7 s8 : Vec F S8x1024 .f32) (s9 : Vec F S2x8x1024 .f32) :
    step c i arg2 harg2 arg3 harg3 arg4 harg4 arg5 harg5 arg6 harg6 arg7 harg7 arg8 harg8 arg9 harg9 arg10 harg10 arg11 harg11 x0 x1 x2 x3 x4 s7 s8 s9 = outMid c i arg2 harg2 arg3 harg3 arg4 harg4 arg5 harg5 arg6 harg6 arg7 harg7 arg8 harg8 arg9 harg9 arg10 harg10 arg11 harg11 hc hl x0 x1 x2 x3 x4 s7 s8 s9 :=
  (dif_neg hc).trans (dif_neg hl)

set_option maxHeartbeats 4000000 in
/-- The body's triple: it leaves what `step` says, whatever the sums and the carried state were at the first block. -/
theorem step_triple (x0 x1 x2 x3 : Vec F S64x8x1024 .f32) (x4 : Vec F S8x8x1024 .f32) (s7 s8 : Vec F S8x1024 .f32) (s9 : Vec F S2x8x1024 .f32) (E : Set ℕ) (K : PUnit → sProp 𝕄) :
    iprop(held c arg2 arg3 arg4 arg5 arg6 x0 x1 x2 x3 x4 ∗ (∃ d, owns (c : Thread nD τ) arg7 fullShare d) ∗ (∃ d, owns (c : Thread nD τ) arg8 fullShare d)
        ∗ (∃ d, ⌜¬ first i → d = s7⌝ ∗ owns (c : Thread nD τ) arg9 fullShare d) ∗ (∃ d, ⌜¬ first i → d = s8⌝ ∗ owns (c : Thread nD τ) arg10 fullShare d)
        ∗ (∃ d, ⌜¬ first i → d = s9⌝ ∗ owns (c : Thread nD τ) arg11 fullShare d)
        ∗ (iprop(held c arg2 arg3 arg4 arg5 arg6 x0 x1 x2 x3 x4
            ∗ owns (c : Thread nD τ) arg7 fullShare (step c i arg2 harg2 arg3 harg3 arg4 harg4 arg5 harg5 arg6 harg6 arg7 harg7 arg8 harg8 arg9 harg9 arg10 harg10 arg11 harg11 x0 x1 x2 x3 x4 s7 s8 s9).1
            ∗ owns (c : Thread nD τ) arg8 fullShare (step c i arg2 harg2 arg3 harg3 arg4 harg4 arg5 harg5 arg6 harg6 arg7 harg7 arg8 harg8 arg9 harg9 arg10 harg10 arg11 harg11 x0 x1 x2 x3 x4 s7 s8 s9).2.1
            ∗ owns (c : Thread nD τ) arg9 fullShare (step c i arg2 harg2 arg3 harg3 arg4 harg4 arg5 harg5 arg6 harg6 arg7 harg7 arg8 harg8 arg9 harg9 arg10 harg10 arg11 harg11 x0 x1 x2 x3 x4 s7 s8 s9).2.2.1
            ∗ owns (c : Thread nD τ) arg10 fullShare (step c i arg2 harg2 arg3 harg3 arg4 harg4 arg5 harg5 arg6 harg6 arg7 harg7 arg8 harg8 arg9 harg9 arg10 harg10 arg11 harg11 x0 x1 x2 x3 x4 s7 s8 s9).2.2.2.1
            ∗ owns (c : Thread nD τ) arg11 fullShare (step c i arg2 harg2 arg3 harg3 arg4 harg4 arg5 harg5 arg6 harg6 arg7 harg7 arg8 harg8 arg9 harg9 arg10 harg10 arg11 harg11 x0 x1 x2 x3 x4 s7 s8 s9).2.2.2.2) -∗ K ⟨⟩))
      ⊢ wp frame (wpE (defs₀ (F := F)) Variants.none c none) E (cc2_s5_scan_bwd i arg2 harg2 arg3 harg3 arg4 harg4 arg5 harg5 arg6 harg6 arg7 harg7 arg8 harg8 arg9 harg9 arg10 harg10 arg11 harg11) K := by
  by_cases hc : first i
  · rw [step_first (hc := hc)]; dsimp only [outFirst]
    iintro ⟨H, H7, H8, ⟨%d9, -, H9⟩, ⟨%d10, -, H10⟩, ⟨%d11, -, H11⟩, Hk⟩
    iapply ((run_first c i arg2 harg2 arg3 harg3 arg4 harg4 arg5 harg5 arg6 harg6 arg7 harg7 arg8 harg8 arg9 harg9 arg10 harg10 arg11 harg11 hc (not_last i hc) x0 x1 x2 x3 x4).2.2.2.2.2 E K)
    isplitl [H]; · iexact H
    isplitl [H7]; · iexact H7
    isplitl [H8]; · iexact H8
    isplitl [H9]; · iexists _; iexact H9
    isplitl [H10]; · iexists _; iexact H10
    isplitl [H11]; · iexists _; iexact H11
    iintro ⟨H, H7, H8, H9, H10, H11⟩
    iapply Hk
    isplitl [H]; · iexact H
    isplitl [H7]; · iapply (owns_stored c arg7 _ _ (cov7_first c i arg2 harg2 arg3 harg3 arg4 harg4 arg5 harg5 arg6 harg6 arg7 harg7 arg8 harg8 arg9 harg9 arg10 harg10 arg11 harg11 hc (not_last i hc) x0 x1 x2 x3 x4)); iexact H7
    isplitl [H8]; · iapply (owns_stored c arg8 _ _ (cov8_first c i arg2 harg2 arg3 harg3 arg4 harg4 arg5 harg5 arg6 harg6 arg7 harg7 arg8 harg8 arg9 harg9 arg10 harg10 arg11 harg11 hc (not_last i hc) x0 x1 x2 x3 x4)); iexact H8
    isplitl [H9]; · iapply (owns_stored c arg9 _ _ (cov9_first c i arg2 harg2 arg3 harg3 arg4 harg4 arg5 harg5 arg6 harg6 arg7 harg7 arg8 harg8 arg9 harg9 arg10 harg10 arg11 harg11 hc (not_last i hc) x0 x1 x2 x3 x4)); iexact H9
    isplitl [H10]; · iapply (owns_stored c arg10 _ _ (cov10_first c i arg2 harg2 arg3 harg3 arg4 harg4 arg5 harg5 arg6 harg6 arg7 harg7 arg8 harg8 arg9 harg9 arg10 harg10 arg11 harg11 hc (not_last i hc) x0 x1 x2 x3 x4)); iexact H10
    iapply (owns_stored c arg11 _ _ (cov11_first c i arg2 harg2 arg3 harg3 arg4 harg4 arg5 harg5 arg6 harg6 arg7 harg7 arg8 harg8 arg9 harg9 arg10 harg10 arg11 harg11 hc (not_last i hc) x0 x1 x2 x3 x4)); iexact H11
  · by_cases hl : last i
    · rw [step_last (hc := hc) (hl := hl)]; dsimp only [outLast]
      iintro ⟨H, H7, H8, ⟨%d9, %hd9, H9⟩, ⟨%d10, %hd10, H10⟩, ⟨%d11, %hd11, H11⟩, Hk⟩
      obtain rfl := hd9 hc; obtain rfl := hd10 hc; obtain rfl := hd11 hc
      iapply ((run_last c i arg2 harg2 arg3 harg3 arg4 harg4 arg5 harg5 arg6 harg6 arg7 harg7 arg8 harg8 arg9 harg9 arg10 harg10 arg11 harg11 hc hl x0 x1 x2 x3 x4 d9 d10 d11).2.2.2.2.2 E K)
      isplitl [H]; · iexact H
      isplitl [H7]; · iexact H7
      isplitl [H8]; · iexact H8
      isplitl [H9]; · iexact H9
      isplitl [H10]; · iexact H10
      isplitl [H11]; · iexact H11
      iintro ⟨H, H7, H8, H9, H10, H11⟩
      iapply Hk
      isplitl [H]; · iexact H
      isplitl [H7]; · iapply (owns_stored c arg7 _ _ (cov7_last c i arg2 harg2 arg3 harg3 arg4 harg4 arg5 harg5 arg6 harg6 arg7 harg7 arg8 harg8 arg9 harg9 arg10 harg10 arg11 harg11 hc hl x0 x1 x2 x3 x4 d9 d10 d11)); iexact H7
      isplitl [H8]; · iapply (owns_stored c arg8 _ _ (cov8_last c i arg2 harg2 arg3 harg3 arg4 harg4 arg5 harg5 arg6 harg6 arg7 harg7 arg8 harg8 arg9 harg9 arg10 harg10 arg11 harg11 hc hl x0 x1 x2 x3 x4 d9 d10 d11)); iexact H8
      isplitl [H9]; · iapply (owns_stored c arg9 _ _ (cov9_last c i arg2 harg2 arg3 harg3 arg4 harg4 arg5 harg5 arg6 harg6 arg7 harg7 arg8 harg8 arg9 harg9 arg10 harg10 arg11 harg11 hc hl x0 x1 x2 x3 x4 d9 d10 d11)); iexact H9
      isplitl [H10]; · iapply (owns_stored c arg10 _ _ (cov10_last c i arg2 harg2 arg3 harg3 arg4 harg4 arg5 harg5 arg6 harg6 arg7 harg7 arg8 harg8 arg9 harg9 arg10 harg10 arg11 harg11 hc hl x0 x1 x2 x3 x4 d9 d10 d11)); iexact H10
      iapply (owns_stored c arg11 _ _ (cov11_last c i arg2 harg2 arg3 harg3 arg4 harg4 arg5 harg5 arg6 harg6 arg7 harg7 arg8 harg8 arg9 harg9 arg10 harg10 arg11 harg11 hc hl x0 x1 x2 x3 x4 d9 d10 d11)); iexact H11
    · rw [step_mid (hc := hc) (hl := hl)]; dsimp only [outMid]
      iintro ⟨H, H7, H8, ⟨%d9, %hd9, H9⟩, ⟨%d10, %hd10, H10⟩, ⟨%d11, %hd11, H11⟩, Hk⟩
      obtain rfl := hd9 hc; obtain rfl := hd10 hc; obtain rfl := hd11 hc
      iapply ((run_mid c i arg2 harg2 arg3 harg3 arg4 harg4 arg5 harg5 arg6 harg6 arg7 harg7 arg8 harg8 arg9 harg9 arg10 harg10 arg11 harg11 hc hl x0 x1 x2 x3 x4 d9 d10 d11).2.2.2.2.2 E K)
      isplitl [H]; · iexact H
      isplitl [H7]; · iexact H7
      isplitl [H8]; · iexact H8
      isplitl [H9]; · iexact H9
      isplitl [H10]; · iexact H10
      isplitl [H11]; · iexact H11
      iintro ⟨H, H7, H8, H9, H10, H11⟩
      iapply Hk
      isplitl [H]; · iexact H
      isplitl [H7]; · iapply (owns_stored c arg7 _ _ (cov7_mid c i arg2 harg2 arg3 harg3 arg4 harg4 arg5 harg5 arg6 harg6 arg7 harg7 arg8 harg8 arg9 harg9 arg10 harg10 arg11 harg11 hc hl x0 x1 x2 x3 x4 d9 d10 d11)); iexact H7
      isplitl [H8]; · iapply (owns_stored c arg8 _ _ (cov8_mid c i arg2 harg2 arg3 harg3 arg4 harg4 arg5 harg5 arg6 harg6 arg7 harg7 arg8 harg8 arg9 harg9 arg10 harg10 arg11 harg11 hc hl x0 x1 x2 x3 x4 d9 d10 d11)); iexact H8
      isplitl [H9]; · iapply (owns_stored c arg9 _ _ (cov9_mid c i arg2 harg2 arg3 harg3 arg4 harg4 arg5 harg5 arg6 harg6 arg7 harg7 arg8 harg8 arg9 harg9 arg10 harg10 arg11 harg11 hc hl x0 x1 x2 x3 x4 d9 d10 d11)); iexact H9
      isplitl [H10]; · iapply (owns_stored c arg10 _ _ (cov10_mid c i arg2 harg2 arg3 harg3 arg4 harg4 arg5 harg5 arg6 harg6 arg7 harg7 arg8 harg8 arg9 harg9 arg10 harg10 arg11 harg11 hc hl x0 x1 x2 x3 x4 d9 d10 d11)); iexact H10
      iapply (owns_stored c arg11 _ _ (cov11_mid c i arg2 harg2 arg3 harg3 arg4 harg4 arg5 harg5 arg6 harg6 arg7 harg7 arg8 harg8 arg9 harg9 arg10 harg10 arg11 harg11 hc hl x0 x1 x2 x3 x4 d9 d10 d11)); iexact H11

end Body

section Data
-- what the core's buffers hold when the sweep is entered
variable (V : (c : Dev nD) → (b : Ref sig .tc) → Buf (Elt F) ((c : Thread nD τ).loc b))

/-- Window `w`'s block at point `t` as it is fetched. -/
def blkIn (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body's run at point `t` from the sums and the carried state. -/
def stepAt (c : Dev nD) (t : Fin cfg2.N) (s : Vec F S8x1024 .f32 × Vec F S8x1024 .f32 × Vec F S2x8x1024 .f32) :
    Vec F S64x8x1024 .f32 × Vec F S64x8x1024 .f32 × Vec F S8x1024 .f32 × Vec F S8x1024 .f32 × Vec F S2x8x1024 .f32 :=
  step c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) (Memref.whole cc2_scratch0) (Memref.isWhole_whole _)
    (blkIn V c 0 t) (blkIn V c 1 t) (blkIn V c 2 t) (blkIn V c 3 t) (blkIn V c 4 t) s.1 s.2.1 s.2.2

/-- The sums and the carried state before point `n`. -/
def carry (c : Dev nD) : ℕ → Vec F S8x1024 .f32 × Vec F S8x1024 .f32 × Vec F S2x8x1024 .f32
  | 0 => (left8 [], left8 [], left2 [])
  | n + 1 => if h : n < cfg2.N then (stepAt V c ⟨n, h⟩ (carry c n)).2.2 else carry c n

theorem carry_succ (c : Dev nD) (t : Fin cfg2.N) : carry V c (t.val + 1) = (stepAt V c t (carry V c t.val)).2.2 := by
  rw [carry, dif_pos t.isLt]

/-- The invariant before point `p`: the carried state in its buffer (at the first point, anything), every other scoped
    buffer and the generator register at something. -/
def inv (c : Dev nD) (p : ℕ) : sProp 𝕄 :=
  iprop((∃ d, ⌜p ≠ 0 → d = (carry V c p).2.2⌝ ∗ owns (c : Thread nD τ) (Memref.whole cc2_scratch0) fullShare d)
    ∗ Pipeline.scopedRestBut (Ix := Unit) (Name := ℕ) (U := UR sig nD τ) (Lvl := ℕ) (Val := Elt F) spec2 c [cc2_scratch0]
    ∗ ∃ r, prngReg c r)

/-- The sweep's proof data. -/
def dat (c : Dev nD) : Dat τ (Elt F) Unit ℕ (UR sig nD τ) ℕ cfg2 c where
  A w := V c (Pipeline.arrRef spec2 w)
  after w t := match w with
    | ⟨0, _⟩ => blkIn V c 0 t
    | ⟨1, _⟩ => blkIn V c 1 t
    | ⟨2, _⟩ => blkIn V c 2 t
    | ⟨3, _⟩ => blkIn V c 3 t
    | ⟨4, _⟩ => blkIn V c 4 t
    | ⟨5, _⟩ => (stepAt V c t (carry V c t.val)).1
    | ⟨6, _⟩ => (stepAt V c t (carry V c t.val)).2.1
    | ⟨7, _⟩ => (stepAt V c t (carry V c t.val)).2.2.1
    | ⟨8, _⟩ => (stepAt V c t (carry V c t.val)).2.2.2.1
  Φ p := inv V c p.val
  q _ := fullShare
  owed _ := 0

theorem Φ_zero (c : Dev nD) : (dat V c).Φ 0 = inv V c 0 := by
  dsimp only [dat]; exact congrArg (inv V c) (Fin.val_zero _)
theorem Φ_last (c : Dev nD) : (dat V c).Φ (Fin.last cfg2.N) = inv V c cfg2.N := by
  dsimp only [dat]; exact congrArg (inv V c) (Fin.val_last _)
theorem A_eq (c : Dev nD) (w : Fin cfg2.W) : (dat V c).A w = V c (Pipeline.arrRef spec2 w) := by dsimp only [dat]

theorem before0 (c : Dev nD) (t : Fin cfg2.N) (d) : (dat V c).before 0 t d = blkIn V c 0 t :=
  ((dat V c).before_in_eq_fetched 0 rfl (fun _ => rfl) (fun _ _ _ => rfl) (fun _ => rfl) t d).trans rfl
theorem before1 (c : Dev nD) (t : Fin cfg2.N) (d) : (dat V c).before 1 t d = blkIn V c 1 t :=
  ((dat V c).before_in_eq_fetched 1 rfl (fun _ => rfl) (fun _ _ _ => rfl) (fun _ => rfl) t d).trans rfl
theorem before2 (c : Dev nD) (t : Fin cfg2.N) (d) : (dat V c).before 2 t d = blkIn V c 2 t :=
  ((dat V c).before_in_eq_fetched 2 rfl (fun _ => rfl) (fun _ _ _ => rfl) (fun _ => rfl) t d).trans rfl
theorem before3 (c : Dev nD) (t : Fin cfg2.N) (d) : (dat V c).before 3 t d = blkIn V c 3 t :=
  ((dat V c).before_in_eq_fetched 3 rfl (fun _ => rfl) (fun _ _ _ => rfl) (fun _ => rfl) t d).trans rfl
theorem before4 (c : Dev nD) (t : Fin cfg2.N) (d) : (dat V c).before 4 t d = blkIn V c 4 t :=
  ((dat V c).before_in_eq_fetched 4 rfl (fun _ => rfl) (fun _ _ _ => rfl) (fun _ => rfl) t d).trans rfl
theorem before7 (c : Dev nD) (t : Fin cfg2.N) (h0 : ¬ t.val % 8 = 0) (d) : (dat V c).before 7 t d = (carry V c t.val).1 := by
  obtain ⟨n, hn⟩ := t
  obtain _ | n := n
  · exact absurd rfl h0
  rw [Dat.before_out_kept _ 7 rfl ⟨n + 1, hn⟩ (by omega) (Bool.eq_false_iff.mpr fun h => by have := (flush2_7 _).mp h; dsimp only at this h0; omega) (fun _ => rfl) (fun _ _ => rfl)]
  exact (congrArg (fun s => s.1) (carry_succ V c ⟨n, Nat.lt_of_succ_lt hn⟩)).symm
theorem before8 (c : Dev nD) (t : Fin cfg2.N) (h0 : ¬ t.val % 8 = 0) (d) : (dat V c).before 8 t d = (carry V c t.val).2.1 := by
  obtain ⟨n, hn⟩ := t
  obtain _ | n := n
  · exact absurd rfl h0
  rw [Dat.before_out_kept _ 8 rfl ⟨n + 1, hn⟩ (by omega) (Bool.eq_false_iff.mpr fun h => by have := (flush2_8 _).mp h; dsimp only at this h0; omega) (fun _ => rfl) (fun _ _ => rfl)]
  exact (congrArg (fun s => s.2.1) (carry_succ V c ⟨n, Nat.lt_of_succ_lt hn⟩)).symm

/-- The body's triple at a point, as the pipeline calls it. -/
theorem sound (c : Dev nD) (t : Fin cfg2.N) :
    iprop((dat V c).Φ t.castSucc ∗ (dat V c).owesAt () t.castSucc
      ∗ (∃ d, owns (c : Thread nD τ) (st2_0 t) fullShare ((dat V c).before 0 t d))
      ∗ (∃ d, owns (c : Thread nD τ) (st2_1 t) fullShare ((dat V c).before 1 t d))
      ∗ (∃ d, owns (c : Thread nD τ) (st2_2 t) fullShare ((dat V c).before 2 t d))
      ∗ (∃ d, owns (c : Thread nD τ) (st2_3 t) fullShare ((dat V c).before 3 t d))
      ∗ (∃ d, owns (c : Thread nD τ) (st2_4 t) fullShare ((dat V c).before 4 t d))
      ∗ (∃ d, owns (c : Thread nD τ) (st2_5 t) fullShare ((dat V c).before 5 t d))
      ∗ (∃ d, owns (c : Thread nD τ) (st2_6 t) fullShare ((dat V c).before 6 t d))
      ∗ (∃ d, owns (c : Thread nD τ) (st2_7 t) fullShare ((dat V c).before 7 t d))
      ∗ (∃ d, owns (c : Thread nD τ) (st2_8 t) fullShare ((dat V c).before 8 t d)))
    ⊢ wp frame (wpE (defs₀ (F := F)) Variants.none c none) Set.univ (bodyAt2 t) (fun _ =>
      iprop((dat V c).Φ t.succ ∗ (dat V c).owesAt () t.succ
      ∗ owns (c : Thread nD τ) (st2_0 t) fullShare ((dat V c).after 0 t)
      ∗ owns (c : Thread nD τ) (st2_1 t) fullShare ((dat V c).after 1 t)
      ∗ owns (c : Thread nD τ) (st2_2 t) fullShare ((dat V c).after 2 t)
      ∗ owns (c : Thread nD τ) (st2_3 t) fullShare ((dat V c).after 3 t)
      ∗ owns (c : Thread nD τ) (st2_4 t) fullShare ((dat V c).after 4 t)
      ∗ owns (c : Thread nD τ) (st2_5 t) fullShare ((dat V c).after 5 t)
      ∗ owns (c : Thread nD τ) (st2_6 t) fullShare ((dat V c).after 6 t)
      ∗ owns (c : Thread nD τ) (st2_7 t) fullShare ((dat V c).after 7 t)
      ∗ owns (c : Thread nD τ) (st2_8 t) fullShare ((dat V c).after 8 t))) := by
  unfold bodyAt2
  simp only [before0, before1, before2, before3, before4]
  rw [show (dat V c).Φ t.castSucc = inv V c t.val from rfl, show (dat V c).Φ t.succ = inv V c (t.val + 1) from rfl,
    show (dat V c).owesAt () t.succ = (dat V c).owesAt () t.castSucc from rfl]
  unfold inv
  have h7 : ∀ d, ¬ first (grid2.coords t) → (dat V c).before 7 t d = (carry V c t.val).1 :=
    fun d hf => before7 V c t (fun h => hf ((first_iff t).mpr h)) d
  have h8 : ∀ d, ¬ first (grid2.coords t) → (dat V c).before 8 t d = (carry V c t.val).2.1 :=
    fun d hf => before8 V c t (fun h => hf ((first_iff t).mpr h)) d
  iintro ⟨⟨⟨%ds, %hs, Hs⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (step_triple c (grid2.coords t) _ _ _ _ _ _ _ _ _ _ _ _ _ _ _ _ _ _ _ _ (blkIn V c 0 t) (blkIn V c 1 t) (blkIn V c 2 t) (blkIn V c 3 t) (blkIn V c 4 t)
    (carry V c t.val).1 (carry V c t.val).2.1 (carry V c t.val).2.2 Set.univ _)
  isplitl [H0 H1 H2 H3 H4]
  · isplitl [H0]; · iexact H0
    isplitl [H1]; · iexact H1
    isplitl [H2]; · iexact H2
    isplitl [H3]; · iexact H3
    iexact H4
  isplitl [H5]; · iexists _; iexact H5
  isplitl [H6]; · iexists _; iexact H6
  isplitl [H7]
  · iexists _; isplitr
    swap; · iexact H7
    ipureintro; exact h7 d7
  isplitl [H8]
  · iexists _; isplitr
    swap; · iexact H8
    ipureintro; exact h8 d8
  isplitl [Hs]
  · iexists _; isplitr
    swap; · iexact Hs
    ipureintro
    exact fun hf => hs fun h0 => hf ((first_iff t).mpr (by rw [h0]))
  iintro ⟨⟨H0, H1, H2, H3, H4⟩, H5, H6, H7, H8, Hs⟩
  isplitl [Hs Hr]
  · isplitl [Hs]
    · iexists _; isplitr
      swap; · iexact Hs
      ipureintro
      exact fun _ => (congrArg (fun s => s.2.2) (carry_succ V c t)).symm
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem row (t : Fin cfg2.N) : defs₀ (F := F) .tc cfg2.body (cfg2.bodyArgs t (cfg2.slots t)) = bodyAt2 t := by
  unfold defs₀; rw [Defs.onTc_tc]

/-- The library's obligation on the body, at every point. -/
theorem obligation (c : Dev nD) : BodyObligation (dat (F := F) V c) (defs₀ (F := F)) Variants.none () Set.univ := fun t => by
  rw [bigSep_W2, bigSep_W2, row]
  exact triple_restated (sound V c t) rfl .rfl fun _ => .rfl

/-- The scoped buffers the pipeline leaves alone are the carried state's and the others. -/
theorem rest_split (c : Dev nD) :
    Pipeline.scopedRest (Ix := Unit) (Name := ℕ) (U := UR sig nD τ) (Lvl := ℕ) (Val := Elt F) spec2 c
      = iprop((∃ f, (c : Thread nD τ).loc cc2_scratch0 ↦{fullShare} f) ∗ Pipeline.scopedRestBut spec2 c [cc2_scratch0]) :=
  (Pipeline.scopedRest_split_of_list spec2 c [cc2_scratch0] (by decide) (by decide)).trans (by rw [bigSepL_singleton]; rfl)

/-- The invariant is entered from the scoped buffers and the generator register, -/
theorem inv_in (c : Dev nD) : Pipeline.ΦA (U := UR sig nD τ) (Val := Elt F) spec2 c ⊢ inv V c 0 := by
  unfold Pipeline.ΦA inv
  rw [rest_split]
  simp only [owns_whole_eq]
  iintro ⟨⟨⟨%f, Hs⟩, Hr⟩, Hp⟩
  isplitl [Hs]
  · iexists f; isplitr; · ipureintro; exact fun h => absurd rfl h
    iexists f; isplitr; · ipureintro; rfl
    iexact Hs
  isplitl [Hr] <;> iassumption

/-- and left to them. -/
theorem inv_out (c : Dev nD) (p : ℕ) : inv V c p ⊢ Pipeline.ΦA (U := UR sig nD τ) (Val := Elt F) spec2 c := by
  unfold Pipeline.ΦA inv
  rw [rest_split]
  simp only [owns_whole_eq]
  iintro ⟨⟨%d, -, %f, -, Hs⟩, Hr, Hp⟩
  isplitr [Hp]
  · isplitl [Hs]; · iexists f; iexact Hs
    iexact Hr
  iexact Hp

end Data

end Cert.Proof.Bwd
-- ==== Proof.ScanRun.lean ====
/-
  The three calls of the recurrence's gradient in order: what every buffer holds between them, and the run.

  `W0` is the launch, `W1` the buffers after the tables, `W2` after the forward sweep, `W3` after the backward sweep.
  `run` says that the program ends, with every buffer at `W3` and every counter at zero; the frame and the values are
  read from it. All of it holds for any reading of the floats.
-/
module

public import proofs.«01_k».proof.Proof.ScanRun0
public import proofs.«01_k».proof.Proof.ScanRun1
public import proofs.«01_k».proof.Proof.ScanRun2
public import proofs.«01_k».proof.Proof.Gen.KernelIdeal.Launch
public import Idealize.ShloMosaic.Lib.Pipeline.RegionsLoop
public import Idealize.ShloMosaic.Lib.Pipeline.FrameSuffix

@[expose] public section

set_option maxRecDepth 16384

noncomputable section

namespace Cert.Proof.Scan

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
def W0 (c : Dev nD) : Valuation τ sig (Elt F) := fun b => m (c, b)
abbrev V0 : (c : Dev nD) → (b : Ref sig .tc) → Buf (Elt F) ((c : Thread nD τ).loc b) := fun c b => W0 m c b

/-- The buffers after the tables of powers: its arrays at what it leaves, every other buffer as it was. -/
def W1 (c : Dev nD) : Valuation τ sig (Elt F) :=
  Pipeline.withArrays spec0 c (W0 m c) fun w => (Tab.dat (V0 m) c).arrAt w cfg0.N
abbrev V1 : (c : Dev nD) → (b : Ref sig .tc) → Buf (Elt F) ((c : Thread nD τ).loc b) := fun c b => W1 m c b
theorem W1_arr (c : Dev nD) (w : Fin cfg0.W) : V1 m c (Pipeline.arrRef spec0 w) = (Tab.dat (V0 m) c).arrAt w cfg0.N := by
  unfold V1 W1; exact Pipeline.withArrays_arr spec0 launch0.win.arr_inj c _ _ w
theorem W1_of_ne (c : Dev nD) (b : Ref sig .tc) (hb : ∀ w, Pipeline.arrRef spec0 w ≠ b) : V1 m c b = V0 m c b := by
  unfold V1 W1; exact Pipeline.withArrays_of_ne spec0 c _ _ b hb
/-- A buffer that is none of the call's results keeps what it held. -/
theorem W1_of (c : Dev nD) (r : Ref sig .tc) (h : ∀ w : Fin cfg0.W, Pipeline.arrRef spec0 w = r → (cfg0.win w).isOut = false) :
    V1 m c r = V0 m c r := by
  by_cases hw : ∃ w : Fin cfg0.W, Pipeline.arrRef spec0 w = r
  · obtain ⟨w, rfl⟩ := hw
    exact (W1_arr m c w).trans (((Tab.dat (V0 m) c).arrAt_in w (h w rfl) _).trans (Tab.A_eq (V0 m) c w))
  · exact W1_of_ne m c r fun w e => hw ⟨w, e⟩

/-- The buffers after the forward sweep: its arrays at what it leaves, every other buffer as it was. -/
def W2 (c : Dev nD) : Valuation τ sig (Elt F) :=
  Pipeline.withArrays spec1 c (W1 m c) fun w => (Fwd.dat (V1 m) c).arrAt w cfg1.N
abbrev V2 : (c : Dev nD) → (b : Ref sig .tc) → Buf (Elt F) ((c : Thread nD τ).loc b) := fun c b => W2 m c b
theorem W2_arr (c : Dev nD) (w : Fin cfg1.W) : V2 m c (Pipeline.arrRef spec1 w) = (Fwd.dat (V1 m) c).arrAt w cfg1.N := by
  unfold V2 W2; exact Pipeline.withArrays_arr spec1 launch1.win.arr_inj c _ _ w
theorem W2_of_ne (c : Dev nD) (b : Ref sig .tc) (hb : ∀ w, Pipeline.arrRef spec1 w ≠ b) : V2 m c b = V1 m c b := by
  unfold V2 W2; exact Pipeline.withArrays_of_ne spec1 c _ _ b hb
/-- A buffer that is none of the call's results keeps what it held. -/
theorem W2_of (c : Dev nD) (r : Ref sig .tc) (h : ∀ w : Fin cfg1.W, Pipeline.arrRef spec1 w = r → (cfg1.win w).isOut = false) :
    V2 m c r = V1 m c r := by
  by_cases hw : ∃ w : Fin cfg1.W, Pipeline.arrRef spec1 w = r
  · obtain ⟨w, rfl⟩ := hw
    exact (W2_arr m c w).trans (((Fwd.dat (V1 m) c).arrAt_in w (h w rfl) _).trans (Fwd.A_eq (V1 m) c w))
  · exact W2_of_ne m c r fun w e => hw ⟨w, e⟩

/-- The buffers after the backward sweep: its arrays at what it leaves, every other buffer as it was. -/
def W3 (c : Dev nD) : Valuation τ sig (Elt F) :=
  Pipeline.withArrays spec2 c (W2 m c) fun w => (Bwd.dat (V2 m) c).arrAt w cfg2.N
abbrev V3 : (c : Dev nD) → (b : Ref sig .tc) → Buf (Elt F) ((c : Thread nD τ).loc b) := fun c b => W3 m c b
theorem W3_arr (c : Dev nD) (w : Fin cfg2.W) : V3 m c (Pipeline.arrRef spec2 w) = (Bwd.dat (V2 m) c).arrAt w cfg2.N := by
  unfold V3 W3; exact Pipeline.withArrays_arr spec2 launch2.win.arr_inj c _ _ w
theorem W3_of_ne (c : Dev nD) (b : Ref sig .tc) (hb : ∀ w, Pipeline.arrRef spec2 w ≠ b) : V3 m c b = V2 m c b := by
  unfold V3 W3; exact Pipeline.withArrays_of_ne spec2 c _ _ b hb
/-- A buffer that is none of the call's results keeps what it held. -/
theorem W3_of (c : Dev nD) (r : Ref sig .tc) (h : ∀ w : Fin cfg2.W, Pipeline.arrRef spec2 w = r → (cfg2.win w).isOut = false) :
    V3 m c r = V2 m c r := by
  by_cases hw : ∃ w : Fin cfg2.W, Pipeline.arrRef spec2 w = r
  · obtain ⟨w, rfl⟩ := hw
    exact (W3_arr m c w).trans (((Bwd.dat (V2 m) c).arrAt_in w (h w rfl) _).trans (Bwd.A_eq (V2 m) c w))
  · exact W3_of_ne m c r fun w e => hw ⟨w, e⟩

/-- No call writes an argument. -/
theorem W3_arg (c : Dev nD) (r : Ref sig .tc) (h : r ∈ [main_arg0, main_arg1, main_arg2, main_arg3, main_arg4, main_arg5]) :
    V3 m c r = m ((c : Thread nD τ).loc r) := by
  have h0 : ∀ r ∈ [main_arg0, main_arg1, main_arg2, main_arg3, main_arg4, main_arg5], ∀ w : Fin cfg0.W, Pipeline.arrRef spec0 w = r → (cfg0.win w).isOut = false :=
    ListAll.forall_mem_of_all_decide (by decide +kernel)
  have h1 : ∀ r ∈ [main_arg0, main_arg1, main_arg2, main_arg3, main_arg4, main_arg5], ∀ w : Fin cfg1.W, Pipeline.arrRef spec1 w = r → (cfg1.win w).isOut = false :=
    ListAll.forall_mem_of_all_decide (by decide +kernel)
  have h2 : ∀ r ∈ [main_arg0, main_arg1, main_arg2, main_arg3, main_arg4, main_arg5], ∀ w : Fin cfg2.W, Pipeline.arrRef spec2 w = r → (cfg2.win w).isOut = false :=
    ListAll.forall_mem_of_all_decide (by decide +kernel)
  exact (W3_of m c r (h2 r h)).trans ((W2_of m c r (h1 r h)).trans ((W1_of m c r (h0 r h)).trans rfl))

/-- No call has a prefetched table. -/
abbrev adm : (p : Fin 3) → (pcfgs (F := F) p).Adm := fun p => (cfgs p).toPCfg_adm
/-- The three calls' proof data, each at what its call is entered with. -/
def pdats : (p : Fin 3) → (c : Dev nD) → Dat τ (Elt F) Unit ℕ (UR sig nD τ) ℕ (Pipeline.pin (pcfgs (F := F)) adm p) c
  | ⟨0, _⟩ => fun c => Tab.dat (V0 m) c
  | ⟨1, _⟩ => fun c => Fwd.dat (V1 m) c
  | ⟨2, _⟩ => fun c => Bwd.dat (V2 m) c
abbrev 𝒱₀ : Variants := Variants.none
abbrev L : GSem nD τ sig → Finset Unit := fun _ => ∅
abbrev lv : GSem nD τ sig → Unit → ℕ := fun _ _ => 0
/-- What rides beside the buffers: the generator register at something, and the core owing nothing. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Call 0 over the buffers: entered from every buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Tab.obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) (Tab.A_eq (V0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (fun w => (W1_arr m c w).symm)
      (fun b hb => W1_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the buffers: entered from every buffer at `W1`, left at `W2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Fwd.obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) (Fwd.A_eq (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (Fwd.dat (V1 m) c).Φ 0 from rfl, Fwd.Φ_zero]
    iintro ⟨Hp, -, Hr⟩
    iapply (Fwd.inv_in (V1 m) c)
    unfold Pipeline.ΦA
    isplitl [Hr]; · iexact Hr
    iexact Hp
  hout c := by
    rw [Pipeline.ownSems0_none, show (pdats m 1 c).Φ (Fin.last _) = (Fwd.dat (V1 m) c).Φ (Fin.last cfg1.N) from rfl, Fwd.Φ_last]
    refine (Fwd.inv_out (V1 m) c _).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (fun w => (W2_arr m c w).symm)
      (fun b hb => W2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the buffers: entered from every buffer at `W2`, left at `W3`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Bwd.obligation (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) (Bwd.A_eq (V2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (Bwd.dat (V2 m) c).Φ 0 from rfl, Bwd.Φ_zero]
    iintro ⟨Hp, -, Hr⟩
    iapply (Bwd.inv_in (V2 m) c)
    unfold Pipeline.ΦA
    isplitl [Hr]; · iexact Hr
    iexact Hp
  hout c := by
    rw [Pipeline.ownSems0_none, show (pdats m 2 c).Φ (Fin.last _) = (Bwd.dat (V2 m) c).Φ (Fin.last cfg2.N) from rfl, Bwd.Φ_last]
    refine (Bwd.inv_out (V2 m) c _).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (V3 m c) ((pdats m 2 c).arrAt · cfg2.N) (fun w => (W3_arr m c w).symm)
      (fun b hb => W3_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program as the three calls. -/
abbrev segs : List (Pipeline.Seg (pcfgs (F := F)) adm (pdats m) () defs₀ 𝒱₀ L lv) :=
  [.region (reg0 m), .region (reg1 m), .region (reg2 m)]

theorem main_run (c : Dev nD) : main (F := F) c = Pipeline.Seg.run (segs m) := (main_chain c).trans (by chain_rfl)

theorem no_unscoped : ∀ sm : SemLoc sig, sm.isScoped .tc = true := by decide

set_option backward.isDefEq.respectTransparency.types false in
/-- The run: from any memory with zero counters the program ends without a fault, every buffer at `W3`, every counter at
    zero. -/
theorem run : θ_run defs (onTc (τ := τ) (main (F := F))) ⟨m, fun _ => 0, ρ⟩ (fun r =>
    (∀ (c : Dev nD) (b : Ref sig .tc), ¬ (Proc.devRef .tc b : DevRef τ sig).isScoped → r.2.mem ((c.tc : Thread nD τ).loc b) = V3 m c b)
      ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W3 m c) ∗ ∃ r, prngReg c r))
    (hch := ⟨fun _ => .rfl, fun _ => .rfl, fun _ => .rfl, fun c => by
      rw [show (Pipeline.Seg.region (reg2 m)).post c = iprop(StableHlo.held (c : Thread nD τ) (Pipeline.ucRefs τ sig) (W3 m c) ∗ R c) from rfl]
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h hz => ⟨fun c b hb => h c _ (mem_uc b hb), funext fun g => hz g (.inr (no_unscoped g.2))⟩)

end Cert.Proof.Scan
-- ==== Proof.ScanMath.lean ====
/-
  The mathematics of the recurrence, over the complex numbers.

  `Sf a b t` is the state before time `t`: zero at first, and `a` times the state plus the input at each step. A group
  of eight times is computed by three doubling steps, each adding a power of `a` times the value one, two or four rows
  away (where there is such a row), and then the carried state times a power: `group_fwd` says that this is the
  recurrence, and `group_bwd` the same with the rows counted from the last.

  Two extended reals are the `Parts` of a complex number when they are its real and imaginary part; a step of the
  kernel or of the reference takes parts to parts.
-/
module

public import Idealize.ShloMosaic.PureOps.Ideal
public import Mathlib.Data.Complex.Basic
public import Mathlib.Data.Complex.BigOperators
public import Mathlib.Tactic.LinearCombination
public import Mathlib.Tactic.Ring
public import Mathlib.Tactic.FinCases

@[expose] public section

noncomputable section

namespace Cert.Proof.ScanMath

open scoped ComplexConjugate

/-- The state before time `t`. -/
def Sf (a : ℂ) (b : ℕ → ℂ) : ℕ → ℂ
  | 0 => 0
  | t + 1 => a * Sf a b t + b t

theorem Sf_succ (a : ℂ) (b : ℕ → ℂ) (t : ℕ) : Sf a b (t + 1) = a * Sf a b t + b t := rfl

/-- The recurrence of the gradient, counted from the end: `Qb a d k` is the gradient at the `k`-th time from the last,
    over the `4096` times `d`. -/
def Qb (a : ℂ) (d : ℕ → ℂ) (k : ℕ) : ℂ := Sf (conj a) (fun j => d (4095 - j)) k

theorem Sf_zero (a : ℂ) (b : ℕ → ℂ) : Sf a b 0 = 0 := rfl
theorem Qb_zero (a : ℂ) (d : ℕ → ℂ) : Qb a d 0 = 0 := rfl

/-- The gradient of the multiplier: the sum over the times of the gradient there and the state before. -/
def DA (a : ℂ) (b d : ℕ → ℂ) : ℂ := ∑ t ∈ Finset.range 4096, Qb a d (4096 - t) * conj (Sf a b t)

/-! ## A group of eight rows -/

/-- One doubling step: the value `s` rows away, cyclically, times the mask's row. -/
def dbl (s : ℕ) (m x : Fin 8 → ℂ) (r : Fin 8) : ℂ := x r + m r * x ⟨(r.val + 8 - s) % 8, Nat.mod_lt _ (by decide)⟩

/-- The forward masks, -/
def mf (a : ℂ) (k : ℕ) (r : Fin 8) : ℂ := if k ≤ r.val then a ^ k else 0
/-- and the backward ones. -/
def mb (a : ℂ) (k : ℕ) (r : Fin 8) : ℂ := if r.val ≤ 7 - k then a ^ k else 0

/-- Eight rows forward: the three steps and the carried state are the recurrence. -/
theorem group_fwd (a : ℂ) (b : ℕ → ℂ) (t : ℕ) (r : Fin 8) :
    dbl 4 (mf a 4) (dbl 2 (mf a 2) (dbl 1 (mf a 1) (fun q => b (t + q.val)))) r + a ^ (r.val + 1) * Sf a b t = Sf a b (t + r.val + 1) := by
  fin_cases r <;> simp [dbl, mf, Sf, ← add_assoc] <;> ring

/-- Eight rows backward: row `r` is the `(8 - r)`-th from the last. -/
theorem group_bwd (a : ℂ) (b : ℕ → ℂ) (t : ℕ) (r : Fin 8) :
    dbl 4 (mb a 4) (dbl 6 (mb a 2) (dbl 7 (mb a 1) (fun q => b (t + (7 - q.val))))) r + a ^ (8 - r.val) * Sf a b t = Sf a b (t + (8 - r.val)) := by
  fin_cases r <;> simp [dbl, mb, Sf, ← add_assoc] <;> ring

/-! ## Parts -/

/-- The two extended reals are the real and the imaginary part of a complex number. -/
def Parts (x y : EReal) (z : ℂ) : Prop := x = ((z.re : ℝ) : EReal) ∧ y = ((z.im : ℝ) : EReal)

theorem Parts.zero : Parts 0 0 0 := ⟨by simp, by simp⟩

/-- Parts are determined by the number. -/
theorem Parts.eq {x y x' y' : EReal} {z : ℂ} (h : Parts x y z) (h' : Parts x' y' z) : x = x' ∧ y = y' :=
  ⟨h.1.trans h'.1.symm, h.2.trans h'.2.symm⟩

theorem Parts.read {x y x' y' : EReal} {z w : ℂ} (h : Parts x y z) (hx : x' = x) (hy : y' = y) (e : z = w) : Parts x' y' w := by
  subst hx hy e; exact h

theorem Parts.congr {x y : EReal} {z w : ℂ} (h : Parts x y z) (e : z = w) : Parts x y w := e ▸ h

/-- Real extended reals are parts. -/
theorem Parts.of_finite {x y : EReal} (hx : ∃ r : ℝ, x = (r : EReal)) (hy : ∃ r : ℝ, y = (r : EReal)) : Parts x y ⟨x.toReal, y.toReal⟩ := by
  obtain ⟨r, rfl⟩ := hx; obtain ⟨s, rfl⟩ := hy
  exact ⟨by simp, by simp⟩

/-- A product added. -/
theorem Parts.fma {x y u v p q : EReal} {z w m : ℂ} (h : Parts x y z) (hm : Parts u v m) (hw : Parts p q w) :
    Parts (x + u * p - v * q) (y + u * q + v * p) (z + m * w) := by
  obtain ⟨rfl, rfl⟩ := h; obtain ⟨rfl, rfl⟩ := hm; obtain ⟨rfl, rfl⟩ := hw
  constructor
  · rw [← EReal.coe_mul, ← EReal.coe_mul, ← EReal.coe_add, ← EReal.coe_sub]; congr 1; simp; ring
  · rw [← EReal.coe_mul, ← EReal.coe_mul, ← EReal.coe_add, ← EReal.coe_add]; congr 1; simp; ring

/-- The state's step in the reference: a product, then the input. -/
theorem Parts.step {x y u v p q : EReal} {z w m : ℂ} (h : Parts x y z) (hm : Parts u v m) (hw : Parts p q w) :
    Parts (u * p - v * q + x) (u * q + v * p + y) (m * w + z) := by
  obtain ⟨rfl, rfl⟩ := h; obtain ⟨rfl, rfl⟩ := hm; obtain ⟨rfl, rfl⟩ := hw
  constructor
  · rw [← EReal.coe_mul, ← EReal.coe_mul, ← EReal.coe_sub, ← EReal.coe_add]; congr 1; simp
  · rw [← EReal.coe_mul, ← EReal.coe_mul, ← EReal.coe_add, ← EReal.coe_add]; congr 1; simp

/-- A power's step in the table. -/
theorem Parts.mul {u v p q : EReal} {w m : ℂ} (hm : Parts u v m) (hw : Parts p q w) :
    Parts (u * p - v * q) (u * q + v * p) (m * w) := by
  obtain ⟨rfl, rfl⟩ := hm; obtain ⟨rfl, rfl⟩ := hw
  constructor
  · rw [← EReal.coe_mul, ← EReal.coe_mul, ← EReal.coe_sub]; congr 1; simp
  · rw [← EReal.coe_mul, ← EReal.coe_mul, ← EReal.coe_add]; congr 1; simp

theorem Parts.conj {u v : EReal} {m : ℂ} (hm : Parts u v m) : Parts u (-v) (conj m) := by
  obtain ⟨rfl, rfl⟩ := hm
  exact ⟨by simp, by simp⟩

theorem Parts.add {u v p q : EReal} {w m : ℂ} (hm : Parts u v m) (hw : Parts p q w) : Parts (u + p) (v + q) (m + w) := by
  obtain ⟨rfl, rfl⟩ := hm; obtain ⟨rfl, rfl⟩ := hw
  exact ⟨by simp [EReal.coe_add], by simp [EReal.coe_add]⟩

/-- The accumulation of the multiplier's gradient in the kernel. -/
theorem Parts.acc {x y u v p q : EReal} {z w m : ℂ} (h : Parts x y z) (hm : Parts u v m) (hw : Parts p q w) :
    Parts (x + u * p + v * q) (y + v * p - u * q) (z + m * conj w) := by
  obtain ⟨rfl, rfl⟩ := h; obtain ⟨rfl, rfl⟩ := hm; obtain ⟨rfl, rfl⟩ := hw
  constructor
  · rw [← EReal.coe_mul, ← EReal.coe_mul, ← EReal.coe_add, ← EReal.coe_add]; congr 1; simp; ring
  · rw [← EReal.coe_mul, ← EReal.coe_mul, ← EReal.coe_add, ← EReal.coe_sub]; congr 1; simp; ring

/-- The same in the reference. -/
theorem Parts.acc' {x y u v p q : EReal} {z w m : ℂ} (h : Parts x y z) (hm : Parts u v m) (hw : Parts p q w) :
    Parts (x + v * q + u * p) (y + v * p + -u * q) (z + m * conj w) := by
  obtain ⟨rfl, rfl⟩ := h; obtain ⟨rfl, rfl⟩ := hm; obtain ⟨rfl, rfl⟩ := hw
  constructor
  · rw [← EReal.coe_mul, ← EReal.coe_mul, ← EReal.coe_add, ← EReal.coe_add]; congr 1; simp; ring
  · rw [← EReal.coe_neg, ← EReal.coe_mul, ← EReal.coe_mul, ← EReal.coe_add, ← EReal.coe_add]; congr 1; simp; ring

/-- The product with the conjugate in the reference. -/
theorem Parts.mulConj {u v p q : EReal} {w m : ℂ} (hm : Parts u v m) (hw : Parts p q w) :
    Parts (v * q + u * p) (u * q + v * -p) (conj m * w) := by
  obtain ⟨rfl, rfl⟩ := hm; obtain ⟨rfl, rfl⟩ := hw
  constructor
  · rw [← EReal.coe_mul, ← EReal.coe_mul, ← EReal.coe_add]; congr 1; simp; ring
  · rw [← EReal.coe_neg, ← EReal.coe_mul, ← EReal.coe_mul, ← EReal.coe_add]; congr 1; simp

theorem Parts.sum {ι : Type} (s : Finset ι) (x y : ι → EReal) (z : ι → ℂ) (h : ∀ i ∈ s, Parts (x i) (y i) (z i)) :
    Parts (∑ i ∈ s, x i) (∑ i ∈ s, y i) (∑ i ∈ s, z i) := by
  classical
  induction s using Finset.induction_on with
  | empty => simpa using Parts.zero
  | insert i s hi ih =>
    rw [Finset.sum_insert hi, Finset.sum_insert hi, Finset.sum_insert hi]
    exact (h i (Finset.mem_insert_self _ _)).add (ih fun j hj => h j (Finset.mem_insert_of_mem hj))

/-! ## The gradient of the multiplier, shifted by one time -/

theorem sum_shift (f : ℕ → ℂ) (n : ℕ) (h0 : f 0 = 0) (hn : f n = 0) :
    ∑ t ∈ Finset.range n, f (t + 1) = ∑ t ∈ Finset.range n, f t := by
  have h1 := Finset.sum_range_succ f n
  rw [Finset.sum_range_succ', h0, hn, add_zero, add_zero] at h1
  exact h1

/-- The kernel pairs the gradient one time later with the state there: the same sum, both ends being zero. -/
theorem DA_shift (a : ℂ) (b d : ℕ → ℂ) :
    ∑ t ∈ Finset.range 4096, Qb a d (4095 - t) * conj (Sf a b (t + 1)) = DA a b d := by
  have h := sum_shift (fun t => Qb a d (4096 - t) * conj (Sf a b t)) 4096
    (by rw [Sf_zero, map_zero, mul_zero]) (by rw [Nat.sub_self, Qb_zero, zero_mul])
  refine Eq.trans (Finset.sum_congr rfl fun t _ => ?_) h
  rw [show 4096 - (t + 1) = 4095 - t by omega]

end Cert.Proof.ScanMath

end
-- ==== Proof.ScanGroup.lean ====
/-
  One group of eight times, as the two sweeps compute it.

  Everything is at one lane. The forward sweep's group takes the parts of the inputs at eight times and of the state
  before them, with the table's masks and powers of the lane's multiplier, to the parts of the eight states; the
  backward sweep's group does the same from the last row up, with the powers of the conjugate, and adds to the
  multiplier's gradient the products of the gradient one time later with the conjugate of the state.
-/
module

public import proofs.«01_k».proof.Proof.ScanMath
public import proofs.«01_k».proof.Proof.Gen.KernelIdeal.Skeleton
public import Idealize.ShloMosaic.Lib.Pipeline.ValueKit
public import Idealize.ShloMosaic.Lib.Pointwise

@[expose] public section

noncomputable section

namespace Cert.Proof.ScanGroup

open Cert.KernelIdeal Cert.KernelIdeal.Gen Cert.Proof.ScanMath
open Idealize.ShloMosaic Idealize.ShloMosaic.TcCoe Idealize.ShloMosaic.Tactic
open scoped ComplexConjugate

/-- Eight rows of a lane are the parts of eight numbers, -/
def PV (l : Fin 1024) (x y : Vec Ideal S8x1024 .f32) (z : Fin 8 → ℂ) : Prop := ∀ r : Fin 8, Parts (x (ix2 r l)) (y (ix2 r l)) (z r)
/-- and of one slab. -/
def PB (l : Fin 1024) (x y : Vec Ideal S1x8x1024 .f32) (z : Fin 8 → ℂ) : Prop := ∀ r : Fin 8, Parts (x (ix3 0 r l)) (y (ix3 0 r l)) (z r)

variable {l : Fin 1024}

/-- A slab read as rows. -/
theorem PB.rows {x y : Vec Ideal S1x8x1024 .f32} {z : Fin 8 → ℂ} (h : PB l x y z) :
    PV l (shapeCast S8x1024 x shapeCasts_S1x8x1024_S8x1024) (shapeCast S8x1024 y shapeCasts_S1x8x1024_S8x1024) z := by
  intro r
  have e := h r
  pointwise []
  exact e

section Fwd

variable {v15 v17 v19 v21 v23 v25 v27 v29 v32 v35 : Vec Ideal S1x8x1024 .f32} {m1 m2 m4 p x c : Fin 8 → ℂ} {cr ci : FVec Ideal S8x1024 .f32}

theorem fwd1 (h0 : PB l v15 v17 m1) (hx : PB l v32 v35 x) :
    PV l (k1_pay31 v15 v17 v32 v35) (k1_pay4 (k1_pay20 v17) (k1_pay28 v35) (k1_pay29 v32) (k1_pay32 v15 v35)) (dbl 1 m1 x) := by
  intro r
  have e := (hx r).fma (h0 r) (hx ⟨(r.val + 8 - 1) % 8, Nat.mod_lt _ (by decide)⟩)
  pointwise [k1_pay31, k1_pay4, k1_pay20, k1_pay28, k1_pay29, k1_pay32, k1_pay27, k1_pay30, k1_pay19]
  exact e

theorem fwd2 {v18 v36 v37 v42 v43 : FVec Ideal S8x1024 .f32} (h : PV l v42 (k1_pay4 v18 v36 v37 v43) x) (h1 : PB l v19 v21 m2) :
    PV l (k1_pay7 v18 (k1_pay21 v19) (k1_pay22 v21) v36 v37 v42 v43) (k1_pay8 v18 (k1_pay21 v19) (k1_pay22 v21) v36 v37 v42 v43) (dbl 2 m2 x) := by
  intro r
  have e := (h r).fma (h1 r) (h ⟨(r.val + 8 - 2) % 8, Nat.mod_lt _ (by decide)⟩)
  pointwise [k1_pay7, k1_pay8, k1_pay5, k1_pay6, k1_pay21, k1_pay22]
  exact e

theorem fwd3 {v18 v20 v22 v36 v37 v42 v43 : FVec Ideal S8x1024 .f32}
    (h : PV l (k1_pay7 v18 v20 v22 v36 v37 v42 v43) (k1_pay8 v18 v20 v22 v36 v37 v42 v43) x)
    (h2 : PB l v23 v25 m4) (h3 : PB l v27 v29 p) (hc : PV l cr ci c) :
    PV l (k1_pay11 cr ci v18 v20 v22 (k1_pay23 v23) (k1_pay24 v25) (k1_pay25 v27) (k1_pay26 v29) v36 v37 v42 v43)
      (k1_pay12 cr ci v18 v20 v22 (k1_pay23 v23) (k1_pay24 v25) (k1_pay25 v27) (k1_pay26 v29) v36 v37 v42 v43)
      (fun r => dbl 4 m4 x r + p r * c r) := by
  intro r
  have e := ((h r).fma (h2 r) (h ⟨(r.val + 8 - 4) % 8, Nat.mod_lt _ (by decide)⟩)).fma (h3 r) (hc r)
  pointwise [k1_pay11, k1_pay12, k1_pay9, k1_pay10, k1_pay23, k1_pay24, k1_pay25, k1_pay26]
  exact e

end Fwd

/-- The forward group's states, from the slabs of the table and of the inputs and the carried state. -/
def grpF (T : Fin 8 → Vec Ideal S1x8x1024 .f32) (xr xi : Vec Ideal S1x8x1024 .f32) (cr ci : FVec Ideal S8x1024 .f32) :
    FVec Ideal S8x1024 .f32 × FVec Ideal S8x1024 .f32 :=
  (k1_pay11 cr ci (k1_pay20 (T 1)) (k1_pay21 (T 2)) (k1_pay22 (T 3)) (k1_pay23 (T 4)) (k1_pay24 (T 5)) (k1_pay25 (T 6)) (k1_pay26 (T 7))
      (k1_pay28 xi) (k1_pay29 xr) (k1_pay31 (T 0) (T 1) xr xi) (k1_pay32 (T 0) xi),
    k1_pay12 cr ci (k1_pay20 (T 1)) (k1_pay21 (T 2)) (k1_pay22 (T 3)) (k1_pay23 (T 4)) (k1_pay24 (T 5)) (k1_pay25 (T 6)) (k1_pay26 (T 7))
      (k1_pay28 xi) (k1_pay29 xr) (k1_pay31 (T 0) (T 1) xr xi) (k1_pay32 (T 0) xi))

/-- The table's slabs at a lane, forward, -/
structure TabF (l : Fin 1024) (T : Fin 8 → Vec Ideal S1x8x1024 .f32) (a : ℂ) : Prop where
  m1 : PB l (T 0) (T 1) (mf a 1)
  m2 : PB l (T 2) (T 3) (mf a 2)
  m4 : PB l (T 4) (T 5) (mf a 4)
  pw : PB l (T 6) (T 7) fun r => a ^ (r.val + 1)

/-- and backward. -/
structure TabB (l : Fin 1024) (T : Fin 8 → Vec Ideal S1x8x1024 .f32) (a : ℂ) : Prop where
  m1 : PB l (T 0) (T 1) (mb a 1)
  m2 : PB l (T 2) (T 3) (mb a 2)
  m4 : PB l (T 4) (T 5) (mb a 4)
  pw : PB l (T 6) (T 7) fun r => a ^ (8 - r.val)

/-- The forward group is the recurrence. -/
theorem grpF_parts {T : Fin 8 → Vec Ideal S1x8x1024 .f32} {a : ℂ} (hT : TabF l T a) {xr xi : Vec Ideal S1x8x1024 .f32} {cr ci : FVec Ideal S8x1024 .f32}
    (b : ℕ → ℂ) (t : ℕ) (hx : PB l xr xi fun q => b (t + q.val)) (hc : PV l cr ci fun _ => Sf a b t) :
    PV l (grpF T xr xi cr ci).1 (grpF T xr xi cr ci).2 fun r => Sf a b (t + r.val + 1) := by
  have h := fwd3 (fwd2 (fwd1 hT.m1 hx) hT.m2) hT.m4 hT.pw hc
  exact fun r => (h r).congr (group_fwd a b t r)

/-- The last row, for the next group. -/
theorem last_parts {xr xi : FVec Ideal S8x1024 .f32} {z : Fin 8 → ℂ} (h : PV l xr xi z) :
    PV l (broadcastTo S8x1024 (shapeCast S1x1024 (extractStridedSlice S1x1024 ![7, 0] xr slices_S8x1024_o7_0_S1x1024) shapeCasts_S1x1024_S1x1024) broadcasts_S1x1024_S8x1024)
      (broadcastTo S8x1024 (shapeCast S1x1024 (extractStridedSlice S1x1024 ![7, 0] xi slices_S8x1024_o7_0_S1x1024) shapeCasts_S1x1024_S1x1024) broadcasts_S1x1024_S8x1024)
      fun _ => z 7 := by
  intro r
  have e := h 7
  pointwise []
  exact e

/-- The first row, for the next group of the backward sweep. -/
theorem first_parts {xr xi : FVec Ideal S8x1024 .f32} {z : Fin 8 → ℂ} (h : PV l xr xi z) :
    PV l (k2_pay43 xr) (k2_pay44 xi) fun _ => z 0 := by
  intro r
  have e := h 0
  pointwise [k2_pay43, k2_pay44]
  exact e

section Bwd

variable {v28 v30 v32 v34 v36 v38 v40 v42 v45 v48 : Vec Ideal S1x8x1024 .f32} {m1 m2 m4 p x c : Fin 8 → ℂ} {cr ci : FVec Ideal S8x1024 .f32}

theorem bwd1 (h0 : PB l v28 v30 m1) (hx : PB l v45 v48 x) :
    PV l (k2_pay17 (k2_pay15 v28 v45) (k2_pay16 v30 v48)) (k2_pay18 (k2_pay3 v28) (k2_pay4 v30) (k2_pay12 v48) (k2_pay13 v45) (k2_pay14 v48)) (dbl 7 m1 x) := by
  intro r
  have e := (hx r).fma (h0 r) (hx ⟨(r.val + 8 - 7) % 8, Nat.mod_lt _ (by decide)⟩)
  pointwise [k2_pay17, k2_pay15, k2_pay16, k2_pay18, k2_pay3, k2_pay4, k2_pay11, k2_pay12, k2_pay13, k2_pay14]
  exact e

theorem bwd2 {v29 v31 v49 v50 v51 v53 v54 : FVec Ideal S8x1024 .f32} (h : PV l (k2_pay17 v53 v54) (k2_pay18 v29 v31 v49 v50 v51) x) (h1 : PB l v32 v34 m2) :
    PV l (k2_pay21 v29 v31 (k2_pay5 v32) (k2_pay6 v34) v49 v50 v51 v53 v54) (k2_pay22 v29 v31 (k2_pay5 v32) (k2_pay6 v34) v49 v50 v51 v53 v54) (dbl 6 m2 x) := by
  intro r
  have e := (h r).fma (h1 r) (h ⟨(r.val + 8 - 6) % 8, Nat.mod_lt _ (by decide)⟩)
  pointwise [k2_pay21, k2_pay22, k2_pay19, k2_pay20, k2_pay5, k2_pay6]
  exact e

theorem bwd3 {v29 v31 v33 v35 v49 v50 v51 v53 v54 : FVec Ideal S8x1024 .f32}
    (h : PV l (k2_pay21 v29 v31 v33 v35 v49 v50 v51 v53 v54) (k2_pay22 v29 v31 v33 v35 v49 v50 v51 v53 v54) x)
    (h2 : PB l v36 v38 m4) (h3 : PB l v40 v42 p) (hc : PV l cr ci c) :
    PV l (k2_pay25 cr ci v29 v31 v33 v35 (k2_pay7 v36) (k2_pay8 v38) (k2_pay9 v40) (k2_pay10 v42) v49 v50 v51 v53 v54)
      (k2_pay26 cr ci v29 v31 v33 v35 (k2_pay7 v36) (k2_pay8 v38) (k2_pay9 v40) (k2_pay10 v42) v49 v50 v51 v53 v54)
      (fun r => dbl 4 m4 x r + p r * c r) := by
  intro r
  have e := ((h r).fma (h2 r) (h ⟨(r.val + 8 - 4) % 8, Nat.mod_lt _ (by decide)⟩)).fma (h3 r) (hc r)
  pointwise [k2_pay25, k2_pay26, k2_pay23, k2_pay24, k2_pay7, k2_pay8, k2_pay9, k2_pay10]
  exact e

end Bwd

/-- The backward group's gradients. -/
def grpB (T : Fin 8 → Vec Ideal S1x8x1024 .f32) (xr xi : Vec Ideal S1x8x1024 .f32) (cr ci : FVec Ideal S8x1024 .f32) :
    FVec Ideal S8x1024 .f32 × FVec Ideal S8x1024 .f32 :=
  (k2_pay25 cr ci (k2_pay3 (T 0)) (k2_pay4 (T 1)) (k2_pay5 (T 2)) (k2_pay6 (T 3)) (k2_pay7 (T 4)) (k2_pay8 (T 5)) (k2_pay9 (T 6)) (k2_pay10 (T 7))
      (k2_pay12 xi) (k2_pay13 xr) (k2_pay14 xi) (k2_pay15 (T 0) xr) (k2_pay16 (T 1) xi),
    k2_pay26 cr ci (k2_pay3 (T 0)) (k2_pay4 (T 1)) (k2_pay5 (T 2)) (k2_pay6 (T 3)) (k2_pay7 (T 4)) (k2_pay8 (T 5)) (k2_pay9 (T 6)) (k2_pay10 (T 7))
      (k2_pay12 xi) (k2_pay13 xr) (k2_pay14 xi) (k2_pay15 (T 0) xr) (k2_pay16 (T 1) xi))

/-- The backward group is the recurrence counted from the end. -/
theorem grpB_parts {T : Fin 8 → Vec Ideal S1x8x1024 .f32} {a : ℂ} (hT : TabB l T a) {xr xi : Vec Ideal S1x8x1024 .f32} {cr ci : FVec Ideal S8x1024 .f32}
    (b : ℕ → ℂ) (t : ℕ) (hx : PB l xr xi fun q => b (t + (7 - q.val))) (hc : PV l cr ci fun _ => Sf a b t) :
    PV l (grpB T xr xi cr ci).1 (grpB T xr xi cr ci).2 fun r => Sf a b (t + (8 - r.val)) := by
  have h := bwd3 (bwd2 (bwd1 hT.m1 hx) hT.m2) hT.m4 hT.pw hc
  exact fun r => (h r).congr (group_bwd a b t r)

/-- The gradient one time later: the row below, or for the last row the carried one. -/
def nxt (q c : FVec Ideal S8x1024 .f32) : FVec Ideal S8x1024 .f32 :=
  select (k2_pay34) c (dynamicRotate 0 7#32 none q rotates_S8x1024_d0)

theorem not_last : ∀ r : Fin 8, r.val < 7 → ¬ IntOp.cmpi .eq (BitVec.ofNat 32 r.val) 7#32 = 1#1 := by decide

theorem nxt_parts {qr qi cr ci : FVec Ideal S8x1024 .f32} (f : ℕ → ℂ) (hq : PV l qr qi fun r => f (8 - r.val)) (hc : PV l cr ci fun _ => f 0) :
    PV l (nxt qr cr) (nxt qi ci) fun r => f (7 - r.val) := by
  intro r
  by_cases h : r = 7
  · subst h
    have e := hc 7
    have m : IntOp.cmpi .eq (BitVec.ofNat 32 7) 7#32 = 1#1 := by decide
    unfold nxt
    pointwise [k2_pay34]
    exact e
  · have hr : r.val < 7 := by have := r.isLt; have : r.val ≠ 7 := fun e => h (Fin.ext e); omega
    have e := hq ⟨(r.val + 8 - 7) % 8, Nat.mod_lt _ (by decide)⟩
    have m := not_last r hr
    unfold nxt
    pointwise [k2_pay34]
    rw [show ∀ u v : EReal, Scalar.select (IntOp.cmpi .eq (BitVec.ofNat 32 r.val) 7#32) u v = v from fun u v => if_neg m]
    rw [show ∀ u v : EReal, Scalar.select (IntOp.cmpi .eq (BitVec.ofNat 32 r.val) 7#32) u v = v from fun u v => if_neg m]
    refine e.congr (congrArg f ?_)
    show 8 - (r.val + 8 - 7) % 8 = 7 - r.val
    omega

/-- The multiplier's gradient after a group. -/
theorem acc_parts {nr ni dr di : FVec Ideal S8x1024 .f32} {sr si : Vec Ideal S1x8x1024 .f32} {n s d : Fin 8 → ℂ}
    (hn : PV l nr ni n) (hs : PB l sr si s) (hd : PV l dr di d) :
    PV l (k2_pay41 dr nr ni sr si) (k2_pay42 di nr ni sr si) fun r => d r + n r * conj (s r) := by
  intro r
  have e := (hd r).acc (hn r) (hs r)
  pointwise [k2_pay41, k2_pay42, k2_pay39, k2_pay40]
  exact e

end Cert.Proof.ScanGroup

end
-- ==== Proof.ScanTabVal.lean ====
/-
  The tables of powers, in numbers.

  At a lane with multiplier `a`, the forward table's first six slabs are the parts of `a`, `a ^ 2` and `a ^ 4` in the rows
  that have a row one, two or four before them, and its last two the parts of `a ^ (r + 1)`; the backward table's are the same
  of the conjugate, with the rows counted from the last.
-/
module

public import proofs.«01_k».proof.Proof.ScanGroup
public import proofs.«01_k».proof.Proof.ScanRun0

@[expose] public section

set_option maxRecDepth 16384

noncomputable section

namespace Cert.Proof.TabVal

open Cert.KernelIdeal Cert.KernelIdeal.Gen Cert.Proof.ScanMath Cert.Proof.ScanGroup Cert.Proof.Tab
open Idealize.ShloMosaic Idealize.ShloMosaic.TcCoe Idealize.ShloMosaic.Tactic
open scoped ComplexConjugate

/-- Two slabs of a table at a lane are the parts of eight numbers. -/
def PT (l : Fin 8192) (x y : FVec Ideal S1x8x8192 .f32) (z : Fin 8 → ℂ) : Prop := ∀ r : Fin 8, Parts (x (ix3 0 r l)) (y (ix3 0 r l)) (z r)

/-- Of two alternatives, both parts. -/
theorem sel_parts (c : BitVec 1) {x y x' y' : EReal} {z : ℂ} (h1 : c = 1#1 → Parts x y z) (h0 : c ≠ 1#1 → Parts x' y' z) :
    Parts (Scalar.select c x x') (Scalar.select c y y') z := by
  by_cases h : c = 1#1
  · rw [show ∀ u v : EReal, Scalar.select c u v = u from fun u v => if_pos h, show ∀ u v : EReal, Scalar.select c u v = u from fun u v => if_pos h]
    exact h1 h
  · rw [show ∀ u v : EReal, Scalar.select c u v = v from fun u v => if_neg h, show ∀ u v : EReal, Scalar.select c u v = v from fun u v => if_neg h]
    exact h0 h

theorem sge_iff : ∀ r k : Fin 8, IntOp.cmpi .sge (BitVec.ofNat 32 r.val) (BitVec.ofNat 32 k.val) = 1#1 ↔ k.val ≤ r.val := by decide
theorem sle_iff : ∀ r k : Fin 8, IntOp.cmpi .sle (BitVec.ofNat 32 r.val) (BitVec.ofNat 32 k.val) = 1#1 ↔ r.val ≤ k.val := by decide
theorem eq_iff : ∀ r k : Fin 8, IntOp.cmpi .eq (BitVec.ofNat 32 r.val) (BitVec.ofNat 32 k.val) = 1#1 ↔ r.val = k.val := by decide

/-- A masked entry, forward, -/
theorem mask_fwd (r k : Fin 8) {x y : EReal} {a : ℂ} (h : Parts x y (a ^ k.val)) :
    Parts (Scalar.select (IntOp.cmpi .sge (BitVec.ofNat 32 r.val) (BitVec.ofNat 32 k.val)) x 0) (Scalar.select (IntOp.cmpi .sge (BitVec.ofNat 32 r.val) (BitVec.ofNat 32 k.val)) y 0) (mf a k.val r) :=
  sel_parts _ (fun e => h.congr (if_pos ((sge_iff r k).mp e)).symm) fun e => Parts.zero.congr (if_neg fun i => e ((sge_iff r k).mpr i)).symm
/-- and backward. -/
theorem mask_bwd (r k : Fin 8) (m : ℕ) (hm : 7 - m = k.val) {x y : EReal} {a : ℂ} (h : Parts x y (a ^ m)) :
    Parts (Scalar.select (IntOp.cmpi .sle (BitVec.ofNat 32 r.val) (BitVec.ofNat 32 k.val)) x 0) (Scalar.select (IntOp.cmpi .sle (BitVec.ofNat 32 r.val) (BitVec.ofNat 32 k.val)) y 0) (mb a m r) :=
  sel_parts _ (fun e => h.congr (if_pos (hm ▸ (sle_iff r k).mp e)).symm) fun e => Parts.zero.congr (if_neg fun i => e ((sle_iff r k).mpr (hm ▸ i))).symm

/-- The row numbers. -/
abbrev rowNo : IVec S8x8192 32 := iota .tc S8x8192 32 [0] iota_S8x8192_d0_w32

theorem neg_parts {x y : EReal} {a : ℂ} (h : Parts x y a) : Parts x (0 - y) (conj a) := by
  rw [zero_sub]; exact h.conj

section Slabs

variable {l : Fin 8192} {a : ℂ} {v0 v1 v4 v7 v10 v13 v16 v19 v22 v25 v28 v31 v34 v37 v40 v43 : FVec Ideal S1x8192 .f32}

theorem f1 (h : Parts (v0 (ix2 0 l)) (v1 (ix2 0 l)) (a ^ 1)) : PT l (k0_pay17 (k0_pay16 v0)) (k0_pay18 v1 rowNo) (mf a 1) := by
  intro r
  have e := mask_fwd r 1 h
  pointwise [k0_pay16, k0_pay17, k0_pay18]
  exact e
theorem f2 (h : Parts (v4 (ix2 0 l)) (v7 (ix2 0 l)) (a ^ 2)) : PT l (k0_pay22 (k0_pay21 v4 rowNo)) (k0_pay23 v7 rowNo) (mf a 2) := by
  intro r
  have e := mask_fwd r 2 h
  pointwise [k0_pay21, k0_pay22, k0_pay23]
  exact e
theorem f4 (h : Parts (v16 (ix2 0 l)) (v19 (ix2 0 l)) (a ^ 4)) :
    PT l (k0_pay28 (k0_pay26 rowNo) run.sl.cst_37 (k0_pay27 v16)) (k0_pay29 v19 rowNo) (mf a 4) := by
  intro r
  have e := mask_fwd r 4 h
  pointwise [k0_pay26, k0_pay27, k0_pay28, k0_pay29, run.sl.cst_37]
  exact e
theorem b1 (h : Parts (v0 (ix2 0 l)) (v1 (ix2 0 l)) (a ^ 1)) : PT l (k0_pay19 v0 rowNo) (k0_pay20 v1 rowNo) (mb (conj a) 1) := by
  intro r
  have e := mask_bwd r 6 1 rfl ((neg_parts h).congr (map_pow _ _ _))
  pointwise [k0_pay19, k0_pay20]
  exact e
theorem b2 (h : Parts (v4 (ix2 0 l)) (v7 (ix2 0 l)) (a ^ 2)) : PT l (k0_pay24 v4 rowNo) (k0_pay25 v7 rowNo) (mb (conj a) 2) := by
  intro r
  have e := mask_bwd r 5 2 rfl ((neg_parts h).congr (map_pow _ _ _))
  pointwise [k0_pay24, k0_pay25]
  exact e
theorem b4 (h : Parts (v16 (ix2 0 l)) (v19 (ix2 0 l)) (a ^ 4)) : PT l (k0_pay30 v16 rowNo) (k0_pay31 v19 rowNo) (mb (conj a) 4) := by
  intro r
  have e := mask_bwd r 3 4 rfl ((neg_parts h).congr (map_pow _ _ _))
  pointwise [k0_pay30, k0_pay31]
  exact e

/-- Eight numbers chosen by the row. -/
theorem choose_parts (r : Fin 8) (x y : Fin 8 → EReal) (z : Fin 8 → ℂ) (h : ∀ k, Parts (x k) (y k) (z k)) :
    let C (w : Fin 8 → EReal) : EReal :=
      Scalar.select (IntOp.cmpi .eq (BitVec.ofNat 32 r.val) 7#32) (w 7) (Scalar.select (IntOp.cmpi .eq (BitVec.ofNat 32 r.val) 6#32) (w 6)
        (Scalar.select (IntOp.cmpi .eq (BitVec.ofNat 32 r.val) 5#32) (w 5) (Scalar.select (IntOp.cmpi .eq (BitVec.ofNat 32 r.val) 4#32) (w 4)
          (Scalar.select (IntOp.cmpi .eq (BitVec.ofNat 32 r.val) 3#32) (w 3) (Scalar.select (IntOp.cmpi .eq (BitVec.ofNat 32 r.val) 2#32) (w 2)
            (Scalar.select (IntOp.cmpi .eq (BitVec.ofNat 32 r.val) 1#32) (w 1) (Scalar.select (IntOp.cmpi .eq (BitVec.ofNat 32 r.val) 0#32) (w 0) 0)))))))
    Parts (C x) (C y) (z r) := by
  have q : ∀ k : Fin 8, IntOp.cmpi .eq (BitVec.ofNat 32 r.val) (BitVec.ofNat 32 k.val) = 1#1 → Parts (x k) (y k) (z r) :=
    fun k e => (h k).congr (congrArg z (Fin.ext ((eq_iff r k).mp e)).symm)
  refine sel_parts _ (q 7) fun n7 => sel_parts _ (q 6) fun n6 => sel_parts _ (q 5) fun n5 => sel_parts _ (q 4) fun n4 =>
    sel_parts _ (q 3) fun n3 => sel_parts _ (q 2) fun n2 => sel_parts _ (q 1) fun n1 => sel_parts _ (q 0) fun n0 => ?_
  have m : ∀ k : Fin 8, IntOp.cmpi .eq (BitVec.ofNat 32 r.val) (BitVec.ofNat 32 k.val) ≠ 1#1 := by
    intro k; fin_cases k
    exacts [n0, n1, n2, n3, n4, n5, n6, n7]
  exact absurd ((eq_iff r r).mpr rfl) (m r)

variable (h1 : Parts (v0 (ix2 0 l)) (v1 (ix2 0 l)) (a ^ 1)) (h2 : Parts (v4 (ix2 0 l)) (v7 (ix2 0 l)) (a ^ 2)) (h3 : Parts (v10 (ix2 0 l)) (v13 (ix2 0 l)) (a ^ 3))
  (h4 : Parts (v16 (ix2 0 l)) (v19 (ix2 0 l)) (a ^ 4)) (h5 : Parts (v22 (ix2 0 l)) (v25 (ix2 0 l)) (a ^ 5)) (h6 : Parts (v28 (ix2 0 l)) (v31 (ix2 0 l)) (a ^ 6))
  (h7 : Parts (v34 (ix2 0 l)) (v37 (ix2 0 l)) (a ^ 7)) (h8 : Parts (v40 (ix2 0 l)) (v43 (ix2 0 l)) (a ^ 8))

include h1 h2 h3 h4 h5 h6 h7 h8

theorem fp : PT l (k0_pay46 v40 rowNo (k0_pay42 v28 v34 rowNo (k0_pay39 v16 v22 rowNo (k0_pay36 v0 v4 v10 rowNo k0_pay32))))
    (k0_pay47 v43 rowNo (k0_pay43 v31 v37 rowNo (k0_pay40 v13 v19 v25 rowNo (k0_pay33 v1 v7 rowNo k0_pay32)))) fun r => a ^ (r.val + 1) := by
  intro r
  have e := choose_parts r (fun k => (![v0, v4, v10, v16, v22, v28, v34, v40] k) (ix2 0 l)) (fun k => (![v1, v7, v13, v19, v25, v31, v37, v43] k) (ix2 0 l))
    (fun k => a ^ (k.val + 1)) fun k => by fin_cases k <;> assumption
  pointwise [k0_pay46, k0_pay42, k0_pay39, k0_pay36, k0_pay32, k0_pay47, k0_pay43, k0_pay40, k0_pay33]
  exact e

theorem bp : PT l (k0_pay48 v0 rowNo (k0_pay44 v4 v10 v16 rowNo (k0_pay37 v22 v28 rowNo (k0_pay34 v34 v40 rowNo k0_pay32))))
    (k0_pay1 (k0_pay45 v1 v7 rowNo (k0_pay41 v13 v19 rowNo (k0_pay38 v25 v31 rowNo (k0_pay35 v37 v43 rowNo k0_pay32))))) fun r => conj a ^ (8 - r.val) := by
  intro r
  have e := choose_parts r (fun k => (![v40, v34, v28, v22, v16, v10, v4, v0] k) (ix2 0 l)) (fun k => 0 - (![v43, v37, v31, v25, v19, v13, v7, v1] k) (ix2 0 l))
    (fun k => conj a ^ (8 - k.val)) fun k => by
      rw [← map_pow]
      refine neg_parts ?_
      fin_cases k <;> assumption
  pointwise [k0_pay48, k0_pay44, k0_pay37, k0_pay34, k0_pay32, k0_pay1, k0_pay45, k0_pay41, k0_pay38, k0_pay35]
  exact e

end Slabs

/-- The powers. -/
theorem powers {l : Fin 8192} {a : ℂ} {u v : FVec Ideal S1x8192 .f32} (h : Parts (u (ix2 0 l)) (v (ix2 0 l)) a) :
    Parts (u (ix2 0 l)) (v (ix2 0 l)) (a ^ 1) ∧ Parts (k0_pay2 (F := Ideal) u v (ix2 0 l)) (k0_pay3 (F := Ideal) u v (ix2 0 l)) (a ^ 2) ∧ Parts (k0_pay4 (F := Ideal) u v (ix2 0 l)) (k0_pay5 (F := Ideal) u v (ix2 0 l)) (a ^ 3)
    ∧ Parts (k0_pay6 (F := Ideal) u v (ix2 0 l)) (k0_pay7 (F := Ideal) u v (ix2 0 l)) (a ^ 4) ∧ Parts (k0_pay8 (F := Ideal) u v (ix2 0 l)) (k0_pay9 (F := Ideal) u v (ix2 0 l)) (a ^ 5)
    ∧ Parts (k0_pay10 (F := Ideal) u v (ix2 0 l)) (k0_pay11 (F := Ideal) u v (ix2 0 l)) (a ^ 6) ∧ Parts (k0_pay12 (F := Ideal) u v (ix2 0 l)) (k0_pay13 (F := Ideal) u v (ix2 0 l)) (a ^ 7)
    ∧ Parts (k0_pay14 (F := Ideal) u v (ix2 0 l)) (k0_pay15 (F := Ideal) u v (ix2 0 l)) (a ^ 8) := by
  have h1 : Parts (u (ix2 0 l)) (v (ix2 0 l)) (a ^ 1) := h.congr (pow_one a).symm
  have h2 : Parts (k0_pay2 (F := Ideal) u v (ix2 0 l)) (k0_pay3 (F := Ideal) u v (ix2 0 l)) (a ^ 2) := (h1.mul h).congr (pow_succ a 1).symm
  have h3 : Parts (k0_pay4 (F := Ideal) u v (ix2 0 l)) (k0_pay5 (F := Ideal) u v (ix2 0 l)) (a ^ 3) := (h2.mul h).congr (pow_succ a 2).symm
  have h4 : Parts (k0_pay6 (F := Ideal) u v (ix2 0 l)) (k0_pay7 (F := Ideal) u v (ix2 0 l)) (a ^ 4) := (h3.mul h).congr (pow_succ a 3).symm
  have h5 : Parts (k0_pay8 (F := Ideal) u v (ix2 0 l)) (k0_pay9 (F := Ideal) u v (ix2 0 l)) (a ^ 5) := (h4.mul h).congr (pow_succ a 4).symm
  have h6 : Parts (k0_pay10 (F := Ideal) u v (ix2 0 l)) (k0_pay11 (F := Ideal) u v (ix2 0 l)) (a ^ 6) := (h5.mul h).congr (pow_succ a 5).symm
  have h7 : Parts (k0_pay12 (F := Ideal) u v (ix2 0 l)) (k0_pay13 (F := Ideal) u v (ix2 0 l)) (a ^ 7) := (h6.mul h).congr (pow_succ a 6).symm
  have h8 : Parts (k0_pay14 (F := Ideal) u v (ix2 0 l)) (k0_pay15 (F := Ideal) u v (ix2 0 l)) (a ^ 8) := (h7.mul h).congr (pow_succ a 7).symm
  exact ⟨h1, h2, h3, h4, h5, h6, h7, h8⟩

/-- The forward table's slabs, from the multiplier's parts, -/
def slabsF (u v : FVec Ideal S1x8192 .f32) : Fin 8 → FVec Ideal S1x8x8192 .f32 :=
  ![k0_pay17 (k0_pay16 u), k0_pay18 v rowNo, k0_pay22 (k0_pay21 (k0_pay2 u v) rowNo), k0_pay23 (k0_pay3 u v) rowNo,
    k0_pay28 (k0_pay26 rowNo) run.sl.cst_37 (k0_pay27 (k0_pay6 u v)), k0_pay29 (k0_pay7 u v) rowNo,
    k0_pay46 (k0_pay14 u v) rowNo (k0_pay42 (k0_pay10 u v) (k0_pay12 u v) rowNo (k0_pay39 (k0_pay6 u v) (k0_pay8 u v) rowNo (k0_pay36 u (k0_pay2 u v) (k0_pay4 u v) rowNo k0_pay32))),
    k0_pay47 (k0_pay15 u v) rowNo (k0_pay43 (k0_pay11 u v) (k0_pay13 u v) rowNo (k0_pay40 (k0_pay5 u v) (k0_pay7 u v) (k0_pay9 u v) rowNo (k0_pay33 v (k0_pay3 u v) rowNo k0_pay32)))]
/-- and the backward one's. -/
def slabsB (u v : FVec Ideal S1x8192 .f32) : Fin 8 → FVec Ideal S1x8x8192 .f32 :=
  ![k0_pay19 u rowNo, k0_pay20 v rowNo, k0_pay24 (k0_pay2 u v) rowNo, k0_pay25 (k0_pay3 u v) rowNo,
    k0_pay30 (k0_pay6 u v) rowNo, k0_pay31 (k0_pay7 u v) rowNo,
    k0_pay48 u rowNo (k0_pay44 (k0_pay2 u v) (k0_pay4 u v) (k0_pay6 u v) rowNo (k0_pay37 (k0_pay8 u v) (k0_pay10 u v) rowNo (k0_pay34 (k0_pay12 u v) (k0_pay14 u v) rowNo k0_pay32))),
    k0_pay1 (k0_pay45 v (k0_pay3 u v) rowNo (k0_pay41 (k0_pay5 u v) (k0_pay7 u v) rowNo (k0_pay38 (k0_pay9 u v) (k0_pay11 u v) rowNo (k0_pay35 (k0_pay13 u v) (k0_pay15 u v) rowNo k0_pay32))))]

theorem inb8 (j : Fin 8) : ∀ a, ![j.val, 0, 0] a + S1x8x8192.size a ≤ S8x8x8192.size a := by revert j; decide

/-- A store of one slab. -/
def piece (w : Fin 8 → FVec Ideal S1x8x8192 .f32) (j : Fin 8) : View.Piece (Elt Ideal) S8x8x8192 .f32 :=
  ⟨Rect.unit (s := S8x8x8192) ![j.val, 0, 0] ![1, 8, 8192] (inb8 j), w j⟩

/-- Eight slabs stored, read. -/
theorem leftT_pieces (w : Fin 8 → FVec Ideal S1x8x8192 .f32) (L : List (View.Piece (Elt Ideal) S8x8x8192 .f32)) (e : L = [7, 6, 5, 4, 3, 2, 1, 0].map (piece w))
    (hc : ∀ y, ∃ p ∈ L, y ∈ p.1.set) (j r : Fin 8) (l : Fin 8192) : leftT L (ix3 j r l) = w j (ix3 0 r l) := by
  unfold leftT
  rw [View.read_writes_junk_eq_canon]
  refine View.canon_apply_of_pieces (Val := Elt Ideal) (e := .f32) (fun y : S8x8x8192.Idx => w (y 0) (ix3 0 (y 1) (y 2))) L (fun p hp x => ?_) (ix3 j r l) (hc _)
  rw [e] at hp
  obtain ⟨k, -, rfl⟩ := List.mem_map.mp hp
  have h0 : (x 0).val < 1 := (x 0).isLt
  show w k x = w _ _
  congr 1
  · refine Fin.ext ?_
    show k.val = k.val + 1 * (x 0).val; omega
  · funext d; refine Fin.ext ?_
    match d with
    | ⟨0, _⟩ => show (x 0).val = 0; omega
    | ⟨1, _⟩ => show (x 1).val = 0 + 1 * (x 1).val; omega
    | ⟨2, _⟩ => show (x 2).val = 0 + 1 * (x 2).val; omega

/-- Both tables so. -/
theorem both {T : Vec Ideal S8x8x8192 .f32 × Vec Ideal S8x8x8192 .f32} {w w' : Fin 8 → FVec Ideal S1x8x8192 .f32} {L L' : List (View.Piece (Elt Ideal) S8x8x8192 .f32)}
    (h : T.1 = leftT L) (h' : T.2 = leftT L') (e : L = [7, 6, 5, 4, 3, 2, 1, 0].map (piece w)) (e' : L' = [7, 6, 5, 4, 3, 2, 1, 0].map (piece w'))
    (c : ∀ y, ∃ p ∈ L, y ∈ p.1.set) (c' : ∀ y, ∃ p ∈ L', y ∈ p.1.set) (j r : Fin 8) (l : Fin 8192) :
    T.1 (ix3 j r l) = w j (ix3 0 r l) ∧ T.2 (ix3 j r l) = w' j (ix3 0 r l) :=
  ⟨(congrFun h _).trans (leftT_pieces w L e c j r l), (congrFun h' _).trans (leftT_pieces w' L' e' c' j r l)⟩

section Body

variable (c : Dev nD)
  (arg0 : Memref sig .tc .vmem S1x8192 .f32) (harg0 : arg0.IsWhole) (arg1 : Memref sig .tc .vmem S1x8192 .f32) (harg1 : arg1.IsWhole)
  (arg2 : Memref sig .tc .vmem S8x8x8192 .f32) (harg2 : arg2.IsWhole) (arg3 : Memref sig .tc .vmem S8x8x8192 .f32) (harg3 : arg3.IsWhole)

theorem load_row (arg : Memref sig .tc .vmem S1x8192 .f32) (harg : arg.IsWhole) (x : Vec Ideal S1x8192 .f32) (h) :
    View.readAt (Elt Ideal) arg.view (Rect.unit (s := S1x8192) ![0, 0] ![1, 8192] h).toLoadRect (harg.unread x) = x := by
  rw [View.readAt_eq_ld, harg.read_unread]
  exact View.ld_unit_zero (S := S1x8192) (by funext d; fin_cases d <;> rfl) h x

/-- The two tables' slabs. -/
theorem tables_slabs (x0 x1 : Vec Ideal S1x8192 .f32) (j r : Fin 8) (l : Fin 8192) :
    (tables c arg0 harg0 arg1 harg1 arg2 harg2 arg3 harg3 x0 x1).1 (ix3 j r l) = slabsF x0 x1 j (ix3 0 r l)
    ∧ (tables c arg0 harg0 arg1 harg1 arg2 harg2 arg3 harg3 x0 x1).2 (ix3 j r l) = slabsB x0 x1 j (ix3 0 r l) := by
  have e0 : run.sl.r c arg0 harg0 x0 = x0 := by unfold run.sl.r; exact load_row arg0 harg0 x0 _
  have e1 : run.sl.r_1 c arg1 harg1 x1 = x1 := by unfold run.sl.r_1; exact load_row arg1 harg1 x1 _
  have E2 : (run c arg0 harg0 arg1 harg1 arg2 harg2 arg3 harg3 x0 x1).1 = [7, 6, 5, 4, 3, 2, 1, 0].map (piece (slabsF x0 x1)) :=
    (show _ = [7, 6, 5, 4, 3, 2, 1, 0].map (piece (slabsF (run.sl.r c arg0 harg0 x0) (run.sl.r_1 c arg1 harg1 x1))) from rfl).trans
      (congrArg (fun w => [7, 6, 5, 4, 3, 2, 1, 0].map (piece w)) (congrArg₂ slabsF e0 e1))
  have E3 : (run c arg0 harg0 arg1 harg1 arg2 harg2 arg3 harg3 x0 x1).2.1 = [7, 6, 5, 4, 3, 2, 1, 0].map (piece (slabsB x0 x1)) :=
    (show _ = [7, 6, 5, 4, 3, 2, 1, 0].map (piece (slabsB (run.sl.r c arg0 harg0 x0) (run.sl.r_1 c arg1 harg1 x1))) from rfl).trans
      (congrArg (fun w => [7, 6, 5, 4, 3, 2, 1, 0].map (piece w)) (congrArg₂ slabsB e0 e1))
  have C2 := cov2 c arg0 harg0 arg1 harg1 arg2 harg2 arg3 harg3 x0 x1
  have C3 := cov3 c arg0 harg0 arg1 harg1 arg2 harg2 arg3 harg3 x0 x1
  have A2 : (tables c arg0 harg0 arg1 harg1 arg2 harg2 arg3 harg3 x0 x1).1 = leftT (run c arg0 harg0 arg1 harg1 arg2 harg2 arg3 harg3 x0 x1).1 := by sl_kernel_rfl
  have A3 : (tables c arg0 harg0 arg1 harg1 arg2 harg2 arg3 harg3 x0 x1).2 = leftT (run c arg0 harg0 arg1 harg1 arg2 harg2 arg3 harg3 x0 x1).2.1 := by sl_kernel_rfl
  exact both A2 A3 E2 E3 C2 C3 j r l

end Body

end Cert.Proof.TabVal

end
-- ==== Proof.ScanArr0.lean ====
/-
  The two tables as arrays: the powers' masks and the powers, for every lane.
-/
module

public import proofs.«01_k».proof.Proof.ScanTabVal
public import Idealize.ShloMosaic.Lib.Pipeline.ValueKit

@[expose] public section

set_option maxRecDepth 16384

noncomputable section

namespace Cert.Proof.ArrT

open Cert.KernelIdeal Cert.KernelIdeal.Gen Cert.Proof.ScanMath Cert.Proof.ScanGroup Cert.Proof.Tab Cert.Proof.TabVal
open Idealize.ShloMosaic Idealize.ShloMosaic.TcCoe Idealize.ShloMosaic.Tactic
open Idealize.ShloMosaic.Pipeline (Dat)
open scoped ComplexConjugate

/-- The forward slabs, in numbers, -/
theorem slabsF_parts {u v : FVec Ideal S1x8192 .f32} {l : Fin 8192} {a : ℂ} (h : Parts (u (ix2 0 l)) (v (ix2 0 l)) a) :
    PT l (slabsF u v 0) (slabsF u v 1) (mf a 1) ∧ PT l (slabsF u v 2) (slabsF u v 3) (mf a 2) ∧ PT l (slabsF u v 4) (slabsF u v 5) (mf a 4)
    ∧ PT l (slabsF u v 6) (slabsF u v 7) fun r => a ^ (r.val + 1) := by
  obtain ⟨h1, h2, h3, h4, h5, h6, h7, h8⟩ := powers h
  exact ⟨f1 h1, f2 h2, f4 h4, fp h1 h2 h3 h4 h5 h6 h7 h8⟩

/-- and the backward ones. -/
theorem slabsB_parts {u v : FVec Ideal S1x8192 .f32} {l : Fin 8192} {a : ℂ} (h : Parts (u (ix2 0 l)) (v (ix2 0 l)) a) :
    PT l (slabsB u v 0) (slabsB u v 1) (mb (conj a) 1) ∧ PT l (slabsB u v 2) (slabsB u v 3) (mb (conj a) 2) ∧ PT l (slabsB u v 4) (slabsB u v 5) (mb (conj a) 4)
    ∧ PT l (slabsB u v 6) (slabsB u v 7) fun r => conj a ^ (8 - r.val) := by
  obtain ⟨h1, h2, h3, h4, h5, h6, h7, h8⟩ := powers h
  exact ⟨b1 h1, b2 h2, b4 h4, bp h1 h2 h3 h4 h5 h6 h7 h8⟩

theorem idx0 : ∀ t : Fin cfg0.N, win0_0.index t = ![0, 0] ∧ win0_1.index t = ![0, 0] ∧ win0_2.index t = ![0, 0, 0] ∧ win0_3.index t = ![0, 0, 0] := by decide +kernel

variable (V : (c : Dev nD) → (b : Ref sig .tc) → Buf (Elt Ideal) ((c : Thread nD τ).loc b)) (c : Dev nD)

theorem blk0 (t : Fin cfg0.N) : blkIn V c 0 t = V c main_arg0 := by
  blk_point [blkIn, idx0 t]
theorem blk1 (t : Fin cfg0.N) : blkIn V c 1 t = V c main_arg1 := by
  blk_point [blkIn, idx0 t]

/-- A table's array from its slabs. -/
abbrev tabOf (w : Fin 8 → FVec Ideal S1x8x8192 .f32) : Vec Ideal S8x8x8192 .f32 := fun y => w (y 0) (ix3 0 (y 1) (y 2))

theorem emb2 (g : S8x8x8192.Idx → EReal) (t : Fin cfg0.N) (y : S8x8x8192.Idx) :
    g (((View.whole main_v0_0).slice (win0_2.rect t)).emb y) = g (ix3 (y 0) (y 1) (y 2)) := by blk_ext [idx0 t]
theorem emb3 (g : S8x8x8192.Idx → EReal) (t : Fin cfg0.N) (y : S8x8x8192.Idx) :
    g (((View.whole main_v0_1).slice (win0_3.rect t)).emb y) = g (ix3 (y 0) (y 1) (y 2)) := by blk_ext [idx0 t]

theorem ix3_self (y : S8x8x8192.Idx) : y = ix3 (y 0) (y 1) (y 2) := by funext d; fin_cases d <;> rfl

theorem arr2 : (dat V c).arrAt 2 cfg0.N = tabOf (slabsF (V c main_arg0) (V c main_arg1)) := by
  refine (dat V c).arrAt_eq_of_covers 2 _ (by decide +kernel) fun t hf y => ?_
  blk_simp
  rw [after2, tabAt, blk0, blk1]
  frame_out
  refine Eq.trans ?_ (emb2 (tabOf (slabsF (V c main_arg0) (V c main_arg1))) t y).symm
  refine (congrArg _ (ix3_self y)).trans ?_
  exact (tables_slabs c _ _ _ _ _ _ _ _ _ _ (y 0) (y 1) (y 2)).1

theorem arr3 : (dat V c).arrAt 3 cfg0.N = tabOf (slabsB (V c main_arg0) (V c main_arg1)) := by
  refine (dat V c).arrAt_eq_of_covers 3 _ (by decide +kernel) fun t hf y => ?_
  blk_simp
  rw [after3, tabAt, blk0, blk1]
  frame_out
  refine Eq.trans ?_ (emb3 (tabOf (slabsB (V c main_arg0) (V c main_arg1))) t y).symm
  refine (congrArg _ (ix3_self y)).trans ?_
  exact (tables_slabs c _ _ _ _ _ _ _ _ _ _ (y 0) (y 1) (y 2)).2

end Cert.Proof.ArrT

end
-- ==== Proof.ScanFwdVal.lean ====
/-
  The forward sweep's block: what the body's run leaves, in numbers.

  Sixty-four groups, each eight times further; the carried state before group `k` is the state before time `t0 + 8 k`,
  and row `(g, r)` of the block of states is the state after time `t0 + 8 g + r`. The body's two cases differ in the
  state they start from.
-/
module

public import proofs.«01_k».proof.Proof.ScanGroup
public import proofs.«01_k».proof.Proof.ScanRun1

@[expose] public section

set_option maxRecDepth 16384

noncomputable section

namespace Cert.Proof.FwdVal

open Cert.KernelIdeal Cert.KernelIdeal.Gen Cert.Proof.ScanMath Cert.Proof.ScanGroup Cert.Proof.Fwd
open Idealize.ShloMosaic Idealize.ShloMosaic.TcCoe Idealize.ShloMosaic.Tactic
open scoped ComplexConjugate

/-- A block's slab `j`. -/
def slab {n : ℕ} (x : Vec Ideal ⟨3, ![n, 8, 1024]⟩ .f32) (j : Fin n) : Vec Ideal S1x8x1024 .f32 := fun y => x (ix3 j (y 1) (y 2))

/-- A slab loaded from a whole buffer. -/
theorem load_slab {n : ℕ} (arg : Memref sig .tc .vmem ⟨3, ![n, 8, 1024]⟩ .f32) (harg : arg.IsWhole) (x : Vec Ideal ⟨3, ![n, 8, 1024]⟩ .f32)
    (j : Fin n) (o : Fin 3 → ℕ) (ho : o = ![j.val, 0, 0]) (h : ∀ a, o a + S1x8x1024.size a ≤ (⟨3, ![n, 8, 1024]⟩ : Shape).size a) :
    View.readAt (Elt Ideal) arg.view (Rect.unit (s := ⟨3, ![n, 8, 1024]⟩) o ![1, 8, 1024] h).toLoadRect (harg.unread x) = slab x j := by
  subst ho
  funext y
  rw [View.readAt_eq_ld, harg.read_unread]
  show x _ = x _
  congr 1
  funext d
  have h0 : (y 0).val < 1 := (y 0).isLt
  refine Fin.ext ?_
  match d with
  | ⟨0, _⟩ => show j.val + 1 * (y 0).val = j.val; omega
  | ⟨1, _⟩ => show 0 + 1 * (y 1).val = (y 1).val; omega
  | ⟨2, _⟩ => show 0 + 1 * (y 2).val = (y 2).val; omega

/-- Two slabs stored last, read. -/
theorem two_slabs (w1 w0 : Vec Ideal S1x8x1024 .f32) (L : List (View.Piece (Elt Ideal) S2x8x1024 .f32)) (h1 h0) (r : Fin 8) (l : Fin 1024) :
    View.canon (⟨Rect.unit (s := S2x8x1024) ![1, 0, 0] ![1, 8, 1024] h1, w1⟩ :: ⟨Rect.unit (s := S2x8x1024) ![0, 0, 0] ![1, 8, 1024] h0, w0⟩ :: L) (ix3 0 r l) = w0 (ix3 0 r l)
    ∧ View.canon (⟨Rect.unit (s := S2x8x1024) ![1, 0, 0] ![1, 8, 1024] h1, w1⟩ :: ⟨Rect.unit (s := S2x8x1024) ![0, 0, 0] ![1, 8, 1024] h0, w0⟩ :: L) (ix3 1 r l) = w1 (ix3 0 r l) := by
  constructor
  · rw [View.canon_cons_of_not_mem]
    · have e : (ix3 0 r l : S2x8x1024.Idx) = (Rect.unit (s := S2x8x1024) ![0, 0, 0] ![1, 8, 1024] h0).emb (ix3 (0 : Fin 1) r l) := by
        funext d; refine Fin.ext ?_
        match d with
        | ⟨0, _⟩ => rfl
        | ⟨1, _⟩ => show r.val = 0 + 1 * r.val; omega
        | ⟨2, _⟩ => show l.val = 0 + 1 * l.val; omega
      rw [e, View.canon_cons_emb]
    · intro hm
      obtain ⟨x, hx⟩ := (Rect.unit (s := S2x8x1024) ![1, 0, 0] ![1, 8, 1024] h1).exists_idx_of_mem hm
      have := congrArg (fun y : S2x8x1024.Idx => (y 0).val) hx
      have e2 : 1 + 1 * (x 0).val = 0 := this
      omega
  · have e : (ix3 1 r l : S2x8x1024.Idx) = (Rect.unit (s := S2x8x1024) ![1, 0, 0] ![1, 8, 1024] h1).emb (ix3 (0 : Fin 1) r l) := by
      funext d; refine Fin.ext ?_
      match d with
      | ⟨0, _⟩ => rfl
      | ⟨1, _⟩ => show r.val = 0 + 1 * r.val; omega
      | ⟨2, _⟩ => show l.val = 0 + 1 * l.val; omega
    rw [e, View.canon_cons_emb]

/-- The last row of a group in every row. -/
abbrev lastRow (x : FVec Ideal S8x1024 .f32) : FVec Ideal S8x1024 .f32 :=
  broadcastTo S8x1024 (shapeCast S1x1024 (extractStridedSlice S1x1024 ![7, 0] x slices_S8x1024_o7_0_S1x1024) shapeCasts_S1x1024_S1x1024) broadcasts_S1x1024_S8x1024
/-- Rows as a slab. -/
abbrev asSlab (x : FVec Ideal S8x1024 .f32) : Vec Ideal S1x8x1024 .f32 := shapeCast S1x8x1024 x shapeCasts_S8x1024_S1x8x1024

theorem asSlab_apply (x : FVec Ideal S8x1024 .f32) (y : S1x8x1024.Idx) : asSlab x y = x (ix2 (y 1) (y 2)) := by
  have h0 : y = ix3 0 (y 1) (y 2) := by
    funext d; refine Fin.ext ?_
    have h0 : (y 0).val < 1 := (y 0).isLt
    match d with
    | ⟨0, _⟩ => show (y 0).val = 0; omega
    | ⟨1, _⟩ => rfl
    | ⟨2, _⟩ => rfl
  generalize y 1 = r at h0 ⊢
  generalize y 2 = l at h0 ⊢
  subst h0
  pointwise []

section Body

variable (c : Dev nD) (i : grid1.Coords)
  (arg2 : Memref sig .tc .vmem S64x8x1024 .f32) (harg2 : arg2.IsWhole) (arg3 : Memref sig .tc .vmem S64x8x1024 .f32) (harg3 : arg3.IsWhole)
  (arg4 : Memref sig .tc .vmem S8x8x1024 .f32) (harg4 : arg4.IsWhole)
  (arg5 : Memref sig .tc .vmem S64x8x1024 .f32) (harg5 : arg5.IsWhole) (arg6 : Memref sig .tc .vmem S64x8x1024 .f32) (harg6 : arg6.IsWhole)
  (arg7 : Memref sig .tc .vmem S2x8x1024 .f32) (harg7 : arg7.IsWhole)

theorem tabInb (j : Fin 8) : ∀ a, ![j.val, 0, 0] a + S1x8x1024.size a ≤ S8x8x1024.size a := by revert j; decide

/-- One trip is one group: it carries on the last rows, and stores the group's rows as the slab of its number. -/
theorem trip_eq (x0 x1 : Vec Ideal S64x8x1024 .f32) (x2 : Vec Ideal S8x8x1024 .f32) (k : Fin k1_t1_loop.trips) (acc : FVec Ideal S8x1024 .f32 × FVec Ideal S8x1024 .f32) :
    let G := grpF (fun j => View.readAt (Elt Ideal) arg4.view (Rect.unit (s := S8x8x1024) ![j.val, 0, 0] ![1, 8, 1024] (tabInb j)).toLoadRect (harg4.unread x2))
      (View.readAt (Elt Ideal) arg2.view (Rect.unit (s := S64x8x1024) (k1_off1 k) ![1, 8, 1024] (k1_off1_inb k)).toLoadRect (harg2.unread x0))
      (View.readAt (Elt Ideal) arg3.view (Rect.unit (s := S64x8x1024) (k1_off1 k) ![1, 8, 1024] (k1_off1_inb k)).toLoadRect (harg3.unread x1)) acc.1 acc.2
    tripR_k1_t1 (F := Ideal) Variants.none c none i arg2 harg2 arg3 harg3 arg4 harg4 arg5 harg5 arg6 harg6 arg7 harg7 (harg2.unread x0) (harg3.unread x1) (harg4.unread x2) k acc = (lastRow G.1, lastRow G.2)
    ∧ tripL_k1_t1 (F := Ideal) Variants.none c none i arg2 harg2 arg3 harg3 arg4 harg4 arg5 harg5 arg6 harg6 arg7 harg7 (harg2.unread x0) (harg3.unread x1) (harg4.unread x2) k acc
      = ([⟨Rect.unit (k1_off1 k) ![1, 8, 1024] (k1_off1_inb k), asSlab G.1⟩], [⟨Rect.unit (k1_off1 k) ![1, 8, 1024] (k1_off1_inb k), asSlab G.2⟩]) := by
  unfold tripR_k1_t1 tripL_k1_t1 trip_k1_t1
  exact ⟨rfl, rfl⟩

variable (a : Fin 1024 → ℂ) (b : Fin 1024 → ℕ → ℂ) (t0 : ℕ)

/-- The state after row `(g, r)`. -/
abbrev stAfter (y : S64x8x1024.Idx) : ℂ := Sf (a (y 2)) (b (y 2)) (t0 + 8 * (y 0).val + (y 1).val + 1)

/-- A list of stores whose payloads are all one function of the block's index. -/
def Agree (G : S64x8x1024.Idx → EReal) (L : List (View.Piece (Elt Ideal) S64x8x1024 .f32)) : Prop := ∀ p ∈ L, ∀ x : p.1.shape.Idx, p.2 x = G (p.1.emb x)

theorem agree_cons {G : S64x8x1024.Idx → EReal} {L : List (View.Piece (Elt Ideal) S64x8x1024 .f32)} (hL : Agree G L) (j : Fin 64) (o : Fin 3 → ℕ) (ho : o = ![j.val, 0, 0])
    (h : ∀ a, o a + S1x8x1024.size a ≤ S64x8x1024.size a) (w : FVec Ideal S8x1024 .f32) (hw : ∀ r l, w (ix2 r l) = G (ix3 j r l)) :
    Agree G ([⟨Rect.unit (s := S64x8x1024) o ![1, 8, 1024] h, asSlab w⟩] ++ L) := by
  subst ho
  intro p hp x
  rcases List.mem_cons.mp hp with rfl | hp
  · refine (asSlab_apply w x).trans ((hw _ _).trans (congrArg G ?_))
    have h0 : (x 0).val < 1 := (x 0).isLt
    funext d; refine Fin.ext ?_
    match d with
    | ⟨0, _⟩ => show j.val = j.val + 1 * (x 0).val; omega
    | ⟨1, _⟩ => show (x 1).val = 0 + 1 * (x 1).val; omega
    | ⟨2, _⟩ => show (x 2).val = 0 + 1 * (x 2).val; omega
  · exact hL p hp x

/-- The loop: before group `n` the carried state is the one before time `t0 + 8 n`, and the slabs stored so far are the states. -/
theorem loop_parts (x0 x1 : Vec Ideal S64x8x1024 .f32) (x2 : Vec Ideal S8x8x1024 .f32) (init : FVec Ideal S8x1024 .f32 × FVec Ideal S8x1024 .f32)
    (hT : ∀ l, TabF l (slab x2) (a l)) (hx : ∀ k r l, Parts (x0 (ix3 k r l)) (x1 (ix3 k r l)) (b l (t0 + 8 * k.val + r.val)))
    (hi : ∀ l, PV l init.1 init.2 fun _ => Sf (a l) (b l) t0) (n : ℕ) (hn : n ≤ k1_t1_loop.trips) :
    let st := st_k1_t1 (F := Ideal) Variants.none c none i arg2 harg2 arg3 harg3 arg4 harg4 arg5 harg5 arg6 harg6 arg7 harg7 (harg2.unread x0) (harg3.unread x1) (harg4.unread x2) init n
    (∀ l, PV l st.1.1 st.1.2 fun _ => Sf (a l) (b l) (t0 + 8 * n))
    ∧ Agree (fun y => ((stAfter a b t0 y).re : EReal)) st.2.1 ∧ Agree (fun y => ((stAfter a b t0 y).im : EReal)) st.2.2 := by
  induction n with
  | zero => exact ⟨hi, fun p hp => absurd hp List.not_mem_nil, fun p hp => absurd hp List.not_mem_nil⟩
  | succ n ih =>
    obtain ⟨h1, h2, h3⟩ := ih (Nat.le_of_succ_le hn)
    have hk : n < 64 := Nat.lt_of_lt_of_le hn k1_t1_abs.2.1
    have e := st_k1_t1_succ (F := Ideal) Variants.none c none i arg2 harg2 arg3 harg3 arg4 harg4 arg5 harg5 arg6 harg6 arg7 harg7 (harg2.unread x0) (harg3.unread x1) (harg4.unread x2) init ⟨n, hn⟩
    have ho := k1_off1_eq ⟨n, hn⟩
    obtain ⟨t1, t2⟩ := trip_eq c i arg2 harg2 arg3 harg3 arg4 harg4 arg5 harg5 arg6 harg6 arg7 harg7 x0 x1 x2 ⟨n, hn⟩
      (st_k1_t1 (F := Ideal) Variants.none c none i arg2 harg2 arg3 harg3 arg4 harg4 arg5 harg5 arg6 harg6 arg7 harg7 (harg2.unread x0) (harg3.unread x1) (harg4.unread x2) init n).1
    rw [t1, t2] at e
    have hT' : (fun j : Fin 8 => View.readAt (Elt Ideal) arg4.view (Rect.unit (s := S8x8x1024) ![j.val, 0, 0] ![1, 8, 1024] (tabInb j)).toLoadRect (harg4.unread x2)) = slab x2 :=
      funext fun j => load_slab arg4 harg4 x2 j _ rfl _
    rw [hT', load_slab arg2 harg2 x0 ⟨n, hk⟩ _ ho _, load_slab arg3 harg3 x1 ⟨n, hk⟩ _ ho _] at e
    have g := fun l => grpF_parts (hT l) (b l) (t0 + 8 * n) (xr := slab x0 ⟨n, hk⟩) (xi := slab x1 ⟨n, hk⟩) (fun r => hx ⟨n, hk⟩ r l) (h1 l)
    simp only at e ⊢
    rw [e]
    refine ⟨fun l => ?_, ?_, ?_⟩
    · have := last_parts (g l)
      exact fun r => (this r).congr (congrArg (Sf (a l) (b l)) (by show t0 + 8 * n + 7 + 1 = _; omega))
    · exact agree_cons h2 ⟨n, hk⟩ _ ho _ _ fun r l => (g l r).1
    · exact agree_cons h3 ⟨n, hk⟩ _ ho _ _ fun r l => (g l r).2

/-- What a block of the sweep leaves: the states after every row, and the last one carried, with the block's time. -/
def Left (s : Vec Ideal S64x8x1024 .f32 × Vec Ideal S64x8x1024 .f32 × Vec Ideal S2x8x1024 .f32) : Prop :=
  (∀ y, Parts (s.1 y) (s.2.1 y) (stAfter a b t0 y)) ∧ ∀ l r, Parts (s.2.2 (ix3 0 r l)) (s.2.2 (ix3 1 r l)) (Sf (a l) (b l) (t0 + 512))

theorem Left.of (s0 s1 : Vec Ideal S64x8x1024 .f32) (s2 : Vec Ideal S2x8x1024 .f32) (h0 : ∀ y, s0 y = ((stAfter a b t0 y).re : EReal)) (h1 : ∀ y, s1 y = ((stAfter a b t0 y).im : EReal))
    (w0 w1 : FVec Ideal S8x1024 .f32) (h2 : ∀ r l, s2 (ix3 0 r l) = w0 (ix2 r l) ∧ s2 (ix3 1 r l) = w1 (ix2 r l)) (hw : ∀ l, PV l w0 w1 fun _ => Sf (a l) (b l) (t0 + 512)) :
    Left a b t0 (s0, s1, s2) :=
  ⟨fun y => ⟨h0 y, h1 y⟩, fun l r => ⟨(h2 r l).1.trans (hw l r).1, (h2 r l).2.trans (hw l r).2⟩⟩

theorem left2_two (w1 w0 : FVec Ideal S8x1024 .f32) (L : List (View.Piece (Elt Ideal) S2x8x1024 .f32)) (h1 h0) (r : Fin 8) (l : Fin 1024) :
    left2 (F := Ideal) (⟨Rect.unit (s := S2x8x1024) ![1, 0, 0] ![1, 8, 1024] h1, asSlab w1⟩ :: ⟨Rect.unit (s := S2x8x1024) ![0, 0, 0] ![1, 8, 1024] h0, asSlab w0⟩ :: L) (ix3 0 r l) = w0 (ix2 r l)
    ∧ left2 (F := Ideal) (⟨Rect.unit (s := S2x8x1024) ![1, 0, 0] ![1, 8, 1024] h1, asSlab w1⟩ :: ⟨Rect.unit (s := S2x8x1024) ![0, 0, 0] ![1, 8, 1024] h0, asSlab w0⟩ :: L) (ix3 1 r l) = w1 (ix2 r l) := by
  unfold left2
  rw [View.read_writes_junk_eq_canon]
  exact ⟨(two_slabs _ _ L h1 h0 r l).1.trans (asSlab_apply w0 _), (two_slabs _ _ L h1 h0 r l).2.trans (asSlab_apply w1 _)⟩

theorem left_of (L5 L6 : List (View.Piece (Elt Ideal) S64x8x1024 .f32)) (L7 : List (View.Piece (Elt Ideal) S2x8x1024 .f32)) (w0 w1 : FVec Ideal S8x1024 .f32)
    (c5 : ∀ y, ∃ pc ∈ L5, y ∈ pc.1.set) (c6 : ∀ y, ∃ pc ∈ L6, y ∈ pc.1.set)
    (h5 : Agree (fun y => ((stAfter a b t0 y).re : EReal)) L5) (h6 : Agree (fun y => ((stAfter a b t0 y).im : EReal)) L6)
    (L : List (View.Piece (Elt Ideal) S2x8x1024 .f32)) (i1 i0)
    (e7 : L7 = ⟨Rect.unit (s := S2x8x1024) ![1, 0, 0] ![1, 8, 1024] i1, asSlab w1⟩ :: ⟨Rect.unit (s := S2x8x1024) ![0, 0, 0] ![1, 8, 1024] i0, asSlab w0⟩ :: L)
    (hw : ∀ l, PV l w0 w1 fun _ => Sf (a l) (b l) (t0 + 512)) : Left a b t0 (left64 L5, left64 L6, left2 L7) := by
  refine Left.of a b t0 _ _ _ (fun y => ?_) (fun y => ?_) w0 w1 (fun r l => ?_) hw
  · unfold left64
    rw [View.read_writes_junk_eq_canon]
    exact View.canon_apply_of_pieces (Val := Elt Ideal) (e := .f32) (fun y => ((stAfter a b t0 y).re : EReal)) L5 h5 y (c5 y)
  · unfold left64
    rw [View.read_writes_junk_eq_canon]
    exact View.canon_apply_of_pieces (Val := Elt Ideal) (e := .f32) (fun y => ((stAfter a b t0 y).im : EReal)) L6 h6 y (c6 y)
  · subst e7
    exact left2_two w1 w0 L i1 i0 r l

theorem trips_eq : k1_t1_loop.trips = 64 := by decide

/-- A later block. -/
theorem next_parts (hc : ¬ first i) (x0 x1 : Vec Ideal S64x8x1024 .f32) (x2 : Vec Ideal S8x8x1024 .f32) (xs : Vec Ideal S2x8x1024 .f32)
    (hT : ∀ l, TabF l (slab x2) (a l)) (hx : ∀ k r l, Parts (x0 (ix3 k r l)) (x1 (ix3 k r l)) (b l (t0 + 8 * k.val + r.val)))
    (hs : ∀ l r, Parts (xs (ix3 0 r l)) (xs (ix3 1 r l)) (Sf (a l) (b l) t0)) :
    Left a b t0 (step c i arg2 harg2 arg3 harg3 arg4 harg4 arg5 harg5 arg6 harg6 arg7 harg7 x0 x1 x2 xs) := by
  rw [step, dif_neg hc]
  have hi : ∀ l, PV l (k1_pay2 (View.readAt (Elt Ideal) arg7.view (Rect.unit (s := S2x8x1024) ![0, 0, 0] ![1, 8, 1024] inb_S2x8x1024_S1x8x1024_0_0_0).toLoadRect (harg7.unread xs)))
      (k1_pay3 (View.readAt (Elt Ideal) arg7.view (Rect.unit (s := S2x8x1024) ![1, 0, 0] ![1, 8, 1024] inb_S2x8x1024_S1x8x1024_1_0_0).toLoadRect (harg7.unread xs))) fun _ => Sf (a l) (b l) t0 := by
    intro l
    have e0 : View.readAt (Elt Ideal) arg7.view (Rect.unit (s := S2x8x1024) ![0, 0, 0] ![1, 8, 1024] inb_S2x8x1024_S1x8x1024_0_0_0).toLoadRect (harg7.unread xs) = slab xs 0 := load_slab arg7 harg7 xs 0 _ rfl _
    have e1 : View.readAt (Elt Ideal) arg7.view (Rect.unit (s := S2x8x1024) ![1, 0, 0] ![1, 8, 1024] inb_S2x8x1024_S1x8x1024_1_0_0).toLoadRect (harg7.unread xs) = slab xs 1 := load_slab arg7 harg7 xs 1 _ rfl _
    rw [e0, e1]
    exact PB.rows fun r => hs l r
  have h := loop_parts c i arg2 harg2 arg3 harg3 arg4 harg4 arg5 harg5 arg6 harg6 arg7 harg7 a b t0 x0 x1 x2 (_, _) hT hx hi _ (Nat.le_refl _)
  refine left_of a b t0 _ _ _ _ _ (cov5_next c i arg2 harg2 arg3 harg3 arg4 harg4 arg5 harg5 arg6 harg6 arg7 harg7 hc x0 x1 x2 xs)
    (cov6_next c i arg2 harg2 arg3 harg3 arg4 harg4 arg5 harg5 arg6 harg6 arg7 harg7 hc x0 x1 x2 xs) h.2.1 h.2.2 _ inb_S2x8x1024_S1x8x1024_1_0_0 inb_S2x8x1024_S1x8x1024_0_0_0 rfl ?_
  have := h.1
  rw [trips_eq] at this
  exact this

/-- The zeros stored at the first block, loaded. -/
theorem zero_slab (o : Fin 3 → ℕ) (h) (y : S1x8x1024.Idx) :
    arg7.view.readCov (Val := Elt Ideal) (run_first.sl.H5_1) (Rect.unit (s := S2x8x1024) o S1x8x1024.size h).toLoadRect y = 0 := by
  unfold run_first.sl.H5_1
  rw [View.readCov_eq_canon', View.canon_unit_zero (S := S2x8x1024) (by funext d; fin_cases d <;> rfl)]
  show k1_pay1 (F := Ideal) _ = 0
  generalize (Rect.unit (s := S2x8x1024) o S1x8x1024.size h).toLoadRect.idx y = z
  pointwise [k1_pay1]

/-- The first block. -/
theorem first_parts (hc : first i) (x0 x1 : Vec Ideal S64x8x1024 .f32) (x2 : Vec Ideal S8x8x1024 .f32) (xs : Vec Ideal S2x8x1024 .f32)
    (hT : ∀ l, TabF l (slab x2) (a l)) (hx : ∀ k r l, Parts (x0 (ix3 k r l)) (x1 (ix3 k r l)) (b l (0 + 8 * k.val + r.val))) :
    Left a b 0 (step c i arg2 harg2 arg3 harg3 arg4 harg4 arg5 harg5 arg6 harg6 arg7 harg7 x0 x1 x2 xs) := by
  rw [step, dif_pos hc]
  have hi : ∀ l, PV l (k1_pay2 (F := Ideal) (run_first.sl.v3 c arg7)) (k1_pay3 (F := Ideal) (run_first.sl.v5 c arg7)) fun _ => Sf (a l) (b l) 0 := by
    intro l
    refine PB.rows fun r => ?_
    unfold run_first.sl.v3 run_first.sl.v5
    rw [zero_slab arg7 ![0, 0, 0] _ _, zero_slab arg7 ![1, 0, 0] _ _]
    exact Parts.zero
  have h := loop_parts c i arg2 harg2 arg3 harg3 arg4 harg4 arg5 harg5 arg6 harg6 arg7 harg7 a b 0 x0 x1 x2 (_, _) hT hx hi _ (Nat.le_refl _)
  refine left_of a b 0 _ _ _ _ _ (cov5_first c i arg2 harg2 arg3 harg3 arg4 harg4 arg5 harg5 arg6 harg6 arg7 harg7 hc x0 x1 x2)
    (cov6_first c i arg2 harg2 arg3 harg3 arg4 harg4 arg5 harg5 arg6 harg6 arg7 harg7 hc x0 x1 x2) h.2.1 h.2.2 _ inb_S2x8x1024_S1x8x1024_1_0_0 inb_S2x8x1024_S1x8x1024_0_0_0 rfl ?_
  have := h.1
  rw [trips_eq] at this
  exact this

end Body

end Cert.Proof.FwdVal

end
-- ==== Proof.ScanArr1.lean ====
/-
  The forward sweep's arrays: the whole recurrence.

  Point `t` of the sweep works on lane block `t / 8` and time block `t % 8`. The carried state before it is the state before its
  first time, so its blocks are the recurrence's, and the two arrays hold the state after every time.
-/
module

public import proofs.«01_k».proof.Proof.ScanFwdVal
public import Idealize.ShloMosaic.Lib.Pipeline.ValueKit

@[expose] public section

set_option maxRecDepth 16384

noncomputable section

namespace Cert.Proof.ArrF

open Cert.KernelIdeal Cert.KernelIdeal.Gen Cert.Proof.ScanMath Cert.Proof.ScanGroup Cert.Proof.Fwd Cert.Proof.FwdVal
open Idealize.ShloMosaic Idealize.ShloMosaic.TcCoe Idealize.ShloMosaic.Tactic
open Idealize.ShloMosaic.Pipeline (Dat)
open scoped ComplexConjugate

/-- A table over all lanes: the forward one's entries are the parts of the powers. -/
structure AllF (T : Vec Ideal S8x8x8192 .f32) (A : Fin 8192 → ℂ) : Prop where
  m1 : ∀ r L, Parts (T (ix3 0 r L)) (T (ix3 1 r L)) (mf (A L) 1 r)
  m2 : ∀ r L, Parts (T (ix3 2 r L)) (T (ix3 3 r L)) (mf (A L) 2 r)
  m4 : ∀ r L, Parts (T (ix3 4 r L)) (T (ix3 5 r L)) (mf (A L) 4 r)
  pw : ∀ r : Fin 8, ∀ L, Parts (T (ix3 6 r L)) (T (ix3 7 r L)) (A L ^ (r.val + 1))

/-- The blocks of a point. -/
theorem idx1 : ∀ t : Fin cfg1.N, win1_0.index t = ![t.val % 8, 0, t.val / 8] ∧ win1_1.index t = ![t.val % 8, 0, t.val / 8]
    ∧ win1_2.index t = ![0, 0, t.val / 8] ∧ win1_3.index t = ![t.val % 8, 0, t.val / 8] ∧ win1_4.index t = ![t.val % 8, 0, t.val / 8] := by decide +kernel

theorem lt64 (t : Fin cfg1.N) : t.val < 64 := t.isLt

/-- The lane, and the group, that a block's entry stands at. -/
abbrev lane (t : Fin cfg1.N) (l : Fin 1024) : Fin 8192 := ⟨1024 * (t.val / 8) + l.val, by have := lt64 t; have := l.isLt; omega⟩
abbrev grp (t : Fin cfg1.N) (k : Fin 64) : Fin 512 := ⟨64 * (t.val % 8) + k.val, by have := k.isLt; omega⟩

variable (V : (c : Dev nD) → (b : Ref sig .tc) → Buf (Elt Ideal) ((c : Thread nD τ).loc b)) (c : Dev nD)

theorem blk0 (t : Fin cfg1.N) (k : Fin 64) (r : Fin 8) (l : Fin 1024) : blkIn V c 0 t (ix3 k r l) = V c main_arg2 (ix3 (grp t k) r (lane t l)) := by
  blk_point [blkIn, idx1 t]
theorem blk1 (t : Fin cfg1.N) (k : Fin 64) (r : Fin 8) (l : Fin 1024) : blkIn V c 1 t (ix3 k r l) = V c main_arg3 (ix3 (grp t k) r (lane t l)) := by
  blk_point [blkIn, idx1 t]
theorem blk2 (t : Fin cfg1.N) (k : Fin 8) (r : Fin 8) (l : Fin 1024) : blkIn V c 2 t (ix3 k r l) = V c main_v0_0 (ix3 k r (lane t l)) := by
  blk_point [blkIn, idx1 t]

variable {A : Fin 8192 → ℂ} {B : Fin 8192 → ℕ → ℂ}

/-- What the sweep reads: the table of the powers, and the inputs' parts. -/
structure Reads (A : Fin 8192 → ℂ) (B : Fin 8192 → ℕ → ℂ) : Prop where
  tab : AllF (V c main_v0_0) A
  inp : ∀ (G : Fin 512) (r : Fin 8) (L : Fin 8192), Parts (V c main_arg2 (ix3 G r L)) (V c main_arg3 (ix3 G r L)) (B L (8 * G.val + r.val))

variable {V c}

/-- A point's table. -/
theorem tabAt (h : Reads V c A B) (t : Fin cfg1.N) (l : Fin 1024) : TabF l (slab (blkIn V c 2 t)) (A (lane t l)) where
  m1 := fun r => ((h.tab.m1 r (lane t l)).read (blk2 V c t 0 r l) (blk2 V c t 1 r l) rfl)
  m2 := fun r => ((h.tab.m2 r (lane t l)).read (blk2 V c t 2 r l) (blk2 V c t 3 r l) rfl)
  m4 := fun r => ((h.tab.m4 r (lane t l)).read (blk2 V c t 4 r l) (blk2 V c t 5 r l) rfl)
  pw := fun r => ((h.tab.pw r (lane t l)).read (blk2 V c t 6 r l) (blk2 V c t 7 r l) rfl)

/-- A point's inputs. -/
theorem inpAt (h : Reads V c A B) (t : Fin cfg1.N) (t0 : ℕ) (ht : t0 = 512 * (t.val % 8)) (k : Fin 64) (r : Fin 8) (l : Fin 1024) :
    Parts (blkIn V c 0 t (ix3 k r l)) (blkIn V c 1 t (ix3 k r l)) (B (lane t l) (t0 + 8 * k.val + r.val)) :=
  (h.inp (grp t k) r (lane t l)).read (blk0 V c t k r l) (blk1 V c t k r l) (congrArg _ (by subst ht; show 8 * (64 * (t.val % 8) + k.val) + r.val = _; omega))

/-- Every point does its part of the recurrence. -/
theorem left (h : Reads V c A B) : ∀ n (hn : n < cfg1.N),
    Left (fun l => A (lane ⟨n, hn⟩ l)) (fun l => B (lane ⟨n, hn⟩ l)) (512 * (n % 8)) (stepAt V c ⟨n, hn⟩ (carry V c n)) := by
  intro n
  induction n with
  | zero =>
    intro hn
    exact FwdVal.first_parts _ _ _ _ _ _ _ _ _ _ _ _ _ _ _ _ ((first_iff ⟨0, hn⟩).2 rfl) _ _ _ _ (tabAt h _) (fun k r l => inpAt h _ 0 rfl k r l)
  | succ n ih =>
    intro hn
    by_cases h0 : (n + 1) % 8 = 0
    · rw [h0]
      exact FwdVal.first_parts _ _ _ _ _ _ _ _ _ _ _ _ _ _ _ _ ((first_iff ⟨n + 1, hn⟩).2 h0) _ _ _ _ (tabAt h _)
        (fun k r l => inpAt h _ 0 (by show 0 = 512 * ((n + 1) % 8); rw [h0]) k r l)
    · refine FwdVal.next_parts _ _ _ _ _ _ _ _ _ _ _ _ _ _ _ _ _ (fun hf => h0 ((first_iff ⟨n + 1, hn⟩).1 hf)) _ _ _ _ (tabAt h _)
        (fun k r l => inpAt h _ _ rfl k r l) fun l r => ?_
      have hn' : n < cfg1.N := Nat.lt_of_succ_lt hn
      have p := (ih hn').2 l r
      rw [← carry_succ V c ⟨n, hn'⟩] at p
      have e : lane ⟨n, hn'⟩ l = lane ⟨n + 1, hn⟩ l := Fin.ext (by show 1024 * (n / 8) + l.val = 1024 * ((n + 1) / 8) + l.val; omega)
      exact p.congr (by
        show Sf (A (lane ⟨n, hn'⟩ l)) (B (lane ⟨n, hn'⟩ l)) (512 * (n % 8) + 512) = Sf (A (lane ⟨n + 1, hn⟩ l)) (B (lane ⟨n + 1, hn⟩ l)) (512 * ((n + 1) % 8))
        rw [e, show 512 * (n % 8) + 512 = 512 * ((n + 1) % 8) by omega])

/-- The state after an entry's time. -/
abbrev state (A : Fin 8192 → ℂ) (B : Fin 8192 → ℕ → ℂ) (y : S512x8x8192.Idx) : ℂ := Sf (A (y 2)) (B (y 2)) (8 * (y 0).val + (y 1).val + 1)

theorem after3 (t : Fin cfg1.N) : (dat V c).after 3 t = (stepAt V c t (carry V c t.val)).1 := by dsimp only [dat]
theorem after4 (t : Fin cfg1.N) : (dat V c).after 4 t = (stepAt V c t (carry V c t.val)).2.1 := by dsimp only [dat]

/-- The array's entry a block's entry is written to. -/
theorem emb3 (g : S512x8x8192.Idx → EReal) (t : Fin cfg1.N) (y : S64x8x1024.Idx) :
    g (((View.whole main_v1_0).slice (win1_3.rect t)).emb y) = g (ix3 (grp t (y 0)) (y 1) (lane t (y 2))) := by blk_ext [idx1 t]
theorem emb4 (g : S512x8x8192.Idx → EReal) (t : Fin cfg1.N) (y : S64x8x1024.Idx) :
    g (((View.whole main_v1_1).slice (win1_4.rect t)).emb y) = g (ix3 (grp t (y 0)) (y 1) (lane t (y 2))) := by blk_ext [idx1 t]

/-- The block's state is the recurrence's. -/
theorem state_at (t : Fin cfg1.N) (y : S64x8x1024.Idx) :
    stAfter (fun l => A (lane t l)) (fun l => B (lane t l)) (512 * (t.val % 8)) y = state A B (ix3 (grp t (y 0)) (y 1) (lane t (y 2))) := by
  show Sf (A (lane t (y 2))) (B (lane t (y 2))) (512 * (t.val % 8) + 8 * (y 0).val + (y 1).val + 1) = Sf (A (lane t (y 2))) (B (lane t (y 2))) (8 * (64 * (t.val % 8) + (y 0).val) + (y 1).val + 1)
  exact congrArg _ (by omega)

/-- The array of the states' real parts. -/
theorem arr3 (h : Reads V c A B) : (dat V c).arrAt 3 cfg1.N = fun y => (((state A B y).re : ℝ) : EReal) := by
  refine (dat V c).arrAt_eq_of_covers 3 _ (by decide +kernel) fun t hf y => ?_
  blk_simp
  rw [after3]
  frame_out
  refine ((left h _ t.isLt).1 y).1.trans ?_
  exact (congrArg (fun z : ℂ => ((z.re : ℝ) : EReal)) (state_at t y)).trans (emb3 (fun y => (((state A B y).re : ℝ) : EReal)) t y).symm

/-- The array of the states' imaginary parts. -/
theorem arr4 (h : Reads V c A B) : (dat V c).arrAt 4 cfg1.N = fun y => (((state A B y).im : ℝ) : EReal) := by
  refine (dat V c).arrAt_eq_of_covers 4 _ (by decide +kernel) fun t hf y => ?_
  blk_simp
  rw [after4]
  frame_out
  refine ((left h _ t.isLt).1 y).2.trans ?_
  exact (congrArg (fun z : ℂ => ((z.im : ℝ) : EReal)) (state_at t y)).trans (emb4 (fun y => (((state A B y).im : ℝ) : EReal)) t y).symm

end Cert.Proof.ArrF

end
-- ==== Proof.ScanBwdVal.lean ====
/-
  The backward sweep's block: what the body's run leaves, in numbers.

  Sixty-four groups from the last one of the block to its first; the carried gradient before group `n` is the one after
  `8 (q0 + n)` times from the end, row `(g, r)` of the stored block is the gradient there, and row `r` of the two sums
  is the sum over the groups met so far of the gradient one time later times the conjugate of the state. At the last
  block the eight rows of the sums are added up.
-/
module

public import proofs.«01_k».proof.Proof.ScanFwdVal
public import proofs.«01_k».proof.Proof.ScanRun2

@[expose] public section

set_option maxRecDepth 16384

noncomputable section

namespace Cert.Proof.BwdVal

open Cert.KernelIdeal Cert.KernelIdeal.Gen Cert.Proof.ScanMath Cert.Proof.ScanGroup Cert.Proof.Bwd
open Cert.Proof.Fwd (left64 left2)
open Cert.Proof.FwdVal (slab load_slab asSlab asSlab_apply left2_two Agree agree_cons tabInb)
open Idealize.ShloMosaic Idealize.ShloMosaic.TcCoe Idealize.ShloMosaic.Tactic
open scoped ComplexConjugate

/-- The rows loaded from a whole buffer. -/
theorem load_rows (arg : Memref sig .tc .vmem S8x1024 .f32) (harg : arg.IsWhole) (x : Vec Ideal S8x1024 .f32) (h) :
    View.readAt (Elt Ideal) arg.view (Rect.unit (s := S8x1024) ![0, 0] ![8, 1024] h).toLoadRect (harg.unread x) = x := by
  rw [View.readAt_eq_ld, harg.read_unread]
  exact View.ld_unit_zero (S := S8x1024) (by funext d; fin_cases d <;> rfl) h x

/-- The rows stored last, read. -/
theorem left8_cons (w : Vec Ideal S8x1024 .f32) (L : List (View.Piece (Elt Ideal) S8x1024 .f32)) (h) :
    left8 (F := Ideal) (⟨Rect.unit (s := S8x1024) ![0, 0] ![8, 1024] h, w⟩ :: L) = w := by
  unfold left8
  rw [View.read_writes_junk_eq_canon]
  exact View.canon_cons_unit_zero (S := S8x1024) (by funext d; fin_cases d <;> rfl) h w L

section Body

variable (c : Dev nD) (i : grid2.Coords)
  (arg2 : Memref sig .tc .vmem S64x8x1024 .f32) (harg2 : arg2.IsWhole)
  (arg3 : Memref sig .tc .vmem S64x8x1024 .f32) (harg3 : arg3.IsWhole)
  (arg4 : Memref sig .tc .vmem S64x8x1024 .f32) (harg4 : arg4.IsWhole)
  (arg5 : Memref sig .tc .vmem S64x8x1024 .f32) (harg5 : arg5.IsWhole)
  (arg6 : Memref sig .tc .vmem S8x8x1024 .f32) (harg6 : arg6.IsWhole)
  (arg7 : Memref sig .tc .vmem S64x8x1024 .f32) (harg7 : arg7.IsWhole)
  (arg8 : Memref sig .tc .vmem S64x8x1024 .f32) (harg8 : arg8.IsWhole)
  (arg9 : Memref sig .tc .vmem S8x1024 .f32) (harg9 : arg9.IsWhole)
  (arg10 : Memref sig .tc .vmem S8x1024 .f32) (harg10 : arg10.IsWhole)
  (arg11 : Memref sig .tc .vmem S2x8x1024 .f32) (harg11 : arg11.IsWhole)

/-- What a trip carries. -/
abbrev Acc : Type := FVec Ideal S8x1024 .f32 × FVec Ideal S8x1024 .f32 × FVec Ideal S8x1024 .f32 × FVec Ideal S8x1024 .f32

/-- One trip is one group, the products with the conjugates of the states added to the sums. -/
theorem trip_eq (x0 x1 x2 x3 : Vec Ideal S64x8x1024 .f32) (x4 : Vec Ideal S8x8x1024 .f32) (k : Fin k2_t1_loop.trips) (acc : Acc) :
    let G := grpB (fun j => View.readAt (Elt Ideal) arg6.view (Rect.unit (s := S8x8x1024) ![j.val, 0, 0] ![1, 8, 1024] (tabInb j)).toLoadRect (harg6.unread x4))
      (View.readAt (Elt Ideal) arg2.view (Rect.unit (s := S64x8x1024) (k2_off1 k) ![1, 8, 1024] (k2_off1_inb k)).toLoadRect (harg2.unread x0))
      (View.readAt (Elt Ideal) arg3.view (Rect.unit (s := S64x8x1024) (k2_off1 k) ![1, 8, 1024] (k2_off1_inb k)).toLoadRect (harg3.unread x1)) acc.1 acc.2.1
    tripR_k2_t1 (F := Ideal) Variants.none c none i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) k acc
      = (k2_pay43 G.1, k2_pay44 G.2, k2_pay41 acc.2.2.1 (nxt G.1 acc.1) (nxt G.2 acc.2.1) (View.readAt (Elt Ideal) arg4.view (Rect.unit (s := S64x8x1024) (k2_off1 k) ![1, 8, 1024] (k2_off1_inb k)).toLoadRect (harg4.unread x2)) (View.readAt (Elt Ideal) arg5.view (Rect.unit (s := S64x8x1024) (k2_off1 k) ![1, 8, 1024] (k2_off1_inb k)).toLoadRect (harg5.unread x3)),
          k2_pay42 acc.2.2.2 (nxt G.1 acc.1) (nxt G.2 acc.2.1) (View.readAt (Elt Ideal) arg4.view (Rect.unit (s := S64x8x1024) (k2_off1 k) ![1, 8, 1024] (k2_off1_inb k)).toLoadRect (harg4.unread x2)) (View.readAt (Elt Ideal) arg5.view (Rect.unit (s := S64x8x1024) (k2_off1 k) ![1, 8, 1024] (k2_off1_inb k)).toLoadRect (harg5.unread x3)))
    ∧ tripL_k2_t1 (F := Ideal) Variants.none c none i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) k acc
      = ([⟨Rect.unit (k2_off1 k) ![1, 8, 1024] (k2_off1_inb k), asSlab G.1⟩], [⟨Rect.unit (k2_off1 k) ![1, 8, 1024] (k2_off1_inb k), asSlab G.2⟩]) := by
  unfold tripR_k2_t1 tripL_k2_t1 trip_k2_t1
  exact ⟨rfl, rfl⟩

-- the multiplier and the inputs of the recurrence counted from the end, the states group by group from the end, and the
-- number of groups before this block
variable (a : Fin 1024 → ℂ) (b : Fin 1024 → ℕ → ℂ) (s : Fin 1024 → Fin 8 → ℕ → ℂ) (q0 : ℕ)

/-- The gradient at row `(g, r)`. -/
abbrev grad (y : S64x8x1024.Idx) : ℂ := Sf (a (y 2)) (b (y 2)) (8 * (q0 + (63 - (y 0).val)) + (8 - (y 1).val))

/-- A row's sum after `q` groups. -/
def rowSum (l : Fin 1024) (q : ℕ) (r : Fin 8) : ℂ := ∑ p ∈ Finset.range q, Sf (a l) (b l) (8 * p + (7 - r.val)) * conj (s l r p)

theorem rowSum_succ (l : Fin 1024) (q : ℕ) (r : Fin 8) :
    rowSum a b s l (q + 1) r = rowSum a b s l q r + Sf (a l) (b l) (8 * q + (7 - r.val)) * conj (s l r q) := Finset.sum_range_succ _ _

/-- The inputs' block and the states' block, in numbers. -/
structure Given (x0 x1 x2 x3 : Vec Ideal S64x8x1024 .f32) (x4 : Vec Ideal S8x8x1024 .f32) : Prop where
  tab : ∀ l, TabB l (slab x4) (a l)
  inp : ∀ k r l, Parts (x0 (ix3 k r l)) (x1 (ix3 k r l)) (b l (8 * (q0 + (63 - k.val)) + (7 - r.val)))
  st : ∀ k r l, Parts (x2 (ix3 k r l)) (x3 (ix3 k r l)) (s l r (q0 + (63 - k.val)))

/-- The carried values after `q` groups. -/
def Carried (q : ℕ) (acc : Acc) : Prop :=
  ∀ l, PV l acc.1 acc.2.1 (fun _ => Sf (a l) (b l) (8 * q)) ∧ PV l acc.2.2.1 acc.2.2.2 (rowSum a b s l q)

/-- One group. -/
theorem group_step {x0 x1 x2 x3 : Vec Ideal S64x8x1024 .f32} {x4 : Vec Ideal S8x8x1024 .f32} (hg : Given a b s q0 x0 x1 x2 x3 x4) (n : ℕ) (k : Fin 64) (hk : k.val = 63 - n) (hn : n < 64)
    (acc : Acc) (h : Carried a b s (q0 + n) acc) :
    let G := grpB (slab x4) (slab x0 k) (slab x1 k) acc.1 acc.2.1
    Carried a b s (q0 + (n + 1)) (k2_pay43 G.1, k2_pay44 G.2, k2_pay41 acc.2.2.1 (nxt G.1 acc.1) (nxt G.2 acc.2.1) (slab x2 k) (slab x3 k),
      k2_pay42 acc.2.2.2 (nxt G.1 acc.1) (nxt G.2 acc.2.1) (slab x2 k) (slab x3 k))
    ∧ ∀ l, PV l G.1 G.2 fun r => Sf (a l) (b l) (8 * (q0 + (63 - k.val)) + (8 - r.val)) := by
  have e : 63 - k.val = n := by omega
  have g : ∀ l, PV l (grpB (slab x4) (slab x0 k) (slab x1 k) acc.1 acc.2.1).1 (grpB (slab x4) (slab x0 k) (slab x1 k) acc.1 acc.2.1).2 fun r => Sf (a l) (b l) (8 * (q0 + n) + (8 - r.val)) :=
    fun l => grpB_parts (hg.tab l) (b l) (8 * (q0 + n)) (fun r => (hg.inp k r l).congr (by rw [e])) (h l).1
  refine ⟨fun l => ⟨?_, ?_⟩, fun l => by rw [e]; exact g l⟩
  · have := first_parts (g l)
    exact fun r => (this r).congr (congrArg (Sf (a l) (b l)) (by show 8 * (q0 + n) + (8 - 0) = _; omega))
  · have hn := nxt_parts (fun j => Sf (a l) (b l) (8 * (q0 + n) + j)) (g l) (h l).1
    have := acc_parts hn (sr := slab x2 k) (si := slab x3 k) (s := fun r => s l r (q0 + n)) (fun r => (hg.st k r l).congr (by rw [e])) (h l).2
    exact fun r => (this r).congr (rowSum_succ a b s l (q0 + n) r).symm

/-- The loop. -/
theorem loop_parts (x0 x1 x2 x3 : Vec Ideal S64x8x1024 .f32) (x4 : Vec Ideal S8x8x1024 .f32) (hg : Given a b s q0 x0 x1 x2 x3 x4) (init : Acc)
    (hi : Carried a b s q0 init) (n : ℕ) (hn : n ≤ k2_t1_loop.trips) :
    let st := st_k2_t1 (F := Ideal) Variants.none c none i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) init n
    Carried a b s (q0 + n) st.1
    ∧ Agree (fun y => ((grad a b q0 y).re : EReal)) st.2.1 ∧ Agree (fun y => ((grad a b q0 y).im : EReal)) st.2.2 := by
  induction n with
  | zero => exact ⟨hi, fun p hp => absurd hp List.not_mem_nil, fun p hp => absurd hp List.not_mem_nil⟩
  | succ n ih =>
    obtain ⟨h1, h2, h3⟩ := ih (Nat.le_of_succ_le hn)
    have hk : n < 64 := Nat.lt_of_lt_of_le hn k2_t1_abs.2.1
    have hj : 63 - n < 64 := by omega
    have e := st_k2_t1_succ (F := Ideal) Variants.none c none i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) init ⟨n, hn⟩
    have ho : k2_off1 ⟨n, hn⟩ = ![(⟨63 - n, hj⟩ : Fin 64).val, 0, 0] := k2_off1_eq ⟨n, hn⟩
    obtain ⟨t1, t2⟩ := trip_eq c i arg2 harg2 arg3 harg3 arg4 harg4 arg5 harg5 arg6 harg6 arg7 harg7 arg8 harg8 arg9 harg9 arg10 harg10 arg11 harg11 x0 x1 x2 x3 x4 ⟨n, hn⟩
      (st_k2_t1 (F := Ideal) Variants.none c none i arg2 harg2 arg3 harg3 arg4 harg4 arg5 harg5 arg6 harg6 arg7 harg7 arg8 harg8 arg9 harg9 arg10 harg10 arg11 harg11 (harg2.unread x0) (harg3.unread x1) (harg4.unread x2) (harg5.unread x3) (harg6.unread x4) init n).1
    rw [t1, t2] at e
    have hT' : (fun j : Fin 8 => View.readAt (Elt Ideal) arg6.view (Rect.unit (s := S8x8x1024) ![j.val, 0, 0] ![1, 8, 1024] (tabInb j)).toLoadRect (harg6.unread x4)) = slab x4 :=
      funext fun j => load_slab arg6 harg6 x4 j _ rfl _
    rw [hT', load_slab arg2 harg2 x0 ⟨63 - n, hj⟩ _ ho _, load_slab arg3 harg3 x1 ⟨63 - n, hj⟩ _ ho _, load_slab arg4 harg4 x2 ⟨63 - n, hj⟩ _ ho _, load_slab arg5 harg5 x3 ⟨63 - n, hj⟩ _ ho _] at e
    have g := group_step a b s q0 hg n ⟨63 - n, hj⟩ rfl hk _ h1
    simp only at e ⊢
    rw [e]
    refine ⟨g.1, ?_, ?_⟩
    · exact agree_cons h2 ⟨63 - n, hj⟩ _ ho _ _ fun r l => (g.2 l r).1
    · exact agree_cons h3 ⟨63 - n, hj⟩ _ ho _ _ fun r l => (g.2 l r).2

/-- What a block of the sweep leaves: the gradients, the sums, and the last gradient carried. -/
structure Left (z : Fin 1024 → Fin 8 → ℂ)
    (o : Vec Ideal S64x8x1024 .f32 × Vec Ideal S64x8x1024 .f32 × Vec Ideal S8x1024 .f32 × Vec Ideal S8x1024 .f32 × Vec Ideal S2x8x1024 .f32) : Prop where
  q : ∀ y, Parts (o.1 y) (o.2.1 y) (grad a b q0 y)
  sum : ∀ l, PV l o.2.2.1 o.2.2.2.1 (z l)
  carried : ∀ l r, Parts (o.2.2.2.2 (ix3 0 r l)) (o.2.2.2.2 (ix3 1 r l)) (Sf (a l) (b l) (8 * (q0 + 64)))

theorem left_of (L7 L8 : List (View.Piece (Elt Ideal) S64x8x1024 .f32)) (L9 L10 : List (View.Piece (Elt Ideal) S8x1024 .f32)) (L11 : List (View.Piece (Elt Ideal) S2x8x1024 .f32))
    (c7 : ∀ y, ∃ pc ∈ L7, y ∈ pc.1.set) (c8 : ∀ y, ∃ pc ∈ L8, y ∈ pc.1.set)
    (h7 : Agree (fun y => ((grad a b q0 y).re : EReal)) L7) (h8 : Agree (fun y => ((grad a b q0 y).im : EReal)) L8)
    (u0 u1 : Vec Ideal S8x1024 .f32) (M9 M10 : List (View.Piece (Elt Ideal) S8x1024 .f32)) (i9 i10)
    (e9 : L9 = ⟨Rect.unit (s := S8x1024) ![0, 0] ![8, 1024] i9, u0⟩ :: M9) (e10 : L10 = ⟨Rect.unit (s := S8x1024) ![0, 0] ![8, 1024] i10, u1⟩ :: M10)
    (w0 w1 : FVec Ideal S8x1024 .f32) (L : List (View.Piece (Elt Ideal) S2x8x1024 .f32)) (i1 i0)
    (e11 : L11 = ⟨Rect.unit (s := S2x8x1024) ![1, 0, 0] ![1, 8, 1024] i1, asSlab w1⟩ :: ⟨Rect.unit (s := S2x8x1024) ![0, 0, 0] ![1, 8, 1024] i0, asSlab w0⟩ :: L)
    (z : Fin 1024 → Fin 8 → ℂ) (hu : ∀ l, PV l u0 u1 (z l))
    (hw : ∀ l, PV l w0 w1 fun _ => Sf (a l) (b l) (8 * (q0 + 64))) : Left a b q0 z (left64 L7, left64 L8, left8 L9, left8 L10, left2 L11) := by
  have E7 : ∀ y, left64 L7 y = ((grad a b q0 y).re : EReal) := fun y => by
    unfold left64
    rw [View.read_writes_junk_eq_canon]
    exact View.canon_apply_of_pieces (Val := Elt Ideal) (e := .f32) (fun y => ((grad a b q0 y).re : EReal)) L7 h7 y (c7 y)
  have E8 : ∀ y, left64 L8 y = ((grad a b q0 y).im : EReal) := fun y => by
    unfold left64
    rw [View.read_writes_junk_eq_canon]
    exact View.canon_apply_of_pieces (Val := Elt Ideal) (e := .f32) (fun y => ((grad a b q0 y).im : EReal)) L8 h8 y (c8 y)
  have E9 : left8 L9 = u0 := by rw [e9]; exact left8_cons u0 M9 i9
  have E10 : left8 L10 = u1 := by rw [e10]; exact left8_cons u1 M10 i10
  have E11 : ∀ r l, left2 L11 (ix3 0 r l) = w0 (ix2 r l) ∧ left2 L11 (ix3 1 r l) = w1 (ix2 r l) := fun r l => by rw [e11]; exact left2_two w1 w0 L i1 i0 r l
  generalize left64 L7 = o7 at E7 ⊢
  generalize left64 L8 = o8 at E8 ⊢
  generalize left8 L9 = o9 at E9 ⊢
  generalize left8 L10 = o10 at E10 ⊢
  generalize left2 L11 = o11 at E11 ⊢
  exact ⟨fun y => ⟨E7 y, E8 y⟩, fun l => by rw [E9, E10]; exact hu l, fun l r => ⟨(E11 r l).1.trans (hw l r).1, (E11 r l).2.trans (hw l r).2⟩⟩

theorem trips_eq : k2_t1_loop.trips = 64 := by decide

theorem carried_rows {u v : Vec Ideal S1x8x1024 .f32} {z : Fin 8 → ℂ} {l : Fin 1024} (h : PB l u v z) : PV l (k2_pay35 (F := Ideal) u) (k2_pay36 (F := Ideal) v) z := h.rows

theorem carried_of {q : ℕ} {u v w x : FVec Ideal S8x1024 .f32} (h1 : ∀ l, PV l u v fun _ => Sf (a l) (b l) (8 * q)) (h2 : ∀ l, PV l w x (rowSum a b s l q)) :
    Carried a b s q (u, v, w, x) := fun l => ⟨h1 l, h2 l⟩

/-- The carried values as they are loaded: a slab each for the gradient, the sums' rows. -/
theorem init_parts (xs : Vec Ideal S2x8x1024 .f32) (s7 s8 : Vec Ideal S8x1024 .f32)
    (hs : ∀ l r, Parts (xs (ix3 0 r l)) (xs (ix3 1 r l)) (Sf (a l) (b l) (8 * q0))) (hd : ∀ l, PV l s7 s8 (rowSum a b s l q0)) :
    Carried a b s q0 (k2_pay35 (F := Ideal) (slab xs 0), k2_pay36 (F := Ideal) (slab xs 1), k2_pay37 (F := Ideal) s7, k2_pay38 (F := Ideal) s8) := by
  refine carried_of a b s (fun l => carried_rows fun r => hs l r) fun l r => ?_
  have := hd l r
  pointwise [k2_pay37, k2_pay38]
  exact this

/-- A middle block. -/
theorem mid_parts (hc : ¬ first i) (hl : ¬ last i) (x0 x1 x2 x3 : Vec Ideal S64x8x1024 .f32) (x4 : Vec Ideal S8x8x1024 .f32) (s7 s8 : Vec Ideal S8x1024 .f32) (s9 : Vec Ideal S2x8x1024 .f32)
    (hg : Given a b s q0 x0 x1 x2 x3 x4)
    (hs : ∀ l r, Parts (s9 (ix3 0 r l)) (s9 (ix3 1 r l)) (Sf (a l) (b l) (8 * q0))) (hd : ∀ l, PV l s7 s8 (rowSum a b s l q0)) :
    Left a b q0 (fun l => rowSum a b s l (q0 + 64)) (step c i arg2 harg2 arg3 harg3 arg4 harg4 arg5 harg5 arg6 harg6 arg7 harg7 arg8 harg8 arg9 harg9 arg10 harg10 arg11 harg11 x0 x1 x2 x3 x4 s7 s8 s9) := by
  rw [step_mid c i arg2 harg2 arg3 harg3 arg4 harg4 arg5 harg5 arg6 harg6 arg7 harg7 arg8 harg8 arg9 harg9 arg10 harg10 arg11 harg11 hc hl]
  have hi := init_parts a b s q0 s9 s7 s8 hs hd
  have e0 : View.readAt (Elt Ideal) arg11.view (Rect.unit (s := S2x8x1024) ![0, 0, 0] ![1, 8, 1024] inb_S2x8x1024_S1x8x1024_0_0_0).toLoadRect (harg11.unread s9) = slab s9 0 := load_slab arg11 harg11 s9 0 _ rfl _
  have e1 : View.readAt (Elt Ideal) arg11.view (Rect.unit (s := S2x8x1024) ![1, 0, 0] ![1, 8, 1024] inb_S2x8x1024_S1x8x1024_1_0_0).toLoadRect (harg11.unread s9) = slab s9 1 := load_slab arg11 harg11 s9 1 _ rfl _
  have e2 := load_rows arg9 harg9 s7 inb_S8x1024_S8x1024_0_0
  have e3 := load_rows arg10 harg10 s8 inb_S8x1024_S8x1024_0_0
  rw [← e0, ← e1, ← e2, ← e3] at hi
  have h := loop_parts c i arg2 harg2 arg3 harg3 arg4 harg4 arg5 harg5 arg6 harg6 arg7 harg7 arg8 harg8 arg9 harg9 arg10 harg10 arg11 harg11 a b s q0 x0 x1 x2 x3 x4 hg (_, _, _, _) hi _ (Nat.le_refl _)
  have h1 := h.1
  rw [trips_eq] at h1
  exact left_of a b q0 _ _ _ _ _ (cov7_mid c i arg2 harg2 arg3 harg3 arg4 harg4 arg5 harg5 arg6 harg6 arg7 harg7 arg8 harg8 arg9 harg9 arg10 harg10 arg11 harg11 hc hl x0 x1 x2 x3 x4 s7 s8 s9)
    (cov8_mid c i arg2 harg2 arg3 harg3 arg4 harg4 arg5 harg5 arg6 harg6 arg7 harg7 arg8 harg8 arg9 harg9 arg10 harg10 arg11 harg11 hc hl x0 x1 x2 x3 x4 s7 s8 s9) h.2.1 h.2.2 _ _ _ _ inb_S8x1024_S8x1024_0_0 inb_S8x1024_S8x1024_0_0 rfl rfl
    _ _ _ inb_S2x8x1024_S1x8x1024_1_0_0 inb_S2x8x1024_S1x8x1024_0_0_0 rfl _ (fun l => (h1 l).2) fun l => (h1 l).1

/-- The eight rows' sum in every row. -/
theorem total_parts {dr di : FVec Ideal S8x1024 .f32} {l : Fin 1024} {z : Fin 8 → ℂ} (h : PV l dr di z) : PV l (k2_pay1 dr) (k2_pay2 di) fun _ => ∑ r, z r := by
  intro r
  have e := Parts.sum Finset.univ _ _ _ fun r _ => h r
  pointwise [k2_pay1, k2_pay2]
  exact e

/-- The last block. -/
theorem last_parts (hc : ¬ first i) (hl : last i) (x0 x1 x2 x3 : Vec Ideal S64x8x1024 .f32) (x4 : Vec Ideal S8x8x1024 .f32) (s7 s8 : Vec Ideal S8x1024 .f32) (s9 : Vec Ideal S2x8x1024 .f32)
    (hg : Given a b s q0 x0 x1 x2 x3 x4)
    (hs : ∀ l r, Parts (s9 (ix3 0 r l)) (s9 (ix3 1 r l)) (Sf (a l) (b l) (8 * q0))) (hd : ∀ l, PV l s7 s8 (rowSum a b s l q0)) :
    Left a b q0 (fun l _ => ∑ r, rowSum a b s l (q0 + 64) r) (step c i arg2 harg2 arg3 harg3 arg4 harg4 arg5 harg5 arg6 harg6 arg7 harg7 arg8 harg8 arg9 harg9 arg10 harg10 arg11 harg11 x0 x1 x2 x3 x4 s7 s8 s9) := by
  rw [step_last c i arg2 harg2 arg3 harg3 arg4 harg4 arg5 harg5 arg6 harg6 arg7 harg7 arg8 harg8 arg9 harg9 arg10 harg10 arg11 harg11 hc hl]
  have hi := init_parts a b s q0 s9 s7 s8 hs hd
  have e0 : View.readAt (Elt Ideal) arg11.view (Rect.unit (s := S2x8x1024) ![0, 0, 0] ![1, 8, 1024] inb_S2x8x1024_S1x8x1024_0_0_0).toLoadRect (harg11.unread s9) = slab s9 0 := load_slab arg11 harg11 s9 0 _ rfl _
  have e1 : View.readAt (Elt Ideal) arg11.view (Rect.unit (s := S2x8x1024) ![1, 0, 0] ![1, 8, 1024] inb_S2x8x1024_S1x8x1024_1_0_0).toLoadRect (harg11.unread s9) = slab s9 1 := load_slab arg11 harg11 s9 1 _ rfl _
  have e2 := load_rows arg9 harg9 s7 inb_S8x1024_S8x1024_0_0
  have e3 := load_rows arg10 harg10 s8 inb_S8x1024_S8x1024_0_0
  rw [← e0, ← e1, ← e2, ← e3] at hi
  have h := loop_parts c i arg2 harg2 arg3 harg3 arg4 harg4 arg5 harg5 arg6 harg6 arg7 harg7 arg8 harg8 arg9 harg9 arg10 harg10 arg11 harg11 a b s q0 x0 x1 x2 x3 x4 hg (_, _, _, _) hi _ (Nat.le_refl _)
  have h1 := h.1
  rw [trips_eq] at h1
  exact left_of a b q0 _ _ _ _ _ (cov7_last c i arg2 harg2 arg3 harg3 arg4 harg4 arg5 harg5 arg6 harg6 arg7 harg7 arg8 harg8 arg9 harg9 arg10 harg10 arg11 harg11 hc hl x0 x1 x2 x3 x4 s7 s8 s9)
    (cov8_last c i arg2 harg2 arg3 harg3 arg4 harg4 arg5 harg5 arg6 harg6 arg7 harg7 arg8 harg8 arg9 harg9 arg10 harg10 arg11 harg11 hc hl x0 x1 x2 x3 x4 s7 s8 s9) h.2.1 h.2.2 _ _ _ _ inb_S8x1024_S8x1024_0_0 inb_S8x1024_S8x1024_0_0 rfl rfl
    _ _ _ inb_S2x8x1024_S1x8x1024_1_0_0 inb_S2x8x1024_S1x8x1024_0_0_0 rfl _ (fun l => total_parts (h1 l).2) fun l => (h1 l).1

/-- The zeros stored at the first block, loaded: slabs, -/
theorem zero_slab (o : Fin 3 → ℕ) (h) (y : S1x8x1024.Idx) :
    arg11.view.readCov (Val := Elt Ideal) (run_first.sl.H11_1) (Rect.unit (s := S2x8x1024) o S1x8x1024.size h).toLoadRect y = 0 := by
  unfold run_first.sl.H11_1
  rw [View.readCov_eq_canon', View.canon_unit_zero (S := S2x8x1024) (by funext d; fin_cases d <;> rfl)]
  show k2_pay31 (F := Ideal) _ = 0
  generalize (Rect.unit (s := S2x8x1024) o S1x8x1024.size h).toLoadRect.idx y = z
  pointwise [k2_pay31]

/-- and rows. -/
theorem zero_rows (y : S8x1024.Idx) : run_first.sl.v10 (F := Ideal) c arg9 y = 0 ∧ run_first.sl.v12 (F := Ideal) c arg10 y = 0 := by
  constructor
  · unfold run_first.sl.v10 run_first.sl.H9_1
    rw [View.readCov_eq_canon', View.canon_unit_zero (S := S8x1024) (by funext d; fin_cases d <;> rfl)]
    show k2_pay32 (F := Ideal) _ = 0
    generalize (Rect.unit (s := S8x1024) ![0, 0] S8x1024.size inb_S8x1024_S8x1024_0_0).toLoadRect.idx y = z
    pointwise [k2_pay32]
  · unfold run_first.sl.v12 run_first.sl.H10_1
    rw [View.readCov_eq_canon', View.canon_unit_zero (S := S8x1024) (by funext d; fin_cases d <;> rfl)]
    show k2_pay33 (F := Ideal) _ = 0
    generalize (Rect.unit (s := S8x1024) ![0, 0] S8x1024.size inb_S8x1024_S8x1024_0_0).toLoadRect.idx y = z
    pointwise [k2_pay33]

/-- The first block. -/
theorem first_parts (hc : first i) (x0 x1 x2 x3 : Vec Ideal S64x8x1024 .f32) (x4 : Vec Ideal S8x8x1024 .f32) (s7 s8 : Vec Ideal S8x1024 .f32) (s9 : Vec Ideal S2x8x1024 .f32)
    (hg : Given a b s 0 x0 x1 x2 x3 x4) :
    Left a b 0 (fun l => rowSum a b s l (0 + 64)) (step c i arg2 harg2 arg3 harg3 arg4 harg4 arg5 harg5 arg6 harg6 arg7 harg7 arg8 harg8 arg9 harg9 arg10 harg10 arg11 harg11 x0 x1 x2 x3 x4 s7 s8 s9) := by
  rw [step_first c i arg2 harg2 arg3 harg3 arg4 harg4 arg5 harg5 arg6 harg6 arg7 harg7 arg8 harg8 arg9 harg9 arg10 harg10 arg11 harg11 hc]
  have hi : Carried a b s 0 (k2_pay35 (F := Ideal) (run_first.sl.v6 c arg11), k2_pay36 (F := Ideal) (run_first.sl.v8 c arg11),
      k2_pay37 (F := Ideal) (run_first.sl.v10 c arg9), k2_pay38 (F := Ideal) (run_first.sl.v12 c arg10)) := by
    refine carried_of a b s (fun l => carried_rows fun r => ?_) fun l r => ?_
    · unfold run_first.sl.v6 run_first.sl.v8
      rw [zero_slab arg11 ![0, 0, 0] _ _, zero_slab arg11 ![1, 0, 0] _ _]
      exact Parts.zero
    · have e0 := (zero_rows c arg9 arg10 (ix2 r l)).1
      have e1 := (zero_rows c arg9 arg10 (ix2 r l)).2
      generalize run_first.sl.v10 (F := Ideal) c arg9 = u at e0 ⊢
      generalize run_first.sl.v12 (F := Ideal) c arg10 = v at e1 ⊢
      pointwise [k2_pay37, k2_pay38]
      rw [e0, e1]
      exact Parts.zero
  have h := loop_parts c i arg2 harg2 arg3 harg3 arg4 harg4 arg5 harg5 arg6 harg6 arg7 harg7 arg8 harg8 arg9 harg9 arg10 harg10 arg11 harg11 a b s 0 x0 x1 x2 x3 x4 hg (_, _, _, _) hi _ (Nat.le_refl _)
  have h1 := h.1
  rw [trips_eq] at h1
  exact left_of a b 0 _ _ _ _ _ (cov7_first c i arg2 harg2 arg3 harg3 arg4 harg4 arg5 harg5 arg6 harg6 arg7 harg7 arg8 harg8 arg9 harg9 arg10 harg10 arg11 harg11 hc _ x0 x1 x2 x3 x4)
    (cov8_first c i arg2 harg2 arg3 harg3 arg4 harg4 arg5 harg5 arg6 harg6 arg7 harg7 arg8 harg8 arg9 harg9 arg10 harg10 arg11 harg11 hc _ x0 x1 x2 x3 x4) h.2.1 h.2.2 _ _ _ _ inb_S8x1024_S8x1024_0_0 inb_S8x1024_S8x1024_0_0 rfl rfl
    _ _ _ inb_S2x8x1024_S1x8x1024_1_0_0 inb_S2x8x1024_S1x8x1024_0_0_0 rfl _ (fun l => (h1 l).2) fun l => (h1 l).1

end Body

end Cert.Proof.BwdVal

end
-- ==== Proof.ScanArr2.lean ====
/-
  The backward sweep's arrays: the gradients.

  Point `t` works on lane block `t / 8` and, in turn from the end, on time block `7 - t % 8`. The gradient reaching a time is the
  conjugate recurrence run from the end, `Qb`; the multiplier's gradient is the sum over all times of the gradient that reaches a
  time times the conjugate of the state after it, which each lane block adds up over its eight points.
-/
module

public import proofs.«01_k».proof.Proof.ScanBwdVal
public import Idealize.ShloMosaic.Lib.Pipeline.ValueKit

@[expose] public section

set_option maxRecDepth 16384

noncomputable section

namespace Cert.Proof.ArrB

open Cert.KernelIdeal Cert.KernelIdeal.Gen Cert.Proof.ScanMath Cert.Proof.ScanGroup Cert.Proof.Bwd Cert.Proof.BwdVal
open Idealize.ShloMosaic Idealize.ShloMosaic.TcCoe Idealize.ShloMosaic.Tactic
open Idealize.ShloMosaic.Pipeline (Dat)
open scoped ComplexConjugate

/-- A table over all lanes: the backward one's entries are the parts of the conjugate multiplier's powers. -/
structure AllB (T : Vec Ideal S8x8x8192 .f32) (A : Fin 8192 → ℂ) : Prop where
  m1 : ∀ r L, Parts (T (ix3 0 r L)) (T (ix3 1 r L)) (mb (A L) 1 r)
  m2 : ∀ r L, Parts (T (ix3 2 r L)) (T (ix3 3 r L)) (mb (A L) 2 r)
  m4 : ∀ r L, Parts (T (ix3 4 r L)) (T (ix3 5 r L)) (mb (A L) 4 r)
  pw : ∀ r : Fin 8, ∀ L, Parts (T (ix3 6 r L)) (T (ix3 7 r L)) (A L ^ (8 - r.val))

/-- The blocks of a point. -/
theorem idx2 : ∀ t : Fin cfg2.N, win2_0.index t = ![7 - t.val % 8, 0, t.val / 8] ∧ win2_1.index t = ![7 - t.val % 8, 0, t.val / 8]
    ∧ win2_2.index t = ![7 - t.val % 8, 0, t.val / 8] ∧ win2_3.index t = ![7 - t.val % 8, 0, t.val / 8] ∧ win2_4.index t = ![0, 0, t.val / 8]
    ∧ win2_5.index t = ![7 - t.val % 8, 0, t.val / 8] ∧ win2_6.index t = ![7 - t.val % 8, 0, t.val / 8]
    ∧ win2_7.index t = ![0, t.val / 8] ∧ win2_8.index t = ![0, t.val / 8] := by decide +kernel

theorem lt64 (t : Fin cfg2.N) : t.val < 64 := t.isLt

/-- The lane, and the group, that a block's entry stands at. -/
abbrev lane (t : Fin cfg2.N) (l : Fin 1024) : Fin 8192 := ⟨1024 * (t.val / 8) + l.val, by have := lt64 t; have := l.isLt; omega⟩
abbrev grp (t : Fin cfg2.N) (k : Fin 64) : Fin 512 := ⟨64 * (7 - t.val % 8) + k.val, by have := k.isLt; omega⟩

variable (V : (c : Dev nD) → (b : Ref sig .tc) → Buf (Elt Ideal) ((c : Thread nD τ).loc b)) (c : Dev nD)

theorem blk0 (t : Fin cfg2.N) (k : Fin 64) (r : Fin 8) (l : Fin 1024) : blkIn V c 0 t (ix3 k r l) = V c main_arg4 (ix3 (grp t k) r (lane t l)) := by
  blk_point [blkIn, idx2 t]
theorem blk1 (t : Fin cfg2.N) (k : Fin 64) (r : Fin 8) (l : Fin 1024) : blkIn V c 1 t (ix3 k r l) = V c main_arg5 (ix3 (grp t k) r (lane t l)) := by
  blk_point [blkIn, idx2 t]
theorem blk2 (t : Fin cfg2.N) (k : Fin 64) (r : Fin 8) (l : Fin 1024) : blkIn V c 2 t (ix3 k r l) = V c main_v1_0 (ix3 (grp t k) r (lane t l)) := by
  blk_point [blkIn, idx2 t]
theorem blk3 (t : Fin cfg2.N) (k : Fin 64) (r : Fin 8) (l : Fin 1024) : blkIn V c 3 t (ix3 k r l) = V c main_v1_1 (ix3 (grp t k) r (lane t l)) := by
  blk_point [blkIn, idx2 t]
theorem blk4 (t : Fin cfg2.N) (k : Fin 8) (r : Fin 8) (l : Fin 1024) : blkIn V c 4 t (ix3 k r l) = V c main_v0_1 (ix3 k r (lane t l)) := by
  blk_point [blkIn, idx2 t]

variable {A : Fin 8192 → ℂ} {D B : Fin 8192 → ℕ → ℂ}

/-- What the sweep reads: the table of the conjugate multiplier `conj (A L)`, the gradients `D L` of the states, and the states. -/
structure Reads (A : Fin 8192 → ℂ) (D B : Fin 8192 → ℕ → ℂ) : Prop where
  tab : AllB (V c main_v0_1) fun L => conj (A L)
  inp : ∀ (G : Fin 512) (r : Fin 8) (L : Fin 8192), Parts (V c main_arg4 (ix3 G r L)) (V c main_arg5 (ix3 G r L)) (D L (8 * G.val + r.val))
  st : ∀ (G : Fin 512) (r : Fin 8) (L : Fin 8192), Parts (V c main_v1_0 (ix3 G r L)) (V c main_v1_1 (ix3 G r L)) (Sf (A L) (B L) (8 * G.val + r.val + 1))

/-- A lane block's numbers: the conjugate multiplier, the inputs counted from the end, the states by groups from the end. -/
abbrev mu (A : Fin 8192 → ℂ) (t : Fin cfg2.N) (l : Fin 1024) : ℂ := conj (A (lane t l))
abbrev inB (D : Fin 8192 → ℕ → ℂ) (t : Fin cfg2.N) (l : Fin 1024) (j : ℕ) : ℂ := D (lane t l) (4095 - j)
abbrev stB (A : Fin 8192 → ℂ) (B : Fin 8192 → ℕ → ℂ) (t : Fin cfg2.N) (l : Fin 1024) (r : Fin 8) (p : ℕ) : ℂ := Sf (A (lane t l)) (B (lane t l)) (8 * (511 - p) + r.val + 1)

variable {V c}

/-- A point's blocks, in numbers. -/
theorem given (h : Reads V c A D B) (t : Fin cfg2.N) (q0 : ℕ) (hq : q0 = 64 * (t.val % 8)) :
    Given (mu A t) (inB D t) (stB A B t) q0 (blkIn V c 0 t) (blkIn V c 1 t) (blkIn V c 2 t) (blkIn V c 3 t) (blkIn V c 4 t) where
  tab := fun l =>
    { m1 := fun r => (h.tab.m1 r (lane t l)).read (blk4 V c t 0 r l) (blk4 V c t 1 r l) rfl
      m2 := fun r => (h.tab.m2 r (lane t l)).read (blk4 V c t 2 r l) (blk4 V c t 3 r l) rfl
      m4 := fun r => (h.tab.m4 r (lane t l)).read (blk4 V c t 4 r l) (blk4 V c t 5 r l) rfl
      pw := fun r => (h.tab.pw r (lane t l)).read (blk4 V c t 6 r l) (blk4 V c t 7 r l) rfl }
  inp := fun k r l => (h.inp (grp t k) r (lane t l)).read (blk0 V c t k r l) (blk1 V c t k r l) (congrArg (D (lane t l)) (by
    have := k.isLt; have := r.isLt; subst hq
    show 8 * (64 * (7 - t.val % 8) + k.val) + r.val = 4095 - (8 * (64 * (t.val % 8) + (63 - k.val)) + (7 - r.val)); omega))
  st := fun k r l => (h.st (grp t k) r (lane t l)).read (blk2 V c t k r l) (blk3 V c t k r l) (congrArg (Sf (A (lane t l)) (B (lane t l))) (by
    have := k.isLt; have := r.isLt; subst hq
    show 8 * (64 * (7 - t.val % 8) + k.val) + r.val + 1 = 8 * (511 - (64 * (t.val % 8) + (63 - k.val))) + r.val + 1; omega))

/-- The sums a point leaves: a lane block's last point adds its rows up. -/
def sums (A : Fin 8192 → ℂ) (D B : Fin 8192 → ℕ → ℂ) (t : Fin cfg2.N) (l : Fin 1024) (r : Fin 8) : ℂ :=
  if t.val % 8 = 7 then ∑ r, rowSum (mu A t) (inB D t) (stB A B t) l (64 * (t.val % 8) + 64) r
  else rowSum (mu A t) (inB D t) (stB A B t) l (64 * (t.val % 8) + 64) r

/-- Every point does its part. -/
theorem left (h : Reads V c A D B) : ∀ n (hn : n < cfg2.N),
    Left (mu A ⟨n, hn⟩) (inB D ⟨n, hn⟩) (64 * (n % 8)) (sums A D B ⟨n, hn⟩) (stepAt V c ⟨n, hn⟩ (carry V c n)) := by
  have hfirst : ∀ n (hn : n < cfg2.N), n % 8 = 0 →
      Left (mu A ⟨n, hn⟩) (inB D ⟨n, hn⟩) (64 * (n % 8)) (sums A D B ⟨n, hn⟩) (stepAt V c ⟨n, hn⟩ (carry V c n)) := by
    intro n hn h0
    have e : sums A D B ⟨n, hn⟩ = fun l => rowSum (mu A ⟨n, hn⟩) (inB D ⟨n, hn⟩) (stB A B ⟨n, hn⟩) l (0 + 64) := by
      funext l r; unfold sums; rw [if_neg (by show ¬ n % 8 = 7; omega)]; show rowSum _ _ _ l (64 * (n % 8) + 64) r = _; rw [h0]
    rw [e, h0]
    exact BwdVal.first_parts _ _ _ _ _ _ _ _ _ _ _ _ _ _ _ _ _ _ _ _ _ _ _ _ _ ((first_iff ⟨n, hn⟩).2 h0) _ _ _ _ _ _ _ _ (given h _ 0 (by show 0 = 64 * (n % 8); rw [h0]))
  intro n
  induction n with
  | zero => exact fun hn => hfirst 0 hn rfl
  | succ n ih =>
    intro hn
    by_cases h0 : (n + 1) % 8 = 0
    · exact hfirst _ hn h0
    have hn' : n < cfg2.N := Nat.lt_of_succ_lt hn
    have p := ih hn'
    have hl : ∀ l, lane ⟨n, hn'⟩ l = lane ⟨n + 1, hn⟩ l := fun l => Fin.ext (by show 1024 * (n / 8) + l.val = 1024 * ((n + 1) / 8) + l.val; omega)
    have em : mu A ⟨n, hn'⟩ = mu A ⟨n + 1, hn⟩ := funext fun l => congrArg (fun L => conj (A L)) (hl l)
    have ed : inB D ⟨n, hn'⟩ = inB D ⟨n + 1, hn⟩ := funext fun l => funext fun j => congrArg (fun L => D L (4095 - j)) (hl l)
    have es : stB A B ⟨n, hn'⟩ = stB A B ⟨n + 1, hn⟩ := funext fun l => funext fun r => funext fun p => congrArg (fun L => Sf (A L) (B L) (8 * (511 - p) + r.val + 1)) (hl l)
    have eq : 64 * (n % 8) + 64 = 64 * ((n + 1) % 8) := by omega
    have hc := carry_succ V c ⟨n, hn'⟩
    have hs : ∀ l r, Parts ((carry V c (n + 1)).2.2 (ix3 0 r l)) ((carry V c (n + 1)).2.2 (ix3 1 r l)) (Sf (mu A ⟨n + 1, hn⟩ l) (inB D ⟨n + 1, hn⟩ l) (8 * (64 * ((n + 1) % 8)))) := by
      intro l r
      rw [hc, ← eq, ← em, ← ed]
      exact p.carried l r
    have hd : ∀ l, PV l (carry V c (n + 1)).1 (carry V c (n + 1)).2.1 (rowSum (mu A ⟨n + 1, hn⟩) (inB D ⟨n + 1, hn⟩) (stB A B ⟨n + 1, hn⟩) l (64 * ((n + 1) % 8))) := by
      intro l
      rw [hc, ← eq, ← em, ← ed, ← es]
      have e : sums A D B ⟨n, hn'⟩ l = rowSum (mu A ⟨n, hn'⟩) (inB D ⟨n, hn'⟩) (stB A B ⟨n, hn'⟩) l (64 * (n % 8) + 64) := by
        funext r; unfold sums; rw [if_neg (by show ¬ n % 8 = 7; omega)]
      rw [← e]
      exact p.sum l
    have hf : ¬ first (grid2.coords ⟨n + 1, hn⟩) := fun hf => h0 ((first_iff ⟨n + 1, hn⟩).1 hf)
    by_cases h7 : (n + 1) % 8 = 7
    · have e : sums A D B ⟨n + 1, hn⟩ = fun l _ => ∑ r, rowSum (mu A ⟨n + 1, hn⟩) (inB D ⟨n + 1, hn⟩) (stB A B ⟨n + 1, hn⟩) l (64 * ((n + 1) % 8) + 64) r := by
        funext l r; unfold sums; rw [if_pos (by exact h7)]
      rw [e]
      exact BwdVal.last_parts _ _ _ _ _ _ _ _ _ _ _ _ _ _ _ _ _ _ _ _ _ _ _ _ _ _ hf ((last_iff ⟨n + 1, hn⟩).2 h7) _ _ _ _ _ _ _ _ (given h _ _ rfl) hs hd
    · have e : sums A D B ⟨n + 1, hn⟩ = fun l => rowSum (mu A ⟨n + 1, hn⟩) (inB D ⟨n + 1, hn⟩) (stB A B ⟨n + 1, hn⟩) l (64 * ((n + 1) % 8) + 64) := by
        funext l r; unfold sums; rw [if_neg (by exact h7)]
      rw [e]
      exact BwdVal.mid_parts _ _ _ _ _ _ _ _ _ _ _ _ _ _ _ _ _ _ _ _ _ _ _ _ _ _ hf (fun hx => h7 ((last_iff ⟨n + 1, hn⟩).1 hx)) _ _ _ _ _ _ _ _ (given h _ _ rfl) hs hd

/-- Eight rows of `n` groups are `8 * n` times. -/
theorem sum_rows (f : ℕ → ℂ) (n : ℕ) : ∑ p ∈ Finset.range n, ∑ r : Fin 8, f (8 * p + r.val) = ∑ t ∈ Finset.range (8 * n), f t := by
  induction n with
  | zero => rfl
  | succ n ih => rw [Finset.sum_range_succ, ih, Nat.mul_succ, Finset.sum_range_add, ← Fin.sum_univ_eq_sum_range (fun i => f (8 * n + i)) 8]

/-- The rows' sums over all groups add up to the sum over all times. -/
theorem total (t : Fin cfg2.N) (l : Fin 1024) (q : ℕ) (hq : q = 512) :
    ∑ r, rowSum (mu A t) (inB D t) (stB A B t) l q r = DA (A (lane t l)) (B (lane t l)) (D (lane t l)) := by
  subst hq
  have e : ∀ r : Fin 8, rowSum (mu A t) (inB D t) (stB A B t) l 512 r = ∑ p ∈ Finset.range 512,
      Qb (A (lane t l)) (D (lane t l)) (4095 - (8 * (512 - 1 - p) + r.val)) * conj (Sf (A (lane t l)) (B (lane t l)) (8 * (512 - 1 - p) + r.val + 1)) := by
    intro r
    refine Finset.sum_congr rfl fun p hp => ?_
    have := Finset.mem_range.1 hp
    have := r.isLt
    rw [show 4095 - (8 * (512 - 1 - p) + r.val) = 8 * p + (7 - r.val) by omega]
    rfl
  rw [Finset.sum_congr rfl fun r _ => e r, Finset.sum_comm,
    Finset.sum_range_reflect (fun p => ∑ r : Fin 8, Qb (A (lane t l)) (D (lane t l)) (4095 - (8 * p + r.val)) * conj (Sf (A (lane t l)) (B (lane t l)) (8 * p + r.val + 1))) 512,
    sum_rows (fun t' => Qb (A (lane t l)) (D (lane t l)) (4095 - t') * conj (Sf (A (lane t l)) (B (lane t l)) (t' + 1))) 512]
  exact DA_shift _ _ _

/-- The gradient at an entry's time. -/
abbrev gradAt (A : Fin 8192 → ℂ) (D : Fin 8192 → ℕ → ℂ) (y : S512x8x8192.Idx) : ℂ := Qb (A (y 2)) (D (y 2)) (4096 - (8 * (y 0).val + (y 1).val))
/-- The multiplier's gradient. -/
abbrev sumAt (A : Fin 8192 → ℂ) (D B : Fin 8192 → ℕ → ℂ) (y : S8x8192.Idx) : ℂ := DA (A (y 1)) (B (y 1)) (D (y 1))

theorem emb5 (g : S512x8x8192.Idx → EReal) (t : Fin cfg2.N) (y : S64x8x1024.Idx) :
    g (((View.whole main_v2_0).slice (win2_5.rect t)).emb y) = g (ix3 (grp t (y 0)) (y 1) (lane t (y 2))) := by blk_ext [idx2 t]
theorem emb6 (g : S512x8x8192.Idx → EReal) (t : Fin cfg2.N) (y : S64x8x1024.Idx) :
    g (((View.whole main_v2_1).slice (win2_6.rect t)).emb y) = g (ix3 (grp t (y 0)) (y 1) (lane t (y 2))) := by blk_ext [idx2 t]
theorem emb7 (g : S8x8192.Idx → EReal) (t : Fin cfg2.N) (y : S8x1024.Idx) :
    g (((View.whole main_v2_2).slice (win2_7.rect t)).emb y) = g (ix2 (y 0) (lane t (y 1))) := by blk_ext [idx2 t]
theorem emb8 (g : S8x8192.Idx → EReal) (t : Fin cfg2.N) (y : S8x1024.Idx) :
    g (((View.whole main_v2_3).slice (win2_8.rect t)).emb y) = g (ix2 (y 0) (lane t (y 1))) := by blk_ext [idx2 t]

theorem grad_at (t : Fin cfg2.N) (y : S64x8x1024.Idx) : grad (mu A t) (inB D t) (64 * (t.val % 8)) y = gradAt A D (ix3 (grp t (y 0)) (y 1) (lane t (y 2))) := by
  show Qb (A (lane t (y 2))) (D (lane t (y 2))) (8 * (64 * (t.val % 8) + (63 - (y 0).val)) + (8 - (y 1).val))
    = Qb (A (lane t (y 2))) (D (lane t (y 2))) (4096 - (8 * (64 * (7 - t.val % 8) + (y 0).val) + (y 1).val))
  have h0 : (y 0).val < 64 := (y 0).isLt
  have h1 : (y 1).val < 8 := (y 1).isLt
  exact congrArg _ (by omega)

theorem after5 (t : Fin cfg2.N) : (dat V c).after 5 t = (stepAt V c t (carry V c t.val)).1 := by dsimp only [dat]
theorem after6 (t : Fin cfg2.N) : (dat V c).after 6 t = (stepAt V c t (carry V c t.val)).2.1 := by dsimp only [dat]
theorem after7 (t : Fin cfg2.N) : (dat V c).after 7 t = (stepAt V c t (carry V c t.val)).2.2.1 := by dsimp only [dat]
theorem after8 (t : Fin cfg2.N) : (dat V c).after 8 t = (stepAt V c t (carry V c t.val)).2.2.2.1 := by dsimp only [dat]

/-- The gradients of the inputs, real parts -/
theorem arr5 (h : Reads V c A D B) : (dat V c).arrAt 5 cfg2.N = fun y => (((gradAt A D y).re : ℝ) : EReal) := by
  refine (dat V c).arrAt_eq_of_covers 5 _ (by decide +kernel) fun t hf y => ?_
  blk_simp
  rw [after5]
  frame_out
  refine ((left h _ t.isLt).q y).1.trans ?_
  exact (congrArg (fun z : ℂ => ((z.re : ℝ) : EReal)) (grad_at t y)).trans (emb5 (fun y => (((gradAt A D y).re : ℝ) : EReal)) t y).symm
/-- and imaginary parts. -/
theorem arr6 (h : Reads V c A D B) : (dat V c).arrAt 6 cfg2.N = fun y => (((gradAt A D y).im : ℝ) : EReal) := by
  refine (dat V c).arrAt_eq_of_covers 6 _ (by decide +kernel) fun t hf y => ?_
  blk_simp
  rw [after6]
  frame_out
  refine ((left h _ t.isLt).q y).2.trans ?_
  exact (congrArg (fun z : ℂ => ((z.im : ℝ) : EReal)) (grad_at t y)).trans (emb6 (fun y => (((gradAt A D y).im : ℝ) : EReal)) t y).symm

/-- The sums are written back at a lane block's last point. -/
theorem flush7 : ∀ t : Fin cfg2.N, (cfg2.win 7).flush t = true → t.val % 8 = 7 := by decide +kernel
theorem flush8 : ∀ t : Fin cfg2.N, (cfg2.win 8).flush t = true → t.val % 8 = 7 := by decide +kernel

theorem sums_last (t : Fin cfg2.N) (h : t.val % 8 = 7) (l : Fin 1024) (r : Fin 8) : sums A D B t l r = DA (A (lane t l)) (B (lane t l)) (D (lane t l)) := by
  unfold sums
  rw [if_pos h]
  exact total t l _ (by rw [h])

theorem ix2_self (y : S8x1024.Idx) : y = ix2 (y 0) (y 1) := by funext d; fin_cases d <;> rfl

/-- The multiplier's gradient, real part -/
theorem arr7 (h : Reads V c A D B) : (dat V c).arrAt 7 cfg2.N = fun y => (((sumAt A D B y).re : ℝ) : EReal) := by
  refine (dat V c).arrAt_eq_of_covers 7 _ (by decide +kernel) fun t hf y => ?_
  blk_simp
  rw [after7]
  frame_out
  refine Eq.trans ?_ (emb7 (fun y => (((sumAt A D B y).re : ℝ) : EReal)) t y).symm
  refine (congrArg _ (ix2_self y)).trans ?_
  refine ((left h _ t.isLt).sum (y 1) (y 0)).1.trans ?_
  exact congrArg (fun z : ℂ => ((z.re : ℝ) : EReal)) (sums_last t (flush7 t hf) (y 1) (y 0))
/-- and imaginary part. -/
theorem arr8 (h : Reads V c A D B) : (dat V c).arrAt 8 cfg2.N = fun y => (((sumAt A D B y).im : ℝ) : EReal) := by
  refine (dat V c).arrAt_eq_of_covers 8 _ (by decide +kernel) fun t hf y => ?_
  blk_simp
  rw [after8]
  frame_out
  refine Eq.trans ?_ (emb8 (fun y => (((sumAt A D B y).im : ℝ) : EReal)) t y).symm
  refine (congrArg _ (ix2_self y)).trans ?_
  refine ((left h _ t.isLt).sum (y 1) (y 0)).2.trans ?_
  exact congrArg (fun z : ℂ => ((z.im : ℝ) : EReal)) (sums_last t (flush8 t hf) (y 1) (y 0))

end Cert.Proof.ArrB

end
-- ==== Proof.ScanKer.lean ====
/-
  What the three calls leave together: the tables feed both sweeps, the forward sweep's states feed the backward one.
-/
module

public import proofs.«01_k».proof.Proof.ScanRun
public import proofs.«01_k».proof.Proof.ScanArr0
public import proofs.«01_k».proof.Proof.ScanArr1
public import proofs.«01_k».proof.Proof.ScanArr2

@[expose] public section

set_option maxRecDepth 16384

noncomputable section

namespace Cert.Proof.ScanKer

open Cert.KernelIdeal Cert.KernelIdeal.Gen Cert.Proof.ScanMath Cert.Proof.Scan
open Idealize.ShloMosaic Idealize.ShloMosaic.TcCoe Idealize.ShloMosaic.Tactic
open scoped ComplexConjugate

/-- The six arrays, in numbers: the multiplier, the inputs, and the gradients of the states. -/
structure Holds (a0 a1 : Vec Ideal S1x8192 .f32) (b0 b1 d0 d1 : Vec Ideal S512x8x8192 .f32) (A : Fin 8192 → ℂ) (B D : Fin 8192 → ℕ → ℂ) : Prop where
  mult : ∀ L, Parts (a0 (ix2 0 L)) (a1 (ix2 0 L)) (A L)
  inp : ∀ (G : Fin 512) (r : Fin 8) (L : Fin 8192), Parts (b0 (ix3 G r L)) (b1 (ix3 G r L)) (B L (8 * G.val + r.val))
  ct : ∀ (G : Fin 512) (r : Fin 8) (L : Fin 8192), Parts (d0 (ix3 G r L)) (d1 (ix3 G r L)) (D L (8 * G.val + r.val))

variable (m : (ℓ : Loc nD τ sig) → Buf (Elt Ideal) ℓ) (c : Dev nD) {A : Fin 8192 → ℂ} {B D : Fin 8192 → ℕ → ℂ}

/-- The six arguments hold those numbers. -/
abbrev ArgsHold (A : Fin 8192 → ℂ) (B D : Fin 8192 → ℕ → ℂ) : Prop :=
  Holds (V0 m c main_arg0) (V0 m c main_arg1) (V0 m c main_arg2) (V0 m c main_arg3) (V0 m c main_arg4) (V0 m c main_arg5) A B D

/-- The arguments and the backward table are nobody's results later. -/
theorem keep1 : ∀ r ∈ [main_arg2, main_arg3, main_arg4, main_arg5], V1 m c r = V0 m c r := fun r hr =>
  W1_of m c r ((ListAll.forall_mem_of_all_decide (by decide +kernel) :
    ∀ r ∈ [main_arg2, main_arg3, main_arg4, main_arg5], ∀ w : Fin cfg0.W, Pipeline.arrRef spec0 w = r → (cfg0.win w).isOut = false) r hr)
theorem keep2 : ∀ r ∈ [main_arg4, main_arg5, main_v0_1], V2 m c r = V1 m c r := fun r hr =>
  W2_of m c r ((ListAll.forall_mem_of_all_decide (by decide +kernel) :
    ∀ r ∈ [main_arg4, main_arg5, main_v0_1], ∀ w : Fin cfg1.W, Pipeline.arrRef spec1 w = r → (cfg1.win w).isOut = false) r hr)

theorem tabF : V1 m c main_v0_0 = ArrT.tabOf (TabVal.slabsF (V0 m c main_arg0) (V0 m c main_arg1)) :=
  (W1_arr m c 2).trans (ArrT.arr2 (V0 m) c)
theorem tabB : V1 m c main_v0_1 = ArrT.tabOf (TabVal.slabsB (V0 m c main_arg0) (V0 m c main_arg1)) :=
  (W1_arr m c 3).trans (ArrT.arr3 (V0 m) c)

variable {m c}

/-- What the forward sweep reads. -/
theorem readsF (h : ArgsHold m c A B D) : ArrF.Reads (V1 m) c A B where
  tab := by
    rw [tabF]
    exact
      { m1 := fun r L => (ArrT.slabsF_parts (h.mult L)).1 r
        m2 := fun r L => (ArrT.slabsF_parts (h.mult L)).2.1 r
        m4 := fun r L => (ArrT.slabsF_parts (h.mult L)).2.2.1 r
        pw := fun r L => (ArrT.slabsF_parts (h.mult L)).2.2.2 r }
  inp := by
    rw [keep1 m c main_arg2 (by decide), keep1 m c main_arg3 (by decide)]
    exact h.inp

/-- What the backward sweep reads. -/
theorem readsB (h : ArgsHold m c A B D) : ArrB.Reads (V2 m) c A D B where
  tab := by
    rw [keep2 m c main_v0_1 (by decide), tabB]
    exact
      { m1 := fun r L => (ArrT.slabsB_parts (h.mult L)).1 r
        m2 := fun r L => (ArrT.slabsB_parts (h.mult L)).2.1 r
        m4 := fun r L => (ArrT.slabsB_parts (h.mult L)).2.2.1 r
        pw := fun r L => (ArrT.slabsB_parts (h.mult L)).2.2.2 r }
  inp := by
    rw [keep2 m c main_arg4 (by decide), keep2 m c main_arg5 (by decide), keep1 m c main_arg4 (by decide), keep1 m c main_arg5 (by decide)]
    exact h.ct
  st := by
    have e0 : V2 m c main_v1_0 = _ := (W2_arr m c 3).trans (ArrF.arr3 (readsF h))
    have e1 : V2 m c main_v1_1 = _ := (W2_arr m c 4).trans (ArrF.arr4 (readsF h))
    rw [e0, e1]
    exact fun G r L => ⟨rfl, rfl⟩

/-- The four results, in numbers. -/
theorem out0 (h : ArgsHold m c A B D) : V3 m c main_v2_0 = fun y => (((ArrB.gradAt A D y).re : ℝ) : EReal) := (W3_arr m c 5).trans (ArrB.arr5 (readsB h))
theorem out1 (h : ArgsHold m c A B D) : V3 m c main_v2_1 = fun y => (((ArrB.gradAt A D y).im : ℝ) : EReal) := (W3_arr m c 6).trans (ArrB.arr6 (readsB h))
theorem out2 (h : ArgsHold m c A B D) : V3 m c main_v2_2 = fun y => (((ArrB.sumAt A D B y).re : ℝ) : EReal) := (W3_arr m c 7).trans (ArrB.arr7 (readsB h))
theorem out3 (h : ArgsHold m c A B D) : V3 m c main_v2_3 = fun y => (((ArrB.sumAt A D B y).im : ℝ) : EReal) := (W3_arr m c 8).trans (ArrB.arr8 (readsB h))

end Cert.Proof.ScanKer

end
-- ==== Proof.ScanRefRun.lean ====
/-
  The run of the recurrence's reference: two counted loops of 4096 trips each, the recurrence forward and its gradient backward.

  The operations are listed stretch by stretch. Every buffer's contents are named at each boundary: before the first loop, before
  each of its trips, between the loops, before each trip of the second, and at the end. Each loop's counter is its trip, so its
  condition holds 4096 times. `run` says that every execution ends with every buffer at the last contents and every counter
  zero.
-/
module

public import proofs.«01_k».proof.Proof.Gen.ReferenceIdeal
public import Idealize.ShloMosaic.Lib.Pipeline.RegionsLoop
public import Idealize.ShloMosaic.Lib.StableHlo.RunLoop
public import Idealize.ShloMosaic.Lib.Scf.ExitTest
public import Idealize.ShloMosaic.Lib.Scf.Counter

@[expose] public section

set_option maxRecDepth 16384

noncomputable section

namespace Cert.Proof.ScanRef

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The operations -/

/-- Before the first loop. -/
abbrev preOps : List (HloOp τ sig (Elt F)) :=
  [ StableHlo.reshape main_arg0 main_v0 (rfl : (.f32 : EltTy) = .f32) shapeCasts_S1x8192_S8192,
    StableHlo.reshape main_arg1 main_v1 (rfl : (.f32 : EltTy) = .f32) shapeCasts_S1x8192_S8192,
    StableHlo.reshape main_arg2 main_v2 (rfl : (.f32 : EltTy) = .f32) shapeCasts_S512x8x8192_S4096x8192,
    StableHlo.reshape main_arg3 main_v3 (rfl : (.f32 : EltTy) = .f32) shapeCasts_S512x8x8192_S4096x8192,
    StableHlo.nullary main_cst (constant S_ .f32 0x00000000#32),
    StableHlo.unary main_cst main_v4 (broadcastInDim S8192 ![] bcast_S_S8192 : (⟨S_, .f32⟩ : BufTy).Contents (Elt F) → (⟨S8192, .f32⟩ : BufTy).Contents (Elt F)),
    StableHlo.nullary main_cst_0 (constant S_ .f32 0x00000000#32),
    StableHlo.unary main_cst_0 main_v5 (broadcastInDim S4096x8192 ![] bcast_S_S4096x8192 : (⟨S_, .f32⟩ : BufTy).Contents (Elt F) → (⟨S4096x8192, .f32⟩ : BufTy).Contents (Elt F)),
    StableHlo.nullary main_cst_1 (constant S_ .f32 0x00000000#32),
    StableHlo.unary main_cst_1 main_v6 (broadcastInDim S4096x8192 ![] bcast_S_S4096x8192 : (⟨S_, .f32⟩ : BufTy).Contents (Elt F) → (⟨S4096x8192, .f32⟩ : BufTy).Contents (Elt F)),
    StableHlo.nullary main_cst_2 (constant S_ .f32 0x00000000#32),
    StableHlo.unary main_cst_2 main_v7 (broadcastInDim S4096x8192 ![] bcast_S_S4096x8192 : (⟨S_, .f32⟩ : BufTy).Contents (Elt F) → (⟨S4096x8192, .f32⟩ : BufTy).Contents (Elt F)),
    StableHlo.nullary main_cst_3 (constant S_ .f32 0x00000000#32),
    StableHlo.unary main_cst_3 main_v8 (broadcastInDim S4096x8192 ![] bcast_S_S4096x8192 : (⟨S_, .f32⟩ : BufTy).Contents (Elt F) → (⟨S4096x8192, .f32⟩ : BufTy).Contents (Elt F)),
    StableHlo.nullary main_c (constantI S_ 32 0#32),
    StableHlo.unary main_v2 main_v9_0 id,
    StableHlo.unary main_v3 main_v9_1 id,
    StableHlo.unary main_v0 main_v9_2 id,
    StableHlo.unary main_v1 main_v9_3 id,
    StableHlo.unary main_c main_v9_4 id,
    StableHlo.unary main_v4 main_v9_5 id,
    StableHlo.unary main_v4 main_v9_6 id,
    StableHlo.unary main_v5 main_v9_7 id,
    StableHlo.unary main_v6 main_v9_8 id,
    StableHlo.unary main_v7 main_v9_9 id,
    StableHlo.unary main_v8 main_v9_10 id ]
theorem preOps_sub : (preOps : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
abbrev preOps_W : List (Ref sig .tc) := [main_v0, main_v1, main_v2, main_v3, main_cst, main_v4, main_cst_0, main_v5, main_cst_1, main_v6, main_cst_2, main_v7, main_cst_3, main_v8, main_c, main_v9_0, main_v9_1, main_v9_2, main_v9_3, main_v9_4, main_v9_5, main_v9_6, main_v9_7, main_v9_8, main_v9_9, main_v9_10]
theorem preOps_writes : (preOps : List (HloOp τ sig (Elt F))).Forall fun op => op.writes ⊆ (preOps_W.map (Proc.devRef (τ := τ) .tc)).toFinset :=
  StableHlo.forall_writes_sub_of_map rfl

/-- The first loop's condition. -/
abbrev condOps0 : List (HloOp τ sig (Elt F)) :=
  [ StableHlo.nullary main_while0c_c_23 (constantI S_ 32 4096#32),
    StableHlo.binary main_v9_4 main_while0c_c_23 main_while0c_v25 (cmpi .slt : (⟨S_, .i32⟩ : BufTy).Contents (Elt F) → (⟨S_, .i32⟩ : BufTy).Contents (Elt F) → (⟨S_, .i1⟩ : BufTy).Contents (Elt F)) ]
theorem condOps0_sub : (condOps0 : List (HloOp τ sig (Elt F))).Forall fun op => op.bufs ⊆ StableHlo.tcRefs τ sig :=
  ⟨StableHlo.nullary_bufs_sub .., StableHlo.binary_bufs_sub ..⟩
abbrev condOps0_W : List (Ref sig .tc) := [main_while0c_c_23, main_while0c_v25]
theorem condOps0_writes : (condOps0 : List (HloOp τ sig (Elt F))).Forall fun op => op.writes ⊆ (condOps0_W.map (Proc.devRef (τ := τ) .tc)).toFinset :=
  StableHlo.forall_writes_sub_of_map rfl

/-- and its body: one step of the recurrence, and the state before it kept. -/
abbrev bodyOps0 : List (HloOp τ sig (Elt F)) :=
  [ StableHlo.TRef.nullary (.of main_while0b_call0_c : StableHlo.TRef sig ⟨S_, .i32⟩) (constantI S_ 32 0#32),
    StableHlo.TRef.unaryIndexed (.of main_v9_0 : StableHlo.TRef sig ⟨S4096x8192, .f32⟩) ![(.of main_v9_4 : StableHlo.TRef sig ⟨S_, .i32⟩), (.of main_while0b_call0_c : StableHlo.TRef sig ⟨S_, .i32⟩)] (.of main_while0b_call0_v0 : StableHlo.TRef sig ⟨S1x8192, .f32⟩) (fun x i => Host.dynamicSlice S1x8192 x (fun k => (i k (Shape.Idx.first h_S_)).toInt) sliceFits_S4096x8192_S1x8192),
    StableHlo.TRef.reshape (.of main_while0b_call0_v0 : StableHlo.TRef sig ⟨S1x8192, .f32⟩) (.of main_while0b_v25 : StableHlo.TRef sig ⟨S8192, .f32⟩) (rfl : (.f32 : EltTy) = .f32) shapeCasts_S1x8192_S8192,
    StableHlo.TRef.nullary (.of main_while0b_call1_c : StableHlo.TRef sig ⟨S_, .i32⟩) (constantI S_ 32 0#32),
    StableHlo.TRef.unaryIndexed (.of main_v9_1 : StableHlo.TRef sig ⟨S4096x8192, .f32⟩) ![(.of main_v9_4 : StableHlo.TRef sig ⟨S_, .i32⟩), (.of main_while0b_call1_c : StableHlo.TRef sig ⟨S_, .i32⟩)] (.of main_while0b_call1_v0 : StableHlo.TRef sig ⟨S1x8192, .f32⟩) (fun x i => Host.dynamicSlice S1x8192 x (fun k => (i k (Shape.Idx.first h_S_)).toInt) sliceFits_S4096x8192_S1x8192),
    StableHlo.TRef.reshape (.of main_while0b_call1_v0 : StableHlo.TRef sig ⟨S1x8192, .f32⟩) (.of main_while0b_v26 : StableHlo.TRef sig ⟨S8192, .f32⟩) (rfl : (.f32 : EltTy) = .f32) shapeCasts_S1x8192_S8192,
    StableHlo.binary main_v9_2 main_v9_5 main_while0b_v27 (mulf : (⟨S8192, .f32⟩ : BufTy).Contents (Elt F) → (⟨S8192, .f32⟩ : BufTy).Contents (Elt F) → (⟨S8192, .f32⟩ : BufTy).Contents (Elt F)),
    StableHlo.binary main_v9_3 main_v9_6 main_while0b_v28 (mulf : (⟨S8192, .f32⟩ : BufTy).Contents (Elt F) → (⟨S8192, .f32⟩ : BufTy).Contents (Elt F) → (⟨S8192, .f32⟩ : BufTy).Contents (Elt F)),
    StableHlo.binary main_while0b_v27 main_while0b_v28 main_while0b_v29 (subf : (⟨S8192, .f32⟩ : BufTy).Contents (Elt F) → (⟨S8192, .f32⟩ : BufTy).Contents (Elt F) → (⟨S8192, .f32⟩ : BufTy).Contents (Elt F)),
    StableHlo.binary main_while0b_v29 main_while0b_v25 main_while0b_v30 (addf : (⟨S8192, .f32⟩ : BufTy).Contents (Elt F) → (⟨S8192, .f32⟩ : BufTy).Contents (Elt F) → (⟨S8192, .f32⟩ : BufTy).Contents (Elt F)),
    StableHlo.binary main_v9_2 main_v9_6 main_while0b_v31 (mulf : (⟨S8192, .f32⟩ : BufTy).Contents (Elt F) → (⟨S8192, .f32⟩ : BufTy).Contents (Elt F) → (⟨S8192, .f32⟩ : BufTy).Contents (Elt F)),
    StableHlo.binary main_v9_3 main_v9_5 main_while0b_v32 (mulf : (⟨S8192, .f32⟩ : BufTy).Contents (Elt F) → (⟨S8192, .f32⟩ : BufTy).Contents (Elt F) → (⟨S8192, .f32⟩ : BufTy).Contents (Elt F)),
    StableHlo.binary main_while0b_v31 main_while0b_v32 main_while0b_v33 (addf : (⟨S8192, .f32⟩ : BufTy).Contents (Elt F) → (⟨S8192, .f32⟩ : BufTy).Contents (Elt F) → (⟨S8192, .f32⟩ : BufTy).Contents (Elt F)),
    StableHlo.binary main_while0b_v33 main_while0b_v26 main_while0b_v34 (addf : (⟨S8192, .f32⟩ : BufTy).Contents (Elt F) → (⟨S8192, .f32⟩ : BufTy).Contents (Elt F) → (⟨S8192, .f32⟩ : BufTy).Contents (Elt F)),
    StableHlo.TRef.unary (.of main_while0b_v30 : StableHlo.TRef sig ⟨S8192, .f32⟩) (.of main_while0b_call2_v0 : StableHlo.TRef sig ⟨S1x8192, .f32⟩) (broadcastInDim S1x8192 ![1] bcast_S8192_S1x8192_1),
    StableHlo.TRef.nullary (.of main_while0b_call2_c : StableHlo.TRef sig ⟨S_, .i32⟩) (constantI S_ 32 0#32),
    StableHlo.TRef.binaryIndexed (.of main_v9_7 : StableHlo.TRef sig ⟨S4096x8192, .f32⟩) (.of main_while0b_call2_v0 : StableHlo.TRef sig ⟨S1x8192, .f32⟩) ![(.of main_v9_4 : StableHlo.TRef sig ⟨S_, .i32⟩), (.of main_while0b_call2_c : StableHlo.TRef sig ⟨S_, .i32⟩)] (.of main_while0b_v35 : StableHlo.TRef sig ⟨S4096x8192, .f32⟩) (fun x u i => Host.dynamicUpdateSlice x u (fun k => (i k (Shape.Idx.first h_S_)).toInt) updateFits_S4096x8192_S1x8192),
    StableHlo.TRef.unary (.of main_while0b_v34 : StableHlo.TRef sig ⟨S8192, .f32⟩) (.of main_while0b_call3_v0 : StableHlo.TRef sig ⟨S1x8192, .f32⟩) (broadcastInDim S1x8192 ![1] bcast_S8192_S1x8192_1),
    StableHlo.TRef.nullary (.of main_while0b_call3_c : StableHlo.TRef sig ⟨S_, .i32⟩) (constantI S_ 32 0#32),
    StableHlo.TRef.binaryIndexed (.of main_v9_8 : StableHlo.TRef sig ⟨S4096x8192, .f32⟩) (.of main_while0b_call3_v0 : StableHlo.TRef sig ⟨S1x8192, .f32⟩) ![(.of main_v9_4 : StableHlo.TRef sig ⟨S_, .i32⟩), (.of main_while0b_call3_c : StableHlo.TRef sig ⟨S_, .i32⟩)] (.of main_while0b_v36 : StableHlo.TRef sig ⟨S4096x8192, .f32⟩) (fun x u i => Host.dynamicUpdateSlice x u (fun k => (i k (Shape.Idx.first h_S_)).toInt) updateFits_S4096x8192_S1x8192),
    StableHlo.TRef.unary (.of main_v9_5 : StableHlo.TRef sig ⟨S8192, .f32⟩) (.of main_while0b_call4_v0 : StableHlo.TRef sig ⟨S1x8192, .f32⟩) (broadcastInDim S1x8192 ![1] bcast_S8192_S1x8192_1),
    StableHlo.TRef.nullary (.of main_while0b_call4_c : StableHlo.TRef sig ⟨S_, .i32⟩) (constantI S_ 32 0#32),
    StableHlo.TRef.binaryIndexed (.of main_v9_9 : StableHlo.TRef sig ⟨S4096x8192, .f32⟩) (.of main_while0b_call4_v0 : StableHlo.TRef sig ⟨S1x8192, .f32⟩) ![(.of main_v9_4 : StableHlo.TRef sig ⟨S_, .i32⟩), (.of main_while0b_call4_c : StableHlo.TRef sig ⟨S_, .i32⟩)] (.of main_while0b_v37 : StableHlo.TRef sig ⟨S4096x8192, .f32⟩) (fun x u i => Host.dynamicUpdateSlice x u (fun k => (i k (Shape.Idx.first h_S_)).toInt) updateFits_S4096x8192_S1x8192),
    StableHlo.TRef.unary (.of main_v9_6 : StableHlo.TRef sig ⟨S8192, .f32⟩) (.of main_while0b_call5_v0 : StableHlo.TRef sig ⟨S1x8192, .f32⟩) (broadcastInDim S1x8192 ![1] bcast_S8192_S1x8192_1),
    StableHlo.TRef.nullary (.of main_while0b_call5_c : StableHlo.TRef sig ⟨S_, .i32⟩) (constantI S_ 32 0#32),
    StableHlo.TRef.binaryIndexed (.of main_v9_10 : StableHlo.TRef sig ⟨S4096x8192, .f32⟩) (.of main_while0b_call5_v0 : StableHlo.TRef sig ⟨S1x8192, .f32⟩) ![(.of main_v9_4 : StableHlo.TRef sig ⟨S_, .i32⟩), (.of main_while0b_call5_c : StableHlo.TRef sig ⟨S_, .i32⟩)] (.of main_while0b_v38 : StableHlo.TRef sig ⟨S4096x8192, .f32⟩) (fun x u i => Host.dynamicUpdateSlice x u (fun k => (i k (Shape.Idx.first h_S_)).toInt) updateFits_S4096x8192_S1x8192),
    StableHlo.nullary main_while0b_c_23 (constantI S_ 32 1#32),
    StableHlo.binary main_v9_4 main_while0b_c_23 main_while0b_v39 (addi : (⟨S_, .i32⟩ : BufTy).Contents (Elt F) → (⟨S_, .i32⟩ : BufTy).Contents (Elt F) → (⟨S_, .i32⟩ : BufTy).Contents (Elt F)),
    StableHlo.unary main_while0b_v39 main_v9_4 id,
    StableHlo.unary main_while0b_v30 main_v9_5 id,
    StableHlo.unary main_while0b_v34 main_v9_6 id,
    StableHlo.unary main_while0b_v35 main_v9_7 id,
    StableHlo.unary main_while0b_v36 main_v9_8 id,
    StableHlo.unary main_while0b_v37 main_v9_9 id,
    StableHlo.unary main_while0b_v38 main_v9_10 id ]
theorem bodyOps0_sub : (bodyOps0 : List (HloOp τ sig (Elt F))).Forall fun op => op.bufs ⊆ StableHlo.tcRefs τ sig :=
  ⟨StableHlo.nullary_bufs_sub .., StableHlo.unaryIndexed_bufs_sub .., StableHlo.reshape_bufs_sub .., StableHlo.nullary_bufs_sub .., StableHlo.unaryIndexed_bufs_sub .., StableHlo.reshape_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.nullary_bufs_sub .., StableHlo.binaryIndexed_bufs_sub .., StableHlo.unary_bufs_sub .., StableHlo.nullary_bufs_sub .., StableHlo.binaryIndexed_bufs_sub .., StableHlo.unary_bufs_sub .., StableHlo.nullary_bufs_sub .., StableHlo.binaryIndexed_bufs_sub .., StableHlo.unary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
abbrev bodyOps0_W : List (Ref sig .tc) := [main_while0b_call0_c, main_while0b_call0_v0, main_while0b_v25, main_while0b_call1_c, main_while0b_call1_v0, main_while0b_v26, main_while0b_v27, main_while0b_v28, main_while0b_v29, main_while0b_v30, main_while0b_v31, main_while0b_v32, main_while0b_v33, main_while0b_v34, main_while0b_call2_v0, main_while0b_call2_c, main_while0b_v35, main_while0b_call3_v0, main_while0b_call3_c, main_while0b_v36, main_while0b_call4_v0, main_while0b_call4_c, main_while0b_v37, main_while0b_call5_v0, main_while0b_call5_c, main_while0b_v38, main_while0b_c_23, main_while0b_v39, main_v9_4, main_v9_5, main_v9_6, main_v9_7, main_v9_8, main_v9_9, main_v9_10]
theorem bodyOps0_writes : (bodyOps0 : List (HloOp τ sig (Elt F))).Forall fun op => op.writes ⊆ (bodyOps0_W.map (Proc.devRef (τ := τ) .tc)).toFinset :=
  StableHlo.forall_writes_sub_of_map rfl

/-- Between the loops. -/
abbrev midOps : List (HloOp τ sig (Elt F)) :=
  [ StableHlo.reshape main_arg4 main_v10 (rfl : (.f32 : EltTy) = .f32) shapeCasts_S512x8x8192_S4096x8192,
    StableHlo.reshape main_arg5 main_v11 (rfl : (.f32 : EltTy) = .f32) shapeCasts_S512x8x8192_S4096x8192,
    StableHlo.nullary main_cst_4 (constant S_ .f32 0x00000000#32),
    StableHlo.unary main_cst_4 main_v12 (broadcastInDim S8192 ![] bcast_S_S8192 : (⟨S_, .f32⟩ : BufTy).Contents (Elt F) → (⟨S8192, .f32⟩ : BufTy).Contents (Elt F)),
    StableHlo.nullary main_cst_5 (constant S_ .f32 0x00000000#32),
    StableHlo.unary main_cst_5 main_v13 (broadcastInDim S8192 ![] bcast_S_S8192 : (⟨S_, .f32⟩ : BufTy).Contents (Elt F) → (⟨S8192, .f32⟩ : BufTy).Contents (Elt F)),
    StableHlo.nullary main_cst_6 (constant S_ .f32 0x00000000#32),
    StableHlo.unary main_cst_6 main_v14 (broadcastInDim S8192 ![] bcast_S_S8192 : (⟨S_, .f32⟩ : BufTy).Contents (Elt F) → (⟨S8192, .f32⟩ : BufTy).Contents (Elt F)),
    StableHlo.nullary main_cst_7 (constant S_ .f32 0x00000000#32),
    StableHlo.unary main_cst_7 main_v15 (broadcastInDim S8192 ![] bcast_S_S8192 : (⟨S_, .f32⟩ : BufTy).Contents (Elt F) → (⟨S8192, .f32⟩ : BufTy).Contents (Elt F)),
    StableHlo.nullary main_cst_8 (constant S_ .f32 0x00000000#32),
    StableHlo.unary main_cst_8 main_v16 (broadcastInDim S8192 ![] bcast_S_S8192 : (⟨S_, .f32⟩ : BufTy).Contents (Elt F) → (⟨S8192, .f32⟩ : BufTy).Contents (Elt F)),
    StableHlo.nullary main_cst_9 (constant S_ .f32 0x00000000#32),
    StableHlo.unary main_cst_9 main_v17 (broadcastInDim S8192 ![] bcast_S_S8192 : (⟨S_, .f32⟩ : BufTy).Contents (Elt F) → (⟨S8192, .f32⟩ : BufTy).Contents (Elt F)),
    StableHlo.nullary main_cst_10 (constant S_ .f32 0x00000000#32),
    StableHlo.unary main_cst_10 main_v18 (broadcastInDim S4096x8192 ![] bcast_S_S4096x8192 : (⟨S_, .f32⟩ : BufTy).Contents (Elt F) → (⟨S4096x8192, .f32⟩ : BufTy).Contents (Elt F)),
    StableHlo.nullary main_cst_11 (constant S_ .f32 0x00000000#32),
    StableHlo.unary main_cst_11 main_v19 (broadcastInDim S4096x8192 ![] bcast_S_S4096x8192 : (⟨S_, .f32⟩ : BufTy).Contents (Elt F) → (⟨S4096x8192, .f32⟩ : BufTy).Contents (Elt F)),
    StableHlo.nullary main_c_12 (constantI S_ 32 0#32),
    StableHlo.unary main_v10 main_v20_0 id,
    StableHlo.unary main_v11 main_v20_1 id,
    StableHlo.unary main_v9_9 main_v20_2 id,
    StableHlo.unary main_v9_10 main_v20_3 id,
    StableHlo.unary main_v0 main_v20_4 id,
    StableHlo.unary main_v1 main_v20_5 id,
    StableHlo.unary main_c_12 main_v20_6 id,
    StableHlo.unary main_v16 main_v20_7 id,
    StableHlo.unary main_v17 main_v20_8 id,
    StableHlo.unary main_v14 main_v20_9 id,
    StableHlo.unary main_v15 main_v20_10 id,
    StableHlo.unary main_v18 main_v20_11 id,
    StableHlo.unary main_v19 main_v20_12 id ]
theorem midOps_sub : (midOps : List (HloOp τ sig (Elt F))).Forall fun op => op.bufs ⊆ StableHlo.tcRefs τ sig :=
  ⟨StableHlo.reshape_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
abbrev midOps_W : List (Ref sig .tc) := [main_v10, main_v11, main_cst_4, main_v12, main_cst_5, main_v13, main_cst_6, main_v14, main_cst_7, main_v15, main_cst_8, main_v16, main_cst_9, main_v17, main_cst_10, main_v18, main_cst_11, main_v19, main_c_12, main_v20_0, main_v20_1, main_v20_2, main_v20_3, main_v20_4, main_v20_5, main_v20_6, main_v20_7, main_v20_8, main_v20_9, main_v20_10, main_v20_11, main_v20_12]
theorem midOps_writes : (midOps : List (HloOp τ sig (Elt F))).Forall fun op => op.writes ⊆ (midOps_W.map (Proc.devRef (τ := τ) .tc)).toFinset :=
  StableHlo.forall_writes_sub_of_map rfl

/-- The second loop's condition -/
abbrev condOps1 : List (HloOp τ sig (Elt F)) :=
  [ StableHlo.nullary main_while1c_c_25 (constantI S_ 32 4096#32),
    StableHlo.binary main_v20_6 main_while1c_c_25 main_while1c_v25 (cmpi .slt : (⟨S_, .i32⟩ : BufTy).Contents (Elt F) → (⟨S_, .i32⟩ : BufTy).Contents (Elt F) → (⟨S_, .i1⟩ : BufTy).Contents (Elt F)) ]
theorem condOps1_sub : (condOps1 : List (HloOp τ sig (Elt F))).Forall fun op => op.bufs ⊆ StableHlo.tcRefs τ sig :=
  ⟨StableHlo.nullary_bufs_sub .., StableHlo.binary_bufs_sub ..⟩
abbrev condOps1_W : List (Ref sig .tc) := [main_while1c_c_25, main_while1c_v25]
theorem condOps1_writes : (condOps1 : List (HloOp τ sig (Elt F))).Forall fun op => op.writes ⊆ (condOps1_W.map (Proc.devRef (τ := τ) .tc)).toFinset :=
  StableHlo.forall_writes_sub_of_map rfl

/-- and its body: one step of the gradient's recurrence, from the last time back. -/
abbrev bodyOps1 : List (HloOp τ sig (Elt F)) :=
  [ StableHlo.nullary main_while1b_c_25 (constantI S_ 32 4096#32),
    StableHlo.binary main_while1b_c_25 main_v20_6 main_while1b_v25 (subi : (⟨S_, .i32⟩ : BufTy).Contents (Elt F) → (⟨S_, .i32⟩ : BufTy).Contents (Elt F) → (⟨S_, .i32⟩ : BufTy).Contents (Elt F)),
    StableHlo.nullary main_while1b_c_26 (constantI S_ 32 1#32),
    StableHlo.binary main_while1b_v25 main_while1b_c_26 main_while1b_v26 (subi : (⟨S_, .i32⟩ : BufTy).Contents (Elt F) → (⟨S_, .i32⟩ : BufTy).Contents (Elt F) → (⟨S_, .i32⟩ : BufTy).Contents (Elt F)),
    StableHlo.TRef.nullary (.of main_while1b_call6_c : StableHlo.TRef sig ⟨S_, .i32⟩) (constantI S_ 32 0#32),
    StableHlo.TRef.unaryIndexed (.of main_v20_0 : StableHlo.TRef sig ⟨S4096x8192, .f32⟩) ![(.of main_while1b_v26 : StableHlo.TRef sig ⟨S_, .i32⟩), (.of main_while1b_call6_c : StableHlo.TRef sig ⟨S_, .i32⟩)] (.of main_while1b_call6_v0 : StableHlo.TRef sig ⟨S1x8192, .f32⟩) (fun x i => Host.dynamicSlice S1x8192 x (fun k => (i k (Shape.Idx.first h_S_)).toInt) sliceFits_S4096x8192_S1x8192),
    StableHlo.TRef.reshape (.of main_while1b_call6_v0 : StableHlo.TRef sig ⟨S1x8192, .f32⟩) (.of main_while1b_v27 : StableHlo.TRef sig ⟨S8192, .f32⟩) (rfl : (.f32 : EltTy) = .f32) shapeCasts_S1x8192_S8192,
    StableHlo.TRef.nullary (.of main_while1b_call7_c : StableHlo.TRef sig ⟨S_, .i32⟩) (constantI S_ 32 0#32),
    StableHlo.TRef.unaryIndexed (.of main_v20_1 : StableHlo.TRef sig ⟨S4096x8192, .f32⟩) ![(.of main_while1b_v26 : StableHlo.TRef sig ⟨S_, .i32⟩), (.of main_while1b_call7_c : StableHlo.TRef sig ⟨S_, .i32⟩)] (.of main_while1b_call7_v0 : StableHlo.TRef sig ⟨S1x8192, .f32⟩) (fun x i => Host.dynamicSlice S1x8192 x (fun k => (i k (Shape.Idx.first h_S_)).toInt) sliceFits_S4096x8192_S1x8192),
    StableHlo.TRef.reshape (.of main_while1b_call7_v0 : StableHlo.TRef sig ⟨S1x8192, .f32⟩) (.of main_while1b_v28 : StableHlo.TRef sig ⟨S8192, .f32⟩) (rfl : (.f32 : EltTy) = .f32) shapeCasts_S1x8192_S8192,
    StableHlo.TRef.nullary (.of main_while1b_call8_c : StableHlo.TRef sig ⟨S_, .i32⟩) (constantI S_ 32 0#32),
    StableHlo.TRef.unaryIndexed (.of main_v20_2 : StableHlo.TRef sig ⟨S4096x8192, .f32⟩) ![(.of main_while1b_v26 : StableHlo.TRef sig ⟨S_, .i32⟩), (.of main_while1b_call8_c : StableHlo.TRef sig ⟨S_, .i32⟩)] (.of main_while1b_call8_v0 : StableHlo.TRef sig ⟨S1x8192, .f32⟩) (fun x i => Host.dynamicSlice S1x8192 x (fun k => (i k (Shape.Idx.first h_S_)).toInt) sliceFits_S4096x8192_S1x8192),
    StableHlo.TRef.reshape (.of main_while1b_call8_v0 : StableHlo.TRef sig ⟨S1x8192, .f32⟩) (.of main_while1b_v29 : StableHlo.TRef sig ⟨S8192, .f32⟩) (rfl : (.f32 : EltTy) = .f32) shapeCasts_S1x8192_S8192,
    StableHlo.TRef.nullary (.of main_while1b_call9_c : StableHlo.TRef sig ⟨S_, .i32⟩) (constantI S_ 32 0#32),
    StableHlo.TRef.unaryIndexed (.of main_v20_3 : StableHlo.TRef sig ⟨S4096x8192, .f32⟩) ![(.of main_while1b_v26 : StableHlo.TRef sig ⟨S_, .i32⟩), (.of main_while1b_call9_c : StableHlo.TRef sig ⟨S_, .i32⟩)] (.of main_while1b_call9_v0 : StableHlo.TRef sig ⟨S1x8192, .f32⟩) (fun x i => Host.dynamicSlice S1x8192 x (fun k => (i k (Shape.Idx.first h_S_)).toInt) sliceFits_S4096x8192_S1x8192),
    StableHlo.TRef.reshape (.of main_while1b_call9_v0 : StableHlo.TRef sig ⟨S1x8192, .f32⟩) (.of main_while1b_v30 : StableHlo.TRef sig ⟨S8192, .f32⟩) (rfl : (.f32 : EltTy) = .f32) shapeCasts_S1x8192_S8192,
    StableHlo.binary main_v20_9 main_while1b_v27 main_while1b_v31 (addf : (⟨S8192, .f32⟩ : BufTy).Contents (Elt F) → (⟨S8192, .f32⟩ : BufTy).Contents (Elt F) → (⟨S8192, .f32⟩ : BufTy).Contents (Elt F)),
    StableHlo.binary main_v20_10 main_while1b_v28 main_while1b_v32 (addf : (⟨S8192, .f32⟩ : BufTy).Contents (Elt F) → (⟨S8192, .f32⟩ : BufTy).Contents (Elt F) → (⟨S8192, .f32⟩ : BufTy).Contents (Elt F)),
    StableHlo.binary main_v20_5 main_while1b_v32 main_while1b_v33 (mulf : (⟨S8192, .f32⟩ : BufTy).Contents (Elt F) → (⟨S8192, .f32⟩ : BufTy).Contents (Elt F) → (⟨S8192, .f32⟩ : BufTy).Contents (Elt F)),
    StableHlo.binary main_while1b_v32 main_while1b_v29 main_while1b_v34 (mulf : (⟨S8192, .f32⟩ : BufTy).Contents (Elt F) → (⟨S8192, .f32⟩ : BufTy).Contents (Elt F) → (⟨S8192, .f32⟩ : BufTy).Contents (Elt F)),
    StableHlo.binary main_v20_8 main_while1b_v34 main_while1b_v35 (addf : (⟨S8192, .f32⟩ : BufTy).Contents (Elt F) → (⟨S8192, .f32⟩ : BufTy).Contents (Elt F) → (⟨S8192, .f32⟩ : BufTy).Contents (Elt F)),
    StableHlo.binary main_v20_4 main_while1b_v32 main_while1b_v36 (mulf : (⟨S8192, .f32⟩ : BufTy).Contents (Elt F) → (⟨S8192, .f32⟩ : BufTy).Contents (Elt F) → (⟨S8192, .f32⟩ : BufTy).Contents (Elt F)),
    StableHlo.binary main_while1b_v32 main_while1b_v30 main_while1b_v37 (mulf : (⟨S8192, .f32⟩ : BufTy).Contents (Elt F) → (⟨S8192, .f32⟩ : BufTy).Contents (Elt F) → (⟨S8192, .f32⟩ : BufTy).Contents (Elt F)),
    StableHlo.binary main_v20_7 main_while1b_v37 main_while1b_v38 (addf : (⟨S8192, .f32⟩ : BufTy).Contents (Elt F) → (⟨S8192, .f32⟩ : BufTy).Contents (Elt F) → (⟨S8192, .f32⟩ : BufTy).Contents (Elt F)),
    StableHlo.unary main_while1b_v31 main_while1b_v39 (Host.negf : (⟨S8192, .f32⟩ : BufTy).Contents (Elt F) → (⟨S8192, .f32⟩ : BufTy).Contents (Elt F)),
    StableHlo.binary main_v20_5 main_while1b_v39 main_while1b_v40 (mulf : (⟨S8192, .f32⟩ : BufTy).Contents (Elt F) → (⟨S8192, .f32⟩ : BufTy).Contents (Elt F) → (⟨S8192, .f32⟩ : BufTy).Contents (Elt F)),
    StableHlo.binary main_while1b_v36 main_while1b_v40 main_while1b_v41 (addf : (⟨S8192, .f32⟩ : BufTy).Contents (Elt F) → (⟨S8192, .f32⟩ : BufTy).Contents (Elt F) → (⟨S8192, .f32⟩ : BufTy).Contents (Elt F)),
    StableHlo.binary main_while1b_v39 main_while1b_v30 main_while1b_v42 (mulf : (⟨S8192, .f32⟩ : BufTy).Contents (Elt F) → (⟨S8192, .f32⟩ : BufTy).Contents (Elt F) → (⟨S8192, .f32⟩ : BufTy).Contents (Elt F)),
    StableHlo.binary main_while1b_v35 main_while1b_v42 main_while1b_v43 (addf : (⟨S8192, .f32⟩ : BufTy).Contents (Elt F) → (⟨S8192, .f32⟩ : BufTy).Contents (Elt F) → (⟨S8192, .f32⟩ : BufTy).Contents (Elt F)),
    StableHlo.binary main_v20_4 main_while1b_v31 main_while1b_v44 (mulf : (⟨S8192, .f32⟩ : BufTy).Contents (Elt F) → (⟨S8192, .f32⟩ : BufTy).Contents (Elt F) → (⟨S8192, .f32⟩ : BufTy).Contents (Elt F)),
    StableHlo.binary main_while1b_v33 main_while1b_v44 main_while1b_v45 (addf : (⟨S8192, .f32⟩ : BufTy).Contents (Elt F) → (⟨S8192, .f32⟩ : BufTy).Contents (Elt F) → (⟨S8192, .f32⟩ : BufTy).Contents (Elt F)),
    StableHlo.binary main_while1b_v31 main_while1b_v29 main_while1b_v46 (mulf : (⟨S8192, .f32⟩ : BufTy).Contents (Elt F) → (⟨S8192, .f32⟩ : BufTy).Contents (Elt F) → (⟨S8192, .f32⟩ : BufTy).Contents (Elt F)),
    StableHlo.binary main_while1b_v38 main_while1b_v46 main_while1b_v47 (addf : (⟨S8192, .f32⟩ : BufTy).Contents (Elt F) → (⟨S8192, .f32⟩ : BufTy).Contents (Elt F) → (⟨S8192, .f32⟩ : BufTy).Contents (Elt F)),
    StableHlo.TRef.unary (.of main_while1b_v31 : StableHlo.TRef sig ⟨S8192, .f32⟩) (.of main_while1b_call10_v0 : StableHlo.TRef sig ⟨S1x8192, .f32⟩) (broadcastInDim S1x8192 ![1] bcast_S8192_S1x8192_1),
    StableHlo.TRef.nullary (.of main_while1b_call10_c : StableHlo.TRef sig ⟨S_, .i32⟩) (constantI S_ 32 0#32),
    StableHlo.TRef.binaryIndexed (.of main_v20_11 : StableHlo.TRef sig ⟨S4096x8192, .f32⟩) (.of main_while1b_call10_v0 : StableHlo.TRef sig ⟨S1x8192, .f32⟩) ![(.of main_while1b_v26 : StableHlo.TRef sig ⟨S_, .i32⟩), (.of main_while1b_call10_c : StableHlo.TRef sig ⟨S_, .i32⟩)] (.of main_while1b_v48 : StableHlo.TRef sig ⟨S4096x8192, .f32⟩) (fun x u i => Host.dynamicUpdateSlice x u (fun k => (i k (Shape.Idx.first h_S_)).toInt) updateFits_S4096x8192_S1x8192),
    StableHlo.TRef.unary (.of main_while1b_v32 : StableHlo.TRef sig ⟨S8192, .f32⟩) (.of main_while1b_call11_v0 : StableHlo.TRef sig ⟨S1x8192, .f32⟩) (broadcastInDim S1x8192 ![1] bcast_S8192_S1x8192_1),
    StableHlo.TRef.nullary (.of main_while1b_call11_c : StableHlo.TRef sig ⟨S_, .i32⟩) (constantI S_ 32 0#32),
    StableHlo.TRef.binaryIndexed (.of main_v20_12 : StableHlo.TRef sig ⟨S4096x8192, .f32⟩) (.of main_while1b_call11_v0 : StableHlo.TRef sig ⟨S1x8192, .f32⟩) ![(.of main_while1b_v26 : StableHlo.TRef sig ⟨S_, .i32⟩), (.of main_while1b_call11_c : StableHlo.TRef sig ⟨S_, .i32⟩)] (.of main_while1b_v49 : StableHlo.TRef sig ⟨S4096x8192, .f32⟩) (fun x u i => Host.dynamicUpdateSlice x u (fun k => (i k (Shape.Idx.first h_S_)).toInt) updateFits_S4096x8192_S1x8192),
    StableHlo.nullary main_while1b_c_27 (constantI S_ 32 1#32),
    StableHlo.binary main_v20_6 main_while1b_c_27 main_while1b_v50 (addi : (⟨S_, .i32⟩ : BufTy).Contents (Elt F) → (⟨S_, .i32⟩ : BufTy).Contents (Elt F) → (⟨S_, .i32⟩ : BufTy).Contents (Elt F)),
    StableHlo.unary main_while1b_v50 main_v20_6 id,
    StableHlo.unary main_while1b_v47 main_v20_7 id,
    StableHlo.unary main_while1b_v43 main_v20_8 id,
    StableHlo.unary main_while1b_v45 main_v20_9 id,
    StableHlo.unary main_while1b_v41 main_v20_10 id,
    StableHlo.unary main_while1b_v48 main_v20_11 id,
    StableHlo.unary main_while1b_v49 main_v20_12 id ]
theorem bodyOps1_sub : (bodyOps1 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.unaryIndexed_bufs_sub .., StableHlo.reshape_bufs_sub .., StableHlo.nullary_bufs_sub .., StableHlo.unaryIndexed_bufs_sub .., StableHlo.reshape_bufs_sub .., StableHlo.nullary_bufs_sub .., StableHlo.unaryIndexed_bufs_sub .., StableHlo.reshape_bufs_sub .., StableHlo.nullary_bufs_sub .., StableHlo.unaryIndexed_bufs_sub .., StableHlo.reshape_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.nullary_bufs_sub .., StableHlo.binaryIndexed_bufs_sub .., StableHlo.unary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
abbrev bodyOps1_W : List (Ref sig .tc) := [main_while1b_c_25, main_while1b_v25, main_while1b_c_26, main_while1b_v26, main_while1b_call6_c, main_while1b_call6_v0, main_while1b_v27, main_while1b_call7_c, main_while1b_call7_v0, main_while1b_v28, main_while1b_call8_c, main_while1b_call8_v0, main_while1b_v29, main_while1b_call9_c, main_while1b_call9_v0, main_while1b_v30, main_while1b_v31, main_while1b_v32, main_while1b_v33, main_while1b_v34, main_while1b_v35, main_while1b_v36, main_while1b_v37, main_while1b_v38, main_while1b_v39, main_while1b_v40, main_while1b_v41, main_while1b_v42, main_while1b_v43, main_while1b_v44, main_while1b_v45, main_while1b_v46, main_while1b_v47, main_while1b_call10_v0, main_while1b_call10_c, main_while1b_v48, main_while1b_call11_v0, main_while1b_call11_c, main_while1b_v49, main_while1b_c_27, main_while1b_v50, main_v20_6, main_v20_7, main_v20_8, main_v20_9, main_v20_10, main_v20_11, main_v20_12]
theorem bodyOps1_writes : (bodyOps1 : List (HloOp τ sig (Elt F))).Forall fun op => op.writes ⊆ (bodyOps1_W.map (Proc.devRef (τ := τ) .tc)).toFinset :=
  StableHlo.forall_writes_sub_of_map rfl

/-- After the second loop. -/
abbrev postOps : List (HloOp τ sig (Elt F)) :=
  [ StableHlo.reshape main_v20_11 main_v21 (rfl : (.f32 : EltTy) = .f32) shapeCasts_S4096x8192_S512x8x8192,
    StableHlo.reshape main_v20_12 main_v22 (rfl : (.f32 : EltTy) = .f32) shapeCasts_S4096x8192_S512x8x8192,
    StableHlo.unary main_v20_7 main_v23 (broadcastInDim S8x8192 ![1] bcast_S8192_S8x8192_1 : (⟨S8192, .f32⟩ : BufTy).Contents (Elt F) → (⟨S8x8192, .f32⟩ : BufTy).Contents (Elt F)),
    StableHlo.unary main_v20_8 main_v24 (broadcastInDim S8x8192 ![1] bcast_S8192_S8x8192_1 : (⟨S8192, .f32⟩ : BufTy).Contents (Elt F) → (⟨S8x8192, .f32⟩ : BufTy).Contents (Elt F)) ]
theorem postOps_sub : (postOps : List (HloOp τ sig (Elt F))).Forall fun op => op.bufs ⊆ StableHlo.tcRefs τ sig :=
  ⟨StableHlo.reshape_bufs_sub .., StableHlo.reshape_bufs_sub .., StableHlo.unary_bufs_sub .., StableHlo.unary_bufs_sub ..⟩
abbrev postOps_W : List (Ref sig .tc) := [main_v21, main_v22, main_v23, main_v24]
theorem postOps_writes : (postOps : List (HloOp τ sig (Elt F))).Forall fun op => op.writes ⊆ (postOps_W.map (Proc.devRef (τ := τ) .tc)).toFinset :=
  StableHlo.forall_writes_sub_of_map rfl
/-- The program and the loops' bodies are these lists. -/
theorem body0_eq : main_while0_body (F := F) = Pipeline.chain ([bodyOps0].map fun ops => (StableHlo.seq ops : Prog _ PUnit)) := by chain_rfl
theorem body1_eq : main_while1_body (F := F) = Pipeline.chain ([bodyOps1].map fun ops => (StableHlo.seq ops : Prog _ PUnit)) := by chain_rfl
theorem main_eq (c : Dev nD) : main (F := F) c = Pipeline.chain [StableHlo.seq preOps, HostLoop.enter 0, StableHlo.seq midOps, HostLoop.enter 1, StableHlo.seq postOps] := by chain_rfl

/-! ## The contents at each boundary -/

section Contents

variable (m : (ℓ : Loc nD τ sig) → Buf (Elt F) ℓ)

/-- At the start; -/
abbrev W0 : Dev nD → Valuation τ sig (Elt F) := StableHlo.launchContents m
/-- entering the first loop; -/
abbrev W1 : Dev nD → Valuation τ sig (Elt F) := fun c => StableHlo.after preOps (W0 m c)
/-- before trip `k` of the first loop; -/
abbrev T0 (k : ℕ) (c : Dev nD) : Valuation τ sig (Elt F) := StableHlo.atTrip condOps0 [bodyOps0] (W1 m) k c
/-- entering the second loop; -/
abbrev W2 : Dev nD → Valuation τ sig (Elt F) := fun c => StableHlo.after midOps (StableHlo.after condOps0 (T0 m 4096 c))
/-- before trip `k` of the second loop; -/
abbrev T1 (k : ℕ) (c : Dev nD) : Valuation τ sig (Elt F) := StableHlo.atTrip condOps1 [bodyOps1] (W2 m) k c
/-- at the end. -/
abbrev W3 : Dev nD → Valuation τ sig (Elt F) := fun c => StableHlo.after postOps (StableHlo.after condOps1 (T1 m 4096 c))

theorem T0_succ (k : ℕ) (c : Dev nD) : T0 m (k + 1) c = StableHlo.after bodyOps0 (StableHlo.after condOps0 (T0 m k c)) := rfl
theorem T1_succ (k : ℕ) (c : Dev nD) : T1 m (k + 1) c = StableHlo.after bodyOps1 (StableHlo.after condOps1 (T1 m k c)) := rfl

/-- What a trip of the first loop does not write stays through the loop, -/
theorem T0_keep (c : Dev nD) (b : Ref sig .tc) (h : b ∉ condOps0_W ∧ b ∉ bodyOps0_W) : ∀ k, T0 m k c (Proc.devRef .tc b) = W1 m c (Proc.devRef .tc b)
  | 0 => rfl
  | k + 1 => by
    rw [T0_succ, StableHlo.after_of_writes_sub bodyOps0 _ bodyOps0_writes h.2, StableHlo.after_of_writes_sub condOps0 _ condOps0_writes h.1, T0_keep c b h k]
/-- and of the second. -/
theorem T1_keep (c : Dev nD) (b : Ref sig .tc) (h : b ∉ condOps1_W ∧ b ∉ bodyOps1_W) : ∀ k, T1 m k c (Proc.devRef .tc b) = W2 m c (Proc.devRef .tc b)
  | 0 => rfl
  | k + 1 => by
    rw [T1_succ, StableHlo.after_of_writes_sub bodyOps1 _ bodyOps1_writes h.2, StableHlo.after_of_writes_sub condOps1 _ condOps1_writes h.1, T1_keep c b h k]

/-- What the first part does not write stays up to the second loop. -/
theorem W2_keep (c : Dev nD) (b : Ref sig .tc) (h : b ∉ preOps_W ∧ (b ∉ condOps0_W ∧ b ∉ bodyOps0_W) ∧ b ∉ midOps_W) :
    W2 m c (Proc.devRef .tc b) = W0 m c (Proc.devRef .tc b) := by
  show StableHlo.after midOps (StableHlo.after condOps0 (T0 m 4096 c)) _ = _
  rw [StableHlo.after_of_writes_sub midOps _ midOps_writes h.2.2, StableHlo.after_of_writes_sub condOps0 _ condOps0_writes h.2.1.1, T0_keep m c b h.2.1]
  exact StableHlo.after_of_writes_sub preOps _ preOps_writes h.1

/-- What nothing writes is at the end what it was. -/
theorem W3_keep (c : Dev nD) (b : Ref sig .tc) (h : b ∉ preOps_W ∧ (b ∉ condOps0_W ∧ b ∉ bodyOps0_W) ∧ b ∉ midOps_W) (h' : (b ∉ condOps1_W ∧ b ∉ bodyOps1_W) ∧ b ∉ postOps_W) :
    W3 m c (Proc.devRef .tc b) = m ((c : Thread nD τ).loc b) := by
  show StableHlo.after postOps (StableHlo.after condOps1 (T1 m 4096 c)) _ = _
  rw [StableHlo.after_of_writes_sub postOps _ postOps_writes h'.2, StableHlo.after_of_writes_sub condOps1 _ condOps1_writes h'.1.1, T1_keep m c b h'.1, W2_keep m c b h]

theorem W3_args (c : Dev nD) : ∀ b ∈ ([main_arg0, main_arg1, main_arg2, main_arg3, main_arg4, main_arg5] : List (Ref sig .tc)), W3 m c (Proc.devRef .tc b) = m ((c : Thread nD τ).loc b) :=
  fun b hb => W3_keep m c b ((by decide : ∀ b ∈ ([main_arg0, main_arg1, main_arg2, main_arg3, main_arg4, main_arg5] : List (Ref sig .tc)), b ∉ preOps_W ∧ (b ∉ condOps0_W ∧ b ∉ bodyOps0_W) ∧ b ∉ midOps_W) b hb)
    ((by decide : ∀ b ∈ ([main_arg0, main_arg1, main_arg2, main_arg3, main_arg4, main_arg5] : List (Ref sig .tc)), (b ∉ condOps1_W ∧ b ∉ bodyOps1_W) ∧ b ∉ postOps_W) b hb)

/-! ## The counters -/

section Counters

open Idealize.ShloMosaic.StableHlo

theorem body0_ctr (X : Valuation τ sig (Elt F)) : after bodyOps0 X (Proc.devRef .tc main_v9_4) = addi (X (Proc.devRef .tc main_v9_4)) (constantI S_ 32 1#32) := by
  after_results_simp; rfl
theorem body1_ctr (X : Valuation τ sig (Elt F)) : after bodyOps1 X (Proc.devRef .tc main_v20_6) = addi (X (Proc.devRef .tc main_v20_6)) (constantI S_ 32 1#32) := by
  after_results_simp; rfl
theorem pre_ctr (X : Valuation τ sig (Elt F)) : after preOps X (Proc.devRef .tc main_v9_4) = constantI S_ 32 0#32 := by
  after_results_simp; rfl
theorem mid_ctr (X : Valuation τ sig (Elt F)) : after midOps X (Proc.devRef .tc main_v20_6) = constantI S_ 32 0#32 := by
  after_results_simp; rfl

/-- The first loop's counter before trip `k`, -/
theorem ctr0 (c : Dev nD) : ∀ k, T0 m k c (Proc.devRef .tc main_v9_4) = fun _ => Scf.iv 0#32 1#32 k
  | 0 => by
    rw [show T0 m 0 c = after preOps (W0 m c) from rfl, pre_ctr, Scf.iv_zero]
    rfl
  | k + 1 => by
    rw [T0_succ, body0_ctr, after_of_writes_sub condOps0 _ condOps0_writes (by decide), ctr0 c k, Scf.iv_succ]
    rfl
/-- and the second's. -/
theorem ctr1 (c : Dev nD) : ∀ k, T1 m k c (Proc.devRef .tc main_v20_6) = fun _ => Scf.iv 0#32 1#32 k
  | 0 => by
    rw [show T1 m 0 c = after midOps (after condOps0 (T0 m 4096 c)) from rfl, mid_ctr, Scf.iv_zero]
    rfl
  | k + 1 => by
    rw [T1_succ, body1_ctr, after_of_writes_sub condOps1 _ condOps1_writes (by decide), ctr1 c k, Scf.iv_succ]
    rfl

end Counters

/-! ## The conditions -/

local notation "𝕄" => MT nD τ sig Unit (Elt F) ℕ (Option PUnit) ℕ

/-- No call, so nothing admitted and no ticket. -/
abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm := fun j => j.elim0
abbrev lev : GSem nD τ sig → Finset Unit := fun _ => ∅
abbrev lv : GSem nD τ sig → Unit → ℕ := fun _ _ => 0

/-- What rides along: that the core owes nothing. -/
abbrev Rw (c : Dev nD) : sProp 𝕄 := iprop(∃ W, owes (c : Thread nD τ) (0 : CellTallies nD τ sig Unit) W)

section Conditions

open Idealize.ShloMosaic.StableHlo
open Idealize.ShloMosaic.Pipeline (ucRefs sub_ucRefs)

set_option backward.isDefEq.respectTransparency.types false in
theorem cond0_spec : LoopCond (pcfgs (F := F)) defs₀ Variants.none loops Rw (main_while0_cond (F := F)) condOps0 [bodyOps0] (W1 m) 4096 := by
  intro k hk c bd
  have hctr := ctr0 m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T0 m k c) main_v9_4 HostLoop.idx0)
        (HloOp.result _ (T0 m k c) main_while0c_c_23 HostLoop.idx0) = 1#1) (k < 4096)
    rw [nullary_result_ne _ _ _ _ (by decide), nullary_result, hctr]
    exact Scf.cmpi_slt_iv_ub_iff (lb := 0#32) (ub := 4096#32) (st := 1#32) (by decide) (show k ≤ Scf.trips 0#32 4096#32 1#32 from hk)
  isplitl [Hb]; · iexact Hb
  isplitl [Hh]; · rw [after_cons, after_cons, after_nil]; iexact Hh
  iexact HR

set_option backward.isDefEq.respectTransparency.types false in
theorem cond1_spec : LoopCond (pcfgs (F := F)) defs₀ Variants.none loops Rw (main_while1_cond (F := F)) condOps1 [bodyOps1] (W2 m) 4096 := by
  intro k hk c bd
  have hctr := ctr1 m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T1 m k c) main_v20_6 HostLoop.idx0)
        (HloOp.result _ (T1 m k c) main_while1c_c_25 HostLoop.idx0) = 1#1) (k < 4096)
    rw [nullary_result_ne _ _ _ _ (by decide), nullary_result, hctr]
    exact Scf.cmpi_slt_iv_ub_iff (lb := 0#32) (ub := 4096#32) (st := 1#32) (by decide) (show k ≤ Scf.trips 0#32 4096#32 1#32 from hk)
  isplitl [Hb]; · iexact Hb
  isplitl [Hh]; · rw [after_cons, after_cons, after_nil]; iexact Hh
  iexact HR

end Conditions

/-! ## The run -/

section Run

open Idealize.ShloMosaic.StableHlo
open Idealize.ShloMosaic.Pipeline (ucRefs CSeg)

theorem plain_pre : Plain [(preOps : List (HloOp τ sig (Elt F)))] := .cons preOps_sub .nil
theorem plain_mid : Plain [(midOps : List (HloOp τ sig (Elt F)))] := .cons midOps_sub .nil
theorem plain_post : Plain [(postOps : List (HloOp τ sig (Elt F)))] := .cons postOps_sub .nil
theorem plain_body0 : Plain [(bodyOps0 : List (HloOp τ sig (Elt F)))] := .cons bodyOps0_sub .nil
theorem plain_body1 : Plain [(bodyOps1 : List (HloOp τ sig (Elt F)))] := .cons bodyOps1_sub .nil

abbrev Seg : Type 1 := CSeg (pcfgs (F := F)) adm defs₀ Variants.none lev lv loops tk

/-- The two loops, -/
abbrev loop0 : Seg (F := F) :=
  loopSeg _ _ _ _ _ _ _ _ 0 (main_while0_cond (F := F)) (main_while0_body (F := F)) rfl condOps0 [bodyOps0] plain_body0 body0_eq 4096 (W1 m) Rw (cond0_spec m)
abbrev loop1 : Seg (F := F) :=
  loopSeg _ _ _ _ _ _ _ _ 1 (main_while1_cond (F := F)) (main_while1_body (F := F)) rfl condOps1 [bodyOps1] plain_body1 body1_eq 4096 (W2 m) Rw (cond1_spec m)
/-- and the program, segment by segment. -/
abbrev segs : List (Seg (F := F)) :=
  segsOf _ _ _ _ _ _ _ _ Rw [preOps] plain_pre (W0 m)
    ++ (loop0 m :: (segsOf _ _ _ _ _ _ _ _ Rw [midOps] plain_mid (fun c => after condOps0 (T0 m 4096 c))
      ++ (loop1 m :: segsOf _ _ _ _ _ _ _ _ Rw [postOps] plain_post (fun c => after condOps1 (T1 m 4096 c)))))

theorem segs_prog : (segs m).map CSeg.prog = [seq preOps, HostLoop.enter 0, seq midOps, HostLoop.enter 1, (seq postOps : Prog _ PUnit)] := rfl

theorem segs_chains : CSeg.Chains (fun c => iprop(held (c : Thread nD τ) (ucRefs τ sig) (W0 m c) ∗ Rw c)) (segs m)
    (fun c => iprop(iprop(held (c : Thread nD τ) (ucRefs τ sig) (W3 m c)) ∗ ∃ W, owes (c : Thread nD τ) (0 : CellTallies nD τ sig Unit) W)) :=
  CSeg.Chains.append (segsOf_chains _ _ _ _ _ _ _ _ Rw [preOps] plain_pre _) ⟨fun _ => .rfl,
    CSeg.Chains.append (segsOf_chains _ _ _ _ _ _ _ _ Rw [midOps] plain_mid _) ⟨fun _ => .rfl, segsOf_chains _ _ _ _ _ _ _ _ Rw [postOps] plain_post _⟩⟩

/-- THE RUN: every execution ends, every buffer holding the last contents, every counter zero. -/
theorem run [∀ e, Nonempty (Elt F e)] (ρ : Dev nD → PrngReg) :
    θ_run (defs (F := F)) (onTc (τ := τ) main) ⟨m, fun _ => 0, ρ⟩
      (fun r => (∀ (c : Dev nD) (b : Ref sig .tc), (Proc.devRef .tc b : DevRef τ sig).isScoped = false →
        r.2.mem ((c.tc : Thread nD τ).loc b) = W3 m c (Proc.devRef .tc b)) ∧ r.2.sem = fun _ => 0) :=
  (θ_run _ _ _).mono (fun r h => ⟨h, sem_eq_zero_of_no_sems (by decide) r.2⟩) <|
  Pipeline.θ_run_regions_loop_kit (Ix := Unit) (Name := ℕ) (U := Option PUnit) (Lvl := ℕ) (J := Fin 0) (P := Fin 0) (Val := Elt F)
    (pcfgs (F := F)) adm (fun k => k.1.elim0) defs₀ Variants.none lev lv loops tk m ρ main (segs m)
    (fun c Q => by
      rw [main_eq c]
      show wp _ _ _ (Pipeline.chain ((segs m).map CSeg.prog)) Q ⊢ _
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (W0 m c) ∗ Rw c))
    (Tₙ := fun c => iprop(held (c : Thread nD τ) (ucRefs τ sig) (W3 m c)))
    (hch := segs_chains m)
    (hinit := by
      refine Pipeline.initEach lev lv fun c => ?_
      rw [show unscopedBufs c (fun b => m ((c : Thread nD τ).loc b)) = held (c : Thread nD τ) (ucRefs τ sig) (W0 m c) from Pipeline.unscopedBufs_held c (W0 m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = W3 m c b)
    (hfin := fun c s' => by
      unfold held
      iintro ⟨Hh, HSI⟩
      ihave Hr := (pointsTo_read_all (ucRefs τ sig) (fun b => ((c : Dev nD), b)) (fun b => W3 m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Run

end Contents

end Cert.Proof.ScanRef

end
-- ==== Proof.ScanRefStep.lean ====
/-
  What each stretch of the recurrence's reference leaves: one step of the recurrence, one step of its gradient, and the stretches
  around the loops, each from whatever contents it starts on.
-/
module

public import proofs.«01_k».proof.Proof.ScanRefRun
public import proofs.«01_k».proof.Proof.ScanMath
public import Idealize.ShloMosaic.Lib.Pipeline.ValueKit
public import Idealize.ShloMosaic.Lib.DynamicIndex

@[expose] public section

set_option maxRecDepth 16384

noncomputable section

namespace Cert.Proof.ScanRefStep

open Cert.ReferenceIdeal Cert.ReferenceIdeal.Gen Cert.Proof.ScanMath Cert.Proof.ScanRef
open Idealize.ShloMosaic Idealize.ShloMosaic.TcCoe Idealize.ShloMosaic.Tactic
open StableHlo (after)

/-- The starts of a row: its number, and lane zero. -/
def starts (i : IVec S_ 32) : Fin 2 → Int := fun k => ((![i, constantI S_ 32 0#32] : Fin 2 → IVec S_ 32) k (Shape.Idx.first h_S_)).toInt
/-- Row `i` of an array, -/
def readRow (x : Vec Ideal S4096x8192 .f32) (i : IVec S_ 32) : Vec Ideal S8192 .f32 :=
  shapeCast S8192 (Host.dynamicSlice S1x8192 x (starts i) sliceFits_S4096x8192_S1x8192) shapeCasts_S1x8192_S8192
/-- and the array with its row `i` replaced. -/
def setRow (x : Vec Ideal S4096x8192 .f32) (u : Vec Ideal S8192 .f32) (i : IVec S_ 32) : Vec Ideal S4096x8192 .f32 :=
  Host.dynamicUpdateSlice x (broadcastInDim S1x8192 ![1] bcast_S8192_S1x8192_1 u) (starts i) updateFits_S4096x8192_S1x8192

/-- A row's number as the loop's counter holds it. -/
abbrev num (k : ℕ) : IVec S_ 32 := fun _ => BitVec.ofNat 32 k

theorem start_row (k : ℕ) (hk : k < 4096) : Host.clampedStart S4096x8192 S1x8192 sliceFits_S4096x8192_S1x8192.1 (starts (num k)) 0 = k := by
  have e : starts (num k) 0 = (k : Int) := toInt_ofNat_of_lt (by omega)
  show (min (max (starts (num k) 0) 0) ((4096 - 1 : ℕ) : Int)).toNat = k
  rw [e]; omega
theorem start_lane (i : IVec S_ 32) : Host.clampedStart S4096x8192 S1x8192 sliceFits_S4096x8192_S1x8192.1 (starts i) 1 = 0 := by
  have e : starts i 1 = ((0 : ℕ) : Int) := toInt_ofNat_of_lt (by omega)
  show (min (max (starts i 1) 0) ((8192 - 8192 : ℕ) : Int)).toNat = 0
  rw [e]; omega

theorem readRow_at (x : Vec Ideal S4096x8192 .f32) (k : ℕ) (hk : k < 4096) (n : Fin 8192) : readRow x (num k) (ix1 n) = x (ix2 ⟨k, hk⟩ n) := by
  unfold readRow
  pointwise
  simp only [start_row k hk, start_lane, Nat.zero_add]

theorem setRow_at (x : Vec Ideal S4096x8192 .f32) (u : Vec Ideal S8192 .f32) (k : ℕ) (hk : k < 4096) (i : Fin 4096) (n : Fin 8192) :
    setRow x u (num k) (ix2 i n) = if i.val = k then u (ix1 n) else x (ix2 i n) := by
  unfold setRow
  pointwise
  have h0 := start_row k hk
  have h1 := start_lane (num k)
  by_cases h : i.val = k
  · rw [if_pos h, dif_pos ⟨⟨by omega, by omega⟩, by omega⟩]
    exact congrArg (fun l => u (ix1 l)) (Fin.ext (by show n.val - _ = n.val; omega))
  · rw [if_neg h, dif_neg fun hh => h (by omega)]

variable (X : Valuation τ sig (Elt Ideal))

/-! ## A step of the recurrence -/

theorem body0_re : after bodyOps0 X (Proc.devRef .tc main_v9_5) = addf (F := Ideal) (φ := .f32) (subf (F := Ideal) (φ := .f32) (mulf (F := Ideal) (φ := .f32) (X (Proc.devRef .tc main_v9_2)) (X (Proc.devRef .tc main_v9_5))) (mulf (F := Ideal) (φ := .f32) (X (Proc.devRef .tc main_v9_3)) (X (Proc.devRef .tc main_v9_6)))) (readRow (X (Proc.devRef .tc main_v9_0)) (X (Proc.devRef .tc main_v9_4))) := by
  after_results_simp_entrywise
  all_goals rfl
theorem body0_im : after bodyOps0 X (Proc.devRef .tc main_v9_6) = addf (F := Ideal) (φ := .f32) (addf (F := Ideal) (φ := .f32) (mulf (F := Ideal) (φ := .f32) (X (Proc.devRef .tc main_v9_2)) (X (Proc.devRef .tc main_v9_6))) (mulf (F := Ideal) (φ := .f32) (X (Proc.devRef .tc main_v9_3)) (X (Proc.devRef .tc main_v9_5)))) (readRow (X (Proc.devRef .tc main_v9_1)) (X (Proc.devRef .tc main_v9_4))) := by
  after_results_simp_entrywise
  all_goals rfl
theorem body0_res : after bodyOps0 X (Proc.devRef .tc main_v9_9) = setRow (X (Proc.devRef .tc main_v9_9)) (X (Proc.devRef .tc main_v9_5)) (X (Proc.devRef .tc main_v9_4)) := by
  after_results_simp_entrywise
  all_goals rfl
theorem body0_ims : after bodyOps0 X (Proc.devRef .tc main_v9_10) = setRow (X (Proc.devRef .tc main_v9_10)) (X (Proc.devRef .tc main_v9_6)) (X (Proc.devRef .tc main_v9_4)) := by
  after_results_simp_entrywise
  all_goals rfl

/-! ## A step of the gradient -/

/-- The row a trip works on, and the gradient that reaches it. -/
abbrev back (X : Valuation τ sig (Elt Ideal)) : IVec S_ 32 := subi (subi (constantI S_ 32 4096#32) (X (Proc.devRef .tc main_v20_6))) (constantI S_ 32 1#32)
abbrev reach0 (X : Valuation τ sig (Elt Ideal)) : Vec Ideal S8192 .f32 := addf (F := Ideal) (φ := .f32) (X (Proc.devRef .tc main_v20_9)) (readRow (X (Proc.devRef .tc main_v20_0)) (back X))
abbrev reach1 (X : Valuation τ sig (Elt Ideal)) : Vec Ideal S8192 .f32 := addf (F := Ideal) (φ := .f32) (X (Proc.devRef .tc main_v20_10)) (readRow (X (Proc.devRef .tc main_v20_1)) (back X))

theorem body1_da0 : after bodyOps1 X (Proc.devRef .tc main_v20_7) = addf (F := Ideal) (φ := .f32) (addf (F := Ideal) (φ := .f32) (X (Proc.devRef .tc main_v20_7)) (mulf (F := Ideal) (φ := .f32) (reach1 X) (readRow (X (Proc.devRef .tc main_v20_3)) (back X)))) (mulf (F := Ideal) (φ := .f32) (reach0 X) (readRow (X (Proc.devRef .tc main_v20_2)) (back X))) := by
  after_results_simp_entrywise
  all_goals rfl
theorem body1_da1 : after bodyOps1 X (Proc.devRef .tc main_v20_8) = addf (F := Ideal) (φ := .f32) (addf (F := Ideal) (φ := .f32) (X (Proc.devRef .tc main_v20_8)) (mulf (F := Ideal) (φ := .f32) (reach1 X) (readRow (X (Proc.devRef .tc main_v20_2)) (back X)))) (mulf (F := Ideal) (φ := .f32) (Host.negf (F := Ideal) (φ := .f32) (reach0 X)) (readRow (X (Proc.devRef .tc main_v20_3)) (back X))) := by
  after_results_simp_entrywise
  all_goals rfl
theorem body1_ct0 : after bodyOps1 X (Proc.devRef .tc main_v20_9) = addf (F := Ideal) (φ := .f32) (mulf (F := Ideal) (φ := .f32) (X (Proc.devRef .tc main_v20_5)) (reach1 X)) (mulf (F := Ideal) (φ := .f32) (X (Proc.devRef .tc main_v20_4)) (reach0 X)) := by
  after_results_simp_entrywise
  all_goals rfl
theorem body1_ct1 : after bodyOps1 X (Proc.devRef .tc main_v20_10) = addf (F := Ideal) (φ := .f32) (mulf (F := Ideal) (φ := .f32) (X (Proc.devRef .tc main_v20_4)) (reach1 X)) (mulf (F := Ideal) (φ := .f32) (X (Proc.devRef .tc main_v20_5)) (Host.negf (F := Ideal) (φ := .f32) (reach0 X))) := by
  after_results_simp_entrywise
  all_goals rfl
theorem body1_db0 : after bodyOps1 X (Proc.devRef .tc main_v20_11) = setRow (X (Proc.devRef .tc main_v20_11)) (reach0 X) (back X) := by
  unfold setRow reach0 readRow starts back
  after_results_simp_entrywise
  generalize (subi (subi (constantI S_ 32 4096#32) (X (Proc.devRef .tc main_v20_6))) (constantI S_ 32 1#32) : IVec S_ 32) = i
  rfl
theorem body1_db1 : after bodyOps1 X (Proc.devRef .tc main_v20_12) = setRow (X (Proc.devRef .tc main_v20_12)) (reach1 X) (back X) := by
  unfold setRow reach1 readRow starts back
  after_results_simp_entrywise
  generalize (subi (subi (constantI S_ 32 4096#32) (X (Proc.devRef .tc main_v20_6))) (constantI S_ 32 1#32) : IVec S_ 32) = i
  rfl

/-! ## Around the loops -/

theorem pre_9_0 : after preOps X (Proc.devRef .tc main_v9_0) = shapeCast (α := Ideal .f32) S4096x8192 (X (Proc.devRef .tc main_arg2)) shapeCasts_S512x8x8192_S4096x8192 := by
  after_results_simp
  rfl
theorem pre_9_1 : after preOps X (Proc.devRef .tc main_v9_1) = shapeCast (α := Ideal .f32) S4096x8192 (X (Proc.devRef .tc main_arg3)) shapeCasts_S512x8x8192_S4096x8192 := by
  after_results_simp
  rfl
theorem pre_9_2 : after preOps X (Proc.devRef .tc main_v9_2) = shapeCast (α := Ideal .f32) S8192 (X (Proc.devRef .tc main_arg0)) shapeCasts_S1x8192_S8192 := by
  after_results_simp
  rfl
theorem pre_9_3 : after preOps X (Proc.devRef .tc main_v9_3) = shapeCast (α := Ideal .f32) S8192 (X (Proc.devRef .tc main_arg1)) shapeCasts_S1x8192_S8192 := by
  after_results_simp
  rfl
theorem pre_9_5 : after preOps X (Proc.devRef .tc main_v9_5) = broadcastInDim S8192 ![] bcast_S_S8192 (constant (F := Ideal) S_ .f32 0x00000000#32) := by
  after_results_simp
  rfl
theorem pre_9_6 : after preOps X (Proc.devRef .tc main_v9_6) = broadcastInDim S8192 ![] bcast_S_S8192 (constant (F := Ideal) S_ .f32 0x00000000#32) := by
  after_results_simp
  rfl
theorem pre_0 : after preOps X (Proc.devRef .tc main_v0) = shapeCast (α := Ideal .f32) S8192 (X (Proc.devRef .tc main_arg0)) shapeCasts_S1x8192_S8192 := by
  after_results_simp
  rfl
theorem pre_1 : after preOps X (Proc.devRef .tc main_v1) = shapeCast (α := Ideal .f32) S8192 (X (Proc.devRef .tc main_arg1)) shapeCasts_S1x8192_S8192 := by
  after_results_simp
  rfl
theorem mid_20_0 : after midOps X (Proc.devRef .tc main_v20_0) = shapeCast (α := Ideal .f32) S4096x8192 (X (Proc.devRef .tc main_arg4)) shapeCasts_S512x8x8192_S4096x8192 := by
  after_results_simp
  rfl
theorem mid_20_1 : after midOps X (Proc.devRef .tc main_v20_1) = shapeCast (α := Ideal .f32) S4096x8192 (X (Proc.devRef .tc main_arg5)) shapeCasts_S512x8x8192_S4096x8192 := by
  after_results_simp
  rfl
theorem mid_20_2 : after midOps X (Proc.devRef .tc main_v20_2) = X (Proc.devRef .tc main_v9_9) := by
  after_results_simp
  rfl
theorem mid_20_3 : after midOps X (Proc.devRef .tc main_v20_3) = X (Proc.devRef .tc main_v9_10) := by
  after_results_simp
  rfl
theorem mid_20_4 : after midOps X (Proc.devRef .tc main_v20_4) = X (Proc.devRef .tc main_v0) := by
  after_results_simp
  rfl
theorem mid_20_5 : after midOps X (Proc.devRef .tc main_v20_5) = X (Proc.devRef .tc main_v1) := by
  after_results_simp
  rfl
theorem mid_20_7 : after midOps X (Proc.devRef .tc main_v20_7) = broadcastInDim S8192 ![] bcast_S_S8192 (constant (F := Ideal) S_ .f32 0x00000000#32) := by
  after_results_simp
  rfl
theorem mid_20_8 : after midOps X (Proc.devRef .tc main_v20_8) = broadcastInDim S8192 ![] bcast_S_S8192 (constant (F := Ideal) S_ .f32 0x00000000#32) := by
  after_results_simp
  rfl
theorem mid_20_9 : after midOps X (Proc.devRef .tc main_v20_9) = broadcastInDim S8192 ![] bcast_S_S8192 (constant (F := Ideal) S_ .f32 0x00000000#32) := by
  after_results_simp
  rfl
theorem mid_20_10 : after midOps X (Proc.devRef .tc main_v20_10) = broadcastInDim S8192 ![] bcast_S_S8192 (constant (F := Ideal) S_ .f32 0x00000000#32) := by
  after_results_simp
  rfl
theorem post_21 : after postOps X (Proc.devRef .tc main_v21) = shapeCast (α := Ideal .f32) S512x8x8192 (X (Proc.devRef .tc main_v20_11)) shapeCasts_S4096x8192_S512x8x8192 := by
  after_results_simp
  rfl
theorem post_22 : after postOps X (Proc.devRef .tc main_v22) = shapeCast (α := Ideal .f32) S512x8x8192 (X (Proc.devRef .tc main_v20_12)) shapeCasts_S4096x8192_S512x8x8192 := by
  after_results_simp
  rfl
theorem post_23 : after postOps X (Proc.devRef .tc main_v23) = broadcastInDim S8x8192 ![1] bcast_S8192_S8x8192_1 (X (Proc.devRef .tc main_v20_7)) := by
  after_results_simp
theorem post_24 : after postOps X (Proc.devRef .tc main_v24) = broadcastInDim S8x8192 ![1] bcast_S8192_S8x8192_1 (X (Proc.devRef .tc main_v20_8)) := by
  after_results_simp

end Cert.Proof.ScanRefStep

end
-- ==== Proof.ScanRefVal.lean ====
/-
  The values of the recurrence's reference: the two loops, by induction over their trips.

  Before trip `k` of the first loop the state is the recurrence's state before time `k`, and the states before the earlier times are
  kept. Before trip `k` of the second, which runs from the last time back, the gradient of the last `k` times is known, and the
  multiplier's gradient is their sum so far.
-/
module

public import proofs.«01_k».proof.Proof.ScanRefStep

@[expose] public section

set_option maxRecDepth 16384

noncomputable section

namespace Cert.Proof.ScanRefVal

open Cert.ReferenceIdeal Cert.ReferenceIdeal.Gen Cert.Proof.ScanMath Cert.Proof.ScanRef Cert.Proof.ScanRefStep
open Idealize.ShloMosaic Idealize.ShloMosaic.TcCoe Idealize.ShloMosaic.Tactic
open StableHlo (after after_of_writes_sub)
open scoped ComplexConjugate

variable {X : Valuation τ sig (Elt Ideal)} {A : Fin 8192 → ℂ} {B D : Fin 8192 → ℕ → ℂ} {k : ℕ}

/-- Before trip `k` of the first loop. -/
structure Inv0 (X : Valuation τ sig (Elt Ideal)) (A : Fin 8192 → ℂ) (B : Fin 8192 → ℕ → ℂ) (k : ℕ) : Prop where
  ctr : X (Proc.devRef .tc main_v9_4) = num k
  mult : ∀ L : Fin 8192, Parts (X (Proc.devRef .tc main_v9_2) (ix1 L)) (X (Proc.devRef .tc main_v9_3) (ix1 L)) (A L)
  inp : ∀ (j : Fin 4096) (L : Fin 8192), Parts (X (Proc.devRef .tc main_v9_0) (ix2 j L)) (X (Proc.devRef .tc main_v9_1) (ix2 j L)) (B L j.val)
  st : ∀ L : Fin 8192, Parts (X (Proc.devRef .tc main_v9_5) (ix1 L)) (X (Proc.devRef .tc main_v9_6) (ix1 L)) (Sf (A L) (B L) k)
  kept : ∀ (j : Fin 4096) (L : Fin 8192), j.val < k → Parts (X (Proc.devRef .tc main_v9_9) (ix2 j L)) (X (Proc.devRef .tc main_v9_10) (ix2 j L)) (Sf (A L) (B L) j.val)

/-- A stretch that writes none of the loop's buffers keeps it. -/
theorem Inv0.of_eq {X' : Valuation τ sig (Elt Ideal)} (h : Inv0 X A B k)
    (e : ∀ b ∈ [main_v9_0, main_v9_1, main_v9_2, main_v9_3, main_v9_4, main_v9_5, main_v9_6, main_v9_9, main_v9_10], X' (Proc.devRef .tc b) = X (Proc.devRef .tc b)) : Inv0 X' A B k where
  ctr := (e _ (by decide)).trans h.ctr
  mult := by rw [e main_v9_2 (by decide), e main_v9_3 (by decide)]; exact h.mult
  inp := by rw [e main_v9_0 (by decide), e main_v9_1 (by decide)]; exact h.inp
  st := by rw [e main_v9_5 (by decide), e main_v9_6 (by decide)]; exact h.st
  kept := by rw [e main_v9_9 (by decide), e main_v9_10 (by decide)]; exact h.kept

/-- The condition writes none of them. -/
theorem Inv0.cond (h : Inv0 X A B k) : Inv0 (after condOps0 X) A B k :=
  h.of_eq fun b hb => after_of_writes_sub condOps0 X condOps0_writes
    ((by decide : ∀ b ∈ [main_v9_0, main_v9_1, main_v9_2, main_v9_3, main_v9_4, main_v9_5, main_v9_6, main_v9_9, main_v9_10], b ∉ condOps0_W) b hb)

/-- One trip. -/
theorem Inv0.trip (h : Inv0 X A B k) (hk : k < 4096) (hc : after bodyOps0 X (Proc.devRef .tc main_v9_4) = num (k + 1)) : Inv0 (after bodyOps0 X) A B (k + 1) where
  ctr := hc
  mult := by
    rw [after_of_writes_sub bodyOps0 X bodyOps0_writes (by decide : main_v9_2 ∉ bodyOps0_W), after_of_writes_sub bodyOps0 X bodyOps0_writes (by decide : main_v9_3 ∉ bodyOps0_W)]
    exact h.mult
  inp := by
    rw [after_of_writes_sub bodyOps0 X bodyOps0_writes (by decide : main_v9_0 ∉ bodyOps0_W), after_of_writes_sub bodyOps0 X bodyOps0_writes (by decide : main_v9_1 ∉ bodyOps0_W)]
    exact h.inp
  st := by
    intro L
    rw [body0_re, body0_im, h.ctr]
    have hin := (h.inp ⟨k, hk⟩ L).read (readRow_at _ k hk L) (readRow_at _ k hk L) rfl
    exact hin.step (h.mult L) (h.st L)
  kept := by
    intro j L hj
    rw [body0_res, body0_ims, h.ctr, setRow_at _ _ k hk, setRow_at _ _ k hk]
    by_cases e : j.val = k
    · rw [if_pos e, if_pos e, e]; exact h.st L
    · rw [if_neg e, if_neg e]; exact h.kept j L (by omega)

/-- Before trip `k` of the second loop. -/
structure Inv1 (X : Valuation τ sig (Elt Ideal)) (A : Fin 8192 → ℂ) (B D : Fin 8192 → ℕ → ℂ) (k : ℕ) : Prop where
  ctr : X (Proc.devRef .tc main_v20_6) = num k
  mult : ∀ L : Fin 8192, Parts (X (Proc.devRef .tc main_v20_4) (ix1 L)) (X (Proc.devRef .tc main_v20_5) (ix1 L)) (A L)
  ct : ∀ (j : Fin 4096) (L : Fin 8192), Parts (X (Proc.devRef .tc main_v20_0) (ix2 j L)) (X (Proc.devRef .tc main_v20_1) (ix2 j L)) (D L j.val)
  st : ∀ (j : Fin 4096) (L : Fin 8192), Parts (X (Proc.devRef .tc main_v20_2) (ix2 j L)) (X (Proc.devRef .tc main_v20_3) (ix2 j L)) (Sf (A L) (B L) j.val)
  cur : ∀ L : Fin 8192, Parts (X (Proc.devRef .tc main_v20_9) (ix1 L)) (X (Proc.devRef .tc main_v20_10) (ix1 L)) (conj (A L) * Qb (A L) (D L) k)
  sum : ∀ L : Fin 8192, Parts (X (Proc.devRef .tc main_v20_7) (ix1 L)) (X (Proc.devRef .tc main_v20_8) (ix1 L))
    (∑ i ∈ Finset.range k, Qb (A L) (D L) (i + 1) * conj (Sf (A L) (B L) (4095 - i)))
  grads : ∀ (j : Fin 4096) (L : Fin 8192), 4096 - k ≤ j.val →
    Parts (X (Proc.devRef .tc main_v20_11) (ix2 j L)) (X (Proc.devRef .tc main_v20_12) (ix2 j L)) (Qb (A L) (D L) (4096 - j.val))

/-- A stretch that writes none of the loop's buffers keeps it. -/
theorem Inv1.of_eq {X' : Valuation τ sig (Elt Ideal)} (h : Inv1 X A B D k)
    (e : ∀ b ∈ [main_v20_0, main_v20_1, main_v20_2, main_v20_3, main_v20_4, main_v20_5, main_v20_6, main_v20_7, main_v20_8, main_v20_9, main_v20_10, main_v20_11, main_v20_12],
      X' (Proc.devRef .tc b) = X (Proc.devRef .tc b)) : Inv1 X' A B D k where
  ctr := (e _ (by decide)).trans h.ctr
  mult := by rw [e main_v20_4 (by decide), e main_v20_5 (by decide)]; exact h.mult
  ct := by rw [e main_v20_0 (by decide), e main_v20_1 (by decide)]; exact h.ct
  st := by rw [e main_v20_2 (by decide), e main_v20_3 (by decide)]; exact h.st
  cur := by rw [e main_v20_9 (by decide), e main_v20_10 (by decide)]; exact h.cur
  sum := by rw [e main_v20_7 (by decide), e main_v20_8 (by decide)]; exact h.sum
  grads := by rw [e main_v20_11 (by decide), e main_v20_12 (by decide)]; exact h.grads

/-- The condition writes none of them. -/
theorem Inv1.cond (h : Inv1 X A B D k) : Inv1 (after condOps1 X) A B D k :=
  h.of_eq fun b hb => after_of_writes_sub condOps1 X condOps1_writes
    ((by decide : ∀ b ∈ [main_v20_0, main_v20_1, main_v20_2, main_v20_3, main_v20_4, main_v20_5, main_v20_6, main_v20_7, main_v20_8, main_v20_9, main_v20_10, main_v20_11, main_v20_12], b ∉ condOps1_W) b hb)

/-- The row that trip `k` works on. -/
theorem back_num (h : X (Proc.devRef .tc main_v20_6) = num k) (hk : k < 4096) : back X = num (4095 - k) := by
  have e : ∀ k < 4096, 4096#32 - BitVec.ofNat 32 k - 1#32 = BitVec.ofNat 32 (4095 - k) := by
    intro k hk
    apply BitVec.eq_of_toNat_eq
    simp only [BitVec.toNat_sub, BitVec.toNat_ofNat]
    omega
  funext i
  show 4096#32 - X (Proc.devRef .tc main_v20_6) i - 1#32 = _
  rw [h]
  exact e k hk

/-- The gradient that reaches trip `k`'s time. -/
theorem Inv1.reach (h : Inv1 X A B D k) (hk : k < 4096) (L : Fin 8192) : Parts (reach0 X (ix1 L)) (reach1 X (ix1 L)) (Qb (A L) (D L) (k + 1)) := by
  have hin := (h.ct ⟨4095 - k, by omega⟩ L).read (readRow_at _ (4095 - k) (by omega) L) (readRow_at _ (4095 - k) (by omega) L) rfl
  unfold reach0 reach1
  rw [back_num h.ctr hk]
  exact (h.cur L).add hin

/-- One trip. -/
theorem Inv1.trip (h : Inv1 X A B D k) (hk : k < 4096) (hc : after bodyOps1 X (Proc.devRef .tc main_v20_6) = num (k + 1)) : Inv1 (after bodyOps1 X) A B D (k + 1) where
  ctr := hc
  mult := by
    rw [after_of_writes_sub bodyOps1 X bodyOps1_writes (by decide : main_v20_4 ∉ bodyOps1_W), after_of_writes_sub bodyOps1 X bodyOps1_writes (by decide : main_v20_5 ∉ bodyOps1_W)]
    exact h.mult
  ct := by
    rw [after_of_writes_sub bodyOps1 X bodyOps1_writes (by decide : main_v20_0 ∉ bodyOps1_W), after_of_writes_sub bodyOps1 X bodyOps1_writes (by decide : main_v20_1 ∉ bodyOps1_W)]
    exact h.ct
  st := by
    rw [after_of_writes_sub bodyOps1 X bodyOps1_writes (by decide : main_v20_2 ∉ bodyOps1_W), after_of_writes_sub bodyOps1 X bodyOps1_writes (by decide : main_v20_3 ∉ bodyOps1_W)]
    exact h.st
  cur := by
    intro L
    rw [body1_ct0, body1_ct1]
    exact (h.mult L).mulConj (h.reach hk L)
  sum := by
    intro L
    rw [body1_da0, body1_da1, Finset.sum_range_succ]
    have hs := (h.st ⟨4095 - k, by omega⟩ L).read (readRow_at _ (4095 - k) (by omega) L) (readRow_at _ (4095 - k) (by omega) L) rfl
    have hr := h.reach hk L
    generalize reach0 X = q0 at *
    generalize reach1 X = q1 at *
    rw [back_num h.ctr hk]
    exact (h.sum L).acc' hr hs
  grads := by
    intro j L hj
    have hr := h.reach hk L
    rw [body1_db0, body1_db1]
    generalize reach0 X = q0 at *
    generalize reach1 X = q1 at *
    rw [back_num h.ctr hk, setRow_at _ _ (4095 - k) (by omega), setRow_at _ _ (4095 - k) (by omega)]
    by_cases e : j.val = 4095 - k
    · rw [if_pos e, if_pos e, show 4096 - j.val = k + 1 by omega]; exact hr
    · rw [if_neg e, if_neg e]; exact h.grads j L (by omega)

/-! ## The whole run -/

/-- The six arrays, in numbers: the multiplier, the inputs, and the gradients of the states. -/
structure Holds (a0 a1 : Vec Ideal S1x8192 .f32) (b0 b1 d0 d1 : Vec Ideal S512x8x8192 .f32) (A : Fin 8192 → ℂ) (B D : Fin 8192 → ℕ → ℂ) : Prop where
  mult : ∀ L, Parts (a0 (ix2 0 L)) (a1 (ix2 0 L)) (A L)
  inp : ∀ (G : Fin 512) (r : Fin 8) (L : Fin 8192), Parts (b0 (ix3 G r L)) (b1 (ix3 G r L)) (B L (8 * G.val + r.val))
  ct : ∀ (G : Fin 512) (r : Fin 8) (L : Fin 8192), Parts (d0 (ix3 G r L)) (d1 (ix3 G r L)) (D L (8 * G.val + r.val))

/-- The lanes read from their one row, -/
theorem flat_at (x : Vec Ideal S1x8192 .f32) (L : Fin 8192) : shapeCast (α := Ideal .f32) S8192 x shapeCasts_S1x8192_S8192 (ix1 L) = x (ix2 0 L) := by
  pointwise
/-- the times from their groups of eight, -/
theorem rows_at (x : Vec Ideal S512x8x8192 .f32) (j : Fin 4096) (L : Fin 8192) :
    shapeCast (α := Ideal .f32) S4096x8192 x shapeCasts_S512x8x8192_S4096x8192 (ix2 j L) = x (ix3 ⟨j.val / 8, by omega⟩ ⟨j.val % 8, by omega⟩ L) := by
  pointwise
/-- and the groups from the times. -/
theorem grps_at (x : Vec Ideal S4096x8192 .f32) (G : Fin 512) (r : Fin 8) (L : Fin 8192) :
    shapeCast (α := Ideal .f32) S512x8x8192 x shapeCasts_S4096x8192_S512x8x8192 (ix3 G r L) = x (ix2 ⟨8 * G.val + r.val, by omega⟩ L) := by
  pointwise
  exact congrArg (fun j => x (ix2 j L)) (Fin.ext (by show G.val * 8 + r.val = 8 * G.val + r.val; omega))
theorem zero_at (L : Fin 8192) : broadcastInDim S8192 ![] bcast_S_S8192 (constant (F := Ideal) S_ .f32 0x00000000#32) (ix1 L) = 0 := by
  pointwise

variable {m : (ℓ : Loc nD τ sig) → Buf (Elt Ideal) ℓ} {c : Dev nD}

/-- The six arguments hold those numbers. -/
abbrev ArgsHold (m : (ℓ : Loc nD τ sig) → Buf (Elt Ideal) ℓ) (c : Dev nD) (A : Fin 8192 → ℂ) (B D : Fin 8192 → ℕ → ℂ) : Prop :=
  Holds (W0 m c (Proc.devRef .tc main_arg0)) (W0 m c (Proc.devRef .tc main_arg1)) (W0 m c (Proc.devRef .tc main_arg2)) (W0 m c (Proc.devRef .tc main_arg3))
    (W0 m c (Proc.devRef .tc main_arg4)) (W0 m c (Proc.devRef .tc main_arg5)) A B D

theorem num_iv (k : ℕ) : (fun _ => Scf.iv 0#32 1#32 k : IVec S_ 32) = num k := by
  funext i
  show 0#32 + BitVec.ofNat 32 k * 1#32 = BitVec.ofNat 32 k
  rw [BitVec.mul_one, BitVec.zero_add]

/-- Before the first loop, -/
theorem inv0_zero (h : ArgsHold m c A B D) : Inv0 (T0 m 0 c) A B 0 where
  ctr := (ctr0 m c 0).trans (num_iv 0)
  mult := by
    intro L
    show Parts (after preOps (W0 m c) (Proc.devRef .tc main_v9_2) (ix1 L)) (after preOps (W0 m c) (Proc.devRef .tc main_v9_3) (ix1 L)) _
    rw [pre_9_2, pre_9_3]
    exact (h.mult L).read (flat_at _ L) (flat_at _ L) rfl
  inp := by
    intro j L
    show Parts (after preOps (W0 m c) (Proc.devRef .tc main_v9_0) (ix2 j L)) (after preOps (W0 m c) (Proc.devRef .tc main_v9_1) (ix2 j L)) _
    rw [pre_9_0, pre_9_1]
    exact (h.inp ⟨j.val / 8, by omega⟩ ⟨j.val % 8, by omega⟩ L).read (rows_at _ j L) (rows_at _ j L) (congrArg (B L) (by show 8 * (j.val / 8) + j.val % 8 = j.val; omega))
  st := by
    intro L
    show Parts (after preOps (W0 m c) (Proc.devRef .tc main_v9_5) (ix1 L)) (after preOps (W0 m c) (Proc.devRef .tc main_v9_6) (ix1 L)) _
    rw [pre_9_5, pre_9_6, Sf_zero]
    exact Parts.zero.read (zero_at L) (zero_at L) rfl
  kept := fun j L hj => absurd hj (Nat.not_lt_zero _)

/-- and before each of its trips. -/
theorem inv0 (h : ArgsHold m c A B D) : ∀ k ≤ 4096, Inv0 (T0 m k c) A B k
  | 0, _ => inv0_zero h
  | k + 1, hk => (inv0 h k (by omega)).cond.trip (by omega) ((ctr0 m c (k + 1)).trans (num_iv (k + 1)))

/-- The multiplier as the second loop reads it. -/
theorem mult_kept (h : ArgsHold m c A B D) (L : Fin 8192) :
    Parts (after condOps0 (T0 m 4096 c) (Proc.devRef .tc main_v0) (ix1 L)) (after condOps0 (T0 m 4096 c) (Proc.devRef .tc main_v1) (ix1 L)) (A L) := by
  rw [after_of_writes_sub condOps0 _ condOps0_writes (by decide : main_v0 ∉ condOps0_W), after_of_writes_sub condOps0 _ condOps0_writes (by decide : main_v1 ∉ condOps0_W),
    T0_keep m c main_v0 (by decide), T0_keep m c main_v1 (by decide)]
  show Parts (after preOps (W0 m c) (Proc.devRef .tc main_v0) (ix1 L)) (after preOps (W0 m c) (Proc.devRef .tc main_v1) (ix1 L)) _
  rw [pre_0, pre_1]
  exact (h.mult L).read (flat_at _ L) (flat_at _ L) rfl

/-- What the loop leaves of an argument: everything. -/
theorem arg_kept (b : Ref sig .tc) (hb : b ∉ preOps_W ∧ (b ∉ condOps0_W ∧ b ∉ bodyOps0_W)) : after condOps0 (T0 m 4096 c) (Proc.devRef .tc b) = W0 m c (Proc.devRef .tc b) := by
  rw [after_of_writes_sub condOps0 _ condOps0_writes hb.2.1, T0_keep m c b hb.2]
  exact after_of_writes_sub preOps _ preOps_writes hb.1

/-- Before the second loop, -/
theorem inv1_zero (h : ArgsHold m c A B D) : Inv1 (T1 m 0 c) A B D 0 where
  ctr := (ctr1 m c 0).trans (num_iv 0)
  mult := by
    intro L
    show Parts (after midOps (after condOps0 (T0 m 4096 c)) (Proc.devRef .tc main_v20_4) (ix1 L)) (after midOps (after condOps0 (T0 m 4096 c)) (Proc.devRef .tc main_v20_5) (ix1 L)) _
    rw [mid_20_4, mid_20_5]
    exact mult_kept h L
  ct := by
    intro j L
    show Parts (after midOps (after condOps0 (T0 m 4096 c)) (Proc.devRef .tc main_v20_0) (ix2 j L)) (after midOps (after condOps0 (T0 m 4096 c)) (Proc.devRef .tc main_v20_1) (ix2 j L)) _
    rw [mid_20_0, mid_20_1, arg_kept main_arg4 (by decide), arg_kept main_arg5 (by decide)]
    exact (h.ct ⟨j.val / 8, by omega⟩ ⟨j.val % 8, by omega⟩ L).read (rows_at _ j L) (rows_at _ j L) (congrArg (D L) (by show 8 * (j.val / 8) + j.val % 8 = j.val; omega))
  st := by
    intro j L
    show Parts (after midOps (after condOps0 (T0 m 4096 c)) (Proc.devRef .tc main_v20_2) (ix2 j L)) (after midOps (after condOps0 (T0 m 4096 c)) (Proc.devRef .tc main_v20_3) (ix2 j L)) _
    rw [mid_20_2, mid_20_3]
    exact (inv0 h 4096 le_rfl).cond.kept j L j.isLt
  cur := by
    intro L
    show Parts (after midOps (after condOps0 (T0 m 4096 c)) (Proc.devRef .tc main_v20_9) (ix1 L)) (after midOps (after condOps0 (T0 m 4096 c)) (Proc.devRef .tc main_v20_10) (ix1 L)) _
    rw [mid_20_9, mid_20_10, Qb_zero, mul_zero]
    exact Parts.zero.read (zero_at L) (zero_at L) rfl
  sum := by
    intro L
    show Parts (after midOps (after condOps0 (T0 m 4096 c)) (Proc.devRef .tc main_v20_7) (ix1 L)) (after midOps (after condOps0 (T0 m 4096 c)) (Proc.devRef .tc main_v20_8) (ix1 L)) _
    rw [mid_20_7, mid_20_8, Finset.sum_range_zero]
    exact Parts.zero.read (zero_at L) (zero_at L) rfl
  grads := fun j L hj => absurd j.isLt (by omega)

/-- and before each of its trips. -/
theorem inv1 (h : ArgsHold m c A B D) : ∀ k ≤ 4096, Inv1 (T1 m k c) A B D k
  | 0, _ => inv1_zero h
  | k + 1, hk => (inv1 h k (by omega)).cond.trip (by omega) ((ctr1 m c (k + 1)).trans (num_iv (k + 1)))

/-- The gradients of the inputs. -/
theorem out_grad (h : ArgsHold m c A B D) (G : Fin 512) (r : Fin 8) (L : Fin 8192) :
    Parts (W3 m c (Proc.devRef .tc main_v21) (ix3 G r L)) (W3 m c (Proc.devRef .tc main_v22) (ix3 G r L)) (Qb (A L) (D L) (4096 - (8 * G.val + r.val))) := by
  show Parts (after postOps (after condOps1 (T1 m 4096 c)) (Proc.devRef .tc main_v21) (ix3 G r L)) (after postOps (after condOps1 (T1 m 4096 c)) (Proc.devRef .tc main_v22) (ix3 G r L)) _
  rw [post_21, post_22]
  exact ((inv1 h 4096 le_rfl).cond.grads ⟨8 * G.val + r.val, by omega⟩ L (by omega)).read (grps_at _ G r L) (grps_at _ G r L) rfl

theorem bcast_at (x : Vec Ideal S8192 .f32) (r : Fin 8) (L : Fin 8192) : broadcastInDim S8x8192 ![1] bcast_S8192_S8x8192_1 x (ix2 r L) = x (ix1 L) := by
  pointwise

/-- The gradient of the multiplier, the same in all eight rows. -/
theorem out_sum (h : ArgsHold m c A B D) (r : Fin 8) (L : Fin 8192) :
    Parts (W3 m c (Proc.devRef .tc main_v23) (ix2 r L)) (W3 m c (Proc.devRef .tc main_v24) (ix2 r L)) (DA (A L) (B L) (D L)) := by
  show Parts (after postOps (after condOps1 (T1 m 4096 c)) (Proc.devRef .tc main_v23) (ix2 r L)) (after postOps (after condOps1 (T1 m 4096 c)) (Proc.devRef .tc main_v24) (ix2 r L)) _
  rw [post_23, post_24]
  refine ((inv1 h 4096 le_rfl).cond.sum L).read (bcast_at _ r L) (bcast_at _ r L) ?_
  rw [← Finset.sum_range_reflect]
  refine Finset.sum_congr rfl fun i hi => ?_
  have := Finset.mem_range.1 hi
  rw [show 4096 - 1 - i + 1 = 4096 - i by omega, show 4095 - (4096 - 1 - i) = i by omega]

end Cert.Proof.ScanRefVal

end
-- ==== Proof.ScanClaim.lean ====
/-
  The recurrence's claim: from finite arguments the three calls leave the reference's four results.

  The six arguments are the two parts of a multiplier, of the inputs and of the gradients of the states. Both sides are known in those
  numbers (`Proof.ScanKer`, `Proof.ScanRefVal`), so they agree part by part.
-/
module

public import proofs.«01_k».proof.Defs
public import proofs.«01_k».proof.Proof.Gen.ReferenceIdeal
public import proofs.«01_k».proof.Proof.FfnFinite
public import proofs.«01_k».proof.Proof.ScanKer
public import proofs.«01_k».proof.Proof.ScanRefVal

@[expose] public section

noncomputable section

namespace Cert.Proof.ScanClaim

open Idealize.ShloMosaic Idealize.ShloMosaic.TcCoe Idealize.ShloMosaic.Tactic Idealize.SL.Sem
open Cert.Proof.ScanMath

/-- The memory of the three calls. -/
abbrev MemK := (ℓ : Loc Cert.KernelIdeal.nD Cert.KernelIdeal.τ Cert.KernelIdeal.sig) → Buf (Elt Ideal) ℓ
/-- The reference's memory. -/
abbrev MemR := (ℓ : Loc Cert.ReferenceIdeal.nD Cert.ReferenceIdeal.τ Cert.ReferenceIdeal.sig) → Buf (Elt Ideal) ℓ

/-- The precondition's shape relations. -/
theorem preFacts : Cert.Pre_finite.Facts where
  bcast_S_S1x8192 := by decide
  bcast_S_S512x8x8192 := by decide

/-- Two finite rows are the parts of the lanes' multipliers. -/
def lanes (x y : Vec Ideal ⟨2, ![1, 8192]⟩ .f32) (L : Fin 8192) : ℂ := ⟨(x (ix2 0 L)).toReal, (y (ix2 0 L)).toReal⟩

/-- Two finite arrays of groups of eight rows are the parts of one number for each lane and time. -/
def times (x y : Vec Ideal ⟨3, ![512, 8, 8192]⟩ .f32) (L : Fin 8192) (t : ℕ) : ℂ :=
  ⟨(x (ix3 ⟨t / 8 % 512, by omega⟩ ⟨t % 8, by omega⟩ L)).toReal, (y (ix3 ⟨t / 8 % 512, by omega⟩ ⟨t % 8, by omega⟩ L)).toReal⟩

theorem lanes_parts {x y : Vec Ideal ⟨2, ![1, 8192]⟩ .f32} (hx : ∀ j, FfnEq.Real' (x j)) (hy : ∀ j, FfnEq.Real' (y j)) (L : Fin 8192) :
    Parts (x (ix2 0 L)) (y (ix2 0 L)) (lanes x y L) := Parts.of_finite (hx _) (hy _)

theorem times_parts {x y : Vec Ideal ⟨3, ![512, 8, 8192]⟩ .f32} (hx : ∀ j, FfnEq.Real' (x j)) (hy : ∀ j, FfnEq.Real' (y j))
    (G : Fin 512) (r : Fin 8) (L : Fin 8192) : Parts (x (ix3 G r L)) (y (ix3 G r L)) (times x y L (8 * G.val + r.val)) := by
  have e1 : (⟨(8 * G.val + r.val) / 8 % 512, by omega⟩ : Fin 512) = G := Fin.ext (by show (8 * G.val + r.val) / 8 % 512 = G.val; omega)
  have e2 : (⟨(8 * G.val + r.val) % 8, by omega⟩ : Fin 8) = r := Fin.ext (by show (8 * G.val + r.val) % 8 = r.val; omega)
  unfold times
  rw [e1, e2]
  exact Parts.of_finite (hx _) (hy _)

/-- What the precondition says of the arguments. -/
theorem finite_args [Cert.Pre_finite.Facts] {m : MemK} (h : Cert.Pre_KernelIdeal_finite m) (c : Dev Cert.KernelIdeal.nD) :
    (∀ j, FfnEq.Real' (m (c.tc.loc Cert.KernelIdeal.main_arg0) j)) ∧ (∀ j, FfnEq.Real' (m (c.tc.loc Cert.KernelIdeal.main_arg1) j))
    ∧ (∀ j, FfnEq.Real' (m (c.tc.loc Cert.KernelIdeal.main_arg2) j)) ∧ (∀ j, FfnEq.Real' (m (c.tc.loc Cert.KernelIdeal.main_arg3) j))
    ∧ (∀ j, FfnEq.Real' (m (c.tc.loc Cert.KernelIdeal.main_arg4) j)) ∧ (∀ j, FfnEq.Real' (m (c.tc.loc Cert.KernelIdeal.main_arg5) j)) := by
  obtain ⟨h0, h1, h2, h3, h4, h5⟩ := h c
  exact ⟨FfnEq.real_of_finite _ _ h0, FfnEq.real_of_finite _ _ h1, FfnEq.real_of_finite _ _ h2, FfnEq.real_of_finite _ _ h3,
    FfnEq.real_of_finite _ _ h4, FfnEq.real_of_finite _ _ h5⟩

/-- The multipliers, the inputs and the gradients of the states, in the kernel's arguments. -/
def mults (m : MemK) (c : Dev Cert.KernelIdeal.nD) := lanes (m (c.tc.loc Cert.KernelIdeal.main_arg0)) (m (c.tc.loc Cert.KernelIdeal.main_arg1))
def inputs (m : MemK) (c : Dev Cert.KernelIdeal.nD) := times (m (c.tc.loc Cert.KernelIdeal.main_arg2)) (m (c.tc.loc Cert.KernelIdeal.main_arg3))
def grads (m : MemK) (c : Dev Cert.KernelIdeal.nD) := times (m (c.tc.loc Cert.KernelIdeal.main_arg4)) (m (c.tc.loc Cert.KernelIdeal.main_arg5))

theorem holdsK [Cert.Pre_finite.Facts] {m : MemK} (h : Cert.Pre_KernelIdeal_finite m) (c : Dev Cert.KernelIdeal.nD) :
    ScanKer.ArgsHold m c (mults m c) (inputs m c) (grads m c) := by
  obtain ⟨h0, h1, h2, h3, h4, h5⟩ := finite_args h c
  exact { mult := lanes_parts h0 h1, inp := times_parts h2 h3, ct := times_parts h4 h5 }

/-- The two memories hold the same arguments. -/
def Same (m : MemK) (m' : MemR) (c : Dev Cert.KernelIdeal.nD) : Prop :=
  m' (c.tc.loc Cert.ReferenceIdeal.main_arg0) = m (c.tc.loc Cert.KernelIdeal.main_arg0)
  ∧ m' (c.tc.loc Cert.ReferenceIdeal.main_arg1) = m (c.tc.loc Cert.KernelIdeal.main_arg1)
  ∧ m' (c.tc.loc Cert.ReferenceIdeal.main_arg2) = m (c.tc.loc Cert.KernelIdeal.main_arg2)
  ∧ m' (c.tc.loc Cert.ReferenceIdeal.main_arg3) = m (c.tc.loc Cert.KernelIdeal.main_arg3)
  ∧ m' (c.tc.loc Cert.ReferenceIdeal.main_arg4) = m (c.tc.loc Cert.KernelIdeal.main_arg4)
  ∧ m' (c.tc.loc Cert.ReferenceIdeal.main_arg5) = m (c.tc.loc Cert.KernelIdeal.main_arg5)

/-- What is known of six arrays is known of six equal ones. -/
theorem carry {a0 a1 a0' a1' : Vec Ideal ⟨2, ![1, 8192]⟩ .f32} {b0 b1 d0 d1 b0' b1' d0' d1' : Vec Ideal ⟨3, ![512, 8, 8192]⟩ .f32}
    {A : Fin 8192 → ℂ} {B D : Fin 8192 → ℕ → ℂ} (h : ScanKer.Holds a0 a1 b0 b1 d0 d1 A B D)
    (e0 : a0' = a0) (e1 : a1' = a1) (e2 : b0' = b0) (e3 : b1' = b1) (e4 : d0' = d0) (e5 : d1' = d1) :
    ScanRefVal.Holds a0' a1' b0' b1' d0' d1' A B D := by
  subst e0 e1 e2 e3 e4 e5
  exact { mult := h.mult, inp := h.inp, ct := h.ct }

theorem holdsR {m : MemK} {m' : MemR} {c : Dev Cert.KernelIdeal.nD} {A : Fin 8192 → ℂ} {B D : Fin 8192 → ℕ → ℂ}
    (h : ScanKer.ArgsHold m c A B D) (hs : Same m m' c) : ScanRefVal.ArgsHold m' c A B D :=
  carry h hs.1 hs.2.1 hs.2.2.1 hs.2.2.2.1 hs.2.2.2.2.1 hs.2.2.2.2.2

/-! ## The reference's results -/

section Ref
open Cert.ReferenceIdeal

variable {m' : MemR} {c : Dev nD} {A : Fin 8192 → ℂ} {B D : Fin 8192 → ℕ → ℂ}

theorem ix3_self (y : (⟨3, ![512, 8, 8192]⟩ : Shape).Idx) : y = ix3 (y 0) (y 1) (y 2) := by funext d; fin_cases d <;> rfl
theorem ix2_self (y : (⟨2, ![8, 8192]⟩ : Shape).Idx) : y = ix2 (y 0) (y 1) := by funext d; fin_cases d <;> rfl

theorem ref0 (h : ScanRefVal.ArgsHold m' c A B D) :
    ScanRef.W3 m' c (Proc.devRef .tc main_v21) = fun y => (((ArrB.gradAt A D y).re : ℝ) : EReal) :=
  funext fun y => (congrArg _ (ix3_self y)).trans (ScanRefVal.out_grad h (y 0) (y 1) (y 2)).1
theorem ref1 (h : ScanRefVal.ArgsHold m' c A B D) :
    ScanRef.W3 m' c (Proc.devRef .tc main_v22) = fun y => (((ArrB.gradAt A D y).im : ℝ) : EReal) :=
  funext fun y => (congrArg _ (ix3_self y)).trans (ScanRefVal.out_grad h (y 0) (y 1) (y 2)).2
theorem ref2 (h : ScanRefVal.ArgsHold m' c A B D) :
    ScanRef.W3 m' c (Proc.devRef .tc main_v23) = fun y => (((ArrB.sumAt A D B y).re : ℝ) : EReal) :=
  funext fun y => (congrArg _ (ix2_self y)).trans (ScanRefVal.out_sum h (y 0) (y 1)).1
theorem ref3 (h : ScanRefVal.ArgsHold m' c A B D) :
    ScanRef.W3 m' c (Proc.devRef .tc main_v24) = fun y => (((ArrB.sumAt A D B y).im : ℝ) : EReal) :=
  funext fun y => (congrArg _ (ix2_self y)).trans (ScanRefVal.out_sum h (y 0) (y 1)).2

/-- The reference's arguments, after a run that leaves every buffer at `ScanRef.W3`, hold what they held. -/
theorem ref_args (m m' : MemR)
    (h : ∀ (c : Dev nD) (b : Ref sig .tc), (Proc.devRef .tc b : DevRef τ sig).isScoped = false → m' (c.tc.loc b) = ScanRef.W3 m c (Proc.devRef .tc b))
    (c : Dev nD) :
    m' (c.tc.loc main_arg0) = m (c.tc.loc main_arg0) ∧ m' (c.tc.loc main_arg1) = m (c.tc.loc main_arg1)
    ∧ m' (c.tc.loc main_arg2) = m (c.tc.loc main_arg2) ∧ m' (c.tc.loc main_arg3) = m (c.tc.loc main_arg3)
    ∧ m' (c.tc.loc main_arg4) = m (c.tc.loc main_arg4) ∧ m' (c.tc.loc main_arg5) = m (c.tc.loc main_arg5) := by
  refine ⟨?_, ?_, ?_, ?_, ?_, ?_⟩ <;> exact (h c _ (by decide)).trans (ScanRef.W3_args m c _ (by simp))

end Ref

/-- The reference's frame. -/
theorem frame_reference : Cert.quiescent_ReferenceIdeal := fun m ρ _ =>
  (θ_run Cert.ReferenceIdeal.defs _ _).mono (fun _ h => ⟨fun c => ref_args m _ h.1 c, h.2⟩) (ScanRef.run m ρ)

/-- The kernel's arguments, after a run that leaves every buffer at `Scan.V3`, hold what they held. -/
theorem args {F : FTy → Type} [FloatOps F] (m m' : (ℓ : Loc Cert.KernelIdeal.nD Cert.KernelIdeal.τ Cert.KernelIdeal.sig) → Buf (Elt F) ℓ)
    (h : ∀ (c : Dev Cert.KernelIdeal.nD) (b : Ref Cert.KernelIdeal.sig .tc),
      ¬ (Proc.devRef .tc b : DevRef Cert.KernelIdeal.τ Cert.KernelIdeal.sig).isScoped → m' (c.tc.loc b) = Scan.V3 m c b)
    (c : Dev Cert.KernelIdeal.nD) :
    m' (c.tc.loc Cert.KernelIdeal.main_arg0) = m (c.tc.loc Cert.KernelIdeal.main_arg0)
    ∧ m' (c.tc.loc Cert.KernelIdeal.main_arg1) = m (c.tc.loc Cert.KernelIdeal.main_arg1)
    ∧ m' (c.tc.loc Cert.KernelIdeal.main_arg2) = m (c.tc.loc Cert.KernelIdeal.main_arg2)
    ∧ m' (c.tc.loc Cert.KernelIdeal.main_arg3) = m (c.tc.loc Cert.KernelIdeal.main_arg3)
    ∧ m' (c.tc.loc Cert.KernelIdeal.main_arg4) = m (c.tc.loc Cert.KernelIdeal.main_arg4)
    ∧ m' (c.tc.loc Cert.KernelIdeal.main_arg5) = m (c.tc.loc Cert.KernelIdeal.main_arg5) := by
  refine ⟨?_, ?_, ?_, ?_, ?_, ?_⟩ <;> exact (h c _ (by decide)).trans (Scan.W3_arg m c _ (by simp))

open Cert.KernelIdeal in
/-- The gradients of the inputs and of the multiplier are the reference's. -/
theorem algebraic [Cert.Pre_finite.Facts] : Cert.algebraic_KernelIdeal_ReferenceIdeal_pre_finite := by
  intro m g m' g' hpre hargs
  have hs : ∀ c, Same m m' c := hargs
  have hK := fun c => holdsK hpre c
  have hR := fun c => holdsR (hK c) (hs c)
  refine ⟨fun c y => (((ArrB.gradAt (mults m c) (grads m c) y).re : ℝ) : EReal), fun c y => (((ArrB.gradAt (mults m c) (grads m c) y).im : ℝ) : EReal),
    fun c y => (((ArrB.sumAt (mults m c) (grads m c) (inputs m c) y).re : ℝ) : EReal),
    fun c y => (((ArrB.sumAt (mults m c) (grads m c) (inputs m c) y).im : ℝ) : EReal),
    (θ_run _ _ _).mono (fun r h c => ?_) (Scan.run m g), (θ_run _ _ _).mono (fun r h c => ?_) (ScanRef.run m' g')⟩
  · exact ⟨(h.1 c _ (by decide)).trans (ScanKer.out0 (hK c)), (h.1 c _ (by decide)).trans (ScanKer.out1 (hK c)),
      (h.1 c _ (by decide)).trans (ScanKer.out2 (hK c)), (h.1 c _ (by decide)).trans (ScanKer.out3 (hK c)), args m _ h.1 c⟩
  · exact ⟨(h.1 c _ (by decide)).trans (ref0 (hR c)), (h.1 c _ (by decide)).trans (ref1 (hR c)),
      (h.1 c _ (by decide)).trans (ref2 (hR c)), (h.1 c _ (by decide)).trans (ref3 (hR c)), ref_args m' _ h.1 c⟩

end Cert.Proof.ScanClaim

end
-- ==== Proof.ScanSame.lean ====
/-
  The recurrence's program and its idealization have the same text: read at the same floats, they are one program.
-/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

attribute [local instance] Cert.Kernel.Gen.facts Cert.KernelIdeal.Gen.facts

set_option maxHeartbeats 4000000 in
/-- The three bodies, label by label. -/
theorem bodies_eq : Cert.Kernel.defs₀ (F := Bits) = Cert.KernelIdeal.defs₀ (F := Bits) := by
  delta Cert.Kernel.defs₀ Cert.KernelIdeal.defs₀
  refine congrArg Defs.onTc (funext fun a => ?_)
  obtain ⟨n, hn⟩ := a
  rcases n with _ | _ | _ | n
  · exact rfl
  · exact rfl
  · exact rfl
  · exact absurd hn (by omega)

/-- The tables the two programs run from. -/
theorem defs_eq : Cert.Kernel.defs (F := Bits) = Cert.KernelIdeal.defs (F := Bits) := congrArg _ bodies_eq

end Cert.Proof
-- ==== Proof.lean ====
/-
  The certificate's claim.  The recurrence's gradient (`Kernel`), the feed-forward step (`Kernel2`), the optimiser
  (`Kernel3`), the loss head (`Kernel4`) and the attention's block around its heads (`Kernel5`) run to their end
  without a fault, leave their arguments as they were and every counter at zero; so do their references.  From finite
  arguments the recurrence's four results (`Proof.ScanClaim`) and the feed-forward step's six (`Proof.FfnClaim`) are
  their references'; from any arguments the optimiser's sixteen (`Proof.AdamClaim`), the loss head's three
  (`Proof.LossClaim`) and the attention block's seven (`Proof.AttClaim`) are their references'.
  The recurrence's run is written once, for any reading of the floats (`Proof.ScanRun`).
-/
module

public import proofs.«01_k».proof.Defs
public import proofs.«01_k».proof.Proof.Gen.Kernel
public import proofs.«01_k».proof.Proof.Gen.KernelIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.ReferenceIdeal
public import proofs.«01_k».proof.Proof.FfnClaim
public import proofs.«01_k».proof.Proof.AdamClaim
public import proofs.«01_k».proof.Proof.LossClaim
public import proofs.«01_k».proof.Proof.AttClaim
public import proofs.«01_k».proof.Proof.ScanRun
public import proofs.«01_k».proof.Proof.ScanClaim
public import proofs.«01_k».proof.Proof.ScanSame
public import Idealize.ShloMosaic.Adequacy
public import Idealize.ShloMosaic.Init

@[expose] public section

noncomputable section

namespace Cert.Proof

open Idealize.ShloMosaic Idealize.SL.Sem

/-- The ideal recurrence's frame, read from its run. -/
theorem frame_kernelIdeal : Cert.quiescent_KernelIdeal := fun m ρ _ =>
  (θ_run Cert.KernelIdeal.defs _ _).mono (fun _ h => ⟨fun c => ScanClaim.args m _ h.1 c, h.2⟩) (Scan.run m ρ)

/-- The recurrence's frame over the machine's floats, from the same run. -/
theorem frame_kernel : Cert.quiescent_Kernel := by
  intro m ρ _
  rw [defs_eq]
  exact (θ_run (Cert.KernelIdeal.defs (F := Bits)) _ _).mono (fun _ h => ⟨fun c => ScanClaim.args m _ h.1 c, h.2⟩)
    (Scan.run (F := Bits) m ρ)

/-- The feed-forward reference's frame. -/
theorem frame_reference2 : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run m ρ)

/-- The optimiser's reference's frame. -/
theorem frame_reference3 : Cert.quiescent_Reference3Ideal := fun m ρ _ =>
  (θ_run Cert.Reference3Ideal.defs _ _).mono
    (fun r h => ⟨fun c => (h c).2.2.2.2.2.2.2.2.2.2.2.2.2.2.2.2, sem_eq_zero_of_no_sems (by decide) r.2⟩)
    (Cert.Reference3Ideal.Value.run m ρ)

/-- The loss head's reference's frame. -/
theorem frame_reference4 : Cert.quiescent_Reference4Ideal := fun m ρ _ =>
  (θ_run Cert.Reference4Ideal.defs _ _).mono
    (fun r h => ⟨fun c => (h c).2.2.2, sem_eq_zero_of_no_sems (by decide) r.2⟩)
    (Cert.Reference4Ideal.Value.run m ρ)

/-- The attention block's reference's frame. -/
theorem frame_reference5 : Cert.quiescent_Reference5Ideal := fun m ρ _ =>
  (θ_run Cert.Reference5Ideal.defs _ _).mono
    (fun r h => ⟨fun c => (h c).2.2.2.2.2.2.2, sem_eq_zero_of_no_sems (by decide) r.2⟩)
    (Cert.Reference5Ideal.Value.run m ρ)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    ScanClaim.preFacts, FfnEq.preFacts,
    frame_kernel, frame_kernelIdeal, fun m ρ _ => frame_kernelIdeal m ρ trivial,
    ScanClaim.frame_reference, fun m ρ _ => ScanClaim.frame_reference m ρ trivial,
    fun m ρ _ => Cert.Kernel2.Gen.frame m ρ, fun m ρ _ => Cert.Kernel2Ideal.Gen.frame m ρ,
    fun m ρ _ => Cert.Kernel2Ideal.Gen.frame m ρ, frame_reference2, fun m ρ _ => frame_reference2 m ρ trivial,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ,
    frame_reference5,
    trivial, @ScanClaim.algebraic ScanClaim.preFacts, trivial, FfnEq.algebraic, trivial, AdamClaim.algebraic, trivial, Loss.algebraic,
    trivial, AttEq.algebraic⟩

end Cert.Proof
